-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_LruProj (m : (ℓ : Loc Cert.LruProj.nD Cert.LruProj.τ Cert.LruProj.sig) → Buf (Elt Bits) ℓ) : Prop :=
  True

def Pre_LruProjIdeal (m : (ℓ : Loc Cert.LruProjIdeal.nD Cert.LruProjIdeal.τ Cert.LruProjIdeal.sig) → Buf (Elt Ideal) ℓ) : Prop :=
  True

def Pre_LruProjRefIdeal (m : (ℓ : Loc Cert.LruProjRefIdeal.nD Cert.LruProjRefIdeal.τ Cert.LruProjRefIdeal.sig) → Buf (Elt Ideal) ℓ) : Prop :=
  True

def Pre_NaProj (m : (ℓ : Loc Cert.NaProj.nD Cert.NaProj.τ Cert.NaProj.sig) → Buf (Elt Bits) ℓ) : Prop :=
  True

def Pre_NaProjIdeal (m : (ℓ : Loc Cert.NaProjIdeal.nD Cert.NaProjIdeal.τ Cert.NaProjIdeal.sig) → Buf (Elt Ideal) ℓ) : Prop :=
  True

def Pre_NaProjRefIdeal (m : (ℓ : Loc Cert.NaProjRefIdeal.nD Cert.NaProjRefIdeal.τ Cert.NaProjRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_PostRec (m : (ℓ : Loc Cert.PostRec.nD Cert.PostRec.τ Cert.PostRec.sig) → Buf (Elt Bits) ℓ) : Prop :=
  True

def Pre_PostRecIdeal (m : (ℓ : Loc Cert.PostRecIdeal.nD Cert.PostRecIdeal.τ Cert.PostRecIdeal.sig) → Buf (Elt Ideal) ℓ) : Prop :=
  True

def Pre_PostRecRefIdeal (m : (ℓ : Loc Cert.PostRecRefIdeal.nD Cert.PostRecRefIdeal.τ Cert.PostRecRefIdeal.sig) → Buf (Elt Ideal) ℓ) : Prop :=
  True

def Pre_PostNbr (m : (ℓ : Loc Cert.PostNbr.nD Cert.PostNbr.τ Cert.PostNbr.sig) → Buf (Elt Bits) ℓ) : Prop :=
  True

def Pre_PostNbrIdeal (m : (ℓ : Loc Cert.PostNbrIdeal.nD Cert.PostNbrIdeal.τ Cert.PostNbrIdeal.sig) → Buf (Elt Ideal) ℓ) : Prop :=
  True

def Pre_PostNbrRefIdeal (m : (ℓ : Loc Cert.PostNbrRefIdeal.nD Cert.PostNbrRefIdeal.τ Cert.PostNbrRefIdeal.sig) → Buf (Elt Ideal) ℓ) : Prop :=
  True

def Pre_PostRet (m : (ℓ : Loc Cert.PostRet.nD Cert.PostRet.τ Cert.PostRet.sig) → Buf (Elt Bits) ℓ) : Prop :=
  True

def Pre_PostRetIdeal (m : (ℓ : Loc Cert.PostRetIdeal.nD Cert.PostRetIdeal.τ Cert.PostRetIdeal.sig) → Buf (Elt Ideal) ℓ) : Prop :=
  True

def Pre_PostRetRefIdeal (m : (ℓ : Loc Cert.PostRetRefIdeal.nD Cert.PostRetRefIdeal.τ Cert.PostRetRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1)
      ∧ r.2.mem ((c.tc : Thread Cert.RetProjRefIdeal.nD Cert.RetProjRefIdeal.τ).loc Cert.RetProjRefIdeal.main_arg2) = m ((c.tc : Thread Cert.RetProjRefIdeal.nD Cert.RetProjRefIdeal.τ).loc Cert.RetProjRefIdeal.main_arg2))
      ∧ r.2.sem = fun _ => 0)

def quiescent_LruProj [hLruProj : Cert.LruProj.Facts] : Prop :=
  ∀ (m : (ℓ : Loc Cert.LruProj.nD Cert.LruProj.τ Cert.LruProj.sig) → Buf (Elt Bits) ℓ) (g : Dev Cert.LruProj.nD → PrngReg), Pre_LruProj m →
    θ_run (Cert.LruProj.defs (F := Bits)) (onTc (τ := Cert.LruProj.τ) (Cert.LruProj.main (F := Bits))) ⟨m, fun _ => 0, g⟩ (fun r => (∀ c : Dev Cert.LruProj.nD,
      r.2.mem ((c.tc : Thread Cert.LruProj.nD Cert.LruProj.τ).loc Cert.LruProj.main_arg0) = m ((c.tc : Thread Cert.LruProj.nD Cert.LruProj.τ).loc Cert.LruProj.main_arg0)
      ∧ r.2.mem ((c.tc : Thread Cert.LruProj.nD Cert.LruProj.τ).loc Cert.LruProj.main_arg1) = m ((c.tc : Thread Cert.LruProj.nD Cert.LruProj.τ).loc Cert.LruProj.main_arg1)
      ∧ r.2.mem ((c.tc : Thread Cert.LruProj.nD Cert.LruProj.τ).loc Cert.LruProj.main_arg2) = m ((c.tc : Thread Cert.LruProj.nD Cert.LruProj.τ).loc Cert.LruProj.main_arg2))
      ∧ r.2.sem = fun _ => 0)

def quiescent_LruProjIdeal [hLruProjIdeal : Cert.LruProjIdeal.Facts] : Prop :=
  ∀ (m : (ℓ : Loc Cert.LruProjIdeal.nD Cert.LruProjIdeal.τ Cert.LruProjIdeal.sig) → Buf (Elt Ideal) ℓ) (g : Dev Cert.LruProjIdeal.nD → PrngReg), Pre_LruProjIdeal m →
    θ_run (Cert.LruProjIdeal.defs (F := Ideal)) (onTc (τ := Cert.LruProjIdeal.τ) (Cert.LruProjIdeal.main (F := Ideal))) ⟨m, fun _ => 0, g⟩ (fun r => (∀ c : Dev Cert.LruProjIdeal.nD,
      r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
      ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1)
      ∧ r.2.mem ((c.tc : Thread Cert.LruProjIdeal.nD Cert.LruProjIdeal.τ).loc Cert.LruProjIdeal.main_arg2) = m ((c.tc : Thread Cert.LruProjIdeal.nD Cert.LruProjIdeal.τ).loc Cert.LruProjIdeal.main_arg2))
      ∧ r.2.sem = fun _ => 0)

def quiescent_LruProjRefIdeal [hLruProjRefIdeal : Cert.LruProjRefIdeal.Facts] : Prop :=
  ∀ (m : (ℓ : Loc Cert.LruProjRefIdeal.nD Cert.LruProjRefIdeal.τ Cert.LruProjRefIdeal.sig) → Buf (Elt Ideal) ℓ) (g : Dev Cert.LruProjRefIdeal.nD → PrngReg), Pre_LruProjRefIdeal m →
    θ_run (Cert.LruProjRefIdeal.defs (F := Ideal)) (onTc (τ := Cert.LruProjRefIdeal.τ) (Cert.LruProjRefIdeal.main (F := Ideal))) ⟨m, fun _ => 0, g⟩ (fun r => (∀ c : Dev Cert.LruProjRefIdeal.nD,
      r.2.mem ((c.tc : Thread Cert.LruProjRefIdeal.nD Cert.LruProjRefIdeal.τ).loc Cert.LruProjRefIdeal.main_arg0) = m ((c.tc : Thread Cert.LruProjRefIdeal.nD Cert.LruProjRefIdeal.τ).loc Cert.LruProjRefIdeal.main_arg0)
      ∧ r.2.mem ((c.tc : Thread Cert.LruProjRefIdeal.nD Cert.LruProjRefIdeal.τ).loc Cert.LruProjRefIdeal.main_arg1) = m ((c.tc : Thread Cert.LruProjRefIdeal.nD Cert.LruProjRefIdeal.τ).loc Cert.LruProjRefIdeal.main_arg1)
      ∧ r.2.mem ((c.tc : Thread Cert.LruProjRefIdeal.nD Cert.LruProjRefIdeal.τ).loc Cert.LruProjRefIdeal.main_arg2) = m ((c.tc : Thread Cert.LruProjRefIdeal.nD Cert.LruProjRefIdeal.τ).loc Cert.LruProjRefIdeal.main_arg2))
      ∧ r.2.sem = fun _ => 0)

def quiescent_NaProj [hNaProj : Cert.NaProj.Facts] : Prop :=
  ∀ (m : (ℓ : Loc Cert.NaProj.nD Cert.NaProj.τ Cert.NaProj.sig) → Buf (Elt Bits) ℓ) (g : Dev Cert.NaProj.nD → PrngReg), Pre_NaProj m →
    θ_run (Cert.NaProj.defs (F := Bits)) (onTc (τ := Cert.NaProj.τ) (Cert.NaProj.main (F := Bits))) ⟨m, fun _ => 0, g⟩ (fun r => (∀ c : Dev Cert.NaProj.nD,
      r.2.mem ((c.tc : Thread Cert.NaProj.nD Cert.NaProj.τ).loc Cert.NaProj.main_arg0) = m ((c.tc : Thread Cert.NaProj.nD Cert.NaProj.τ).loc Cert.NaProj.main_arg0)
      ∧ r.2.mem ((c.tc : Thread Cert.NaProj.nD Cert.NaProj.τ).loc Cert.NaProj.main_arg1) = m ((c.tc : Thread Cert.NaProj.nD Cert.NaProj.τ).loc Cert.NaProj.main_arg1)
      ∧ r.2.mem ((c.tc : Thread Cert.NaProj.nD Cert.NaProj.τ).loc Cert.NaProj.main_arg2) = m ((c.tc : Thread Cert.NaProj.nD Cert.NaProj.τ).loc Cert.NaProj.main_arg2))
      ∧ r.2.sem = fun _ => 0)

def quiescent_NaProjIdeal [hNaProjIdeal : Cert.NaProjIdeal.Facts] : Prop :=
  ∀ (m : (ℓ : Loc Cert.NaProjIdeal.nD Cert.NaProjIdeal.τ Cert.NaProjIdeal.sig) → Buf (Elt Ideal) ℓ) (g : Dev Cert.NaProjIdeal.nD → PrngReg), Pre_NaProjIdeal m →
    θ_run (Cert.NaProjIdeal.defs (F := Ideal)) (onTc (τ := Cert.NaProjIdeal.τ) (Cert.NaProjIdeal.main (F := Ideal))) ⟨m, fun _ => 0, g⟩ (fun r => (∀ c : Dev Cert.NaProjIdeal.nD,
      r.2.mem ((c.tc : Thread Cert.NaProjIdeal.nD Cert.NaProjIdeal.τ).loc Cert.NaProjIdeal.main_arg0) = m ((c.tc : Thread Cert.NaProjIdeal.nD Cert.NaProjIdeal.τ).loc Cert.NaProjIdeal.main_arg0)
      ∧ r.2.mem ((c.tc : Thread Cert.NaProjIdeal.nD Cert.NaProjIdeal.τ).loc Cert.NaProjIdeal.main_arg1) = m ((c.tc : Thread Cert.NaProjIdeal.nD Cert.NaProjIdeal.τ).loc Cert.NaProjIdeal.main_arg1)
      ∧ r.2.mem ((c.tc : Thread Cert.NaProjIdeal.nD Cert.NaProjIdeal.τ).loc Cert.NaProjIdeal.main_arg2) = m ((c.tc : Thread Cert.NaProjIdeal.nD Cert.NaProjIdeal.τ).loc Cert.NaProjIdeal.main_arg2))
      ∧ r.2.sem = fun _ => 0)

def quiescent_NaProjRefIdeal [hNaProjRefIdeal : Cert.NaProjRefIdeal.Facts] : Prop :=
  ∀ (m : (ℓ : Loc Cert.NaProjRefIdeal.nD Cert.NaProjRefIdeal.τ Cert.NaProjRefIdeal.sig) → Buf (Elt Ideal) ℓ) (g : Dev Cert.NaProjRefIdeal.nD → PrngReg), Pre_NaProjRefIdeal m →
    θ_run (Cert.NaProjRefIdeal.defs (F := Ideal)) (onTc (τ := Cert.NaProjRefIdeal.τ) (Cert.NaProjRefIdeal.main (F := Ideal))) ⟨m, fun _ => 0, g⟩ (fun r => (∀ c : Dev Cert.NaProjRefIdeal.nD,
      r.2.mem ((c.tc : Thread Cert.NaProjRefIdeal.nD Cert.NaProjRefIdeal.τ).loc Cert.NaProjRefIdeal.main_arg0) = m ((c.tc : Thread Cert.NaProjRefIdeal.nD Cert.NaProjRefIdeal.τ).loc Cert.NaProjRefIdeal.main_arg0)
      ∧ r.2.mem ((c.tc : Thread Cert.NaProjRefIdeal.nD Cert.NaProjRefIdeal.τ).loc Cert.NaProjRefIdeal.main_arg1) = m ((c.tc : Thread Cert.NaProjRefIdeal.nD Cert.NaProjRefIdeal.τ).loc Cert.NaProjRefIdeal.main_arg1)
      ∧ r.2.mem ((c.tc : Thread Cert.NaProjRefIdeal.nD Cert.NaProjRefIdeal.τ).loc Cert.NaProjRefIdeal.main_arg2) = m ((c.tc : Thread Cert.NaProjRefIdeal.nD Cert.NaProjRefIdeal.τ).loc Cert.NaProjRefIdeal.main_arg2))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2)
      ∧ r.2.mem ((c.tc : Thread Cert.Mods.nD Cert.Mods.τ).loc Cert.Mods.main_arg3) = m ((c.tc : Thread Cert.Mods.nD Cert.Mods.τ).loc Cert.Mods.main_arg3))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
      ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2)
      ∧ r.2.mem ((c.tc : Thread Cert.ModsRefIdeal.nD Cert.ModsRefIdeal.τ).loc Cert.ModsRefIdeal.main_arg3) = m ((c.tc : Thread Cert.ModsRefIdeal.nD Cert.ModsRefIdeal.τ).loc Cert.ModsRefIdeal.main_arg3))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4)
      ∧ r.2.mem ((c.tc : Thread Cert.FfnTwo.nD Cert.FfnTwo.τ).loc Cert.FfnTwo.main_arg5) = m ((c.tc : Thread Cert.FfnTwo.nD Cert.FfnTwo.τ).loc Cert.FfnTwo.main_arg5)
      ∧ r.2.mem ((c.tc : Thread Cert.FfnTwo.nD Cert.FfnTwo.τ).loc Cert.FfnTwo.main_arg6) = m ((c.tc : Thread Cert.FfnTwo.nD Cert.FfnTwo.τ).loc Cert.FfnTwo.main_arg6))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
      ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5)
      ∧ r.2.mem ((c.tc : Thread Cert.FfnTwoRefIdeal.nD Cert.FfnTwoRefIdeal.τ).loc Cert.FfnTwoRefIdeal.main_arg6) = m ((c.tc : Thread Cert.FfnTwoRefIdeal.nD Cert.FfnTwoRefIdeal.τ).loc Cert.FfnTwoRefIdeal.main_arg6))
      ∧ r.2.sem = fun _ => 0)

def quiescent_PostRec [hPostRec : Cert.PostRec.Facts] : Prop :=
  ∀ (m : (ℓ : Loc Cert.PostRec.nD Cert.PostRec.τ Cert.PostRec.sig) → Buf (Elt Bits) ℓ) (g : Dev Cert.PostRec.nD → PrngReg), Pre_PostRec m →
    θ_run (Cert.PostRec.defs (F := Bits)) (onTc (τ := Cert.PostRec.τ) (Cert.PostRec.main (F := Bits))) ⟨m, fun _ => 0, g⟩ (fun r => (∀ c : Dev Cert.PostRec.nD,
      r.2.mem ((c.tc : Thread Cert.PostRec.nD Cert.PostRec.τ).loc Cert.PostRec.main_arg0) = m ((c.tc : Thread Cert.PostRec.nD Cert.PostRec.τ).loc Cert.PostRec.main_arg0)
      ∧ r.2.mem ((c.tc : Thread Cert.PostRec.nD Cert.PostRec.τ).loc Cert.PostRec.main_arg1) = m ((c.tc : Thread Cert.PostRec.nD Cert.PostRec.τ).loc Cert.PostRec.main_arg1)
      ∧ r.2.mem ((c.tc : Thread Cert.PostRec.nD Cert.PostRec.τ).loc Cert.PostRec.main_arg2) = m ((c.tc : Thread Cert.PostRec.nD Cert.PostRec.τ).loc Cert.PostRec.main_arg2)
      ∧ r.2.mem ((c.tc : Thread Cert.PostRec.nD Cert.PostRec.τ).loc Cert.PostRec.main_arg3) = m ((c.tc : Thread Cert.PostRec.nD Cert.PostRec.τ).loc Cert.PostRec.main_arg3)
      ∧ r.2.mem ((c.tc : Thread Cert.PostRec.nD Cert.PostRec.τ).loc Cert.PostRec.main_arg4) = m ((c.tc : Thread Cert.PostRec.nD Cert.PostRec.τ).loc Cert.PostRec.main_arg4)
      ∧ r.2.mem ((c.tc : Thread Cert.PostRec.nD Cert.PostRec.τ).loc Cert.PostRec.main_arg5) = m ((c.tc : Thread Cert.PostRec.nD Cert.PostRec.τ).loc Cert.PostRec.main_arg5)
      ∧ r.2.mem ((c.tc : Thread Cert.PostRec.nD Cert.PostRec.τ).loc Cert.PostRec.main_arg6) = m ((c.tc : Thread Cert.PostRec.nD Cert.PostRec.τ).loc Cert.PostRec.main_arg6)
      ∧ r.2.mem ((c.tc : Thread Cert.PostRec.nD Cert.PostRec.τ).loc Cert.PostRec.main_arg7) = m ((c.tc : Thread Cert.PostRec.nD Cert.PostRec.τ).loc Cert.PostRec.main_arg7))
      ∧ r.2.sem = fun _ => 0)

def quiescent_PostRecIdeal [hPostRecIdeal : Cert.PostRecIdeal.Facts] : Prop :=
  ∀ (m : (ℓ : Loc Cert.PostRecIdeal.nD Cert.PostRecIdeal.τ Cert.PostRecIdeal.sig) → Buf (Elt Ideal) ℓ) (g : Dev Cert.PostRecIdeal.nD → PrngReg), Pre_PostRecIdeal m →
    θ_run (Cert.PostRecIdeal.defs (F := Ideal)) (onTc (τ := Cert.PostRecIdeal.τ) (Cert.PostRecIdeal.main (F := Ideal))) ⟨m, fun _ => 0, g⟩ (fun r => (∀ c : Dev Cert.PostRecIdeal.nD,
      r.2.mem ((c.tc : Thread Cert.PostRecIdeal.nD Cert.PostRecIdeal.τ).loc Cert.PostRecIdeal.main_arg0) = m ((c.tc : Thread Cert.PostRecIdeal.nD Cert.PostRecIdeal.τ).loc Cert.PostRecIdeal.main_arg0)
      ∧ r.2.mem ((c.tc : Thread Cert.PostRecIdeal.nD Cert.PostRecIdeal.τ).loc Cert.PostRecIdeal.main_arg1) = m ((c.tc : Thread Cert.PostRecIdeal.nD Cert.PostRecIdeal.τ).loc Cert.PostRecIdeal.main_arg1)
      ∧ r.2.mem ((c.tc : Thread Cert.PostRecIdeal.nD Cert.PostRecIdeal.τ).loc Cert.PostRecIdeal.main_arg2) = m ((c.tc : Thread Cert.PostRecIdeal.nD Cert.PostRecIdeal.τ).loc Cert.PostRecIdeal.main_arg2)
      ∧ r.2.mem ((c.tc : Thread Cert.PostRecIdeal.nD Cert.PostRecIdeal.τ).loc Cert.PostRecIdeal.main_arg3) = m ((c.tc : Thread Cert.PostRecIdeal.nD Cert.PostRecIdeal.τ).loc Cert.PostRecIdeal.main_arg3)
      ∧ r.2.mem ((c.tc : Thread Cert.PostRecIdeal.nD Cert.PostRecIdeal.τ).loc Cert.PostRecIdeal.main_arg4) = m ((c.tc : Thread Cert.PostRecIdeal.nD Cert.PostRecIdeal.τ).loc Cert.PostRecIdeal.main_arg4)
      ∧ r.2.mem ((c.tc : Thread Cert.PostRecIdeal.nD Cert.PostRecIdeal.τ).loc Cert.PostRecIdeal.main_arg5) = m ((c.tc : Thread Cert.PostRecIdeal.nD Cert.PostRecIdeal.τ).loc Cert.PostRecIdeal.main_arg5)
      ∧ r.2.mem ((c.tc : Thread Cert.PostRecIdeal.nD Cert.PostRecIdeal.τ).loc Cert.PostRecIdeal.main_arg6) = m ((c.tc : Thread Cert.PostRecIdeal.nD Cert.PostRecIdeal.τ).loc Cert.PostRecIdeal.main_arg6)
      ∧ r.2.mem ((c.tc : Thread Cert.PostRecIdeal.nD Cert.PostRecIdeal.τ).loc Cert.PostRecIdeal.main_arg7) = m ((c.tc : Thread Cert.PostRecIdeal.nD Cert.PostRecIdeal.τ).loc Cert.PostRecIdeal.main_arg7))
      ∧ r.2.sem = fun _ => 0)

def quiescent_PostRecRefIdeal [hPostRecRefIdeal : Cert.PostRecRefIdeal.Facts] : Prop :=
  ∀ (m : (ℓ : Loc Cert.PostRecRefIdeal.nD Cert.PostRecRefIdeal.τ Cert.PostRecRefIdeal.sig) → Buf (Elt Ideal) ℓ) (g : Dev Cert.PostRecRefIdeal.nD → PrngReg), Pre_PostRecRefIdeal m →
    θ_run (Cert.PostRecRefIdeal.defs (F := Ideal)) (onTc (τ := Cert.PostRecRefIdeal.τ) (Cert.PostRecRefIdeal.main (F := Ideal))) ⟨m, fun _ => 0, g⟩ (fun r => (∀ c : Dev Cert.PostRecRefIdeal.nD,
      r.2.mem ((c.tc : Thread Cert.PostRecRefIdeal.nD Cert.PostRecRefIdeal.τ).loc Cert.PostRecRefIdeal.main_arg0) = m ((c.tc : Thread Cert.PostRecRefIdeal.nD Cert.PostRecRefIdeal.τ).loc Cert.PostRecRefIdeal.main_arg0)
      ∧ r.2.mem ((c.tc : Thread Cert.PostRecRefIdeal.nD Cert.PostRecRefIdeal.τ).loc Cert.PostRecRefIdeal.main_arg1) = m ((c.tc : Thread Cert.PostRecRefIdeal.nD Cert.PostRecRefIdeal.τ).loc Cert.PostRecRefIdeal.main_arg1)
      ∧ r.2.mem ((c.tc : Thread Cert.PostRecRefIdeal.nD Cert.PostRecRefIdeal.τ).loc Cert.PostRecRefIdeal.main_arg2) = m ((c.tc : Thread Cert.PostRecRefIdeal.nD Cert.PostRecRefIdeal.τ).loc Cert.PostRecRefIdeal.main_arg2)
      ∧ r.2.mem ((c.tc : Thread Cert.PostRecRefIdeal.nD Cert.PostRecRefIdeal.τ).loc Cert.PostRecRefIdeal.main_arg3) = m ((c.tc : Thread Cert.PostRecRefIdeal.nD Cert.PostRecRefIdeal.τ).loc Cert.PostRecRefIdeal.main_arg3)
      ∧ r.2.mem ((c.tc : Thread Cert.PostRecRefIdeal.nD Cert.PostRecRefIdeal.τ).loc Cert.PostRecRefIdeal.main_arg4) = m ((c.tc : Thread Cert.PostRecRefIdeal.nD Cert.PostRecRefIdeal.τ).loc Cert.PostRecRefIdeal.main_arg4)
      ∧ r.2.mem ((c.tc : Thread Cert.PostRecRefIdeal.nD Cert.PostRecRefIdeal.τ).loc Cert.PostRecRefIdeal.main_arg5) = m ((c.tc : Thread Cert.PostRecRefIdeal.nD Cert.PostRecRefIdeal.τ).loc Cert.PostRecRefIdeal.main_arg5)
      ∧ r.2.mem ((c.tc : Thread Cert.PostRecRefIdeal.nD Cert.PostRecRefIdeal.τ).loc Cert.PostRecRefIdeal.main_arg6) = m ((c.tc : Thread Cert.PostRecRefIdeal.nD Cert.PostRecRefIdeal.τ).loc Cert.PostRecRefIdeal.main_arg6)
      ∧ r.2.mem ((c.tc : Thread Cert.PostRecRefIdeal.nD Cert.PostRecRefIdeal.τ).loc Cert.PostRecRefIdeal.main_arg7) = m ((c.tc : Thread Cert.PostRecRefIdeal.nD Cert.PostRecRefIdeal.τ).loc Cert.PostRecRefIdeal.main_arg7))
      ∧ r.2.sem = fun _ => 0)

def quiescent_PostNbr [hPostNbr : Cert.PostNbr.Facts] : Prop :=
  ∀ (m : (ℓ : Loc Cert.PostNbr.nD Cert.PostNbr.τ Cert.PostNbr.sig) → Buf (Elt Bits) ℓ) (g : Dev Cert.PostNbr.nD → PrngReg), Pre_PostNbr m →
    θ_run (Cert.PostNbr.defs (F := Bits)) (onTc (τ := Cert.PostNbr.τ) (Cert.PostNbr.main (F := Bits))) ⟨m, fun _ => 0, g⟩ (fun r => (∀ c : Dev Cert.PostNbr.nD,
      r.2.mem ((c.tc : Thread Cert.PostNbr.nD Cert.PostNbr.τ).loc Cert.PostNbr.main_arg0) = m ((c.tc : Thread Cert.PostNbr.nD Cert.PostNbr.τ).loc Cert.PostNbr.main_arg0)
      ∧ r.2.mem ((c.tc : Thread Cert.PostNbr.nD Cert.PostNbr.τ).loc Cert.PostNbr.main_arg1) = m ((c.tc : Thread Cert.PostNbr.nD Cert.PostNbr.τ).loc Cert.PostNbr.main_arg1)
      ∧ r.2.mem ((c.tc : Thread Cert.PostNbr.nD Cert.PostNbr.τ).loc Cert.PostNbr.main_arg2) = m ((c.tc : Thread Cert.PostNbr.nD Cert.PostNbr.τ).loc Cert.PostNbr.main_arg2)
      ∧ r.2.mem ((c.tc : Thread Cert.PostNbr.nD Cert.PostNbr.τ).loc Cert.PostNbr.main_arg3) = m ((c.tc : Thread Cert.PostNbr.nD Cert.PostNbr.τ).loc Cert.PostNbr.main_arg3)
      ∧ r.2.mem ((c.tc : Thread Cert.PostNbr.nD Cert.PostNbr.τ).loc Cert.PostNbr.main_arg4) = m ((c.tc : Thread Cert.PostNbr.nD Cert.PostNbr.τ).loc Cert.PostNbr.main_arg4)
      ∧ r.2.mem ((c.tc : Thread Cert.PostNbr.nD Cert.PostNbr.τ).loc Cert.PostNbr.main_arg5) = m ((c.tc : Thread Cert.PostNbr.nD Cert.PostNbr.τ).loc Cert.PostNbr.main_arg5)
      ∧ r.2.mem ((c.tc : Thread Cert.PostNbr.nD Cert.PostNbr.τ).loc Cert.PostNbr.main_arg6) = m ((c.tc : Thread Cert.PostNbr.nD Cert.PostNbr.τ).loc Cert.PostNbr.main_arg6)
      ∧ r.2.mem ((c.tc : Thread Cert.PostNbr.nD Cert.PostNbr.τ).loc Cert.PostNbr.main_arg7) = m ((c.tc : Thread Cert.PostNbr.nD Cert.PostNbr.τ).loc Cert.PostNbr.main_arg7))
      ∧ r.2.sem = fun _ => 0)

def quiescent_PostNbrIdeal [hPostNbrIdeal : Cert.PostNbrIdeal.Facts] : Prop :=
  ∀ (m : (ℓ : Loc Cert.PostNbrIdeal.nD Cert.PostNbrIdeal.τ Cert.PostNbrIdeal.sig) → Buf (Elt Ideal) ℓ) (g : Dev Cert.PostNbrIdeal.nD → PrngReg), Pre_PostNbrIdeal m →
    θ_run (Cert.PostNbrIdeal.defs (F := Ideal)) (onTc (τ := Cert.PostNbrIdeal.τ) (Cert.PostNbrIdeal.main (F := Ideal))) ⟨m, fun _ => 0, g⟩ (fun r => (∀ c : Dev Cert.PostNbrIdeal.nD,
      r.2.mem ((c.tc : Thread Cert.PostNbrIdeal.nD Cert.PostNbrIdeal.τ).loc Cert.PostNbrIdeal.main_arg0) = m ((c.tc : Thread Cert.PostNbrIdeal.nD Cert.PostNbrIdeal.τ).loc Cert.PostNbrIdeal.main_arg0)
      ∧ r.2.mem ((c.tc : Thread Cert.PostNbrIdeal.nD Cert.PostNbrIdeal.τ).loc Cert.PostNbrIdeal.main_arg1) = m ((c.tc : Thread Cert.PostNbrIdeal.nD Cert.PostNbrIdeal.τ).loc Cert.PostNbrIdeal.main_arg1)
      ∧ r.2.mem ((c.tc : Thread Cert.PostNbrIdeal.nD Cert.PostNbrIdeal.τ).loc Cert.PostNbrIdeal.main_arg2) = m ((c.tc : Thread Cert.PostNbrIdeal.nD Cert.PostNbrIdeal.τ).loc Cert.PostNbrIdeal.main_arg2)
      ∧ r.2.mem ((c.tc : Thread Cert.PostNbrIdeal.nD Cert.PostNbrIdeal.τ).loc Cert.PostNbrIdeal.main_arg3) = m ((c.tc : Thread Cert.PostNbrIdeal.nD Cert.PostNbrIdeal.τ).loc Cert.PostNbrIdeal.main_arg3)
      ∧ r.2.mem ((c.tc : Thread Cert.PostNbrIdeal.nD Cert.PostNbrIdeal.τ).loc Cert.PostNbrIdeal.main_arg4) = m ((c.tc : Thread Cert.PostNbrIdeal.nD Cert.PostNbrIdeal.τ).loc Cert.PostNbrIdeal.main_arg4)
      ∧ r.2.mem ((c.tc : Thread Cert.PostNbrIdeal.nD Cert.PostNbrIdeal.τ).loc Cert.PostNbrIdeal.main_arg5) = m ((c.tc : Thread Cert.PostNbrIdeal.nD Cert.PostNbrIdeal.τ).loc Cert.PostNbrIdeal.main_arg5)
      ∧ r.2.mem ((c.tc : Thread Cert.PostNbrIdeal.nD Cert.PostNbrIdeal.τ).loc Cert.PostNbrIdeal.main_arg6) = m ((c.tc : Thread Cert.PostNbrIdeal.nD Cert.PostNbrIdeal.τ).loc Cert.PostNbrIdeal.main_arg6)
      ∧ r.2.mem ((c.tc : Thread Cert.PostNbrIdeal.nD Cert.PostNbrIdeal.τ).loc Cert.PostNbrIdeal.main_arg7) = m ((c.tc : Thread Cert.PostNbrIdeal.nD Cert.PostNbrIdeal.τ).loc Cert.PostNbrIdeal.main_arg7))
      ∧ r.2.sem = fun _ => 0)

def quiescent_PostNbrRefIdeal [hPostNbrRefIdeal : Cert.PostNbrRefIdeal.Facts] : Prop :=
  ∀ (m : (ℓ : Loc Cert.PostNbrRefIdeal.nD Cert.PostNbrRefIdeal.τ Cert.PostNbrRefIdeal.sig) → Buf (Elt Ideal) ℓ) (g : Dev Cert.PostNbrRefIdeal.nD → PrngReg), Pre_PostNbrRefIdeal m →
    θ_run (Cert.PostNbrRefIdeal.defs (F := Ideal)) (onTc (τ := Cert.PostNbrRefIdeal.τ) (Cert.PostNbrRefIdeal.main (F := Ideal))) ⟨m, fun _ => 0, g⟩ (fun r => (∀ c : Dev Cert.PostNbrRefIdeal.nD,
      r.2.mem ((c.tc : Thread Cert.PostNbrRefIdeal.nD Cert.PostNbrRefIdeal.τ).loc Cert.PostNbrRefIdeal.main_arg0) = m ((c.tc : Thread Cert.PostNbrRefIdeal.nD Cert.PostNbrRefIdeal.τ).loc Cert.PostNbrRefIdeal.main_arg0)
      ∧ r.2.mem ((c.tc : Thread Cert.PostNbrRefIdeal.nD Cert.PostNbrRefIdeal.τ).loc Cert.PostNbrRefIdeal.main_arg1) = m ((c.tc : Thread Cert.PostNbrRefIdeal.nD Cert.PostNbrRefIdeal.τ).loc Cert.PostNbrRefIdeal.main_arg1)
      ∧ r.2.mem ((c.tc : Thread Cert.PostNbrRefIdeal.nD Cert.PostNbrRefIdeal.τ).loc Cert.PostNbrRefIdeal.main_arg2) = m ((c.tc : Thread Cert.PostNbrRefIdeal.nD Cert.PostNbrRefIdeal.τ).loc Cert.PostNbrRefIdeal.main_arg2)
      ∧ r.2.mem ((c.tc : Thread Cert.PostNbrRefIdeal.nD Cert.PostNbrRefIdeal.τ).loc Cert.PostNbrRefIdeal.main_arg3) = m ((c.tc : Thread Cert.PostNbrRefIdeal.nD Cert.PostNbrRefIdeal.τ).loc Cert.PostNbrRefIdeal.main_arg3)
      ∧ r.2.mem ((c.tc : Thread Cert.PostNbrRefIdeal.nD Cert.PostNbrRefIdeal.τ).loc Cert.PostNbrRefIdeal.main_arg4) = m ((c.tc : Thread Cert.PostNbrRefIdeal.nD Cert.PostNbrRefIdeal.τ).loc Cert.PostNbrRefIdeal.main_arg4)
      ∧ r.2.mem ((c.tc : Thread Cert.PostNbrRefIdeal.nD Cert.PostNbrRefIdeal.τ).loc Cert.PostNbrRefIdeal.main_arg5) = m ((c.tc : Thread Cert.PostNbrRefIdeal.nD Cert.PostNbrRefIdeal.τ).loc Cert.PostNbrRefIdeal.main_arg5)
      ∧ r.2.mem ((c.tc : Thread Cert.PostNbrRefIdeal.nD Cert.PostNbrRefIdeal.τ).loc Cert.PostNbrRefIdeal.main_arg6) = m ((c.tc : Thread Cert.PostNbrRefIdeal.nD Cert.PostNbrRefIdeal.τ).loc Cert.PostNbrRefIdeal.main_arg6)
      ∧ r.2.mem ((c.tc : Thread Cert.PostNbrRefIdeal.nD Cert.PostNbrRefIdeal.τ).loc Cert.PostNbrRefIdeal.main_arg7) = m ((c.tc : Thread Cert.PostNbrRefIdeal.nD Cert.PostNbrRefIdeal.τ).loc Cert.PostNbrRefIdeal.main_arg7))
      ∧ r.2.sem = fun _ => 0)

def quiescent_PostRet [hPostRet : Cert.PostRet.Facts] : Prop :=
  ∀ (m : (ℓ : Loc Cert.PostRet.nD Cert.PostRet.τ Cert.PostRet.sig) → Buf (Elt Bits) ℓ) (g : Dev Cert.PostRet.nD → PrngReg), Pre_PostRet m →
    θ_run (Cert.PostRet.defs (F := Bits)) (onTc (τ := Cert.PostRet.τ) (Cert.PostRet.main (F := Bits))) ⟨m, fun _ => 0, g⟩ (fun r => (∀ c : Dev Cert.PostRet.nD,
      r.2.mem ((c.tc : Thread Cert.PostRet.nD Cert.PostRet.τ).loc Cert.PostRet.main_arg0) = m ((c.tc : Thread Cert.PostRet.nD Cert.PostRet.τ).loc Cert.PostRet.main_arg0)
      ∧ r.2.mem ((c.tc : Thread Cert.PostRet.nD Cert.PostRet.τ).loc Cert.PostRet.main_arg1) = m ((c.tc : Thread Cert.PostRet.nD Cert.PostRet.τ).loc Cert.PostRet.main_arg1)
      ∧ r.2.mem ((c.tc : Thread Cert.PostRet.nD Cert.PostRet.τ).loc Cert.PostRet.main_arg2) = m ((c.tc : Thread Cert.PostRet.nD Cert.PostRet.τ).loc Cert.PostRet.main_arg2)
      ∧ r.2.mem ((c.tc : Thread Cert.PostRet.nD Cert.PostRet.τ).loc Cert.PostRet.main_arg3) = m ((c.tc : Thread Cert.PostRet.nD Cert.PostRet.τ).loc Cert.PostRet.main_arg3)
      ∧ r.2.mem ((c.tc : Thread Cert.PostRet.nD Cert.PostRet.τ).loc Cert.PostRet.main_arg4) = m ((c.tc : Thread Cert.PostRet.nD Cert.PostRet.τ).loc Cert.PostRet.main_arg4)
      ∧ r.2.mem ((c.tc : Thread Cert.PostRet.nD Cert.PostRet.τ).loc Cert.PostRet.main_arg5) = m ((c.tc : Thread Cert.PostRet.nD Cert.PostRet.τ).loc Cert.PostRet.main_arg5)
      ∧ r.2.mem ((c.tc : Thread Cert.PostRet.nD Cert.PostRet.τ).loc Cert.PostRet.main_arg6) = m ((c.tc : Thread Cert.PostRet.nD Cert.PostRet.τ).loc Cert.PostRet.main_arg6)
      ∧ r.2.mem ((c.tc : Thread Cert.PostRet.nD Cert.PostRet.τ).loc Cert.PostRet.main_arg7) = m ((c.tc : Thread Cert.PostRet.nD Cert.PostRet.τ).loc Cert.PostRet.main_arg7))
      ∧ r.2.sem = fun _ => 0)

def quiescent_PostRetIdeal [hPostRetIdeal : Cert.PostRetIdeal.Facts] : Prop :=
  ∀ (m : (ℓ : Loc Cert.PostRetIdeal.nD Cert.PostRetIdeal.τ Cert.PostRetIdeal.sig) → Buf (Elt Ideal) ℓ) (g : Dev Cert.PostRetIdeal.nD → PrngReg), Pre_PostRetIdeal m →
    θ_run (Cert.PostRetIdeal.defs (F := Ideal)) (onTc (τ := Cert.PostRetIdeal.τ) (Cert.PostRetIdeal.main (F := Ideal))) ⟨m, fun _ => 0, g⟩ (fun r => (∀ c : Dev Cert.PostRetIdeal.nD,
      r.2.mem ((c.tc : Thread Cert.PostRetIdeal.nD Cert.PostRetIdeal.τ).loc Cert.PostRetIdeal.main_arg0) = m ((c.tc : Thread Cert.PostRetIdeal.nD Cert.PostRetIdeal.τ).loc Cert.PostRetIdeal.main_arg0)
      ∧ r.2.mem ((c.tc : Thread Cert.PostRetIdeal.nD Cert.PostRetIdeal.τ).loc Cert.PostRetIdeal.main_arg1) = m ((c.tc : Thread Cert.PostRetIdeal.nD Cert.PostRetIdeal.τ).loc Cert.PostRetIdeal.main_arg1)
      ∧ r.2.mem ((c.tc : Thread Cert.PostRetIdeal.nD Cert.PostRetIdeal.τ).loc Cert.PostRetIdeal.main_arg2) = m ((c.tc : Thread Cert.PostRetIdeal.nD Cert.PostRetIdeal.τ).loc Cert.PostRetIdeal.main_arg2)
      ∧ r.2.mem ((c.tc : Thread Cert.PostRetIdeal.nD Cert.PostRetIdeal.τ).loc Cert.PostRetIdeal.main_arg3) = m ((c.tc : Thread Cert.PostRetIdeal.nD Cert.PostRetIdeal.τ).loc Cert.PostRetIdeal.main_arg3)
      ∧ r.2.mem ((c.tc : Thread Cert.PostRetIdeal.nD Cert.PostRetIdeal.τ).loc Cert.PostRetIdeal.main_arg4) = m ((c.tc : Thread Cert.PostRetIdeal.nD Cert.PostRetIdeal.τ).loc Cert.PostRetIdeal.main_arg4)
      ∧ r.2.mem ((c.tc : Thread Cert.PostRetIdeal.nD Cert.PostRetIdeal.τ).loc Cert.PostRetIdeal.main_arg5) = m ((c.tc : Thread Cert.PostRetIdeal.nD Cert.PostRetIdeal.τ).loc Cert.PostRetIdeal.main_arg5)
      ∧ r.2.mem ((c.tc : Thread Cert.PostRetIdeal.nD Cert.PostRetIdeal.τ).loc Cert.PostRetIdeal.main_arg6) = m ((c.tc : Thread Cert.PostRetIdeal.nD Cert.PostRetIdeal.τ).loc Cert.PostRetIdeal.main_arg6)
      ∧ r.2.mem ((c.tc : Thread Cert.PostRetIdeal.nD Cert.PostRetIdeal.τ).loc Cert.PostRetIdeal.main_arg7) = m ((c.tc : Thread Cert.PostRetIdeal.nD Cert.PostRetIdeal.τ).loc Cert.PostRetIdeal.main_arg7))
      ∧ r.2.sem = fun _ => 0)

def quiescent_PostRetRefIdeal [hPostRetRefIdeal : Cert.PostRetRefIdeal.Facts] : Prop :=
  ∀ (m : (ℓ : Loc Cert.PostRetRefIdeal.nD Cert.PostRetRefIdeal.τ Cert.PostRetRefIdeal.sig) → Buf (Elt Ideal) ℓ) (g : Dev Cert.PostRetRefIdeal.nD → PrngReg), Pre_PostRetRefIdeal m →
    θ_run (Cert.PostRetRefIdeal.defs (F := Ideal)) (onTc (τ := Cert.PostRetRefIdeal.τ) (Cert.PostRetRefIdeal.main (F := Ideal))) ⟨m, fun _ => 0, g⟩ (fun r => (∀ c : Dev Cert.PostRetRefIdeal.nD,
      r.2.mem ((c.tc : Thread Cert.PostRetRefIdeal.nD Cert.PostRetRefIdeal.τ).loc Cert.PostRetRefIdeal.main_arg0) = m ((c.tc : Thread Cert.PostRetRefIdeal.nD Cert.PostRetRefIdeal.τ).loc Cert.PostRetRefIdeal.main_arg0)
      ∧ r.2.mem ((c.tc : Thread Cert.PostRetRefIdeal.nD Cert.PostRetRefIdeal.τ).loc Cert.PostRetRefIdeal.main_arg1) = m ((c.tc : Thread Cert.PostRetRefIdeal.nD Cert.PostRetRefIdeal.τ).loc Cert.PostRetRefIdeal.main_arg1)
      ∧ r.2.mem ((c.tc : Thread Cert.PostRetRefIdeal.nD Cert.PostRetRefIdeal.τ).loc Cert.PostRetRefIdeal.main_arg2) = m ((c.tc : Thread Cert.PostRetRefIdeal.nD Cert.PostRetRefIdeal.τ).loc Cert.PostRetRefIdeal.main_arg2)
      ∧ r.2.mem ((c.tc : Thread Cert.PostRetRefIdeal.nD Cert.PostRetRefIdeal.τ).loc Cert.PostRetRefIdeal.main_arg3) = m ((c.tc : Thread Cert.PostRetRefIdeal.nD Cert.PostRetRefIdeal.τ).loc Cert.PostRetRefIdeal.main_arg3)
      ∧ r.2.mem ((c.tc : Thread Cert.PostRetRefIdeal.nD Cert.PostRetRefIdeal.τ).loc Cert.PostRetRefIdeal.main_arg4) = m ((c.tc : Thread Cert.PostRetRefIdeal.nD Cert.PostRetRefIdeal.τ).loc Cert.PostRetRefIdeal.main_arg4)
      ∧ r.2.mem ((c.tc : Thread Cert.PostRetRefIdeal.nD Cert.PostRetRefIdeal.τ).loc Cert.PostRetRefIdeal.main_arg5) = m ((c.tc : Thread Cert.PostRetRefIdeal.nD Cert.PostRetRefIdeal.τ).loc Cert.PostRetRefIdeal.main_arg5)
      ∧ r.2.mem ((c.tc : Thread Cert.PostRetRefIdeal.nD Cert.PostRetRefIdeal.τ).loc Cert.PostRetRefIdeal.main_arg6) = m ((c.tc : Thread Cert.PostRetRefIdeal.nD Cert.PostRetRefIdeal.τ).loc Cert.PostRetRefIdeal.main_arg6)
      ∧ r.2.mem ((c.tc : Thread Cert.PostRetRefIdeal.nD Cert.PostRetRefIdeal.τ).loc Cert.PostRetRefIdeal.main_arg7) = m ((c.tc : Thread Cert.PostRetRefIdeal.nD Cert.PostRetRefIdeal.τ).loc Cert.PostRetRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v87) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v109) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)
      ∧ m' ((c.tc : Thread Cert.RetProjRefIdeal.nD Cert.RetProjRefIdeal.τ).loc Cert.RetProjRefIdeal.main_arg2) = m ((c.tc : Thread Cert.RetProjIdeal.nD Cert.RetProjIdeal.τ).loc Cert.RetProjIdeal.main_arg2)) →
    ∃ (v0 : (c : Dev Cert.RetProjIdeal.nD) → Buf (Elt Ideal) ((c.tc : Thread Cert.RetProjIdeal.nD Cert.RetProjIdeal.τ).loc Cert.RetProjIdeal.main_v41_0)) (v1 : (c : Dev Cert.RetProjIdeal.nD) → Buf (Elt Ideal) ((c.tc : Thread Cert.RetProjIdeal.nD Cert.RetProjIdeal.τ).loc Cert.RetProjIdeal.main_v41_1)) (v2 : (c : Dev Cert.RetProjIdeal.nD) → Buf (Elt Ideal) ((c.tc : Thread Cert.RetProjIdeal.nD Cert.RetProjIdeal.τ).loc Cert.RetProjIdeal.main_v41_2)) (v3 : (c : Dev Cert.RetProjIdeal.nD) → Buf (Elt Ideal) ((c.tc : Thread Cert.RetProjIdeal.nD Cert.RetProjIdeal.τ).loc Cert.RetProjIdeal.main_v41_3)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v41_0) = v0 c
          ∧ r.2.mem ((c.tc : Thread Cert.RetProjIdeal.nD Cert.RetProjIdeal.τ).loc Cert.RetProjIdeal.main_v41_1) = v1 c
          ∧ r.2.mem ((c.tc : Thread Cert.RetProjIdeal.nD Cert.RetProjIdeal.τ).loc Cert.RetProjIdeal.main_v41_2) = v2 c
          ∧ r.2.mem ((c.tc : Thread Cert.RetProjIdeal.nD Cert.RetProjIdeal.τ).loc Cert.RetProjIdeal.main_v41_3) = v3 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v173) = v0 c
          ∧ r.2.mem ((c.tc : Thread Cert.RetProjRefIdeal.nD Cert.RetProjRefIdeal.τ).loc Cert.RetProjRefIdeal.main_v175) = v1 c
          ∧ r.2.mem ((c.tc : Thread Cert.RetProjRefIdeal.nD Cert.RetProjRefIdeal.τ).loc Cert.RetProjRefIdeal.main_v178) = v2 c
          ∧ r.2.mem ((c.tc : Thread Cert.RetProjRefIdeal.nD Cert.RetProjRefIdeal.τ).loc Cert.RetProjRefIdeal.main_v182) = v3 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1)
          ∧ r.2.mem ((c.tc : Thread Cert.RetProjRefIdeal.nD Cert.RetProjRefIdeal.τ).loc Cert.RetProjRefIdeal.main_arg2) = m' ((c.tc : Thread Cert.RetProjRefIdeal.nD Cert.RetProjRefIdeal.τ).loc Cert.RetProjRefIdeal.main_arg2))

def preserves_LruProj_LruProjIdeal : Prop :=
  True

def algebraic_LruProjIdeal_LruProjRefIdeal [hLruProjIdeal : Cert.LruProjIdeal.Facts] [hLruProjRefIdeal : Cert.LruProjRefIdeal.Facts] : Prop :=
  ∀ (m : (ℓ : Loc Cert.LruProjIdeal.nD Cert.LruProjIdeal.τ Cert.LruProjIdeal.sig) → Buf (Elt Ideal) ℓ) (g : Dev Cert.LruProjIdeal.nD → PrngReg)
    (m' : (ℓ : Loc Cert.LruProjRefIdeal.nD Cert.LruProjRefIdeal.τ Cert.LruProjRefIdeal.sig) → Buf (Elt Ideal) ℓ) (g' : Dev Cert.LruProjRefIdeal.nD → PrngReg), Pre_LruProjIdeal m →
    (∀ c : Dev Cert.LruProjIdeal.nD,
      m' ((c.tc : Thread Cert.LruProjRefIdeal.nD Cert.LruProjRefIdeal.τ).loc Cert.LruProjRefIdeal.main_arg0) = m ((c.tc : Thread Cert.LruProjIdeal.nD Cert.LruProjIdeal.τ).loc Cert.LruProjIdeal.main_arg0)
      ∧ m' ((c.tc : Thread Cert.LruProjRefIdeal.nD Cert.LruProjRefIdeal.τ).loc Cert.LruProjRefIdeal.main_arg1) = m ((c.tc : Thread Cert.LruProjIdeal.nD Cert.LruProjIdeal.τ).loc Cert.LruProjIdeal.main_arg1)
      ∧ m' ((c.tc : Thread Cert.LruProjRefIdeal.nD Cert.LruProjRefIdeal.τ).loc Cert.LruProjRefIdeal.main_arg2) = m ((c.tc : Thread Cert.LruProjIdeal.nD Cert.LruProjIdeal.τ).loc Cert.LruProjIdeal.main_arg2)) →
    ∃ (v0 : (c : Dev Cert.LruProjIdeal.nD) → Buf (Elt Ideal) ((c.tc : Thread Cert.LruProjIdeal.nD Cert.LruProjIdeal.τ).loc Cert.LruProjIdeal.main_v0_0)) (v1 : (c : Dev Cert.LruProjIdeal.nD) → Buf (Elt Ideal) ((c.tc : Thread Cert.LruProjIdeal.nD Cert.LruProjIdeal.τ).loc Cert.LruProjIdeal.main_v0_1)),
      θ_run (Cert.LruProjIdeal.defs (F := Ideal)) (onTc (τ := Cert.LruProjIdeal.τ) (Cert.LruProjIdeal.main (F := Ideal))) ⟨m, fun _ => 0, g⟩ (fun r => ∀ c : Dev Cert.LruProjIdeal.nD,
          r.2.mem ((c.tc : Thread Cert.LruProjIdeal.nD Cert.LruProjIdeal.τ).loc Cert.LruProjIdeal.main_v0_0) = v0 c
          ∧ r.2.mem ((c.tc : Thread Cert.LruProjIdeal.nD Cert.LruProjIdeal.τ).loc Cert.LruProjIdeal.main_v0_1) = v1 c
          ∧ r.2.mem ((c.tc : Thread Cert.LruProjIdeal.nD Cert.LruProjIdeal.τ).loc Cert.LruProjIdeal.main_arg0) = m ((c.tc : Thread Cert.LruProjIdeal.nD Cert.LruProjIdeal.τ).loc Cert.LruProjIdeal.main_arg0)
          ∧ r.2.mem ((c.tc : Thread Cert.LruProjIdeal.nD Cert.LruProjIdeal.τ).loc Cert.LruProjIdeal.main_arg1) = m ((c.tc : Thread Cert.LruProjIdeal.nD Cert.LruProjIdeal.τ).loc Cert.LruProjIdeal.main_arg1)
          ∧ r.2.mem ((c.tc : Thread Cert.LruProjIdeal.nD Cert.LruProjIdeal.τ).loc Cert.LruProjIdeal.main_arg2) = m ((c.tc : Thread Cert.LruProjIdeal.nD Cert.LruProjIdeal.τ).loc Cert.LruProjIdeal.main_arg2))
      ∧ θ_run (Cert.LruProjRefIdeal.defs (F := Ideal)) (onTc (τ := Cert.LruProjRefIdeal.τ) (Cert.LruProjRefIdeal.main (F := Ideal))) ⟨m', fun _ => 0, g'⟩ (fun r => ∀ c : Dev Cert.LruProjRefIdeal.nD,
          r.2.mem ((c.tc : Thread Cert.LruProjRefIdeal.nD Cert.LruProjRefIdeal.τ).loc Cert.LruProjRefIdeal.main_v46) = v0 c
          ∧ r.2.mem ((c.tc : Thread Cert.LruProjRefIdeal.nD Cert.LruProjRefIdeal.τ).loc Cert.LruProjRefIdeal.main_v47) = v1 c
          ∧ r.2.mem ((c.tc : Thread Cert.LruProjRefIdeal.nD Cert.LruProjRefIdeal.τ).loc Cert.LruProjRefIdeal.main_arg0) = m' ((c.tc : Thread Cert.LruProjRefIdeal.nD Cert.LruProjRefIdeal.τ).loc Cert.LruProjRefIdeal.main_arg0)
          ∧ r.2.mem ((c.tc : Thread Cert.LruProjRefIdeal.nD Cert.LruProjRefIdeal.τ).loc Cert.LruProjRefIdeal.main_arg1) = m' ((c.tc : Thread Cert.LruProjRefIdeal.nD Cert.LruProjRefIdeal.τ).loc Cert.LruProjRefIdeal.main_arg1)
          ∧ r.2.mem ((c.tc : Thread Cert.LruProjRefIdeal.nD Cert.LruProjRefIdeal.τ).loc Cert.LruProjRefIdeal.main_arg2) = m' ((c.tc : Thread Cert.LruProjRefIdeal.nD Cert.LruProjRefIdeal.τ).loc Cert.LruProjRefIdeal.main_arg2))

def preserves_NaProj_NaProjIdeal : Prop :=
  True

def algebraic_NaProjIdeal_NaProjRefIdeal [hNaProjIdeal : Cert.NaProjIdeal.Facts] [hNaProjRefIdeal : Cert.NaProjRefIdeal.Facts] : Prop :=
  ∀ (m : (ℓ : Loc Cert.NaProjIdeal.nD Cert.NaProjIdeal.τ Cert.NaProjIdeal.sig) → Buf (Elt Ideal) ℓ) (g : Dev Cert.NaProjIdeal.nD → PrngReg)
    (m' : (ℓ : Loc Cert.NaProjRefIdeal.nD Cert.NaProjRefIdeal.τ Cert.NaProjRefIdeal.sig) → Buf (Elt Ideal) ℓ) (g' : Dev Cert.NaProjRefIdeal.nD → PrngReg), Pre_NaProjIdeal m →
    (∀ c : Dev Cert.NaProjIdeal.nD,
      m' ((c.tc : Thread Cert.NaProjRefIdeal.nD Cert.NaProjRefIdeal.τ).loc Cert.NaProjRefIdeal.main_arg0) = m ((c.tc : Thread Cert.NaProjIdeal.nD Cert.NaProjIdeal.τ).loc Cert.NaProjIdeal.main_arg0)
      ∧ m' ((c.tc : Thread Cert.NaProjRefIdeal.nD Cert.NaProjRefIdeal.τ).loc Cert.NaProjRefIdeal.main_arg1) = m ((c.tc : Thread Cert.NaProjIdeal.nD Cert.NaProjIdeal.τ).loc Cert.NaProjIdeal.main_arg1)
      ∧ m' ((c.tc : Thread Cert.NaProjRefIdeal.nD Cert.NaProjRefIdeal.τ).loc Cert.NaProjRefIdeal.main_arg2) = m ((c.tc : Thread Cert.NaProjIdeal.nD Cert.NaProjIdeal.τ).loc Cert.NaProjIdeal.main_arg2)) →
    ∃ (v0 : (c : Dev Cert.NaProjIdeal.nD) → Buf (Elt Ideal) ((c.tc : Thread Cert.NaProjIdeal.nD Cert.NaProjIdeal.τ).loc Cert.NaProjIdeal.main_v0_0)) (v1 : (c : Dev Cert.NaProjIdeal.nD) → Buf (Elt Ideal) ((c.tc : Thread Cert.NaProjIdeal.nD Cert.NaProjIdeal.τ).loc Cert.NaProjIdeal.main_v0_1)) (v2 : (c : Dev Cert.NaProjIdeal.nD) → Buf (Elt Ideal) ((c.tc : Thread Cert.NaProjIdeal.nD Cert.NaProjIdeal.τ).loc Cert.NaProjIdeal.main_v0_2)),
      θ_run (Cert.NaProjIdeal.defs (F := Ideal)) (onTc (τ := Cert.NaProjIdeal.τ) (Cert.NaProjIdeal.main (F := Ideal))) ⟨m, fun _ => 0, g⟩ (fun r => ∀ c : Dev Cert.NaProjIdeal.nD,
          r.2.mem ((c.tc : Thread Cert.NaProjIdeal.nD Cert.NaProjIdeal.τ).loc Cert.NaProjIdeal.main_v0_0) = v0 c
          ∧ r.2.mem ((c.tc : Thread Cert.NaProjIdeal.nD Cert.NaProjIdeal.τ).loc Cert.NaProjIdeal.main_v0_1) = v1 c
          ∧ r.2.mem ((c.tc : Thread Cert.NaProjIdeal.nD Cert.NaProjIdeal.τ).loc Cert.NaProjIdeal.main_v0_2) = v2 c
          ∧ r.2.mem ((c.tc : Thread Cert.NaProjIdeal.nD Cert.NaProjIdeal.τ).loc Cert.NaProjIdeal.main_arg0) = m ((c.tc : Thread Cert.NaProjIdeal.nD Cert.NaProjIdeal.τ).loc Cert.NaProjIdeal.main_arg0)
          ∧ r.2.mem ((c.tc : Thread Cert.NaProjIdeal.nD Cert.NaProjIdeal.τ).loc Cert.NaProjIdeal.main_arg1) = m ((c.tc : Thread Cert.NaProjIdeal.nD Cert.NaProjIdeal.τ).loc Cert.NaProjIdeal.main_arg1)
          ∧ r.2.mem ((c.tc : Thread Cert.NaProjIdeal.nD Cert.NaProjIdeal.τ).loc Cert.NaProjIdeal.main_arg2) = m ((c.tc : Thread Cert.NaProjIdeal.nD Cert.NaProjIdeal.τ).loc Cert.NaProjIdeal.main_arg2))
      ∧ θ_run (Cert.NaProjRefIdeal.defs (F := Ideal)) (onTc (τ := Cert.NaProjRefIdeal.τ) (Cert.NaProjRefIdeal.main (F := Ideal))) ⟨m', fun _ => 0, g'⟩ (fun r => ∀ c : Dev Cert.NaProjRefIdeal.nD,
          r.2.mem ((c.tc : Thread Cert.NaProjRefIdeal.nD Cert.NaProjRefIdeal.τ).loc Cert.NaProjRefIdeal.main_v37) = v0 c
          ∧ r.2.mem ((c.tc : Thread Cert.NaProjRefIdeal.nD Cert.NaProjRefIdeal.τ).loc Cert.NaProjRefIdeal.main_v40) = v1 c
          ∧ r.2.mem ((c.tc : Thread Cert.NaProjRefIdeal.nD Cert.NaProjRefIdeal.τ).loc Cert.NaProjRefIdeal.main_v43) = v2 c
          ∧ r.2.mem ((c.tc : Thread Cert.NaProjRefIdeal.nD Cert.NaProjRefIdeal.τ).loc Cert.NaProjRefIdeal.main_arg0) = m' ((c.tc : Thread Cert.NaProjRefIdeal.nD Cert.NaProjRefIdeal.τ).loc Cert.NaProjRefIdeal.main_arg0)
          ∧ r.2.mem ((c.tc : Thread Cert.NaProjRefIdeal.nD Cert.NaProjRefIdeal.τ).loc Cert.NaProjRefIdeal.main_arg1) = m' ((c.tc : Thread Cert.NaProjRefIdeal.nD Cert.NaProjRefIdeal.τ).loc Cert.NaProjRefIdeal.main_arg1)
          ∧ r.2.mem ((c.tc : Thread Cert.NaProjRefIdeal.nD Cert.NaProjRefIdeal.τ).loc Cert.NaProjRefIdeal.main_arg2) = m' ((c.tc : Thread Cert.NaProjRefIdeal.nD Cert.NaProjRefIdeal.τ).loc Cert.NaProjRefIdeal.main_arg2))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)
      ∧ m' ((c.tc : Thread Cert.ModsRefIdeal.nD Cert.ModsRefIdeal.τ).loc Cert.ModsRefIdeal.main_arg3) = m ((c.tc : Thread Cert.ModsIdeal.nD Cert.ModsIdeal.τ).loc Cert.ModsIdeal.main_arg3)) →
    ∃ (v0 : (c : Dev Cert.ModsIdeal.nD) → Buf (Elt Ideal) ((c.tc : Thread Cert.ModsIdeal.nD Cert.ModsIdeal.τ).loc Cert.ModsIdeal.main_v4)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v4) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2)
          ∧ r.2.mem ((c.tc : Thread Cert.ModsIdeal.nD Cert.ModsIdeal.τ).loc Cert.ModsIdeal.main_arg3) = m ((c.tc : Thread Cert.ModsIdeal.nD Cert.ModsIdeal.τ).loc Cert.ModsIdeal.main_arg3))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v17) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2)
          ∧ r.2.mem ((c.tc : Thread Cert.ModsRefIdeal.nD Cert.ModsRefIdeal.τ).loc Cert.ModsRefIdeal.main_arg3) = m' ((c.tc : Thread Cert.ModsRefIdeal.nD Cert.ModsRefIdeal.τ).loc Cert.ModsRefIdeal.main_arg3))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)
      ∧ m' ((c.tc : Thread Cert.FfnTwoRefIdeal.nD Cert.FfnTwoRefIdeal.τ).loc Cert.FfnTwoRefIdeal.main_arg5) = m ((c.tc : Thread Cert.FfnTwoIdeal.nD Cert.FfnTwoIdeal.τ).loc Cert.FfnTwoIdeal.main_arg5)
      ∧ m' ((c.tc : Thread Cert.FfnTwoRefIdeal.nD Cert.FfnTwoRefIdeal.τ).loc Cert.FfnTwoRefIdeal.main_arg6) = m ((c.tc : Thread Cert.FfnTwoIdeal.nD Cert.FfnTwoIdeal.τ).loc Cert.FfnTwoIdeal.main_arg6)) →
    ∃ (v0 : (c : Dev Cert.FfnTwoIdeal.nD) → Buf (Elt Ideal) ((c.tc : Thread Cert.FfnTwoIdeal.nD Cert.FfnTwoIdeal.τ).loc Cert.FfnTwoIdeal.main_v0)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v0) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
          ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
          ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v88) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4)
          ∧ r.2.mem ((c.tc : Thread Cert.FfnTwoRefIdeal.nD Cert.FfnTwoRefIdeal.τ).loc Cert.FfnTwoRefIdeal.main_arg5) = m' ((c.tc : Thread Cert.FfnTwoRefIdeal.nD Cert.FfnTwoRefIdeal.τ).loc Cert.FfnTwoRefIdeal.main_arg5)
          ∧ r.2.mem ((c.tc : Thread Cert.FfnTwoRefIdeal.nD Cert.FfnTwoRefIdeal.τ).loc Cert.FfnTwoRefIdeal.main_arg6) = m' ((c.tc : Thread Cert.FfnTwoRefIdeal.nD Cert.FfnTwoRefIdeal.τ).loc Cert.FfnTwoRefIdeal.main_arg6))

def preserves_PostRec_PostRecIdeal : Prop :=
  True

def algebraic_PostRecIdeal_PostRecRefIdeal [hPostRecIdeal : Cert.PostRecIdeal.Facts] [hPostRecRefIdeal : Cert.PostRecRefIdeal.Facts] : Prop :=
  ∀ (m : (ℓ : Loc Cert.PostRecIdeal.nD Cert.PostRecIdeal.τ Cert.PostRecIdeal.sig) → Buf (Elt Ideal) ℓ) (g : Dev Cert.PostRecIdeal.nD → PrngReg)
    (m' : (ℓ : Loc Cert.PostRecRefIdeal.nD Cert.PostRecRefIdeal.τ Cert.PostRecRefIdeal.sig) → Buf (Elt Ideal) ℓ) (g' : Dev Cert.PostRecRefIdeal.nD → PrngReg), Pre_PostRecIdeal m →
    (∀ c : Dev Cert.PostRecIdeal.nD,
      m' ((c.tc : Thread Cert.PostRecRefIdeal.nD Cert.PostRecRefIdeal.τ).loc Cert.PostRecRefIdeal.main_arg0) = m ((c.tc : Thread Cert.PostRecIdeal.nD Cert.PostRecIdeal.τ).loc Cert.PostRecIdeal.main_arg0)
      ∧ m' ((c.tc : Thread Cert.PostRecRefIdeal.nD Cert.PostRecRefIdeal.τ).loc Cert.PostRecRefIdeal.main_arg1) = m ((c.tc : Thread Cert.PostRecIdeal.nD Cert.PostRecIdeal.τ).loc Cert.PostRecIdeal.main_arg1)
      ∧ m' ((c.tc : Thread Cert.PostRecRefIdeal.nD Cert.PostRecRefIdeal.τ).loc Cert.PostRecRefIdeal.main_arg2) = m ((c.tc : Thread Cert.PostRecIdeal.nD Cert.PostRecIdeal.τ).loc Cert.PostRecIdeal.main_arg2)
      ∧ m' ((c.tc : Thread Cert.PostRecRefIdeal.nD Cert.PostRecRefIdeal.τ).loc Cert.PostRecRefIdeal.main_arg3) = m ((c.tc : Thread Cert.PostRecIdeal.nD Cert.PostRecIdeal.τ).loc Cert.PostRecIdeal.main_arg3)
      ∧ m' ((c.tc : Thread Cert.PostRecRefIdeal.nD Cert.PostRecRefIdeal.τ).loc Cert.PostRecRefIdeal.main_arg4) = m ((c.tc : Thread Cert.PostRecIdeal.nD Cert.PostRecIdeal.τ).loc Cert.PostRecIdeal.main_arg4)
      ∧ m' ((c.tc : Thread Cert.PostRecRefIdeal.nD Cert.PostRecRefIdeal.τ).loc Cert.PostRecRefIdeal.main_arg5) = m ((c.tc : Thread Cert.PostRecIdeal.nD Cert.PostRecIdeal.τ).loc Cert.PostRecIdeal.main_arg5)
      ∧ m' ((c.tc : Thread Cert.PostRecRefIdeal.nD Cert.PostRecRefIdeal.τ).loc Cert.PostRecRefIdeal.main_arg6) = m ((c.tc : Thread Cert.PostRecIdeal.nD Cert.PostRecIdeal.τ).loc Cert.PostRecIdeal.main_arg6)
      ∧ m' ((c.tc : Thread Cert.PostRecRefIdeal.nD Cert.PostRecRefIdeal.τ).loc Cert.PostRecRefIdeal.main_arg7) = m ((c.tc : Thread Cert.PostRecIdeal.nD Cert.PostRecIdeal.τ).loc Cert.PostRecIdeal.main_arg7)) →
    ∃ (v0 : (c : Dev Cert.PostRecIdeal.nD) → Buf (Elt Ideal) ((c.tc : Thread Cert.PostRecIdeal.nD Cert.PostRecIdeal.τ).loc Cert.PostRecIdeal.main_v0)),
      θ_run (Cert.PostRecIdeal.defs (F := Ideal)) (onTc (τ := Cert.PostRecIdeal.τ) (Cert.PostRecIdeal.main (F := Ideal))) ⟨m, fun _ => 0, g⟩ (fun r => ∀ c : Dev Cert.PostRecIdeal.nD,
          r.2.mem ((c.tc : Thread Cert.PostRecIdeal.nD Cert.PostRecIdeal.τ).loc Cert.PostRecIdeal.main_v0) = v0 c
          ∧ r.2.mem ((c.tc : Thread Cert.PostRecIdeal.nD Cert.PostRecIdeal.τ).loc Cert.PostRecIdeal.main_arg0) = m ((c.tc : Thread Cert.PostRecIdeal.nD Cert.PostRecIdeal.τ).loc Cert.PostRecIdeal.main_arg0)
          ∧ r.2.mem ((c.tc : Thread Cert.PostRecIdeal.nD Cert.PostRecIdeal.τ).loc Cert.PostRecIdeal.main_arg1) = m ((c.tc : Thread Cert.PostRecIdeal.nD Cert.PostRecIdeal.τ).loc Cert.PostRecIdeal.main_arg1)
          ∧ r.2.mem ((c.tc : Thread Cert.PostRecIdeal.nD Cert.PostRecIdeal.τ).loc Cert.PostRecIdeal.main_arg2) = m ((c.tc : Thread Cert.PostRecIdeal.nD Cert.PostRecIdeal.τ).loc Cert.PostRecIdeal.main_arg2)
          ∧ r.2.mem ((c.tc : Thread Cert.PostRecIdeal.nD Cert.PostRecIdeal.τ).loc Cert.PostRecIdeal.main_arg3) = m ((c.tc : Thread Cert.PostRecIdeal.nD Cert.PostRecIdeal.τ).loc Cert.PostRecIdeal.main_arg3)
          ∧ r.2.mem ((c.tc : Thread Cert.PostRecIdeal.nD Cert.PostRecIdeal.τ).loc Cert.PostRecIdeal.main_arg4) = m ((c.tc : Thread Cert.PostRecIdeal.nD Cert.PostRecIdeal.τ).loc Cert.PostRecIdeal.main_arg4)
          ∧ r.2.mem ((c.tc : Thread Cert.PostRecIdeal.nD Cert.PostRecIdeal.τ).loc Cert.PostRecIdeal.main_arg5) = m ((c.tc : Thread Cert.PostRecIdeal.nD Cert.PostRecIdeal.τ).loc Cert.PostRecIdeal.main_arg5)
          ∧ r.2.mem ((c.tc : Thread Cert.PostRecIdeal.nD Cert.PostRecIdeal.τ).loc Cert.PostRecIdeal.main_arg6) = m ((c.tc : Thread Cert.PostRecIdeal.nD Cert.PostRecIdeal.τ).loc Cert.PostRecIdeal.main_arg6)
          ∧ r.2.mem ((c.tc : Thread Cert.PostRecIdeal.nD Cert.PostRecIdeal.τ).loc Cert.PostRecIdeal.main_arg7) = m ((c.tc : Thread Cert.PostRecIdeal.nD Cert.PostRecIdeal.τ).loc Cert.PostRecIdeal.main_arg7))
      ∧ θ_run (Cert.PostRecRefIdeal.defs (F := Ideal)) (onTc (τ := Cert.PostRecRefIdeal.τ) (Cert.PostRecRefIdeal.main (F := Ideal))) ⟨m', fun _ => 0, g'⟩ (fun r => ∀ c : Dev Cert.PostRecRefIdeal.nD,
          r.2.mem ((c.tc : Thread Cert.PostRecRefIdeal.nD Cert.PostRecRefIdeal.τ).loc Cert.PostRecRefIdeal.main_v134) = v0 c
          ∧ r.2.mem ((c.tc : Thread Cert.PostRecRefIdeal.nD Cert.PostRecRefIdeal.τ).loc Cert.PostRecRefIdeal.main_arg0) = m' ((c.tc : Thread Cert.PostRecRefIdeal.nD Cert.PostRecRefIdeal.τ).loc Cert.PostRecRefIdeal.main_arg0)
          ∧ r.2.mem ((c.tc : Thread Cert.PostRecRefIdeal.nD Cert.PostRecRefIdeal.τ).loc Cert.PostRecRefIdeal.main_arg1) = m' ((c.tc : Thread Cert.PostRecRefIdeal.nD Cert.PostRecRefIdeal.τ).loc Cert.PostRecRefIdeal.main_arg1)
          ∧ r.2.mem ((c.tc : Thread Cert.PostRecRefIdeal.nD Cert.PostRecRefIdeal.τ).loc Cert.PostRecRefIdeal.main_arg2) = m' ((c.tc : Thread Cert.PostRecRefIdeal.nD Cert.PostRecRefIdeal.τ).loc Cert.PostRecRefIdeal.main_arg2)
          ∧ r.2.mem ((c.tc : Thread Cert.PostRecRefIdeal.nD Cert.PostRecRefIdeal.τ).loc Cert.PostRecRefIdeal.main_arg3) = m' ((c.tc : Thread Cert.PostRecRefIdeal.nD Cert.PostRecRefIdeal.τ).loc Cert.PostRecRefIdeal.main_arg3)
          ∧ r.2.mem ((c.tc : Thread Cert.PostRecRefIdeal.nD Cert.PostRecRefIdeal.τ).loc Cert.PostRecRefIdeal.main_arg4) = m' ((c.tc : Thread Cert.PostRecRefIdeal.nD Cert.PostRecRefIdeal.τ).loc Cert.PostRecRefIdeal.main_arg4)
          ∧ r.2.mem ((c.tc : Thread Cert.PostRecRefIdeal.nD Cert.PostRecRefIdeal.τ).loc Cert.PostRecRefIdeal.main_arg5) = m' ((c.tc : Thread Cert.PostRecRefIdeal.nD Cert.PostRecRefIdeal.τ).loc Cert.PostRecRefIdeal.main_arg5)
          ∧ r.2.mem ((c.tc : Thread Cert.PostRecRefIdeal.nD Cert.PostRecRefIdeal.τ).loc Cert.PostRecRefIdeal.main_arg6) = m' ((c.tc : Thread Cert.PostRecRefIdeal.nD Cert.PostRecRefIdeal.τ).loc Cert.PostRecRefIdeal.main_arg6)
          ∧ r.2.mem ((c.tc : Thread Cert.PostRecRefIdeal.nD Cert.PostRecRefIdeal.τ).loc Cert.PostRecRefIdeal.main_arg7) = m' ((c.tc : Thread Cert.PostRecRefIdeal.nD Cert.PostRecRefIdeal.τ).loc Cert.PostRecRefIdeal.main_arg7))

def preserves_PostNbr_PostNbrIdeal : Prop :=
  True

def algebraic_PostNbrIdeal_PostNbrRefIdeal [hPostNbrIdeal : Cert.PostNbrIdeal.Facts] [hPostNbrRefIdeal : Cert.PostNbrRefIdeal.Facts] : Prop :=
  ∀ (m : (ℓ : Loc Cert.PostNbrIdeal.nD Cert.PostNbrIdeal.τ Cert.PostNbrIdeal.sig) → Buf (Elt Ideal) ℓ) (g : Dev Cert.PostNbrIdeal.nD → PrngReg)
    (m' : (ℓ : Loc Cert.PostNbrRefIdeal.nD Cert.PostNbrRefIdeal.τ Cert.PostNbrRefIdeal.sig) → Buf (Elt Ideal) ℓ) (g' : Dev Cert.PostNbrRefIdeal.nD → PrngReg), Pre_PostNbrIdeal m →
    (∀ c : Dev Cert.PostNbrIdeal.nD,
      m' ((c.tc : Thread Cert.PostNbrRefIdeal.nD Cert.PostNbrRefIdeal.τ).loc Cert.PostNbrRefIdeal.main_arg0) = m ((c.tc : Thread Cert.PostNbrIdeal.nD Cert.PostNbrIdeal.τ).loc Cert.PostNbrIdeal.main_arg0)
      ∧ m' ((c.tc : Thread Cert.PostNbrRefIdeal.nD Cert.PostNbrRefIdeal.τ).loc Cert.PostNbrRefIdeal.main_arg1) = m ((c.tc : Thread Cert.PostNbrIdeal.nD Cert.PostNbrIdeal.τ).loc Cert.PostNbrIdeal.main_arg1)
      ∧ m' ((c.tc : Thread Cert.PostNbrRefIdeal.nD Cert.PostNbrRefIdeal.τ).loc Cert.PostNbrRefIdeal.main_arg2) = m ((c.tc : Thread Cert.PostNbrIdeal.nD Cert.PostNbrIdeal.τ).loc Cert.PostNbrIdeal.main_arg2)
      ∧ m' ((c.tc : Thread Cert.PostNbrRefIdeal.nD Cert.PostNbrRefIdeal.τ).loc Cert.PostNbrRefIdeal.main_arg3) = m ((c.tc : Thread Cert.PostNbrIdeal.nD Cert.PostNbrIdeal.τ).loc Cert.PostNbrIdeal.main_arg3)
      ∧ m' ((c.tc : Thread Cert.PostNbrRefIdeal.nD Cert.PostNbrRefIdeal.τ).loc Cert.PostNbrRefIdeal.main_arg4) = m ((c.tc : Thread Cert.PostNbrIdeal.nD Cert.PostNbrIdeal.τ).loc Cert.PostNbrIdeal.main_arg4)
      ∧ m' ((c.tc : Thread Cert.PostNbrRefIdeal.nD Cert.PostNbrRefIdeal.τ).loc Cert.PostNbrRefIdeal.main_arg5) = m ((c.tc : Thread Cert.PostNbrIdeal.nD Cert.PostNbrIdeal.τ).loc Cert.PostNbrIdeal.main_arg5)
      ∧ m' ((c.tc : Thread Cert.PostNbrRefIdeal.nD Cert.PostNbrRefIdeal.τ).loc Cert.PostNbrRefIdeal.main_arg6) = m ((c.tc : Thread Cert.PostNbrIdeal.nD Cert.PostNbrIdeal.τ).loc Cert.PostNbrIdeal.main_arg6)
      ∧ m' ((c.tc : Thread Cert.PostNbrRefIdeal.nD Cert.PostNbrRefIdeal.τ).loc Cert.PostNbrRefIdeal.main_arg7) = m ((c.tc : Thread Cert.PostNbrIdeal.nD Cert.PostNbrIdeal.τ).loc Cert.PostNbrIdeal.main_arg7)) →
    ∃ (v0 : (c : Dev Cert.PostNbrIdeal.nD) → Buf (Elt Ideal) ((c.tc : Thread Cert.PostNbrIdeal.nD Cert.PostNbrIdeal.τ).loc Cert.PostNbrIdeal.main_v0)),
      θ_run (Cert.PostNbrIdeal.defs (F := Ideal)) (onTc (τ := Cert.PostNbrIdeal.τ) (Cert.PostNbrIdeal.main (F := Ideal))) ⟨m, fun _ => 0, g⟩ (fun r => ∀ c : Dev Cert.PostNbrIdeal.nD,
          r.2.mem ((c.tc : Thread Cert.PostNbrIdeal.nD Cert.PostNbrIdeal.τ).loc Cert.PostNbrIdeal.main_v0) = v0 c
          ∧ r.2.mem ((c.tc : Thread Cert.PostNbrIdeal.nD Cert.PostNbrIdeal.τ).loc Cert.PostNbrIdeal.main_arg0) = m ((c.tc : Thread Cert.PostNbrIdeal.nD Cert.PostNbrIdeal.τ).loc Cert.PostNbrIdeal.main_arg0)
          ∧ r.2.mem ((c.tc : Thread Cert.PostNbrIdeal.nD Cert.PostNbrIdeal.τ).loc Cert.PostNbrIdeal.main_arg1) = m ((c.tc : Thread Cert.PostNbrIdeal.nD Cert.PostNbrIdeal.τ).loc Cert.PostNbrIdeal.main_arg1)
          ∧ r.2.mem ((c.tc : Thread Cert.PostNbrIdeal.nD Cert.PostNbrIdeal.τ).loc Cert.PostNbrIdeal.main_arg2) = m ((c.tc : Thread Cert.PostNbrIdeal.nD Cert.PostNbrIdeal.τ).loc Cert.PostNbrIdeal.main_arg2)
          ∧ r.2.mem ((c.tc : Thread Cert.PostNbrIdeal.nD Cert.PostNbrIdeal.τ).loc Cert.PostNbrIdeal.main_arg3) = m ((c.tc : Thread Cert.PostNbrIdeal.nD Cert.PostNbrIdeal.τ).loc Cert.PostNbrIdeal.main_arg3)
          ∧ r.2.mem ((c.tc : Thread Cert.PostNbrIdeal.nD Cert.PostNbrIdeal.τ).loc Cert.PostNbrIdeal.main_arg4) = m ((c.tc : Thread Cert.PostNbrIdeal.nD Cert.PostNbrIdeal.τ).loc Cert.PostNbrIdeal.main_arg4)
          ∧ r.2.mem ((c.tc : Thread Cert.PostNbrIdeal.nD Cert.PostNbrIdeal.τ).loc Cert.PostNbrIdeal.main_arg5) = m ((c.tc : Thread Cert.PostNbrIdeal.nD Cert.PostNbrIdeal.τ).loc Cert.PostNbrIdeal.main_arg5)
          ∧ r.2.mem ((c.tc : Thread Cert.PostNbrIdeal.nD Cert.PostNbrIdeal.τ).loc Cert.PostNbrIdeal.main_arg6) = m ((c.tc : Thread Cert.PostNbrIdeal.nD Cert.PostNbrIdeal.τ).loc Cert.PostNbrIdeal.main_arg6)
          ∧ r.2.mem ((c.tc : Thread Cert.PostNbrIdeal.nD Cert.PostNbrIdeal.τ).loc Cert.PostNbrIdeal.main_arg7) = m ((c.tc : Thread Cert.PostNbrIdeal.nD Cert.PostNbrIdeal.τ).loc Cert.PostNbrIdeal.main_arg7))
      ∧ θ_run (Cert.PostNbrRefIdeal.defs (F := Ideal)) (onTc (τ := Cert.PostNbrRefIdeal.τ) (Cert.PostNbrRefIdeal.main (F := Ideal))) ⟨m', fun _ => 0, g'⟩ (fun r => ∀ c : Dev Cert.PostNbrRefIdeal.nD,
          r.2.mem ((c.tc : Thread Cert.PostNbrRefIdeal.nD Cert.PostNbrRefIdeal.τ).loc Cert.PostNbrRefIdeal.main_v137) = v0 c
          ∧ r.2.mem ((c.tc : Thread Cert.PostNbrRefIdeal.nD Cert.PostNbrRefIdeal.τ).loc Cert.PostNbrRefIdeal.main_arg0) = m' ((c.tc : Thread Cert.PostNbrRefIdeal.nD Cert.PostNbrRefIdeal.τ).loc Cert.PostNbrRefIdeal.main_arg0)
          ∧ r.2.mem ((c.tc : Thread Cert.PostNbrRefIdeal.nD Cert.PostNbrRefIdeal.τ).loc Cert.PostNbrRefIdeal.main_arg1) = m' ((c.tc : Thread Cert.PostNbrRefIdeal.nD Cert.PostNbrRefIdeal.τ).loc Cert.PostNbrRefIdeal.main_arg1)
          ∧ r.2.mem ((c.tc : Thread Cert.PostNbrRefIdeal.nD Cert.PostNbrRefIdeal.τ).loc Cert.PostNbrRefIdeal.main_arg2) = m' ((c.tc : Thread Cert.PostNbrRefIdeal.nD Cert.PostNbrRefIdeal.τ).loc Cert.PostNbrRefIdeal.main_arg2)
          ∧ r.2.mem ((c.tc : Thread Cert.PostNbrRefIdeal.nD Cert.PostNbrRefIdeal.τ).loc Cert.PostNbrRefIdeal.main_arg3) = m' ((c.tc : Thread Cert.PostNbrRefIdeal.nD Cert.PostNbrRefIdeal.τ).loc Cert.PostNbrRefIdeal.main_arg3)
          ∧ r.2.mem ((c.tc : Thread Cert.PostNbrRefIdeal.nD Cert.PostNbrRefIdeal.τ).loc Cert.PostNbrRefIdeal.main_arg4) = m' ((c.tc : Thread Cert.PostNbrRefIdeal.nD Cert.PostNbrRefIdeal.τ).loc Cert.PostNbrRefIdeal.main_arg4)
          ∧ r.2.mem ((c.tc : Thread Cert.PostNbrRefIdeal.nD Cert.PostNbrRefIdeal.τ).loc Cert.PostNbrRefIdeal.main_arg5) = m' ((c.tc : Thread Cert.PostNbrRefIdeal.nD Cert.PostNbrRefIdeal.τ).loc Cert.PostNbrRefIdeal.main_arg5)
          ∧ r.2.mem ((c.tc : Thread Cert.PostNbrRefIdeal.nD Cert.PostNbrRefIdeal.τ).loc Cert.PostNbrRefIdeal.main_arg6) = m' ((c.tc : Thread Cert.PostNbrRefIdeal.nD Cert.PostNbrRefIdeal.τ).loc Cert.PostNbrRefIdeal.main_arg6)
          ∧ r.2.mem ((c.tc : Thread Cert.PostNbrRefIdeal.nD Cert.PostNbrRefIdeal.τ).loc Cert.PostNbrRefIdeal.main_arg7) = m' ((c.tc : Thread Cert.PostNbrRefIdeal.nD Cert.PostNbrRefIdeal.τ).loc Cert.PostNbrRefIdeal.main_arg7))

def preserves_PostRet_PostRetIdeal : Prop :=
  True

def algebraic_PostRetIdeal_PostRetRefIdeal [hPostRetIdeal : Cert.PostRetIdeal.Facts] [hPostRetRefIdeal : Cert.PostRetRefIdeal.Facts] : Prop :=
  ∀ (m : (ℓ : Loc Cert.PostRetIdeal.nD Cert.PostRetIdeal.τ Cert.PostRetIdeal.sig) → Buf (Elt Ideal) ℓ) (g : Dev Cert.PostRetIdeal.nD → PrngReg)
    (m' : (ℓ : Loc Cert.PostRetRefIdeal.nD Cert.PostRetRefIdeal.τ Cert.PostRetRefIdeal.sig) → Buf (Elt Ideal) ℓ) (g' : Dev Cert.PostRetRefIdeal.nD → PrngReg), Pre_PostRetIdeal m →
    (∀ c : Dev Cert.PostRetIdeal.nD,
      m' ((c.tc : Thread Cert.PostRetRefIdeal.nD Cert.PostRetRefIdeal.τ).loc Cert.PostRetRefIdeal.main_arg0) = m ((c.tc : Thread Cert.PostRetIdeal.nD Cert.PostRetIdeal.τ).loc Cert.PostRetIdeal.main_arg0)
      ∧ m' ((c.tc : Thread Cert.PostRetRefIdeal.nD Cert.PostRetRefIdeal.τ).loc Cert.PostRetRefIdeal.main_arg1) = m ((c.tc : Thread Cert.PostRetIdeal.nD Cert.PostRetIdeal.τ).loc Cert.PostRetIdeal.main_arg1)
      ∧ m' ((c.tc : Thread Cert.PostRetRefIdeal.nD Cert.PostRetRefIdeal.τ).loc Cert.PostRetRefIdeal.main_arg2) = m ((c.tc : Thread Cert.PostRetIdeal.nD Cert.PostRetIdeal.τ).loc Cert.PostRetIdeal.main_arg2)
      ∧ m' ((c.tc : Thread Cert.PostRetRefIdeal.nD Cert.PostRetRefIdeal.τ).loc Cert.PostRetRefIdeal.main_arg3) = m ((c.tc : Thread Cert.PostRetIdeal.nD Cert.PostRetIdeal.τ).loc Cert.PostRetIdeal.main_arg3)
      ∧ m' ((c.tc : Thread Cert.PostRetRefIdeal.nD Cert.PostRetRefIdeal.τ).loc Cert.PostRetRefIdeal.main_arg4) = m ((c.tc : Thread Cert.PostRetIdeal.nD Cert.PostRetIdeal.τ).loc Cert.PostRetIdeal.main_arg4)
      ∧ m' ((c.tc : Thread Cert.PostRetRefIdeal.nD Cert.PostRetRefIdeal.τ).loc Cert.PostRetRefIdeal.main_arg5) = m ((c.tc : Thread Cert.PostRetIdeal.nD Cert.PostRetIdeal.τ).loc Cert.PostRetIdeal.main_arg5)
      ∧ m' ((c.tc : Thread Cert.PostRetRefIdeal.nD Cert.PostRetRefIdeal.τ).loc Cert.PostRetRefIdeal.main_arg6) = m ((c.tc : Thread Cert.PostRetIdeal.nD Cert.PostRetIdeal.τ).loc Cert.PostRetIdeal.main_arg6)
      ∧ m' ((c.tc : Thread Cert.PostRetRefIdeal.nD Cert.PostRetRefIdeal.τ).loc Cert.PostRetRefIdeal.main_arg7) = m ((c.tc : Thread Cert.PostRetIdeal.nD Cert.PostRetIdeal.τ).loc Cert.PostRetIdeal.main_arg7)) →
    ∃ (v0 : (c : Dev Cert.PostRetIdeal.nD) → Buf (Elt Ideal) ((c.tc : Thread Cert.PostRetIdeal.nD Cert.PostRetIdeal.τ).loc Cert.PostRetIdeal.main_v0)),
      θ_run (Cert.PostRetIdeal.defs (F := Ideal)) (onTc (τ := Cert.PostRetIdeal.τ) (Cert.PostRetIdeal.main (F := Ideal))) ⟨m, fun _ => 0, g⟩ (fun r => ∀ c : Dev Cert.PostRetIdeal.nD,
          r.2.mem ((c.tc : Thread Cert.PostRetIdeal.nD Cert.PostRetIdeal.τ).loc Cert.PostRetIdeal.main_v0) = v0 c
          ∧ r.2.mem ((c.tc : Thread Cert.PostRetIdeal.nD Cert.PostRetIdeal.τ).loc Cert.PostRetIdeal.main_arg0) = m ((c.tc : Thread Cert.PostRetIdeal.nD Cert.PostRetIdeal.τ).loc Cert.PostRetIdeal.main_arg0)
          ∧ r.2.mem ((c.tc : Thread Cert.PostRetIdeal.nD Cert.PostRetIdeal.τ).loc Cert.PostRetIdeal.main_arg1) = m ((c.tc : Thread Cert.PostRetIdeal.nD Cert.PostRetIdeal.τ).loc Cert.PostRetIdeal.main_arg1)
          ∧ r.2.mem ((c.tc : Thread Cert.PostRetIdeal.nD Cert.PostRetIdeal.τ).loc Cert.PostRetIdeal.main_arg2) = m ((c.tc : Thread Cert.PostRetIdeal.nD Cert.PostRetIdeal.τ).loc Cert.PostRetIdeal.main_arg2)
          ∧ r.2.mem ((c.tc : Thread Cert.PostRetIdeal.nD Cert.PostRetIdeal.τ).loc Cert.PostRetIdeal.main_arg3) = m ((c.tc : Thread Cert.PostRetIdeal.nD Cert.PostRetIdeal.τ).loc Cert.PostRetIdeal.main_arg3)
          ∧ r.2.mem ((c.tc : Thread Cert.PostRetIdeal.nD Cert.PostRetIdeal.τ).loc Cert.PostRetIdeal.main_arg4) = m ((c.tc : Thread Cert.PostRetIdeal.nD Cert.PostRetIdeal.τ).loc Cert.PostRetIdeal.main_arg4)
          ∧ r.2.mem ((c.tc : Thread Cert.PostRetIdeal.nD Cert.PostRetIdeal.τ).loc Cert.PostRetIdeal.main_arg5) = m ((c.tc : Thread Cert.PostRetIdeal.nD Cert.PostRetIdeal.τ).loc Cert.PostRetIdeal.main_arg5)
          ∧ r.2.mem ((c.tc : Thread Cert.PostRetIdeal.nD Cert.PostRetIdeal.τ).loc Cert.PostRetIdeal.main_arg6) = m ((c.tc : Thread Cert.PostRetIdeal.nD Cert.PostRetIdeal.τ).loc Cert.PostRetIdeal.main_arg6)
          ∧ r.2.mem ((c.tc : Thread Cert.PostRetIdeal.nD Cert.PostRetIdeal.τ).loc Cert.PostRetIdeal.main_arg7) = m ((c.tc : Thread Cert.PostRetIdeal.nD Cert.PostRetIdeal.τ).loc Cert.PostRetIdeal.main_arg7))
      ∧ θ_run (Cert.PostRetRefIdeal.defs (F := Ideal)) (onTc (τ := Cert.PostRetRefIdeal.τ) (Cert.PostRetRefIdeal.main (F := Ideal))) ⟨m', fun _ => 0, g'⟩ (fun r => ∀ c : Dev Cert.PostRetRefIdeal.nD,
          r.2.mem ((c.tc : Thread Cert.PostRetRefIdeal.nD Cert.PostRetRefIdeal.τ).loc Cert.PostRetRefIdeal.main_v135) = v0 c
          ∧ r.2.mem ((c.tc : Thread Cert.PostRetRefIdeal.nD Cert.PostRetRefIdeal.τ).loc Cert.PostRetRefIdeal.main_arg0) = m' ((c.tc : Thread Cert.PostRetRefIdeal.nD Cert.PostRetRefIdeal.τ).loc Cert.PostRetRefIdeal.main_arg0)
          ∧ r.2.mem ((c.tc : Thread Cert.PostRetRefIdeal.nD Cert.PostRetRefIdeal.τ).loc Cert.PostRetRefIdeal.main_arg1) = m' ((c.tc : Thread Cert.PostRetRefIdeal.nD Cert.PostRetRefIdeal.τ).loc Cert.PostRetRefIdeal.main_arg1)
          ∧ r.2.mem ((c.tc : Thread Cert.PostRetRefIdeal.nD Cert.PostRetRefIdeal.τ).loc Cert.PostRetRefIdeal.main_arg2) = m' ((c.tc : Thread Cert.PostRetRefIdeal.nD Cert.PostRetRefIdeal.τ).loc Cert.PostRetRefIdeal.main_arg2)
          ∧ r.2.mem ((c.tc : Thread Cert.PostRetRefIdeal.nD Cert.PostRetRefIdeal.τ).loc Cert.PostRetRefIdeal.main_arg3) = m' ((c.tc : Thread Cert.PostRetRefIdeal.nD Cert.PostRetRefIdeal.τ).loc Cert.PostRetRefIdeal.main_arg3)
          ∧ r.2.mem ((c.tc : Thread Cert.PostRetRefIdeal.nD Cert.PostRetRefIdeal.τ).loc Cert.PostRetRefIdeal.main_arg4) = m' ((c.tc : Thread Cert.PostRetRefIdeal.nD Cert.PostRetRefIdeal.τ).loc Cert.PostRetRefIdeal.main_arg4)
          ∧ r.2.mem ((c.tc : Thread Cert.PostRetRefIdeal.nD Cert.PostRetRefIdeal.τ).loc Cert.PostRetRefIdeal.main_arg5) = m' ((c.tc : Thread Cert.PostRetRefIdeal.nD Cert.PostRetRefIdeal.τ).loc Cert.PostRetRefIdeal.main_arg5)
          ∧ r.2.mem ((c.tc : Thread Cert.PostRetRefIdeal.nD Cert.PostRetRefIdeal.τ).loc Cert.PostRetRefIdeal.main_arg6) = m' ((c.tc : Thread Cert.PostRetRefIdeal.nD Cert.PostRetRefIdeal.τ).loc Cert.PostRetRefIdeal.main_arg6)
          ∧ r.2.mem ((c.tc : Thread Cert.PostRetRefIdeal.nD Cert.PostRetRefIdeal.τ).loc Cert.PostRetRefIdeal.main_arg7) = m' ((c.tc : Thread Cert.PostRetRefIdeal.nD Cert.PostRetRefIdeal.τ).loc Cert.PostRetRefIdeal.main_arg7))

def Claim : Prop :=
  ∃ (hFfn : Cert.Ffn.Facts) (hFfnIdeal : Cert.FfnIdeal.Facts) (hFfnRefIdeal : Cert.FfnRefIdeal.Facts) (hPost : Cert.Post.Facts) (hPostIdeal : Cert.PostIdeal.Facts) (hPostRefIdeal : Cert.PostRefIdeal.Facts) (hRetProj : Cert.RetProj.Facts) (hRetProjIdeal : Cert.RetProjIdeal.Facts) (hRetProjRefIdeal : Cert.RetProjRefIdeal.Facts) (hLruProj : Cert.LruProj.Facts) (hLruProjIdeal : Cert.LruProjIdeal.Facts) (hLruProjRefIdeal : Cert.LruProjRefIdeal.Facts) (hNaProj : Cert.NaProj.Facts) (hNaProjIdeal : Cert.NaProjIdeal.Facts) (hNaProjRefIdeal : Cert.NaProjRefIdeal.Facts) (hMods : Cert.Mods.Facts) (hModsIdeal : Cert.ModsIdeal.Facts) (hModsRefIdeal : Cert.ModsRefIdeal.Facts) (hFfnTwo : Cert.FfnTwo.Facts) (hFfnTwoIdeal : Cert.FfnTwoIdeal.Facts) (hFfnTwoRefIdeal : Cert.FfnTwoRefIdeal.Facts) (hPostRec : Cert.PostRec.Facts) (hPostRecIdeal : Cert.PostRecIdeal.Facts) (hPostRecRefIdeal : Cert.PostRecRefIdeal.Facts) (hPostNbr : Cert.PostNbr.Facts) (hPostNbrIdeal : Cert.PostNbrIdeal.Facts) (hPostNbrRefIdeal : Cert.PostNbrRefIdeal.Facts) (hPostRet : Cert.PostRet.Facts) (hPostRetIdeal : Cert.PostRetIdeal.Facts) (hPostRetRefIdeal : Cert.PostRetRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Post (hPost := hPost)
    ∧ quiescent_PostIdeal (hPostIdeal := hPostIdeal)
    ∧ quiescent_PostRefIdeal (hPostRefIdeal := hPostRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_LruProj (hLruProj := hLruProj)
    ∧ quiescent_LruProjIdeal (hLruProjIdeal := hLruProjIdeal)
    ∧ quiescent_LruProjRefIdeal (hLruProjRefIdeal := hLruProjRefIdeal)
    ∧ quiescent_NaProj (hNaProj := hNaProj)
    ∧ quiescent_NaProjIdeal (hNaProjIdeal := hNaProjIdeal)
    ∧ quiescent_NaProjRefIdeal (hNaProjRefIdeal := hNaProjRefIdeal)
    ∧ quiescent_Mods (hMods := hMods)
    ∧ quiescent_ModsIdeal (hModsIdeal := hModsIdeal)
    ∧ quiescent_ModsRefIdeal (hModsRefIdeal := hModsRefIdeal)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_PostRec (hPostRec := hPostRec)
    ∧ quiescent_PostRecIdeal (hPostRecIdeal := hPostRecIdeal)
    ∧ quiescent_PostRecRefIdeal (hPostRecRefIdeal := hPostRecRefIdeal)
    ∧ quiescent_PostNbr (hPostNbr := hPostNbr)
    ∧ quiescent_PostNbrIdeal (hPostNbrIdeal := hPostNbrIdeal)
    ∧ quiescent_PostNbrRefIdeal (hPostNbrRefIdeal := hPostNbrRefIdeal)
    ∧ quiescent_PostRet (hPostRet := hPostRet)
    ∧ quiescent_PostRetIdeal (hPostRetIdeal := hPostRetIdeal)
    ∧ quiescent_PostRetRefIdeal (hPostRetRefIdeal := hPostRetRefIdeal)
    ∧ preserves_Ffn_FfnIdeal
    ∧ algebraic_FfnIdeal_FfnRefIdeal (hFfnIdeal := hFfnIdeal) (hFfnRefIdeal := hFfnRefIdeal)
    ∧ preserves_Post_PostIdeal
    ∧ algebraic_PostIdeal_PostRefIdeal (hPostIdeal := hPostIdeal) (hPostRefIdeal := hPostRefIdeal)
    ∧ preserves_RetProj_RetProjIdeal
    ∧ algebraic_RetProjIdeal_RetProjRefIdeal (hRetProjIdeal := hRetProjIdeal) (hRetProjRefIdeal := hRetProjRefIdeal)
    ∧ preserves_LruProj_LruProjIdeal
    ∧ algebraic_LruProjIdeal_LruProjRefIdeal (hLruProjIdeal := hLruProjIdeal) (hLruProjRefIdeal := hLruProjRefIdeal)
    ∧ preserves_NaProj_NaProjIdeal
    ∧ algebraic_NaProjIdeal_NaProjRefIdeal (hNaProjIdeal := hNaProjIdeal) (hNaProjRefIdeal := hNaProjRefIdeal)
    ∧ preserves_Mods_ModsIdeal
    ∧ algebraic_ModsIdeal_ModsRefIdeal (hModsIdeal := hModsIdeal) (hModsRefIdeal := hModsRefIdeal)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_PostRec_PostRecIdeal
    ∧ algebraic_PostRecIdeal_PostRecRefIdeal (hPostRecIdeal := hPostRecIdeal) (hPostRecRefIdeal := hPostRecRefIdeal)
    ∧ preserves_PostNbr_PostNbrIdeal
    ∧ algebraic_PostNbrIdeal_PostNbrRefIdeal (hPostNbrIdeal := hPostNbrIdeal) (hPostNbrRefIdeal := hPostNbrRefIdeal)
    ∧ preserves_PostRet_PostRetIdeal
    ∧ algebraic_PostRetIdeal_PostRetRefIdeal (hPostRetIdeal := hPostRetIdeal) (hPostRetRefIdeal := hPostRetRefIdeal)
-- ==== Ffn.lean ====
abbrev S8x4352x1024 : Shape := ⟨3, ![8, 4352, 1024]⟩
abbrev S4x2x8x9x1024 : Shape := ⟨5, ![4, 2, 8, 9, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S34816x1024 : Shape := ⟨2, ![34816, 1024]⟩
abbrev S1x256x1024 : Shape := ⟨3, ![1, 256, 1024]⟩
abbrev S1x1x1x9x1024 : Shape := ⟨5, ![1, 1, 1, 9, 1024]⟩
abbrev S1x1x1024x5632 : Shape := ⟨4, ![1, 1, 1024, 5632]⟩
abbrev S1x1x2816x1024 : Shape := ⟨4, ![1, 1, 2816, 1024]⟩
abbrev S1x1x1x1024 : Shape := ⟨4, ![1, 1, 1, 1024]⟩
abbrev S1024x1024 : Shape := ⟨2, ![1024, 1024]⟩
abbrev S256x1024 : Shape := ⟨2, ![256, 1024]⟩
abbrev S9x1024 : Shape := ⟨2, ![9, 1024]⟩
abbrev S1x1024 : Shape := ⟨2, ![1, 1024]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 7
  | .vmem => 22
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S4x2x1024x5632, .bf16⟩
  | .hbm, ⟨3, _⟩ => ⟨S4x2x2816x1024, .bf16⟩
  | .hbm, ⟨4, _⟩ => ⟨S4x3x1x1024, .f32⟩
  | .hbm, ⟨5, _⟩ => ⟨S4x3x1x1024, .f32⟩
  | .hbm, ⟨6, _⟩ => ⟨S34816x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1x9x1024, .f32⟩
  | .local _ .vmem, ⟨9, _⟩ => ⟨S1x1x1x9x1024, .f32⟩
  | .local _ .vmem, ⟨10, _⟩ => ⟨S1x1x1x9x1024, .f32⟩
  | .local _ .vmem, ⟨11, _⟩ => ⟨S1x1x1x9x1024, .f32⟩
  | .local _ .vmem, ⟨12, _⟩ => ⟨S1x1x1x9x1024, .f32⟩
  | .local _ .vmem, ⟨13, _⟩ => ⟨S1x1x1x9x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x1x1024x5632, .bf16⟩
  | .local _ .vmem, ⟨17, _⟩ => ⟨S1x1x2816x1024, .bf16⟩
  | .local _ .vmem, ⟨18, _⟩ => ⟨S1x1x1x1024, .f32⟩
  | .local _ .vmem, ⟨19, _⟩ => ⟨S1x1x1x1024, .f32⟩
  | .local _ .vmem, ⟨20, _⟩ => ⟨S1024x1024, .f32⟩
  | .local _ .vmem, ⟨21, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_4 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c1_i32_16 : BitVec 32 := 1#32
  let c0_i32_17 : BitVec 32 := 0#32
  let c0_i32_18 : BitVec 32 := 0#32
  let c0_i32_19 : BitVec 32 := 0#32
  ![c1_i32_16.toNat, v32.toNat, v18.toNat, c0_i32_17.toNat, c0_i32_18.toNat]

def cc0_transform_5 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c1_i32_16 : BitVec 32 := 1#32
  let c0_i32_17 : BitVec 32 := 0#32
  let c0_i32_18 : BitVec 32 := 0#32
  let c0_i32_19 : BitVec 32 := 0#32
  ![c1_i32_16.toNat, v32.toNat, v18.toNat, c0_i32_17.toNat, c0_i32_18.toNat]

def cc0_transform_6 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c1_i32_15 : BitVec 32 := 1#32
  let c0_i32_16 : BitVec 32 := 0#32
  let c0_i32_17 : BitVec 32 := 0#32
  let c0_i32_18 : BitVec 32 := 0#32
  ![c1_i32_15.toNat, v32.toNat, v18.toNat, c0_i32_16.toNat, c0_i32_17.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c1_i32_15 : BitVec 32 := 1#32
  let c0_i32_16 : BitVec 32 := 0#32
  let c0_i32_17 : BitVec 32 := 0#32
  let c0_i32_18 : BitVec 32 := 0#32
  ![c1_i32_15.toNat, v32.toNat, v18.toNat, c0_i32_16.toNat, c0_i32_17.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnRefIdeal.lean ====
abbrev S8x4352x1024 : Shape := ⟨3, ![8, 4352, 1024]⟩
abbrev S4x2x8x9x1024 : Shape := ⟨5, ![4, 2, 8, 9, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x1x1x1024 : Shape := ⟨4, ![1, 1, 1, 1024]⟩
abbrev S1024 : Shape := ⟨1, ![1024]⟩
abbrev S8x4352x5632 : Shape := ⟨3, ![8, 4352, 5632]⟩
abbrev S8x4352x2816 : Shape := ⟨3, ![8, 4352, 2816]⟩
abbrev S8x4352 : Shape := ⟨2, ![8, 4352]⟩
abbrev S8x4352x1 : Shape := ⟨3, ![8, 4352, 1]⟩
abbrev S1x1x1024 : Shape := ⟨3, ![1, 1, 1024]⟩
abbrev S34816x1024 : Shape := ⟨2, ![34816, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S4x2x1024x5632, .bf16⟩
  | .hbm, ⟨3, _⟩ => ⟨S4x2x2816x1024, .bf16⟩
  | .hbm, ⟨4, _⟩ => ⟨S4x3x1x1024, .f32⟩
  | .hbm, ⟨5, _⟩ => ⟨S4x3x1x1024, .f32⟩
  | .hbm, ⟨6, _⟩ => ⟨S4352, .i32⟩
  | .hbm, ⟨7, _⟩ => ⟨S_, .i32⟩
  | .hbm, ⟨8, _⟩ => ⟨S4352, .i32⟩
  | .hbm, ⟨9, _⟩ => ⟨S4352, .i1⟩
  | .hbm, ⟨10, _⟩ => ⟨S1x4352x1, .i1⟩
  | .hbm, ⟨11, _⟩ => ⟨S1x1x8x1x1024, .f32⟩
  | .hbm, ⟨12, _⟩ => ⟨S8x1024, .f32⟩
  | .hbm, ⟨13, _⟩ => ⟨S8x1x1024, .f32⟩
  | .hbm, ⟨14, _⟩ => ⟨S1x1x8x1x1024, .f32⟩
  | .hbm, ⟨15, _⟩ => ⟨S8x1024, .f32⟩
  | .hbm, ⟨16, _⟩ => ⟨S8x1x1024, .f32⟩
  | .hbm, ⟨17, _⟩ => ⟨S8x4352x1024, .i1⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S4352, .i32⟩
  | .hbm, ⟨22, _⟩ => ⟨S_, .i32⟩
  | .hbm, ⟨23, _⟩ => ⟨S4352, .i32⟩
  | .hbm, ⟨24, _⟩ => ⟨S4352, .i1⟩
  | .hbm, ⟨25, _⟩ => ⟨S1x4352x1, .i1⟩
  | .hbm, ⟨26, _⟩ => ⟨S1x1x8x1x1024, .f32⟩
  | .hbm, ⟨27, _⟩ => ⟨S8x1024, .f32⟩
  | .hbm, ⟨28, _⟩ => ⟨S8x1x1024, .f32⟩
  | .hbm, ⟨29, _⟩ => ⟨S1x1x8x1x1024, .f32⟩
  | .hbm, ⟨30, _⟩ => ⟨S8x1024, .f32⟩
  | .hbm, ⟨31, _⟩ => ⟨S8x1x1024, .f32⟩
  | .hbm, ⟨32, _⟩ => ⟨S8x4352x1024, .i1⟩
  | .hbm, ⟨33, _⟩ => ⟨S8x4352x1024, .f32⟩
  | .hbm, ⟨34, _⟩ => ⟨S8x4352x1024, .f32⟩
  | .hbm, ⟨35, _⟩ => ⟨S8x4352x1024, .f32⟩
  | .hbm, ⟨36, _⟩ => ⟨S4352, .i32⟩
  | .hbm, ⟨37, _⟩ => ⟨S_, .i32⟩
  | .hbm, ⟨38, _⟩ => ⟨S4352, .i32⟩
  | .hbm, ⟨39, _⟩ => ⟨S4352, .i1⟩
  | .hbm, ⟨40, _⟩ => ⟨S1x4352x1, .i1⟩
  | .hbm, ⟨41, _⟩ => ⟨S1x1x8x1x1024, .f32⟩
  | .hbm, ⟨42, _⟩ => ⟨S8x1024, .f32⟩
  | .hbm, ⟨43, _⟩ => ⟨S8x1x1024, .f32⟩
  | .hbm, ⟨44, _⟩ => ⟨S1x1x8x1x1024, .f32⟩
  | .hbm, ⟨45, _⟩ => ⟨S8x1024, .f32⟩
  | .hbm, ⟨46, _⟩ => ⟨S8x1x1024, .f32⟩
  | .hbm, ⟨47, _⟩ => ⟨S8x4352x1024, .i1⟩
  | .hbm, ⟨48, _⟩ => ⟨S8x4352x1024, .f32⟩
  | .hbm, ⟨49, _⟩ => ⟨S8x4352x1024, .f32⟩
  | .hbm, ⟨50, _⟩ => ⟨S8x4352x1024, .f32⟩
  | .hbm, ⟨51, _⟩ => ⟨S1x1x1024x5632, .bf16⟩
  | .hbm, ⟨52, _⟩ => ⟨S1024x5632, .bf16⟩
  | .hbm, ⟨53, _⟩ => ⟨S1x1x2816x1024, .bf16⟩
  | .hbm, ⟨54, _⟩ => ⟨S2816x1024, .bf16⟩
  | .hbm, ⟨55, _⟩ => ⟨S1x1x1x1024, .f32⟩
  | .hbm, ⟨56, _⟩ => ⟨S1024, .f32⟩
  | .hbm, ⟨57, _⟩ => ⟨S1x1x1x1024, .f32⟩
  | .hbm, ⟨58, _⟩ => ⟨S1024, .f32⟩
  | .hbm, ⟨59, _⟩ => ⟨S_, .f32⟩
  | .hbm, ⟨60, _⟩ => ⟨S8x4352x1024, .f32⟩
  | .hbm, ⟨61, _⟩ => ⟨S8x4352x1024, .f32⟩
  | .hbm, ⟨62, _⟩ => ⟨S8x4352x1024, .f32⟩
  | .hbm, ⟨63, _⟩ => ⟨S8x4352x1024, .f32⟩
  | .hbm, ⟨64, _⟩ => ⟨S8x4352x1024, .bf16⟩
  | .hbm, ⟨65, _⟩ => ⟨S8x4352x1024, .f32⟩
  | .hbm, ⟨66, _⟩ => ⟨S1024x5632, .f32⟩
  | .hbm, ⟨67, _⟩ => ⟨S8x4352x5632, .f32⟩
  | .hbm, ⟨68, _⟩ => ⟨S8x4352x2816, .f32⟩
  | .hbm, ⟨69, _⟩ => ⟨S8x4352x2816, .f32⟩
  | .hbm, ⟨70, _⟩ => ⟨S8x4352x2816, .f32⟩
  | .hbm, ⟨71, _⟩ => ⟨S_, .f32⟩
  | .hbm, ⟨72, _⟩ => ⟨S8x4352x2816, .f32⟩
  | .hbm, ⟨73, _⟩ => ⟨S8x4352x2816, .f32⟩
  | .hbm, ⟨74, _⟩ => ⟨S_, .f32⟩
  | .hbm, ⟨75, _⟩ => ⟨S8x4352x2816, .f32⟩
  | .hbm, ⟨76, _⟩ => ⟨S8x4352x2816, .f32⟩
  | .hbm, ⟨77, _⟩ => ⟨S8x4352x2816, .f32⟩
  | .hbm, ⟨78, _⟩ => ⟨S8x4352x2816, .f32⟩
  | .hbm, ⟨79, _⟩ => ⟨S8x4352x2816, .f32⟩
  | .hbm, ⟨80, _⟩ => ⟨S8x4352x2816, .bf16⟩
  | .hbm, ⟨81, _⟩ => ⟨S8x4352x2816, .f32⟩
  | .hbm, ⟨82, _⟩ => ⟨S2816x1024, .f32⟩
  | .hbm, ⟨83, _⟩ => ⟨S8x4352x1024, .f32⟩
  | .hbm, ⟨84, _⟩ => ⟨S_, .f32⟩
  | .hbm, ⟨85, _⟩ => ⟨S8x4352x1024, .f32⟩
  | .hbm, ⟨86, _⟩ => ⟨S8x4352x1024, .f32⟩
  | .hbm, ⟨87, _⟩ => ⟨S_, .f32⟩
  | .hbm, ⟨88, _⟩ => ⟨S8x4352x1024, .f32⟩
  | .hbm, ⟨89, _⟩ => ⟨S8x4352x1024, .f32⟩
  | .hbm, ⟨90, _⟩ => ⟨S8x4352x1024, .f32⟩
  | .hbm, ⟨91, _⟩ => ⟨S8x4352x1024, .f32⟩
  | .hbm, ⟨92, _⟩ => ⟨S_, .f32⟩
  | .hbm, ⟨93, _⟩ => ⟨S8x4352, .f32⟩
  | .hbm, ⟨94, _⟩ => ⟨S8x4352x1, .f32⟩
  | .hbm, ⟨95, _⟩ => ⟨S_, .f32⟩
  | .hbm, ⟨96, _⟩ => ⟨S8x4352x1, .f32⟩
  | .hbm, ⟨97, _⟩ => ⟨S8x4352x1, .f32⟩
  | .hbm, ⟨98, _⟩ => ⟨S8x4352x1024, .f32⟩
  | .hbm, ⟨99, _⟩ => ⟨S8x4352x1024, .f32⟩
  | .hbm, ⟨100, _⟩ => ⟨S8x4352x1024, .f32⟩
  | .hbm, ⟨101, _⟩ => ⟨S_, .f32⟩
  | .hbm, ⟨102, _⟩ => ⟨S8x4352, .f32⟩
  | .hbm, ⟨103, _⟩ => ⟨S8x4352x1, .f32⟩
  | .hbm, ⟨104, _⟩ => ⟨S_, .f32⟩
  | .hbm, ⟨105, _⟩ => ⟨S8x4352x1, .f32⟩
  | .hbm, ⟨106, _⟩ => ⟨S8x4352x1, .f32⟩
  | .hbm, ⟨107, _⟩ => ⟨S8x4352x1024, .f32⟩
  | .hbm, ⟨108, _⟩ => ⟨S8x4352x1024, .f32⟩
  | .hbm, ⟨109, _⟩ => ⟨S_, .f32⟩
  | .hbm, ⟨110, _⟩ => ⟨S8x4352x1, .f32⟩
  | .hbm, ⟨111, _⟩ => ⟨S8x4352x1, .f32⟩
  | .hbm, ⟨112, _⟩ => ⟨S8x4352x1, .f32⟩
  | .hbm, ⟨113, _⟩ => ⟨S8x4352x1024, .f32⟩
  | .hbm, ⟨114, _⟩ => ⟨S8x4352x1024, .f32⟩
  | .hbm, ⟨115, _⟩ => ⟨S1x1x1024, .f32⟩
  | .hbm, ⟨116, _⟩ => ⟨S8x4352x1024, .f32⟩
  | .hbm, ⟨117, _⟩ => ⟨S8x4352x1024, .f32⟩
  | .hbm, ⟨118, _⟩ => ⟨S1x1x1024, .f32⟩
  | .hbm, ⟨119, _⟩ => ⟨S8x4352x1024, .f32⟩
  | .hbm, ⟨120, _⟩ => ⟨S8x4352x1024, .f32⟩
  | .hbm, ⟨121, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call3_v0 : Ref sig .tc := ⟨.hbm, 69, rfl⟩
abbrev main_call3_v1 : Ref sig .tc := ⟨.hbm, 70, rfl⟩
abbrev main_call3_cst : Ref sig .tc := ⟨.hbm, 71, rfl⟩
abbrev main_call3_v2 : Ref sig .tc := ⟨.hbm, 72, rfl⟩
abbrev main_call3_v3 : Ref sig .tc := ⟨.hbm, 73, rfl⟩
abbrev main_call3_cst_0 : Ref sig .tc := ⟨.hbm, 74, rfl⟩
abbrev main_call3_v4 : Ref sig .tc := ⟨.hbm, 75, rfl⟩
abbrev main_call3_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_2 : Ref sig .tc := ⟨.hbm, 84, rfl⟩
abbrev main_v57 : Ref sig .tc := ⟨.hbm, 85, rfl⟩
abbrev main_v58 : Ref sig .tc := ⟨.hbm, 86, rfl⟩
abbrev main_cst_3 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_4 : Ref sig .tc := ⟨.hbm, 92, rfl⟩
abbrev main_v63 : Ref sig .tc := ⟨.hbm, 93, rfl⟩
abbrev main_v64 : Ref sig .tc := ⟨.hbm, 94, rfl⟩
abbrev main_cst_5 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_6 : Ref sig .tc := ⟨.hbm, 101, rfl⟩
abbrev main_v70 : Ref sig .tc := ⟨.hbm, 102, rfl⟩
abbrev main_v71 : Ref sig .tc := ⟨.hbm, 103, rfl⟩
abbrev main_cst_7 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_8 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]
-- ==== Post.lean ====
abbrev S8x4352x1024 : Shape := ⟨3, ![8, 4352, 1024]⟩
abbrev S4x2x8x9x1024 : Shape := ⟨5, ![4, 2, 8, 9, 1024]⟩
abbrev S8x4352x2048 : Shape := ⟨3, ![8, 4352, 2048]⟩
abbrev S2x2048x1024 : Shape := ⟨3, ![2, 2048, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S32768x1024 : Shape := ⟨2, ![32768, 1024]⟩
abbrev S1x256x1024 : Shape := ⟨3, ![1, 256, 1024]⟩
abbrev S1x1x1x9x1024 : Shape := ⟨5, ![1, 1, 1, 9, 1024]⟩
abbrev S1x256x2048 : Shape := ⟨3, ![1, 256, 2048]⟩
abbrev S1x2048x1024 : Shape := ⟨3, ![1, 2048, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1024x1024 : Shape := ⟨2, ![1024, 1024]⟩
abbrev S256x2048 : Shape := ⟨2, ![256, 2048]⟩
abbrev S9x1024 : Shape := ⟨2, ![9, 1024]⟩
abbrev S256x1024 : Shape := ⟨2, ![256, 1024]⟩
abbrev S1x1024 : Shape := ⟨2, ![1, 1024]⟩
abbrev S2048x1024 : Shape := ⟨2, ![2048, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 9
  | .vmem => 33
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S8x4352x2048, .bf16⟩
  | .hbm, ⟨3, _⟩ => ⟨S2x2048x1024, .bf16⟩
  | .hbm, ⟨4, _⟩ => ⟨S4x2x1024x5632, .bf16⟩
  | .hbm, ⟨5, _⟩ => ⟨S4x2x2816x1024, .bf16⟩
  | .hbm, ⟨6, _⟩ => ⟨S4x3x1x1024, .f32⟩
  | .hbm, ⟨7, _⟩ => ⟨S4x3x1x1024, .f32⟩
  | .hbm, ⟨8, _⟩ => ⟨S32768x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1x9x1024, .f32⟩
  | .local _ .vmem, ⟨9, _⟩ => ⟨S1x1x1x9x1024, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x256x2048, .bf16⟩
  | .local _ .vmem, ⟨17, _⟩ => ⟨S1x256x2048, .bf16⟩
  | .local _ .vmem, ⟨18, _⟩ => ⟨S1x256x1024, .f32⟩
  | .local _ .vmem, ⟨19, _⟩ => ⟨S1x256x1024, .f32⟩
  | .local _ .vmem, ⟨20, _⟩ => ⟨S1x1x1x9x1024, .f32⟩
  | .local _ .vmem, ⟨21, _⟩ => ⟨S1x1x1x9x1024, .f32⟩
  | .local _ .vmem, ⟨22, _⟩ => ⟨S1x256x2048, .bf16⟩
  | .local _ .vmem, ⟨23, _⟩ => ⟨S1x256x2048, .bf16⟩
  | .local _ .vmem, ⟨24, _⟩ => ⟨S1x2048x1024, .bf16⟩
  | .local _ .vmem, ⟨25, _⟩ => ⟨S1x1x1x1024, .f32⟩
  | .local _ .vmem, ⟨26, _⟩ => ⟨S1x1x1x1024, .f32⟩
  | .local _ .vmem, ⟨27, _⟩ => ⟨S1x1x1024x5632, .bf16⟩
  | .local _ .vmem, ⟨28, _⟩ => ⟨S1x1x2816x1024, .bf16⟩
  | .local _ .vmem, ⟨29, _⟩ => ⟨S1x1x1x1024, .f32⟩
  | .local _ .vmem, ⟨30, _⟩ => ⟨S1x1x1x1024, .f32⟩
  | .local _ .vmem, ⟨31, _⟩ => ⟨S1024x1024, .f32⟩
  | .local _ .vmem, ⟨32, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c3_i32 : BitVec 32 := 3#32
  let c0_i32_16 : BitVec 32 := 0#32
  let c0_i32_17 : BitVec 32 := 0#32
  let c0_i32_18 : BitVec 32 := 0#32
  ![c3_i32.toNat, v32.toNat, v18.toNat, c0_i32_16.toNat, c0_i32_17.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_4 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c3_i32 : BitVec 32 := 3#32
  let c0_i32_16 : BitVec 32 := 0#32
  let c0_i32_17 : BitVec 32 := 0#32
  let c0_i32_18 : BitVec 32 := 0#32
  ![c3_i32.toNat, v32.toNat, v18.toNat, c0_i32_16.toNat, c0_i32_17.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c0_i32_12 : BitVec 32 := 0#32
  let c0_i32_13 : BitVec 32 := 0#32
  ![v18.toNat, v29.toNat, c0_i32_12.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c0_i32_11 : BitVec 32 := 0#32
  let c0_i32_12 : BitVec 32 := 0#32
  ![v18.toNat, v29.toNat, c0_i32_11.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c3_i32 : BitVec 32 := 3#32
  let c0_i32_15 : BitVec 32 := 0#32
  let c0_i32_16 : BitVec 32 := 0#32
  let c0_i32_17 : BitVec 32 := 0#32
  ![c3_i32.toNat, v32.toNat, v18.toNat, c0_i32_15.toNat, c0_i32_16.toNat]

def cc0_transform_8 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c0_i32_11 : BitVec 32 := 0#32
  let c0_i32_12 : BitVec 32 := 0#32
  ![v18.toNat, v29.toNat, c0_i32_11.toNat]

def cc0_transform_9 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c0_i32_11 : BitVec 32 := 0#32
  let c0_i32_12 : BitVec 32 := 0#32
  ![v18.toNat, v29.toNat, c0_i32_11.toNat]

def cc0_transform_10 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c3_i32_15 : BitVec 32 := 3#32
  let c0_i32_16 : BitVec 32 := 0#32
  let c0_i32_17 : BitVec 32 := 0#32
  let c0_i32_18 : BitVec 32 := 0#32
  ![c3_i32_15.toNat, v32.toNat, v18.toNat, c0_i32_16.toNat, c0_i32_17.toNat]

def cc0_transform_11 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.addi v28 c1_i32_10
  let c0_i32_11 : BitVec 32 := 0#32
  let c0_i32_12 : BitVec 32 := 0#32
  ![v18.toNat, v29.toNat, c0_i32_11.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_14 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_15 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_16 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_17 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_18 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x9x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PostRefIdeal.lean ====
abbrev S8x4352x1024 : Shape := ⟨3, ![8, 4352, 1024]⟩
abbrev S4x2x8x9x1024 : Shape := ⟨5, ![4, 2, 8, 9, 1024]⟩
abbrev S8x4352x2048 : Shape := ⟨3, ![8, 4352, 2048]⟩
abbrev S2x2048x1024 : Shape := ⟨3, ![2, 2048, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S8x4096x1024 : Shape := ⟨3, ![8, 4096, 1024]⟩
abbrev S8x4096x2048 : Shape := ⟨3, ![8, 4096, 2048]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x2048x1024 : Shape := ⟨3, ![1, 2048, 1024]⟩
abbrev S2048x1024 : Shape := ⟨2, ![2048, 1024]⟩
abbrev S_ : Shape := ⟨0, ![]⟩
abbrev S1x1x1x1024 : Shape := ⟨4, ![1, 1, 1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 140
  | .vmem => 0
  | .smem => 0
  | _ => 0

abbrev hbmTy0_0 (i : Nat) : BufTy := match i % 128 with
  | 0 => ⟨S8x4352x1024, .f32⟩
  | 1 => ⟨S4x2x8x9x1024, .f32⟩
  | 2 => ⟨S8x4352x2048, .bf16⟩
  | 3 => ⟨S2x2048x1024, .bf16⟩
  | 4 => ⟨S4x2x1024x5632, .bf16⟩
  | 5 => ⟨S4x2x2816x1024, .bf16⟩
  | 6 => ⟨S4x3x1x1024, .f32⟩
  | 7 => ⟨S4x3x1x1024, .f32⟩
  | 8 => ⟨S8x4096x1024, .f32⟩
  | 9 => ⟨S8x4096x2048, .bf16⟩
  | 10 => ⟨S8x4096x2048, .f32⟩
  | 11 => ⟨S1x1x8x1x1024, .f32⟩
  | 12 => ⟨S8x1024, .f32⟩
  | 13 => ⟨S8x1x1024, .f32⟩
  | 14 => ⟨S1x1x8x1x1024, .f32⟩
  | 15 => ⟨S8x1024, .f32⟩
  | 16 => ⟨S8x1x1024, .f32⟩
  | 17 => ⟨S1x1x8x1x1024, .f32⟩
  | 18 => ⟨S8x1024, .f32⟩
  | 19 => ⟨S8x1x1024, .f32⟩
  | 20 => ⟨S1x1x8x1x1024, .f32⟩
  | 21 => ⟨S8x1024, .f32⟩
  | 22 => ⟨S8x1x1024, .f32⟩
  | 23 => ⟨S1x2048x1024, .bf16⟩
  | 24 => ⟨S2048x1024, .bf16⟩
  | 25 => ⟨S2048x1024, .f32⟩
  | 26 => ⟨S8x4096x1024, .f32⟩
  | 27 => ⟨S_, .f32⟩
  | 28 => ⟨S8x4096x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S1x1x1x1024, .f32⟩
  | 34 => ⟨S1024, .f32⟩
  | 35 => ⟨S1x1x1x1024, .f32⟩
  | 36 => ⟨S1024, .f32⟩
  | 37 => ⟨S_, .f32⟩
  | 38 => ⟨S8x4096, .f32⟩
  | 39 => ⟨S8x4096x1, .f32⟩
  | 40 => ⟨S_, .f32⟩
  | 41 => ⟨S8x4096x1, .f32⟩
  | 42 => ⟨S8x4096x1, .f32⟩
  | 43 => ⟨S8x4096x1024, .f32⟩
  | 44 => ⟨S8x4096x1024, .f32⟩
  | 45 => ⟨S8x4096x1024, .f32⟩
  | 46 => ⟨S_, .f32⟩
  | 47 => ⟨S8x4096, .f32⟩
  | 48 => ⟨S8x4096x1, .f32⟩
  | 49 => ⟨S_, .f32⟩
  | 50 => ⟨S8x4096x1, .f32⟩
  | 51 => ⟨S8x4096x1, .f32⟩
  | 52 => ⟨S8x4096x1024, .f32⟩
  | 53 => ⟨S8x4096x1024, .f32⟩
  | 54 => ⟨S_, .f32⟩
  | 55 => ⟨S8x4096x1, .f32⟩
  | 56 => ⟨S8x4096x1, .f32⟩
  | 57 => ⟨S8x4096x1, .f32⟩
  | 58 => ⟨S8x4096x1024, .f32⟩
  | 59 => ⟨S8x4096x1024, .f32⟩
  | 60 => ⟨S1x1x1024, .f32⟩
  | 61 => ⟨S8x4096x1024, .f32⟩
  | 62 => ⟨S8x4096x1024, .f32⟩
  | 63 => ⟨S1x1x1024, .f32⟩
  | 64 => ⟨S8x4096x1024, .f32⟩
  | 65 => ⟨S8x4096x1024, .f32⟩
  | 66 => ⟨S1x1x1024x5632, .bf16⟩
  | 67 => ⟨S1024x5632, .bf16⟩
  | 68 => ⟨S1x1x2816x1024, .bf16⟩
  | 69 => ⟨S2816x1024, .bf16⟩
  | 70 => ⟨S1x1x1x1024, .f32⟩
  | 71 => ⟨S1024, .f32⟩
  | 72 => ⟨S1x1x1x1024, .f32⟩
  | 73 => ⟨S1024, .f32⟩
  | 74 => ⟨S_, .f32⟩
  | 75 => ⟨S8x1x1024, .f32⟩
  | 76 => ⟨S8x1x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S8x4096x1024, .bf16⟩
  | 82 => ⟨S8x4096x1024, .f32⟩
  | 83 => ⟨S1024x5632, .f32⟩
  | 84 => ⟨S8x4096x5632, .f32⟩
  | 85 => ⟨S8x4096x2816, .f32⟩
  | 86 => ⟨S8x4096x2816, .f32⟩
  | 87 => ⟨S8x4096x2816, .f32⟩
  | 88 => ⟨S_, .f32⟩
  | 89 => ⟨S8x4096x2816, .f32⟩
  | 90 => ⟨S8x4096x2816, .f32⟩
  | 91 => ⟨S_, .f32⟩
  | 92 => ⟨S8x4096x2816, .f32⟩
  | 93 => ⟨S8x4096x2816, .f32⟩
  | 94 => ⟨S8x4096x2816, .f32⟩
  | 95 => ⟨S8x4096x2816, .f32⟩
  | 96 => ⟨S8x4096x2816, .f32⟩
  | 97 => ⟨S8x4096x2816, .bf16⟩
  | 98 => ⟨S8x4096x2816, .f32⟩
  | 99 => ⟨S2816x1024, .f32⟩
  | 100 => ⟨S8x4096x1024, .f32⟩
  | 101 => ⟨S_, .f32⟩
  | 102 => ⟨S8x4096x1024, .f32⟩
  | 103 => ⟨S8x4096x1024, .f32⟩
  | 104 => ⟨S_, .f32⟩
  | 105 => ⟨S8x4096x1024, .f32⟩
  | 106 => ⟨S8x4096x1024, .f32⟩
  | 107 => ⟨S8x4096x1024, .f32⟩
  | 108 => ⟨S8x4096x1024, .f32⟩
  | 109 => ⟨S8x4096x1024, .f32⟩
  | 110 => ⟨S_, .f32⟩
  | 111 => ⟨S8x4096, .f32⟩
  | 112 => ⟨S8x4096x1, .f32⟩
  | 113 => ⟨S_, .f32⟩
  | 114 => ⟨S8x4096x1, .f32⟩
  | 115 => ⟨S8x4096x1, .f32⟩
  | 116 => ⟨S8x4096x1024, .f32⟩
  | 117 => ⟨S8x4096x1024, .f32⟩
  | 118 => ⟨S8x4096x1024, .f32⟩
  | 119 => ⟨S_, .f32⟩
  | 120 => ⟨S8x4096, .f32⟩
  | 121 => ⟨S8x4096x1, .f32⟩
  | 122 => ⟨S_, .f32⟩
  | 123 => ⟨S8x4096x1, .f32⟩
  | 124 => ⟨S8x4096x1, .f32⟩
  | 125 => ⟨S8x4096x1024, .f32⟩
  | 126 => ⟨S8x4096x1024, .f32⟩
  | 127 => ⟨S_, .f32⟩
  | _ => ⟨S8x4352x1024, .f32⟩

abbrev hbmTy0_1 (i : Nat) : BufTy := match i % 128 with
  | 0 => ⟨S8x4096x1, .f32⟩
  | 1 => ⟨S8x4096x1, .f32⟩
  | 2 => ⟨S8x4096x1, .f32⟩
  | 3 => ⟨S8x4096x1024, .f32⟩
  | 4 => ⟨S8x4096x1024, .f32⟩
  | 5 => ⟨S1x1x1024, .f32⟩
  | 6 => ⟨S8x4096x1024, .f32⟩
  | 7 => ⟨S8x4096x1024, .f32⟩
  | 8 => ⟨S1x1x1024, .f32⟩
  | 9 => ⟨S8x4096x1024, .f32⟩
  | 10 => ⟨S8x4096x1024, .f32⟩
  | 11 => ⟨S32768x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_6 : Ref sig .tc := ⟨.hbm, 101, rfl⟩
abbrev main_v78 : Ref sig .tc := ⟨.hbm, 102, rfl⟩
abbrev main_v79 : Ref sig .tc := ⟨.hbm, 103, rfl⟩
abbrev main_cst_7 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_8 : Ref sig .tc := ⟨.hbm, 110, rfl⟩
abbrev main_v85 : Ref sig .tc := ⟨.hbm, 111, rfl⟩
abbrev main_v86 : Ref sig .tc := ⟨.hbm, 112, rfl⟩
abbrev main_cst_9 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_10 : Ref sig .tc := ⟨.hbm, 119, rfl⟩
abbrev main_v92 : Ref sig .tc := ⟨.hbm, 120, rfl⟩
abbrev main_v93 : Ref sig .tc := ⟨.hbm, 121, rfl⟩
abbrev main_cst_11 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_12 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== RetProj.lean ====
abbrev S8x4352x1024 : Shape := ⟨3, ![8, 4352, 1024]⟩
abbrev S4x2x8x9x1024 : Shape := ⟨5, ![4, 2, 8, 9, 1024]⟩
abbrev S2x1024x6144 : Shape := ⟨3, ![2, 1024, 6144]⟩
abbrev S64 : Shape := ⟨1, ![64]⟩
abbrev S_ : Shape := ⟨0, ![]⟩
abbrev S64x1x1 : Shape := ⟨3, ![64, 1, 1]⟩
abbrev S1x1x64 : Shape := ⟨3, ![1, 1, 64]⟩
abbrev S64x1x64 : Shape := ⟨3, ![64, 1, 64]⟩
abbrev S64x64x64 : Shape := ⟨3, ![64, 64, 64]⟩
abbrev S4096x64 : Shape := ⟨2, ![4096, 64]⟩
abbrev S1x64x1 : Shape := ⟨3, ![1, 64, 1]⟩
abbrev S1x64x64 : Shape := ⟨3, ![1, 64, 64]⟩
abbrev S4096x256 : Shape := ⟨2, ![4096, 256]⟩
abbrev S256x256 : Shape := ⟨2, ![256, 256]⟩
abbrev S4352x256 : Shape := ⟨2, ![4352, 256]⟩
abbrev S34816x1024 : Shape := ⟨2, ![34816, 1024]⟩
abbrev S34816x2048 : Shape := ⟨2, ![34816, 2048]⟩
abbrev S1x256x1024 : Shape := ⟨3, ![1, 256, 1024]⟩
abbrev S1x1x1x9x1024 : Shape := ⟨5, ![1, 1, 1, 9, 1024]⟩
abbrev S1x1024x6144 : Shape := ⟨3, ![1, 1024, 6144]⟩
abbrev S1024x1024 : Shape := ⟨2, ![1024, 1024]⟩
abbrev S1024x2048 : Shape := ⟨2, ![1024, 2048]⟩
abbrev S9x1024 : Shape := ⟨2, ![9, 1024]⟩
abbrev S256x1024 : Shape := ⟨2, ![256, 1024]⟩
abbrev S1x1024 : Shape := ⟨2, ![1, 1024]⟩
abbrev S1024x6144 : Shape := ⟨2, ![1024, 6144]⟩
abbrev S256x6144 : Shape := ⟨2, ![256, 6144]⟩
abbrev S256x128 : Shape := ⟨2, ![256, 128]⟩
abbrev S256x2048 : Shape := ⟨2, ![256, 2048]⟩

abbrev nBuf : Space → Nat
  | .hbm => 54
  | .vmem => 41
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S2x1024x6144, .bf16⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64x1x1, .f32⟩
  | .hbm, ⟨19, _⟩ => ⟨S1x1x64, .f32⟩
  | .hbm, ⟨20, _⟩ => ⟨S64x1x64, .f32⟩
  | .hbm, ⟨21, _⟩ => ⟨S64x1x64, .f32⟩
  | .hbm, ⟨22, _⟩ => ⟨S64x1x64, .f32⟩
  | .hbm, ⟨23, _⟩ => ⟨S64x64x64, .f32⟩
  | .hbm, ⟨24, _⟩ => ⟨S4096x64, .f32⟩
  | .hbm, ⟨25, _⟩ => ⟨S1x64x1, .f32⟩
  | .hbm, ⟨26, _⟩ => ⟨S1x1x64, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S64x64x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x256, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x256, .f32⟩
  | .hbm, ⟨44, _⟩ => ⟨S_, .f32⟩
  | .hbm, ⟨45, _⟩ => ⟨S256x256, .f32⟩
  | .hbm, ⟨46, _⟩ => ⟨S4352x256, .f32⟩
  | .hbm, ⟨47, _⟩ => ⟨S_, .f32⟩
  | .hbm, ⟨48, _⟩ => ⟨S256x256, .f32⟩
  | .hbm, ⟨49, _⟩ => ⟨S4352x256, .f32⟩
  | .hbm, ⟨50, _⟩ => ⟨S34816x1024, .bf16⟩
  | .hbm, ⟨51, _⟩ => ⟨S34816x1024, .bf16⟩
  | .hbm, ⟨52, _⟩ => ⟨S34816x2048, .bf16⟩
  | .hbm, ⟨53, _⟩ => ⟨S34816x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1x9x1024, .f32⟩
  | .local _ .vmem, ⟨11, _⟩ => ⟨S1x1x1x9x1024, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1x9x1024, .f32⟩
  | .local _ .vmem, ⟨19, _⟩ => ⟨S1x1x1x9x1024, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S1x256x1024, .f32⟩
  | .local _ .vmem, ⟨25, _⟩ => ⟨S1x256x1024, .f32⟩
  | .local _ .vmem, ⟨26, _⟩ => ⟨S1x1x1x9x1024, .f32⟩
  | .local _ .vmem, ⟨27, _⟩ => ⟨S1x1x1x9x1024, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S1x1024x6144, .bf16⟩
  | .local _ .vmem, ⟨33, _⟩ => ⟨S1024x1024, .bf16⟩
  | .local _ .vmem, ⟨34, _⟩ => ⟨S1024x1024, .bf16⟩
  | .local _ .vmem, ⟨35, _⟩ => ⟨S1024x1024, .bf16⟩
  | .local _ .vmem, ⟨36, _⟩ => ⟨S1024x1024, .bf16⟩
  | .local _ .vmem, ⟨37, _⟩ => ⟨S1024x2048, .bf16⟩
  | .local _ .vmem, ⟨38, _⟩ => ⟨S1024x2048, .bf16⟩
  | .local _ .vmem, ⟨39, _⟩ => ⟨S1024x2048, .bf16⟩
  | .local _ .vmem, ⟨40, _⟩ => ⟨S1024x2048, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_v41_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c3_i32 : BitVec 32 := 3#32
  let c0_i32_16 : BitVec 32 := 0#32
  let c0_i32_17 : BitVec 32 := 0#32
  let c0_i32_18 : BitVec 32 := 0#32
  ![c3_i32.toNat, v32.toNat, v18.toNat, c0_i32_16.toNat, c0_i32_17.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_5 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c3_i32 : BitVec 32 := 3#32
  let c0_i32_16 : BitVec 32 := 0#32
  let c0_i32_17 : BitVec 32 := 0#32
  let c0_i32_18 : BitVec 32 := 0#32
  ![c3_i32.toNat, v32.toNat, v18.toNat, c0_i32_16.toNat, c0_i32_17.toNat]

def cc0_transform_6 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v29.toNat, c0_i32_12.toNat]

def cc0_transform_8 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_9 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c3_i32 : BitVec 32 := 3#32
  let c0_i32_15 : BitVec 32 := 0#32
  let c0_i32_16 : BitVec 32 := 0#32
  let c0_i32_17 : BitVec 32 := 0#32
  ![c3_i32.toNat, v32.toNat, v18.toNat, c0_i32_15.toNat, c0_i32_16.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v29.toNat, c0_i32_11.toNat]

def cc0_transform_11 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v29.toNat, c0_i32_11.toNat]

def cc0_transform_12 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_13 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c3_i32_15 : BitVec 32 := 3#32
  let c0_i32_16 : BitVec 32 := 0#32
  let c0_i32_17 : BitVec 32 := 0#32
  let c0_i32_18 : BitVec 32 := 0#32
  ![c3_i32_15.toNat, v32.toNat, v18.toNat, c0_i32_16.toNat, c0_i32_17.toNat]

def cc0_transform_14 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v29.toNat, c0_i32_11.toNat]

def cc0_transform_15 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v29.toNat, c0_i32_11.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x9x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1x9x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024x6144 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== RetProjRefIdeal.lean ====
abbrev S8x4352x1024 : Shape := ⟨3, ![8, 4352, 1024]⟩
abbrev S4x2x8x9x1024 : Shape := ⟨5, ![4, 2, 8, 9, 1024]⟩
abbrev S2x1024x6144 : Shape := ⟨3, ![2, 1024, 6144]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x1024x6144 : Shape := ⟨3, ![1, 1024, 6144]⟩
abbrev S1024x6144 : Shape := ⟨2, ![1024, 6144]⟩
abbrev S8x4352x6144 : Shape := ⟨3, ![8, 4352, 6144]⟩
abbrev S8x4352x4x256 : Shape := ⟨4, ![8, 4352, 4, 256]⟩
abbrev S8x256x4x256 : Shape := ⟨4, ![8, 256, 4, 256]⟩
abbrev S8x4096x4x256 : Shape := ⟨4, ![8, 4096, 4, 256]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S8x4096x4x128 : Shape := ⟨4, ![8, 4096, 4, 128]⟩
abbrev S4096x1 : Shape := ⟨2, ![4096, 1]⟩
abbrev S4096x64 : Shape := ⟨2, ![4096, 64]⟩
abbrev S1x4096x1x64 : Shape := ⟨4, ![1, 4096, 1, 64]⟩
abbrev S8x4096x4x64 : Shape := ⟨4, ![8, 4096, 4, 64]⟩
abbrev S34816x1024 : Shape := ⟨2, ![34816, 1024]⟩
abbrev S8x4352x2048 : Shape := ⟨3, ![8, 4352, 2048]⟩
abbrev S34816x2048 : Shape := ⟨2, ![34816, 2048]⟩

abbrev nBuf : Space → Nat
  | .hbm => 212
  | .vmem => 0
  | .smem => 0
  | _ => 0

abbrev hbmTy0_0 (i : Nat) : BufTy := match i % 128 with
  | 0 => ⟨S8x4352x1024, .f32⟩
  | 1 => ⟨S4x2x8x9x1024, .f32⟩
  | 2 => ⟨S2x1024x6144, .bf16⟩
  | 3 => ⟨S4352, .i32⟩
  | 4 => ⟨S_, .i32⟩
  | 5 => ⟨S4352, .i32⟩
  | 6 => ⟨S4352, .i1⟩
  | 7 => ⟨S1x4352x1, .i1⟩
  | 8 => ⟨S1x1x8x1x1024, .f32⟩
  | 9 => ⟨S8x1024, .f32⟩
  | 10 => ⟨S8x1x1024, .f32⟩
  | 11 => ⟨S1x1x8x1x1024, .f32⟩
  | 12 => ⟨S8x1024, .f32⟩
  | 13 => ⟨S8x1x1024, .f32⟩
  | 14 => ⟨S8x4352x1024, .i1⟩
  | 15 => ⟨S8x4352x1024, .f32⟩
  | 16 => ⟨S8x4352x1024, .f32⟩
  | 17 => ⟨S8x4352x1024, .f32⟩
  | 18 => ⟨S4352, .i32⟩
  | 19 => ⟨S_, .i32⟩
  | 20 => ⟨S4352, .i32⟩
  | 21 => ⟨S4352, .i1⟩
  | 22 => ⟨S1x4352x1, .i1⟩
  | 23 => ⟨S1x1x8x1x1024, .f32⟩
  | 24 => ⟨S8x1024, .f32⟩
  | 25 => ⟨S8x1x1024, .f32⟩
  | 26 => ⟨S1x1x8x1x1024, .f32⟩
  | 27 => ⟨S8x1024, .f32⟩
  | 28 => ⟨S8x1x1024, .f32⟩
  | 29 => ⟨S8x4352x1024, .i1⟩
  | 30 => ⟨S8x4352x1024, .f32⟩
  | 31 => ⟨S8x4352x1024, .f32⟩
  | 32 => ⟨S8x4352x1024, .f32⟩
  | 33 => ⟨S_, .f32⟩
  | 34 => ⟨S8x4352x1024, .f32⟩
  | 35 => ⟨S8x4352x1024, .f32⟩
  | 36 => ⟨S8x4352x1024, .f32⟩
  | 37 => ⟨S8x4352x1024, .f32⟩
  | 38 => ⟨S8x4352x1024, .bf16⟩
  | 39 => ⟨S8x4352x1024, .f32⟩
  | 40 => ⟨S1x1024x6144, .bf16⟩
  | 41 => ⟨S1024x6144, .bf16⟩
  | 42 => ⟨S1024x6144, .f32⟩
  | 43 => ⟨S8x4352x6144, .f32⟩
  | 44 => ⟨S8x4352x1024, .f32⟩
  | 45 => ⟨S8x4352x4x256, .f32⟩
  | 46 => ⟨S8x256x4x256, .f32⟩
  | 47 => ⟨S8x4096x4x256, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S64, .f32⟩
  | 63 => ⟨S64x1, .f32⟩
  | 64 => ⟨S64x64, .f32⟩
  | 65 => ⟨S4096, .f32⟩
  | 66 => ⟨S1x64, .f32⟩
  | 67 => ⟨S64x64, .f32⟩
  | 68 => ⟨S4096, .f32⟩
  | 69 => ⟨S8x4096x4x128, .f32⟩
  | 70 => ⟨S4096x1, .f32⟩
  | 71 => ⟨S1x64, .f32⟩
  | 72 => ⟨S4096x64, .f32⟩
  | 73 => ⟨S4096x64, .f32⟩
  | 74 => ⟨S4096x64, .f32⟩
  | 75 => ⟨S4096x64, .f32⟩
  | 76 => ⟨S1x4096x1x64, .f32⟩
  | 77 => ⟨S4096x64, .f32⟩
  | 78 => ⟨S1x4096x1x64, .f32⟩
  | 79 => ⟨S8x4096x4x64, .f32⟩
  | 80 => ⟨S8x4096x4x64, .f32⟩
  | 81 => ⟨S8x4096x4x64, .f32⟩
  | 82 => ⟨S8x4096x4x64, .f32⟩
  | 83 => ⟨S8x4096x4x64, .f32⟩
  | 84 => ⟨S8x4096x4x64, .f32⟩
  | 85 => ⟨S8x4096x4x64, .f32⟩
  | 86 => ⟨S8x4096x4x64, .f32⟩
  | 87 => ⟨S8x4096x4x64, .f32⟩
  | 88 => ⟨S8x4096x4x64, .f32⟩
  | 89 => ⟨S8x4096x4x64, .f32⟩
  | 90 => ⟨S8x4096x4x64, .f32⟩
  | 91 => ⟨S8x4096x4x128, .f32⟩
  | 92 => ⟨S8x4096x4x128, .f32⟩
  | 93 => ⟨S4096x1, .f32⟩
  | 94 => ⟨S1x64, .f32⟩
  | 95 => ⟨S4096x64, .f32⟩
  | 96 => ⟨S4096x64, .f32⟩
  | 97 => ⟨S4096x64, .f32⟩
  | 98 => ⟨S4096x64, .f32⟩
  | 99 => ⟨S1x4096x1x64, .f32⟩
  | 100 => ⟨S4096x64, .f32⟩
  | 101 => ⟨S1x4096x1x64, .f32⟩
  | 102 => ⟨S8x4096x4x64, .f32⟩
  | 103 => ⟨S8x4096x4x64, .f32⟩
  | 104 => ⟨S8x4096x4x64, .f32⟩
  | 105 => ⟨S8x4096x4x64, .f32⟩
  | 106 => ⟨S8x4096x4x64, .f32⟩
  | 107 => ⟨S8x4096x4x64, .f32⟩
  | 108 => ⟨S8x4096x4x64, .f32⟩
  | 109 => ⟨S8x4096x4x64, .f32⟩
  | 110 => ⟨S8x4096x4x64, .f32⟩
  | 111 => ⟨S8x4096x4x64, .f32⟩
  | 112 => ⟨S8x4096x4x64, .f32⟩
  | 113 => ⟨S8x4096x4x64, .f32⟩
  | 114 => ⟨S8x4096x4x128, .f32⟩
  | 115 => ⟨S8x4096x4x256, .f32⟩
  | 116 => ⟨S8x4352x4x256, .f32⟩
  | 117 => ⟨S8x4352x1024, .f32⟩
  | 118 => ⟨S8x4352x4x256, .f32⟩
  | 119 => ⟨S_, .f32⟩
  | 120 => ⟨S8x4352x4x256, .f32⟩
  | 121 => ⟨S8x4352x4x256, .f32⟩
  | 122 => ⟨S8x256x4x256, .f32⟩
  | 123 => ⟨S8x4096x4x256, .f32⟩
  | 124 => ⟨S64, .f32⟩
  | 125 => ⟨S_, .f32⟩
  | 126 => ⟨S64, .f32⟩
  | 127 => ⟨S64, .f32⟩
  | _ => ⟨S8x4352x1024, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S64, .f32⟩
  | 6 => ⟨S64, .f32⟩
  | 7 => ⟨S_, .f32⟩
  | 8 => ⟨S64, .f32⟩
  | 9 => ⟨S64, .f32⟩
  | 10 => ⟨S64, .f32⟩
  | 11 => ⟨S64x1, .f32⟩
  | 12 => ⟨S64x64, .f32⟩
  | 13 => ⟨S4096, .f32⟩
  | 14 => ⟨S1x64, .f32⟩
  | 15 => ⟨S64x64, .f32⟩
  | 16 => ⟨S4096, .f32⟩
  | 17 => ⟨S8x4096x4x128, .f32⟩
  | 18 => ⟨S4096x1, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S1x4096x1x64, .f32⟩
  | 25 => ⟨S4096x64, .f32⟩
  | 26 => ⟨S1x4096x1x64, .f32⟩
  | 27 => ⟨S8x4096x4x64, .f32⟩
  | 28 => ⟨S8x4096x4x64, .f32⟩
  | 29 => ⟨S8x4096x4x64, .f32⟩
  | 30 => ⟨S8x4096x4x64, .f32⟩
  | 31 => ⟨S8x4096x4x64, .f32⟩
  | 32 => ⟨S8x4096x4x64, .f32⟩
  | 33 => ⟨S8x4096x4x64, .f32⟩
  | 34 => ⟨S8x4096x4x64, .f32⟩
  | 35 => ⟨S8x4096x4x64, .f32⟩
  | 36 => ⟨S8x4096x4x64, .f32⟩
  | 37 => ⟨S8x4096x4x64, .f32⟩
  | 38 => ⟨S8x4096x4x64, .f32⟩
  | 39 => ⟨S8x4096x4x128, .f32⟩
  | 40 => ⟨S8x4096x4x128, .f32⟩
  | 41 => ⟨S4096x1, .f32⟩
  | 42 => ⟨S1x64, .f32⟩
  | 43 => ⟨S4096x64, .f32⟩
  | 44 => ⟨S4096x64, .f32⟩
  | 45 => ⟨S4096x64, .f32⟩
  | 46 => ⟨S4096x64, .f32⟩
  | 47 => ⟨S1x4096x1x64, .f32⟩
  | 48 => ⟨S4096x64, .f32⟩
  | 49 => ⟨S1x4096x1x64, .f32⟩
  | 50 => ⟨S8x4096x4x64, .f32⟩
  | 51 => ⟨S8x4096x4x64, .f32⟩
  | 52 => ⟨S8x4096x4x64, .f32⟩
  | 53 => ⟨S8x4096x4x64, .f32⟩
  | 54 => ⟨S8x4096x4x64, .f32⟩
  | 55 => ⟨S8x4096x4x64, .f32⟩
  | 56 => ⟨S8x4096x4x64, .f32⟩
  | 57 => ⟨S8x4096x4x64, .f32⟩
  | 58 => ⟨S8x4096x4x64, .f32⟩
  | 59 => ⟨S8x4096x4x64, .f32⟩
  | 60 => ⟨S8x4096x4x64, .f32⟩
  | 61 => ⟨S8x4096x4x64, .f32⟩
  | 62 => ⟨S8x4096x4x128, .f32⟩
  | 63 => ⟨S8x4096x4x256, .f32⟩
  | 64 => ⟨S8x4352x4x256, .f32⟩
  | 65 => ⟨S34816x1024, .f32⟩
  | 66 => ⟨S34816x1024, .bf16⟩
  | 67 => ⟨S34816x1024, .f32⟩
  | 68 => ⟨S34816x1024, .bf16⟩
  | 69 => ⟨S8x4352x2048, .f32⟩
  | 70 => ⟨S34816x2048, .f32⟩
  | 71 => ⟨S34816x2048, .bf16⟩
  | 72 => ⟨S8x4352x2048, .f32⟩
  | 73 => ⟨S8x4352x2048, .f32⟩
  | 74 => ⟨S8x4352x2048, .f32⟩
  | 75 => ⟨S_, .f32⟩
  | 76 => ⟨S8x4352x2048, .f32⟩
  | 77 => ⟨S8x4352x2048, .f32⟩
  | 78 => ⟨S_, .f32⟩
  | 79 => ⟨S8x4352x2048, .f32⟩
  | 80 => ⟨S8x4352x2048, .f32⟩
  | 81 => ⟨S8x4352x2048, .f32⟩
  | 82 => ⟨S34816x2048, .f32⟩
  | 83 => ⟨S34816x2048, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_5 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_6 : Ref sig .tc := ⟨.hbm, 125, rfl⟩
abbrev main_v108 : Ref sig .tc := ⟨.hbm, 126, rfl⟩
abbrev main_v109 : Ref sig .tc := ⟨.hbm, 127, rfl⟩
abbrev main_cst_7 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_8 : Ref sig .tc := ⟨.hbm, 132, rfl⟩
abbrev main_v113 : Ref sig .tc := ⟨.hbm, 133, rfl⟩
abbrev main_v114 : Ref sig .tc := ⟨.hbm, 134, rfl⟩
abbrev main_cst_9 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_call2_v0 : Ref sig .tc := ⟨.hbm, 201, rfl⟩
abbrev main_call2_v1 : Ref sig .tc := ⟨.hbm, 202, rfl⟩
abbrev main_call2_cst : Ref sig .tc := ⟨.hbm, 203, rfl⟩
abbrev main_call2_v2 : Ref sig .tc := ⟨.hbm, 204, rfl⟩
abbrev main_call2_v3 : Ref sig .tc := ⟨.hbm, 205, rfl⟩
abbrev main_call2_cst_0 : Ref sig .tc := ⟨.hbm, 206, rfl⟩
abbrev main_call2_v4 : Ref sig .tc := ⟨.hbm, 207, rfl⟩
abbrev main_call2_v5 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩

abbrev nD : Nat := 1
abbrev τ : Topo := Topo.v7x

variable {F : FTy → Type} [FloatOps F]
-- ==== LruProj.lean ====
abbrev S8x4352x1024 : Shape := ⟨3, ![8, 4352, 1024]⟩
abbrev S4x2x8x9x1024 : Shape := ⟨5, ![4, 2, 8, 9, 1024]⟩
abbrev S1x1024x2048 : Shape := ⟨3, ![1, 1024, 2048]⟩
abbrev S34816x1024 : Shape := ⟨2, ![34816, 1024]⟩
abbrev S1x256x1024 : Shape := ⟨3, ![1, 256, 1024]⟩
abbrev S1x1x1x9x1024 : Shape := ⟨5, ![1, 1, 1, 9, 1024]⟩
abbrev S1024x1024 : Shape := ⟨2, ![1024, 1024]⟩
abbrev S9x1024 : Shape := ⟨2, ![9, 1024]⟩
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩

abbrev nBuf : Space → Nat
  | .hbm => 5
  | .vmem => 21
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S1x1024x2048, .bf16⟩
  | .hbm, ⟨3, _⟩ => ⟨S34816x1024, .bf16⟩
  | .hbm, ⟨4, _⟩ => ⟨S34816x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1x9x1024, .f32⟩
  | .local _ .vmem, ⟨7, _⟩ => ⟨S1x1x1x9x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1x9x1024, .f32⟩
  | .local _ .vmem, ⟨11, _⟩ => ⟨S1x1x1x9x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x1024x2048, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c2_i32 : BitVec 32 := 2#32
  let c0_i32_16 : BitVec 32 := 0#32
  let c0_i32_17 : BitVec 32 := 0#32
  let c0_i32_18 : BitVec 32 := 0#32
  ![c2_i32.toNat, v32.toNat, v18.toNat, c0_i32_16.toNat, c0_i32_17.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_3 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c2_i32 : BitVec 32 := 2#32
  let c0_i32_16 : BitVec 32 := 0#32
  let c0_i32_17 : BitVec 32 := 0#32
  let c0_i32_18 : BitVec 32 := 0#32
  ![c2_i32.toNat, v32.toNat, v18.toNat, c0_i32_16.toNat, c0_i32_17.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_5 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c2_i32_15 : BitVec 32 := 2#32
  let c0_i32_16 : BitVec 32 := 0#32
  let c0_i32_17 : BitVec 32 := 0#32
  let c0_i32_18 : BitVec 32 := 0#32
  ![c2_i32_15.toNat, v32.toNat, v18.toNat, c0_i32_16.toNat, c0_i32_17.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c2_i32 : BitVec 32 := 2#32
  let c0_i32_15 : BitVec 32 := 0#32
  let c0_i32_16 : BitVec 32 := 0#32
  let c0_i32_17 : BitVec 32 := 0#32
  ![c2_i32.toNat, v32.toNat, v18.toNat, c0_i32_15.toNat, c0_i32_16.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruProjRefIdeal.lean ====
abbrev S8x4352x1024 : Shape := ⟨3, ![8, 4352, 1024]⟩
abbrev S4x2x8x9x1024 : Shape := ⟨5, ![4, 2, 8, 9, 1024]⟩
abbrev S1x1024x2048 : Shape := ⟨3, ![1, 1024, 2048]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1024x2048 : Shape := ⟨2, ![1024, 2048]⟩
abbrev S8x4352x2048 : Shape := ⟨3, ![8, 4352, 2048]⟩
abbrev S34816x2048 : Shape := ⟨2, ![34816, 2048]⟩
abbrev S34816x1024 : Shape := ⟨2, ![34816, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S1x1024x2048, .bf16⟩
  | .hbm, ⟨3, _⟩ => ⟨S4352, .i32⟩
  | .hbm, ⟨4, _⟩ => ⟨S_, .i32⟩
  | .hbm, ⟨5, _⟩ => ⟨S4352, .i32⟩
  | .hbm, ⟨6, _⟩ => ⟨S4352, .i1⟩
  | .hbm, ⟨7, _⟩ => ⟨S1x4352x1, .i1⟩
  | .hbm, ⟨8, _⟩ => ⟨S1x1x8x1x1024, .f32⟩
  | .hbm, ⟨9, _⟩ => ⟨S8x1024, .f32⟩
  | .hbm, ⟨10, _⟩ => ⟨S8x1x1024, .f32⟩
  | .hbm, ⟨11, _⟩ => ⟨S1x1x8x1x1024, .f32⟩
  | .hbm, ⟨12, _⟩ => ⟨S8x1024, .f32⟩
  | .hbm, ⟨13, _⟩ => ⟨S8x1x1024, .f32⟩
  | .hbm, ⟨14, _⟩ => ⟨S8x4352x1024, .i1⟩
  | .hbm, ⟨15, _⟩ => ⟨S8x4352x1024, .f32⟩
  | .hbm, ⟨16, _⟩ => ⟨S8x4352x1024, .f32⟩
  | .hbm, ⟨17, _⟩ => ⟨S8x4352x1024, .f32⟩
  | .hbm, ⟨18, _⟩ => ⟨S4352, .i32⟩
  | .hbm, ⟨19, _⟩ => ⟨S_, .i32⟩
  | .hbm, ⟨20, _⟩ => ⟨S4352, .i32⟩
  | .hbm, ⟨21, _⟩ => ⟨S4352, .i1⟩
  | .hbm, ⟨22, _⟩ => ⟨S1x4352x1, .i1⟩
  | .hbm, ⟨23, _⟩ => ⟨S1x1x8x1x1024, .f32⟩
  | .hbm, ⟨24, _⟩ => ⟨S8x1024, .f32⟩
  | .hbm, ⟨25, _⟩ => ⟨S8x1x1024, .f32⟩
  | .hbm, ⟨26, _⟩ => ⟨S1x1x8x1x1024, .f32⟩
  | .hbm, ⟨27, _⟩ => ⟨S8x1024, .f32⟩
  | .hbm, ⟨28, _⟩ => ⟨S8x1x1024, .f32⟩
  | .hbm, ⟨29, _⟩ => ⟨S8x4352x1024, .i1⟩
  | .hbm, ⟨30, _⟩ => ⟨S8x4352x1024, .f32⟩
  | .hbm, ⟨31, _⟩ => ⟨S8x4352x1024, .f32⟩
  | .hbm, ⟨32, _⟩ => ⟨S8x4352x1024, .f32⟩
  | .hbm, ⟨33, _⟩ => ⟨S_, .f32⟩
  | .hbm, ⟨34, _⟩ => ⟨S8x4352x1024, .f32⟩
  | .hbm, ⟨35, _⟩ => ⟨S8x4352x1024, .f32⟩
  | .hbm, ⟨36, _⟩ => ⟨S8x4352x1024, .f32⟩
  | .hbm, ⟨37, _⟩ => ⟨S8x4352x1024, .f32⟩
  | .hbm, ⟨38, _⟩ => ⟨S8x4352x1024, .bf16⟩
  | .hbm, ⟨39, _⟩ => ⟨S8x4352x1024, .f32⟩
  | .hbm, ⟨40, _⟩ => ⟨S1024x2048, .bf16⟩
  | .hbm, ⟨41, _⟩ => ⟨S1024x2048, .f32⟩
  | .hbm, ⟨42, _⟩ => ⟨S8x4352x2048, .f32⟩
  | .hbm, ⟨43, _⟩ => ⟨S34816x2048, .f32⟩
  | .hbm, ⟨44, _⟩ => ⟨S34816x1024, .f32⟩
  | .hbm, ⟨45, _⟩ => ⟨S34816x1024, .f32⟩
  | .hbm, ⟨46, _⟩ => ⟨S34816x1024, .f32⟩
  | .hbm, ⟨47, _⟩ => ⟨S_, .f32⟩
  | .hbm, ⟨48, _⟩ => ⟨S34816x1024, .f32⟩
  | .hbm, ⟨49, _⟩ => ⟨S34816x1024, .f32⟩
  | .hbm, ⟨50, _⟩ => ⟨S34816x1024, .f32⟩
  | .hbm, ⟨51, _⟩ => ⟨S_, .f32⟩
  | .hbm, ⟨52, _⟩ => ⟨S34816x1024, .f32⟩
  | .hbm, ⟨53, _⟩ => ⟨S34816x1024, .f32⟩
  | .hbm, ⟨54, _⟩ => ⟨S34816x1024, .f32⟩
  | .hbm, ⟨55, _⟩ => ⟨S_, .f32⟩
  | .hbm, ⟨56, _⟩ => ⟨S34816x1024, .f32⟩
  | .hbm, ⟨57, _⟩ => ⟨S34816x1024, .f32⟩
  | .hbm, ⟨58, _⟩ => ⟨S_, .f32⟩
  | .hbm, ⟨59, _⟩ => ⟨S34816x1024, .f32⟩
  | .hbm, ⟨60, _⟩ => ⟨S34816x1024, .f32⟩
  | .hbm, ⟨61, _⟩ => ⟨S34816x1024, .f32⟩
  | .hbm, ⟨62, _⟩ => ⟨S34816x1024, .bf16⟩
  | .hbm, ⟨63, _⟩ => ⟨S34816x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== NaProj.lean ====
abbrev S8x4352x1024 : Shape := ⟨3, ![8, 4352, 1024]⟩
abbrev S4x2x8x9x1024 : Shape := ⟨5, ![4, 2, 8, 9, 1024]⟩
abbrev S1x1024x3072 : Shape := ⟨3, ![1, 1024, 3072]⟩
abbrev S34816x1024 : Shape := ⟨2, ![34816, 1024]⟩
abbrev S136x1024x256 : Shape := ⟨3, ![136, 1024, 256]⟩
abbrev S1x256x1024 : Shape := ⟨3, ![1, 256, 1024]⟩
abbrev S1x1x1x9x1024 : Shape := ⟨5, ![1, 1, 1, 9, 1024]⟩
abbrev S1024x1024 : Shape := ⟨2, ![1024, 1024]⟩
abbrev S4x1024x256 : Shape := ⟨3, ![4, 1024, 256]⟩
abbrev S9x1024 : Shape := ⟨2, ![9, 1024]⟩
abbrev S256x1024 : Shape := ⟨2, ![256, 1024]⟩
abbrev S1x1024 : Shape := ⟨2, ![1, 1024]⟩
abbrev S1024x3072 : Shape := ⟨2, ![1024, 3072]⟩
abbrev S256x3072 : Shape := ⟨2, ![256, 3072]⟩
abbrev S1024x256 : Shape := ⟨2, ![1024, 256]⟩
abbrev S1x1024x256 : Shape := ⟨3, ![1, 1024, 256]⟩

abbrev nBuf : Space → Nat
  | .hbm => 6
  | .vmem => 23
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S1x1024x3072, .bf16⟩
  | .hbm, ⟨3, _⟩ => ⟨S34816x1024, .bf16⟩
  | .hbm, ⟨4, _⟩ => ⟨S136x1024x256, .bf16⟩
  | .hbm, ⟨5, _⟩ => ⟨S136x1024x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1x9x1024, .f32⟩
  | .local _ .vmem, ⟨7, _⟩ => ⟨S1x1x1x9x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1x9x1024, .f32⟩
  | .local _ .vmem, ⟨11, _⟩ => ⟨S1x1x1x9x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x1024x3072, .bf16⟩
  | .local _ .vmem, ⟨17, _⟩ => ⟨S1024x1024, .bf16⟩
  | .local _ .vmem, ⟨18, _⟩ => ⟨S1024x1024, .bf16⟩
  | .local _ .vmem, ⟨19, _⟩ => ⟨S4x1024x256, .bf16⟩
  | .local _ .vmem, ⟨20, _⟩ => ⟨S4x1024x256, .bf16⟩
  | .local _ .vmem, ⟨21, _⟩ => ⟨S4x1024x256, .bf16⟩
  | .local _ .vmem, ⟨22, _⟩ => ⟨S4x1024x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c1_i32_16 : BitVec 32 := 1#32
  let c0_i32_17 : BitVec 32 := 0#32
  let c0_i32_18 : BitVec 32 := 0#32
  let c0_i32_19 : BitVec 32 := 0#32
  ![c1_i32_16.toNat, v32.toNat, v18.toNat, c0_i32_17.toNat, c0_i32_18.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_3 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c1_i32_16 : BitVec 32 := 1#32
  let c0_i32_17 : BitVec 32 := 0#32
  let c0_i32_18 : BitVec 32 := 0#32
  let c0_i32_19 : BitVec 32 := 0#32
  ![c1_i32_16.toNat, v32.toNat, v18.toNat, c0_i32_17.toNat, c0_i32_18.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_5 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c1_i32_15 : BitVec 32 := 1#32
  let c0_i32_16 : BitVec 32 := 0#32
  let c0_i32_17 : BitVec 32 := 0#32
  let c0_i32_18 : BitVec 32 := 0#32
  ![c1_i32_15.toNat, v32.toNat, v18.toNat, c0_i32_16.toNat, c0_i32_17.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c1_i32_15 : BitVec 32 := 1#32
  let c0_i32_16 : BitVec 32 := 0#32
  let c0_i32_17 : BitVec 32 := 0#32
  let c0_i32_18 : BitVec 32 := 0#32
  ![c1_i32_15.toNat, v32.toNat, v18.toNat, c0_i32_16.toNat, c0_i32_17.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x9x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== NaProjRefIdeal.lean ====
abbrev S8x4352x1024 : Shape := ⟨3, ![8, 4352, 1024]⟩
abbrev S4x2x8x9x1024 : Shape := ⟨5, ![4, 2, 8, 9, 1024]⟩
abbrev S1x1024x3072 : Shape := ⟨3, ![1, 1024, 3072]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1024x3072 : Shape := ⟨2, ![1024, 3072]⟩
abbrev S8x4352x3072 : Shape := ⟨3, ![8, 4352, 3072]⟩
abbrev S34816x3072 : Shape := ⟨2, ![34816, 3072]⟩
abbrev S34816x1024 : Shape := ⟨2, ![34816, 1024]⟩
abbrev S136x256x1024 : Shape := ⟨3, ![136, 256, 1024]⟩
abbrev S136x1024x256 : Shape := ⟨3, ![136, 1024, 256]⟩

abbrev nBuf : Space → Nat
  | .hbm => 57
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S1x1024x3072, .bf16⟩
  | .hbm, ⟨3, _⟩ => ⟨S4352, .i32⟩
  | .hbm, ⟨4, _⟩ => ⟨S_, .i32⟩
  | .hbm, ⟨5, _⟩ => ⟨S4352, .i32⟩
  | .hbm, ⟨6, _⟩ => ⟨S4352, .i1⟩
  | .hbm, ⟨7, _⟩ => ⟨S1x4352x1, .i1⟩
  | .hbm, ⟨8, _⟩ => ⟨S1x1x8x1x1024, .f32⟩
  | .hbm, ⟨9, _⟩ => ⟨S8x1024, .f32⟩
  | .hbm, ⟨10, _⟩ => ⟨S8x1x1024, .f32⟩
  | .hbm, ⟨11, _⟩ => ⟨S1x1x8x1x1024, .f32⟩
  | .hbm, ⟨12, _⟩ => ⟨S8x1024, .f32⟩
  | .hbm, ⟨13, _⟩ => ⟨S8x1x1024, .f32⟩
  | .hbm, ⟨14, _⟩ => ⟨S8x4352x1024, .i1⟩
  | .hbm, ⟨15, _⟩ => ⟨S8x4352x1024, .f32⟩
  | .hbm, ⟨16, _⟩ => ⟨S8x4352x1024, .f32⟩
  | .hbm, ⟨17, _⟩ => ⟨S8x4352x1024, .f32⟩
  | .hbm, ⟨18, _⟩ => ⟨S4352, .i32⟩
  | .hbm, ⟨19, _⟩ => ⟨S_, .i32⟩
  | .hbm, ⟨20, _⟩ => ⟨S4352, .i32⟩
  | .hbm, ⟨21, _⟩ => ⟨S4352, .i1⟩
  | .hbm, ⟨22, _⟩ => ⟨S1x4352x1, .i1⟩
  | .hbm, ⟨23, _⟩ => ⟨S1x1x8x1x1024, .f32⟩
  | .hbm, ⟨24, _⟩ => ⟨S8x1024, .f32⟩
  | .hbm, ⟨25, _⟩ => ⟨S8x1x1024, .f32⟩
  | .hbm, ⟨26, _⟩ => ⟨S1x1x8x1x1024, .f32⟩
  | .hbm, ⟨27, _⟩ => ⟨S8x1024, .f32⟩
  | .hbm, ⟨28, _⟩ => ⟨S8x1x1024, .f32⟩
  | .hbm, ⟨29, _⟩ => ⟨S8x4352x1024, .i1⟩
  | .hbm, ⟨30, _⟩ => ⟨S8x4352x1024, .f32⟩
  | .hbm, ⟨31, _⟩ => ⟨S8x4352x1024, .f32⟩
  | .hbm, ⟨32, _⟩ => ⟨S8x4352x1024, .f32⟩
  | .hbm, ⟨33, _⟩ => ⟨S_, .f32⟩
  | .hbm, ⟨34, _⟩ => ⟨S8x4352x1024, .f32⟩
  | .hbm, ⟨35, _⟩ => ⟨S8x4352x1024, .f32⟩
  | .hbm, ⟨36, _⟩ => ⟨S8x4352x1024, .f32⟩
  | .hbm, ⟨37, _⟩ => ⟨S8x4352x1024, .f32⟩
  | .hbm, ⟨38, _⟩ => ⟨S8x4352x1024, .bf16⟩
  | .hbm, ⟨39, _⟩ => ⟨S8x4352x1024, .f32⟩
  | .hbm, ⟨40, _⟩ => ⟨S1024x3072, .bf16⟩
  | .hbm, ⟨41, _⟩ => ⟨S1024x3072, .f32⟩
  | .hbm, ⟨42, _⟩ => ⟨S8x4352x3072, .f32⟩
  | .hbm, ⟨43, _⟩ => ⟨S34816x3072, .f32⟩
  | .hbm, ⟨44, _⟩ => ⟨S34816x1024, .f32⟩
  | .hbm, ⟨45, _⟩ => ⟨S_, .f32⟩
  | .hbm, ⟨46, _⟩ => ⟨S34816x1024, .f32⟩
  | .hbm, ⟨47, _⟩ => ⟨S34816x1024, .f32⟩
  | .hbm, ⟨48, _⟩ => ⟨S34816x1024, .f32⟩
  | .hbm, ⟨49, _⟩ => ⟨S34816x1024, .f32⟩
  | .hbm, ⟨50, _⟩ => ⟨S34816x1024, .bf16⟩
  | .hbm, ⟨51, _⟩ => ⟨S136x256x1024, .f32⟩
  | .hbm, ⟨52, _⟩ => ⟨S136x1024x256, .f32⟩
  | .hbm, ⟨53, _⟩ => ⟨S136x1024x256, .bf16⟩
  | .hbm, ⟨54, _⟩ => ⟨S136x256x1024, .f32⟩
  | .hbm, ⟨55, _⟩ => ⟨S136x1024x256, .f32⟩
  | .hbm, ⟨56, _⟩ => ⟨S136x1024x256, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Mods.lean ====
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S1x1024 : Shape := ⟨2, ![1, 1024]⟩
abbrev S16x1024 : Shape := ⟨2, ![16, 1024]⟩
abbrev S4x1x9216 : Shape := ⟨3, ![4, 1, 9216]⟩
abbrev S4x16x9216 : Shape := ⟨3, ![4, 16, 9216]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x9216, .f32⟩
  | .hbm, ⟨3, _⟩ => ⟨S4x9216, .f32⟩
  | .hbm, ⟨4, _⟩ => ⟨S1x1024, .f32⟩
  | .hbm, ⟨5, _⟩ => ⟨S8x1024, .f32⟩
  | .hbm, ⟨6, _⟩ => ⟨S16x1024, .f32⟩
  | .hbm, ⟨7, _⟩ => ⟨S4x1x9216, .f32⟩
  | .hbm, ⟨8, _⟩ => ⟨S4x16x9216, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S_ : Shape := ⟨0, ![]⟩
abbrev S4x9216x8 : Shape := ⟨3, ![4, 9216, 8]⟩
abbrev S4x8x9216 : Shape := ⟨3, ![4, 8, 9216]⟩
abbrev S4x1x9216 : Shape := ⟨3, ![4, 1, 9216]⟩
abbrev S4x16x9216 : Shape := ⟨3, ![4, 16, 9216]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x9216, .f32⟩
  | .hbm, ⟨3, _⟩ => ⟨S4x9216, .f32⟩
  | .hbm, ⟨4, _⟩ => ⟨S4x1024x9216, .bf16⟩
  | .hbm, ⟨5, _⟩ => ⟨S4x1024x9216, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .bf16⟩
  | .hbm, ⟨16, _⟩ => ⟨S1024, .f32⟩
  | .hbm, ⟨17, _⟩ => ⟨S4x9216, .f32⟩
  | .hbm, ⟨18, _⟩ => ⟨S4x9216, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1024, .bf16⟩
  | .hbm, ⟨29, _⟩ => ⟨S8x1024, .f32⟩
  | .hbm, ⟨30, _⟩ => ⟨S4x9216x8, .f32⟩
  | .hbm, ⟨31, _⟩ => ⟨S4x8x9216, .f32⟩
  | .hbm, ⟨32, _⟩ => ⟨S4x1x9216, .f32⟩
  | .hbm, ⟨33, _⟩ => ⟨S4x8x9216, .f32⟩
  | .hbm, ⟨34, _⟩ => ⟨S4x8x9216, .f32⟩
  | .hbm, ⟨35, _⟩ => ⟨S4x1x9216, .f32⟩
  | .hbm, ⟨36, _⟩ => ⟨S4x8x9216, .f32⟩
  | .hbm, ⟨37, _⟩ => ⟨S4x16x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== FfnTwo.lean ====
abbrev S8x256x1024 : Shape := ⟨3, ![8, 256, 1024]⟩
abbrev S8x4096x1024 : Shape := ⟨3, ![8, 4096, 1024]⟩
abbrev S4x2x8x9x1024 : Shape := ⟨5, ![4, 2, 8, 9, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S34816x1024 : Shape := ⟨2, ![34816, 1024]⟩
abbrev S1x256x1024 : Shape := ⟨3, ![1, 256, 1024]⟩
abbrev S1x1x1x9x1024 : Shape := ⟨5, ![1, 1, 1, 9, 1024]⟩
abbrev S1x1x1024x5632 : Shape := ⟨4, ![1, 1, 1024, 5632]⟩
abbrev S1x1x2816x1024 : Shape := ⟨4, ![1, 1, 2816, 1024]⟩
abbrev S1x1x1x1024 : Shape := ⟨4, ![1, 1, 1, 1024]⟩
abbrev S1024x1024 : Shape := ⟨2, ![1024, 1024]⟩
abbrev S256x1024 : Shape := ⟨2, ![256, 1024]⟩
abbrev S9x1024 : Shape := ⟨2, ![9, 1024]⟩
abbrev S1x1024 : Shape := ⟨2, ![1, 1024]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩

abbrev nBuf : Space → Nat
  | .hbm => 8
  | .vmem => 30
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S4x2x8x9x1024, .f32⟩
  | .hbm, ⟨3, _⟩ => ⟨S4x2x1024x5632, .bf16⟩
  | .hbm, ⟨4, _⟩ => ⟨S4x2x2816x1024, .bf16⟩
  | .hbm, ⟨5, _⟩ => ⟨S4x3x1x1024, .f32⟩
  | .hbm, ⟨6, _⟩ => ⟨S4x3x1x1024, .f32⟩
  | .hbm, ⟨7, _⟩ => ⟨S34816x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x1x1x9x1024, .f32⟩
  | .local _ .vmem, ⟨17, _⟩ => ⟨S1x1x1x9x1024, .f32⟩
  | .local _ .vmem, ⟨18, _⟩ => ⟨S1x1x1x9x1024, .f32⟩
  | .local _ .vmem, ⟨19, _⟩ => ⟨S1x1x1x9x1024, .f32⟩
  | .local _ .vmem, ⟨20, _⟩ => ⟨S1x1x1x9x1024, .f32⟩
  | .local _ .vmem, ⟨21, _⟩ => ⟨S1x1x1x9x1024, .f32⟩
  | .local _ .vmem, ⟨22, _⟩ => ⟨S1x1x1x9x1024, .f32⟩
  | .local _ .vmem, ⟨23, _⟩ => ⟨S1x1x1x9x1024, .f32⟩
  | .local _ .vmem, ⟨24, _⟩ => ⟨S1x1x1024x5632, .bf16⟩
  | .local _ .vmem, ⟨25, _⟩ => ⟨S1x1x2816x1024, .bf16⟩
  | .local _ .vmem, ⟨26, _⟩ => ⟨S1x1x1x1024, .f32⟩
  | .local _ .vmem, ⟨27, _⟩ => ⟨S1x1x1x1024, .f32⟩
  | .local _ .vmem, ⟨28, _⟩ => ⟨S1024x1024, .f32⟩
  | .local _ .vmem, ⟨29, _⟩ => ⟨S1024x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.minsi v29 c0_i32_12
  let c0_i32_13 : BitVec 32 := 0#32
  let c0_i32_14 : BitVec 32 := 0#32
  ![v18.toNat, v30.toNat, c0_i32_13.toNat]

def cc0_transform_1 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v18.toNat, v31.toNat, c0_i32_14.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.minsi v29 c0_i32_12
  let c0_i32_13 : BitVec 32 := 0#32
  let c0_i32_14 : BitVec 32 := 0#32
  ![v18.toNat, v30.toNat, c0_i32_13.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v18.toNat, v31.toNat, c0_i32_14.toNat]

def cc0_transform_4 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.minsi v29 c0_i32_11
  let c0_i32_12 : BitVec 32 := 0#32
  let c0_i32_13 : BitVec 32 := 0#32
  ![v18.toNat, v30.toNat, c0_i32_12.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 32 := Scalar.subi v29 c1_i32_11
  let c0_i32_12 : BitVec 32 := 0#32
  let v31 : BitVec 32 := Scalar.maxsi v30 c0_i32_12
  let c0_i32_13 : BitVec 32 := 0#32
  let c0_i32_14 : BitVec 32 := 0#32
  ![v18.toNat, v31.toNat, c0_i32_13.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.minsi v29 c0_i32_11
  let c0_i32_12 : BitVec 32 := 0#32
  let c0_i32_13 : BitVec 32 := 0#32
  ![v18.toNat, v30.toNat, c0_i32_12.toNat]

def cc0_transform_7 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c1_i32_11 : BitVec 32 := 1#32
  let v30 : BitVec 32 := Scalar.subi v29 c1_i32_11
  let c0_i32_12 : BitVec 32 := 0#32
  let v31 : BitVec 32 := Scalar.maxsi v30 c0_i32_12
  let c0_i32_13 : BitVec 32 := 0#32
  let c0_i32_14 : BitVec 32 := 0#32
  ![v18.toNat, v31.toNat, c0_i32_13.toNat]

def cc0_transform_8 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c0_i32_16 : BitVec 32 := 0#32
  let c0_i32_17 : BitVec 32 := 0#32
  let c0_i32_18 : BitVec 32 := 0#32
  let c0_i32_19 : BitVec 32 := 0#32
  ![c0_i32_16.toNat, v32.toNat, v18.toNat, c0_i32_17.toNat, c0_i32_18.toNat]

def cc0_transform_9 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c0_i32_16 : BitVec 32 := 0#32
  let c0_i32_17 : BitVec 32 := 0#32
  let c0_i32_18 : BitVec 32 := 0#32
  let c0_i32_19 : BitVec 32 := 0#32
  ![c0_i32_16.toNat, v32.toNat, v18.toNat, c0_i32_17.toNat, c0_i32_18.toNat]

def cc0_transform_10 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c0_i32_15 : BitVec 32 := 0#32
  let c0_i32_16 : BitVec 32 := 0#32
  let c0_i32_17 : BitVec 32 := 0#32
  let c0_i32_18 : BitVec 32 := 0#32
  ![c0_i32_15.toNat, v32.toNat, v18.toNat, c0_i32_16.toNat, c0_i32_17.toNat]

def cc0_transform_11 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c0_i32_15 : BitVec 32 := 0#32
  let c0_i32_16 : BitVec 32 := 0#32
  let c0_i32_17 : BitVec 32 := 0#32
  let c0_i32_18 : BitVec 32 := 0#32
  ![c0_i32_15.toNat, v32.toNat, v18.toNat, c0_i32_16.toNat, c0_i32_17.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x9x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x9x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x9x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1x9x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FfnTwoRefIdeal.lean ====
abbrev S8x256x1024 : Shape := ⟨3, ![8, 256, 1024]⟩
abbrev S8x4096x1024 : Shape := ⟨3, ![8, 4096, 1024]⟩
abbrev S4x2x8x9x1024 : Shape := ⟨5, ![4, 2, 8, 9, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S8x4352x1024 : Shape := ⟨3, ![8, 4352, 1024]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x1x1x1024 : Shape := ⟨4, ![1, 1, 1, 1024]⟩
abbrev S1024 : Shape := ⟨1, ![1024]⟩
abbrev S8x4352x5632 : Shape := ⟨3, ![8, 4352, 5632]⟩
abbrev S8x4352x2816 : Shape := ⟨3, ![8, 4352, 2816]⟩
abbrev S8x4352 : Shape := ⟨2, ![8, 4352]⟩
abbrev S8x4352x1 : Shape := ⟨3, ![8, 4352, 1]⟩
abbrev S1x1x1024 : Shape := ⟨3, ![1, 1, 1024]⟩
abbrev S34816x1024 : Shape := ⟨2, ![34816, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x4096x1024, .f32⟩
  | .hbm, ⟨2, _⟩ => ⟨S4x2x8x9x1024, .f32⟩
  | .hbm, ⟨3, _⟩ => ⟨S4x2x1024x5632, .bf16⟩
  | .hbm, ⟨4, _⟩ => ⟨S4x2x2816x1024, .bf16⟩
  | .hbm, ⟨5, _⟩ => ⟨S4x3x1x1024, .f32⟩
  | .hbm, ⟨6, _⟩ => ⟨S4x3x1x1024, .f32⟩
  | .hbm, ⟨7, _⟩ => ⟨S8x4352x1024, .f32⟩
  | .hbm, ⟨8, _⟩ => ⟨S4352, .i32⟩
  | .hbm, ⟨9, _⟩ => ⟨S_, .i32⟩
  | .hbm, ⟨10, _⟩ => ⟨S4352, .i32⟩
  | .hbm, ⟨11, _⟩ => ⟨S4352, .i1⟩
  | .hbm, ⟨12, _⟩ => ⟨S1x4352x1, .i1⟩
  | .hbm, ⟨13, _⟩ => ⟨S1x1x8x1x1024, .f32⟩
  | .hbm, ⟨14, _⟩ => ⟨S8x1024, .f32⟩
  | .hbm, ⟨15, _⟩ => ⟨S8x1x1024, .f32⟩
  | .hbm, ⟨16, _⟩ => ⟨S1x1x8x1x1024, .f32⟩
  | .hbm, ⟨17, _⟩ => ⟨S8x1024, .f32⟩
  | .hbm, ⟨18, _⟩ => ⟨S8x1x1024, .f32⟩
  | .hbm, ⟨19, _⟩ => ⟨S8x4352x1024, .i1⟩
  | .hbm, ⟨20, _⟩ => ⟨S8x4352x1024, .f32⟩
  | .hbm, ⟨21, _⟩ => ⟨S8x4352x1024, .f32⟩
  | .hbm, ⟨22, _⟩ => ⟨S8x4352x1024, .f32⟩
  | .hbm, ⟨23, _⟩ => ⟨S4352, .i32⟩
  | .hbm, ⟨24, _⟩ => ⟨S_, .i32⟩
  | .hbm, ⟨25, _⟩ => ⟨S4352, .i32⟩
  | .hbm, ⟨26, _⟩ => ⟨S4352, .i1⟩
  | .hbm, ⟨27, _⟩ => ⟨S1x4352x1, .i1⟩
  | .hbm, ⟨28, _⟩ => ⟨S1x1x8x1x1024, .f32⟩
  | .hbm, ⟨29, _⟩ => ⟨S8x1024, .f32⟩
  | .hbm, ⟨30, _⟩ => ⟨S8x1x1024, .f32⟩
  | .hbm, ⟨31, _⟩ => ⟨S1x1x8x1x1024, .f32⟩
  | .hbm, ⟨32, _⟩ => ⟨S8x1024, .f32⟩
  | .hbm, ⟨33, _⟩ => ⟨S8x1x1024, .f32⟩
  | .hbm, ⟨34, _⟩ => ⟨S8x4352x1024, .i1⟩
  | .hbm, ⟨35, _⟩ => ⟨S8x4352x1024, .f32⟩
  | .hbm, ⟨36, _⟩ => ⟨S8x4352x1024, .f32⟩
  | .hbm, ⟨37, _⟩ => ⟨S8x4352x1024, .f32⟩
  | .hbm, ⟨38, _⟩ => ⟨S4352, .i32⟩
  | .hbm, ⟨39, _⟩ => ⟨S_, .i32⟩
  | .hbm, ⟨40, _⟩ => ⟨S4352, .i32⟩
  | .hbm, ⟨41, _⟩ => ⟨S4352, .i1⟩
  | .hbm, ⟨42, _⟩ => ⟨S1x4352x1, .i1⟩
  | .hbm, ⟨43, _⟩ => ⟨S1x1x8x1x1024, .f32⟩
  | .hbm, ⟨44, _⟩ => ⟨S8x1024, .f32⟩
  | .hbm, ⟨45, _⟩ => ⟨S8x1x1024, .f32⟩
  | .hbm, ⟨46, _⟩ => ⟨S1x1x8x1x1024, .f32⟩
  | .hbm, ⟨47, _⟩ => ⟨S8x1024, .f32⟩
  | .hbm, ⟨48, _⟩ => ⟨S8x1x1024, .f32⟩
  | .hbm, ⟨49, _⟩ => ⟨S8x4352x1024, .i1⟩
  | .hbm, ⟨50, _⟩ => ⟨S8x4352x1024, .f32⟩
  | .hbm, ⟨51, _⟩ => ⟨S8x4352x1024, .f32⟩
  | .hbm, ⟨52, _⟩ => ⟨S8x4352x1024, .f32⟩
  | .hbm, ⟨53, _⟩ => ⟨S1x1x1024x5632, .bf16⟩
  | .hbm, ⟨54, _⟩ => ⟨S1024x5632, .bf16⟩
  | .hbm, ⟨55, _⟩ => ⟨S1x1x2816x1024, .bf16⟩
  | .hbm, ⟨56, _⟩ => ⟨S2816x1024, .bf16⟩
  | .hbm, ⟨57, _⟩ => ⟨S1x1x1x1024, .f32⟩
  | .hbm, ⟨58, _⟩ => ⟨S1024, .f32⟩
  | .hbm, ⟨59, _⟩ => ⟨S1x1x1x1024, .f32⟩
  | .hbm, ⟨60, _⟩ => ⟨S1024, .f32⟩
  | .hbm, ⟨61, _⟩ => ⟨S_, .f32⟩
  | .hbm, ⟨62, _⟩ => ⟨S8x4352x1024, .f32⟩
  | .hbm, ⟨63, _⟩ => ⟨S8x4352x1024, .f32⟩
  | .hbm, ⟨64, _⟩ => ⟨S8x4352x1024, .f32⟩
  | .hbm, ⟨65, _⟩ => ⟨S8x4352x1024, .f32⟩
  | .hbm, ⟨66, _⟩ => ⟨S8x4352x1024, .bf16⟩
  | .hbm, ⟨67, _⟩ => ⟨S8x4352x1024, .f32⟩
  | .hbm, ⟨68, _⟩ => ⟨S1024x5632, .f32⟩
  | .hbm, ⟨69, _⟩ => ⟨S8x4352x5632, .f32⟩
  | .hbm, ⟨70, _⟩ => ⟨S8x4352x2816, .f32⟩
  | .hbm, ⟨71, _⟩ => ⟨S8x4352x2816, .f32⟩
  | .hbm, ⟨72, _⟩ => ⟨S8x4352x2816, .f32⟩
  | .hbm, ⟨73, _⟩ => ⟨S_, .f32⟩
  | .hbm, ⟨74, _⟩ => ⟨S8x4352x2816, .f32⟩
  | .hbm, ⟨75, _⟩ => ⟨S8x4352x2816, .f32⟩
  | .hbm, ⟨76, _⟩ => ⟨S_, .f32⟩
  | .hbm, ⟨77, _⟩ => ⟨S8x4352x2816, .f32⟩
  | .hbm, ⟨78, _⟩ => ⟨S8x4352x2816, .f32⟩
  | .hbm, ⟨79, _⟩ => ⟨S8x4352x2816, .f32⟩
  | .hbm, ⟨80, _⟩ => ⟨S8x4352x2816, .f32⟩
  | .hbm, ⟨81, _⟩ => ⟨S8x4352x2816, .f32⟩
  | .hbm, ⟨82, _⟩ => ⟨S8x4352x2816, .bf16⟩
  | .hbm, ⟨83, _⟩ => ⟨S8x4352x2816, .f32⟩
  | .hbm, ⟨84, _⟩ => ⟨S2816x1024, .f32⟩
  | .hbm, ⟨85, _⟩ => ⟨S8x4352x1024, .f32⟩
  | .hbm, ⟨86, _⟩ => ⟨S_, .f32⟩
  | .hbm, ⟨87, _⟩ => ⟨S8x4352x1024, .f32⟩
  | .hbm, ⟨88, _⟩ => ⟨S8x4352x1024, .f32⟩
  | .hbm, ⟨89, _⟩ => ⟨S_, .f32⟩
  | .hbm, ⟨90, _⟩ => ⟨S8x4352x1024, .f32⟩
  | .hbm, ⟨91, _⟩ => ⟨S8x4352x1024, .f32⟩
  | .hbm, ⟨92, _⟩ => ⟨S8x4352x1024, .f32⟩
  | .hbm, ⟨93, _⟩ => ⟨S8x4352x1024, .f32⟩
  | .hbm, ⟨94, _⟩ => ⟨S_, .f32⟩
  | .hbm, ⟨95, _⟩ => ⟨S8x4352, .f32⟩
  | .hbm, ⟨96, _⟩ => ⟨S8x4352x1, .f32⟩
  | .hbm, ⟨97, _⟩ => ⟨S_, .f32⟩
  | .hbm, ⟨98, _⟩ => ⟨S8x4352x1, .f32⟩
  | .hbm, ⟨99, _⟩ => ⟨S8x4352x1, .f32⟩
  | .hbm, ⟨100, _⟩ => ⟨S8x4352x1024, .f32⟩
  | .hbm, ⟨101, _⟩ => ⟨S8x4352x1024, .f32⟩
  | .hbm, ⟨102, _⟩ => ⟨S8x4352x1024, .f32⟩
  | .hbm, ⟨103, _⟩ => ⟨S_, .f32⟩
  | .hbm, ⟨104, _⟩ => ⟨S8x4352, .f32⟩
  | .hbm, ⟨105, _⟩ => ⟨S8x4352x1, .f32⟩
  | .hbm, ⟨106, _⟩ => ⟨S_, .f32⟩
  | .hbm, ⟨107, _⟩ => ⟨S8x4352x1, .f32⟩
  | .hbm, ⟨108, _⟩ => ⟨S8x4352x1, .f32⟩
  | .hbm, ⟨109, _⟩ => ⟨S8x4352x1024, .f32⟩
  | .hbm, ⟨110, _⟩ => ⟨S8x4352x1024, .f32⟩
  | .hbm, ⟨111, _⟩ => ⟨S_, .f32⟩
  | .hbm, ⟨112, _⟩ => ⟨S8x4352x1, .f32⟩
  | .hbm, ⟨113, _⟩ => ⟨S8x4352x1, .f32⟩
  | .hbm, ⟨114, _⟩ => ⟨S8x4352x1, .f32⟩
  | .hbm, ⟨115, _⟩ => ⟨S8x4352x1024, .f32⟩
  | .hbm, ⟨116, _⟩ => ⟨S8x4352x1024, .f32⟩
  | .hbm, ⟨117, _⟩ => ⟨S1x1x1024, .f32⟩
  | .hbm, ⟨118, _⟩ => ⟨S8x4352x1024, .f32⟩
  | .hbm, ⟨119, _⟩ => ⟨S8x4352x1024, .f32⟩
  | .hbm, ⟨120, _⟩ => ⟨S1x1x1024, .f32⟩
  | .hbm, ⟨121, _⟩ => ⟨S8x4352x1024, .f32⟩
  | .hbm, ⟨122, _⟩ => ⟨S8x4352x1024, .f32⟩
  | .hbm, ⟨123, _⟩ => ⟨S34816x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_2 : Ref sig .tc := ⟨.hbm, 86, rfl⟩
abbrev main_v58 : Ref sig .tc := ⟨.hbm, 87, rfl⟩
abbrev main_v59 : Ref sig .tc := ⟨.hbm, 88, rfl⟩
abbrev main_cst_3 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_4 : Ref sig .tc := ⟨.hbm, 94, rfl⟩
abbrev main_v64 : Ref sig .tc := ⟨.hbm, 95, rfl⟩
abbrev main_v65 : Ref sig .tc := ⟨.hbm, 96, rfl⟩
abbrev main_cst_5 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_6 : Ref sig .tc := ⟨.hbm, 103, rfl⟩
abbrev main_v71 : Ref sig .tc := ⟨.hbm, 104, rfl⟩
abbrev main_v72 : Ref sig .tc := ⟨.hbm, 105, rfl⟩
abbrev main_cst_7 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_8 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]
-- ==== PostRec.lean ====
abbrev S8x4352x1024 : Shape := ⟨3, ![8, 4352, 1024]⟩
abbrev S4x2x8x9x1024 : Shape := ⟨5, ![4, 2, 8, 9, 1024]⟩
abbrev S1x1024x1024 : Shape := ⟨3, ![1, 1024, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S34816x1024 : Shape := ⟨2, ![34816, 1024]⟩
abbrev S1x256x1024 : Shape := ⟨3, ![1, 256, 1024]⟩
abbrev S1x1x1x9x1024 : Shape := ⟨5, ![1, 1, 1, 9, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1024x1024 : Shape := ⟨2, ![1024, 1024]⟩
abbrev S256x1024 : Shape := ⟨2, ![256, 1024]⟩
abbrev S9x1024 : Shape := ⟨2, ![9, 1024]⟩
abbrev S1x1024 : Shape := ⟨2, ![1, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 9
  | .vmem => 33
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S8x4352x1024, .bf16⟩
  | .hbm, ⟨3, _⟩ => ⟨S1x1024x1024, .bf16⟩
  | .hbm, ⟨4, _⟩ => ⟨S4x2x1024x5632, .bf16⟩
  | .hbm, ⟨5, _⟩ => ⟨S4x2x2816x1024, .bf16⟩
  | .hbm, ⟨6, _⟩ => ⟨S4x3x1x1024, .f32⟩
  | .hbm, ⟨7, _⟩ => ⟨S4x3x1x1024, .f32⟩
  | .hbm, ⟨8, _⟩ => ⟨S34816x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1x9x1024, .f32⟩
  | .local _ .vmem, ⟨9, _⟩ => ⟨S1x1x1x9x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x1x1x9x1024, .f32⟩
  | .local _ .vmem, ⟨21, _⟩ => ⟨S1x1x1x9x1024, .f32⟩
  | .local _ .vmem, ⟨22, _⟩ => ⟨S1x256x1024, .bf16⟩
  | .local _ .vmem, ⟨23, _⟩ => ⟨S1x256x1024, .bf16⟩
  | .local _ .vmem, ⟨24, _⟩ => ⟨S1x1024x1024, .bf16⟩
  | .local _ .vmem, ⟨25, _⟩ => ⟨S1x1x1x1024, .f32⟩
  | .local _ .vmem, ⟨26, _⟩ => ⟨S1x1x1x1024, .f32⟩
  | .local _ .vmem, ⟨27, _⟩ => ⟨S1x1x1024x5632, .bf16⟩
  | .local _ .vmem, ⟨28, _⟩ => ⟨S1x1x2816x1024, .bf16⟩
  | .local _ .vmem, ⟨29, _⟩ => ⟨S1x1x1x1024, .f32⟩
  | .local _ .vmem, ⟨30, _⟩ => ⟨S1x1x1x1024, .f32⟩
  | .local _ .vmem, ⟨31, _⟩ => ⟨S1024x1024, .f32⟩
  | .local _ .vmem, ⟨32, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c2_i32 : BitVec 32 := 2#32
  let c0_i32_16 : BitVec 32 := 0#32
  let c0_i32_17 : BitVec 32 := 0#32
  let c0_i32_18 : BitVec 32 := 0#32
  ![c2_i32.toNat, v32.toNat, v18.toNat, c0_i32_16.toNat, c0_i32_17.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_4 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c2_i32 : BitVec 32 := 2#32
  let c0_i32_16 : BitVec 32 := 0#32
  let c0_i32_17 : BitVec 32 := 0#32
  let c0_i32_18 : BitVec 32 := 0#32
  ![c2_i32.toNat, v32.toNat, v18.toNat, c0_i32_16.toNat, c0_i32_17.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c2_i32_15 : BitVec 32 := 2#32
  let c0_i32_16 : BitVec 32 := 0#32
  let c0_i32_17 : BitVec 32 := 0#32
  let c0_i32_18 : BitVec 32 := 0#32
  ![c2_i32_15.toNat, v32.toNat, v18.toNat, c0_i32_16.toNat, c0_i32_17.toNat]

def cc0_transform_8 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_9 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_10 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c2_i32 : BitVec 32 := 2#32
  let c0_i32_15 : BitVec 32 := 0#32
  let c0_i32_16 : BitVec 32 := 0#32
  let c0_i32_17 : BitVec 32 := 0#32
  ![c2_i32.toNat, v32.toNat, v18.toNat, c0_i32_15.toNat, c0_i32_16.toNat]

def cc0_transform_11 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_14 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_15 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_16 (i : grid0.Coords) : Fin 4 → Nat :=
  let arg0 : BitVec 32 := BitVec.ofNat 32 (i 0).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, c1_i32.toNat, c0_i32.toNat, c0_i32_0.toNat]

def cc0_transform_17 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_18 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x9x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PostRecRefIdeal.lean ====
abbrev S8x4352x1024 : Shape := ⟨3, ![8, 4352, 1024]⟩
abbrev S4x2x8x9x1024 : Shape := ⟨5, ![4, 2, 8, 9, 1024]⟩
abbrev S1x1024x1024 : Shape := ⟨3, ![1, 1024, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S1024x1024 : Shape := ⟨2, ![1024, 1024]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1024 : Shape := ⟨1, ![1024]⟩
abbrev S8x4352 : Shape := ⟨2, ![8, 4352]⟩
abbrev S8x4352x1 : Shape := ⟨3, ![8, 4352, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4352x5632 : Shape := ⟨3, ![8, 4352, 5632]⟩
abbrev S8x4352x2816 : Shape := ⟨3, ![8, 4352, 2816]⟩
abbrev S34816x1024 : Shape := ⟨2, ![34816, 1024]⟩

abbrev nBuf : Space → Nat
  | .hbm => 181
  | .vmem => 0
  | .smem => 0
  | _ => 0

abbrev hbmTy0_0 (i : Nat) : BufTy := match i % 128 with
  | 0 => ⟨S8x4352x1024, .f32⟩
  | 1 => ⟨S4x2x8x9x1024, .f32⟩
  | 2 => ⟨S8x4352x1024, .bf16⟩
  | 3 => ⟨S1x1024x1024, .bf16⟩
  | 4 => ⟨S4x2x1024x5632, .bf16⟩
  | 5 => ⟨S4x2x2816x1024, .bf16⟩
  | 6 => ⟨S4x3x1x1024, .f32⟩
  | 7 => ⟨S4x3x1x1024, .f32⟩
  | 8 => ⟨S8x4352x1024, .f32⟩
  | 9 => ⟨S1024x1024, .bf16⟩
  | 10 => ⟨S1024x1024, .f32⟩
  | 11 => ⟨S8x4352x1024, .f32⟩
  | 12 => ⟨S4352, .i32⟩
  | 13 => ⟨S_, .i32⟩
  | 14 => ⟨S4352, .i32⟩
  | 15 => ⟨S4352, .i1⟩
  | 16 => ⟨S1x4352x1, .i1⟩
  | 17 => ⟨S1x1x8x1x1024, .f32⟩
  | 18 => ⟨S8x1024, .f32⟩
  | 19 => ⟨S8x1x1024, .f32⟩
  | 20 => ⟨S1x1x8x1x1024, .f32⟩
  | 21 => ⟨S8x1024, .f32⟩
  | 22 => ⟨S8x1x1024, .f32⟩
  | 23 => ⟨S8x4352x1024, .i1⟩
  | 24 => ⟨S8x4352x1024, .f32⟩
  | 25 => ⟨S8x4352x1024, .f32⟩
  | 26 => ⟨S8x4352x1024, .f32⟩
  | 27 => ⟨S4352, .i32⟩
  | 28 => ⟨S_, .i32⟩
  | 29 => ⟨S4352, .i32⟩
  | 30 => ⟨S4352, .i1⟩
  | 31 => ⟨S1x4352x1, .i1⟩
  | 32 => ⟨S1x1x8x1x1024, .f32⟩
  | 33 => ⟨S8x1024, .f32⟩
  | 34 => ⟨S8x1x1024, .f32⟩
  | 35 => ⟨S1x1x8x1x1024, .f32⟩
  | 36 => ⟨S8x1024, .f32⟩
  | 37 => ⟨S8x1x1024, .f32⟩
  | 38 => ⟨S8x4352x1024, .i1⟩
  | 39 => ⟨S8x4352x1024, .f32⟩
  | 40 => ⟨S8x4352x1024, .f32⟩
  | 41 => ⟨S8x4352x1024, .f32⟩
  | 42 => ⟨S4352, .i32⟩
  | 43 => ⟨S_, .i32⟩
  | 44 => ⟨S4352, .i32⟩
  | 45 => ⟨S4352, .i1⟩
  | 46 => ⟨S1x4352x1, .i1⟩
  | 47 => ⟨S1x1x8x1x1024, .f32⟩
  | 48 => ⟨S8x1024, .f32⟩
  | 49 => ⟨S8x1x1024, .f32⟩
  | 50 => ⟨S1x1x8x1x1024, .f32⟩
  | 51 => ⟨S8x1024, .f32⟩
  | 52 => ⟨S8x1x1024, .f32⟩
  | 53 => ⟨S8x4352x1024, .i1⟩
  | 54 => ⟨S8x4352x1024, .f32⟩
  | 55 => ⟨S8x4352x1024, .f32⟩
  | 56 => ⟨S8x4352x1024, .f32⟩
  | 57 => ⟨S4352, .i32⟩
  | 58 => ⟨S_, .i32⟩
  | 59 => ⟨S4352, .i32⟩
  | 60 => ⟨S4352, .i1⟩
  | 61 => ⟨S1x4352x1, .i1⟩
  | 62 => ⟨S1x1x8x1x1024, .f32⟩
  | 63 => ⟨S8x1024, .f32⟩
  | 64 => ⟨S8x1x1024, .f32⟩
  | 65 => ⟨S1x1x8x1x1024, .f32⟩
  | 66 => ⟨S8x1024, .f32⟩
  | 67 => ⟨S8x1x1024, .f32⟩
  | 68 => ⟨S8x4352x1024, .i1⟩
  | 69 => ⟨S8x4352x1024, .f32⟩
  | 70 => ⟨S8x4352x1024, .f32⟩
  | 71 => ⟨S8x4352x1024, .f32⟩
  | 72 => ⟨S_, .f32⟩
  | 73 => ⟨S8x4352x1024, .f32⟩
  | 74 => ⟨S8x4352x1024, .f32⟩
  | 75 => ⟨S8x4352x1024, .f32⟩
  | 76 => ⟨S8x4352x1024, .f32⟩
  | 77 => ⟨S1x1x1x1024, .f32⟩
  | 78 => ⟨S1024, .f32⟩
  | 79 => ⟨S1x1x1x1024, .f32⟩
  | 80 => ⟨S1024, .f32⟩
  | 81 => ⟨S_, .f32⟩
  | 82 => ⟨S8x4352, .f32⟩
  | 83 => ⟨S8x4352x1, .f32⟩
  | 84 => ⟨S_, .f32⟩
  | 85 => ⟨S8x4352x1, .f32⟩
  | 86 => ⟨S8x4352x1, .f32⟩
  | 87 => ⟨S8x4352x1024, .f32⟩
  | 88 => ⟨S8x4352x1024, .f32⟩
  | 89 => ⟨S8x4352x1024, .f32⟩
  | 90 => ⟨S_, .f32⟩
  | 91 => ⟨S8x4352, .f32⟩
  | 92 => ⟨S8x4352x1, .f32⟩
  | 93 => ⟨S_, .f32⟩
  | 94 => ⟨S8x4352x1, .f32⟩
  | 95 => ⟨S8x4352x1, .f32⟩
  | 96 => ⟨S8x4352x1024, .f32⟩
  | 97 => ⟨S8x4352x1024, .f32⟩
  | 98 => ⟨S_, .f32⟩
  | 99 => ⟨S8x4352x1, .f32⟩
  | 100 => ⟨S8x4352x1, .f32⟩
  | 101 => ⟨S8x4352x1, .f32⟩
  | 102 => ⟨S8x4352x1024, .f32⟩
  | 103 => ⟨S8x4352x1024, .f32⟩
  | 104 => ⟨S1x1x1024, .f32⟩
  | 105 => ⟨S8x4352x1024, .f32⟩
  | 106 => ⟨S8x4352x1024, .f32⟩
  | 107 => ⟨S1x1x1024, .f32⟩
  | 108 => ⟨S8x4352x1024, .f32⟩
  | 109 => ⟨S8x4352x1024, .f32⟩
  | 110 => ⟨S1x1x1024x5632, .bf16⟩
  | 111 => ⟨S1024x5632, .bf16⟩
  | 112 => ⟨S1x1x2816x1024, .bf16⟩
  | 113 => ⟨S2816x1024, .bf16⟩
  | 114 => ⟨S1x1x1x1024, .f32⟩
  | 115 => ⟨S1024, .f32⟩
  | 116 => ⟨S1x1x1x1024, .f32⟩
  | 117 => ⟨S1024, .f32⟩
  | 118 => ⟨S_, .f32⟩
  | 119 => ⟨S8x4352x1024, .f32⟩
  | 120 => ⟨S8x4352x1024, .f32⟩
  | 121 => ⟨S8x4352x1024, .f32⟩
  | 122 => ⟨S8x4352x1024, .f32⟩
  | 123 => ⟨S8x4352x1024, .bf16⟩
  | 124 => ⟨S8x4352x1024, .f32⟩
  | 125 => ⟨S1024x5632, .f32⟩
  | 126 => ⟨S8x4352x5632, .f32⟩
  | 127 => ⟨S8x4352x2816, .f32⟩
  | _ => ⟨S8x4352x1024, .f32⟩

abbrev hbmTy0_1 (i : Nat) : BufTy := match i % 128 with
  | 0 => ⟨S8x4352x2816, .f32⟩
  | 1 => ⟨S8x4352x2816, .f32⟩
  | 2 => ⟨S_, .f32⟩
  | 3 => ⟨S8x4352x2816, .f32⟩
  | 4 => ⟨S8x4352x2816, .f32⟩
  | 5 => ⟨S_, .f32⟩
  | 6 => ⟨S8x4352x2816, .f32⟩
  | 7 => ⟨S8x4352x2816, .f32⟩
  | 8 => ⟨S8x4352x2816, .f32⟩
  | 9 => ⟨S8x4352x2816, .f32⟩
  | 10 => ⟨S8x4352x2816, .f32⟩
  | 11 => ⟨S8x4352x2816, .bf16⟩
  | 12 => ⟨S8x4352x2816, .f32⟩
  | 13 => ⟨S2816x1024, .f32⟩
  | 14 => ⟨S8x4352x1024, .f32⟩
  | 15 => ⟨S_, .f32⟩
  | 16 => ⟨S8x4352x1024, .f32⟩
  | 17 => ⟨S8x4352x1024, .f32⟩
  | 18 => ⟨S_, .f32⟩
  | 19 => ⟨S8x4352x1024, .f32⟩
  | 20 => ⟨S8x4352x1024, .f32⟩
  | 21 => ⟨S8x4352x1024, .f32⟩
  | 22 => ⟨S8x4352x1024, .f32⟩
  | 23 => ⟨S_, .f32⟩
  | 24 => ⟨S8x4352, .f32⟩
  | 25 => ⟨S8x4352x1, .f32⟩
  | 26 => ⟨S_, .f32⟩
  | 27 => ⟨S8x4352x1, .f32⟩
  | 28 => ⟨S8x4352x1, .f32⟩
  | 29 => ⟨S8x4352x1024, .f32⟩
  | 30 => ⟨S8x4352x1024, .f32⟩
  | 31 => ⟨S8x4352x1024, .f32⟩
  | 32 => ⟨S_, .f32⟩
  | 33 => ⟨S8x4352, .f32⟩
  | 34 => ⟨S8x4352x1, .f32⟩
  | 35 => ⟨S_, .f32⟩
  | 36 => ⟨S8x4352x1, .f32⟩
  | 37 => ⟨S8x4352x1, .f32⟩
  | 38 => ⟨S8x4352x1024, .f32⟩
  | 39 => ⟨S8x4352x1024, .f32⟩
  | 40 => ⟨S_, .f32⟩
  | 41 => ⟨S8x4352x1, .f32⟩
  | 42 => ⟨S8x4352x1, .f32⟩
  | 43 => ⟨S8x4352x1, .f32⟩
  | 44 => ⟨S8x4352x1024, .f32⟩
  | 45 => ⟨S8x4352x1024, .f32⟩
  | 46 => ⟨S1x1x1024, .f32⟩
  | 47 => ⟨S8x4352x1024, .f32⟩
  | 48 => ⟨S8x4352x1024, .f32⟩
  | 49 => ⟨S1x1x1024, .f32⟩
  | 50 => ⟨S8x4352x1024, .f32⟩
  | 51 => ⟨S8x4352x1024, .f32⟩
  | 52 => ⟨S34816x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v36 : Ref sig .tc := ⟨.hbm, 56, rfl⟩
abbrev main_v37 : Ref sig .tc := ⟨.hbm, 57, rfl⟩
abbrev main_c_2 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v47 : Ref sig .tc := ⟨.hbm, 71, rfl⟩
abbrev main_cst : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_cst_6 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_8 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_9 : Ref sig .tc := ⟨.hbm, 143, rfl⟩
abbrev main_v104 : Ref sig .tc := ⟨.hbm, 144, rfl⟩
abbrev main_v105 : Ref sig .tc := ⟨.hbm, 145, rfl⟩
abbrev main_cst_10 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_11 : Ref sig .tc := ⟨.hbm, 151, rfl⟩
abbrev main_v110 : Ref sig .tc := ⟨.hbm, 152, rfl⟩
abbrev main_v111 : Ref sig .tc := ⟨.hbm, 153, rfl⟩
abbrev main_cst_12 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_13 : Ref sig .tc := ⟨.hbm, 160, rfl⟩
abbrev main_v117 : Ref sig .tc := ⟨.hbm, 161, rfl⟩
abbrev main_v118 : Ref sig .tc := ⟨.hbm, 162, rfl⟩
abbrev main_cst_14 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_15 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩

abbrev nD : Nat := 1
abbrev τ : Topo := Topo.v7x

variable {F : FTy → Type} [FloatOps F]
-- ==== PostNbr.lean ====
abbrev S8x4352x1024 : Shape := ⟨3, ![8, 4352, 1024]⟩
abbrev S4x2x8x9x1024 : Shape := ⟨5, ![4, 2, 8, 9, 1024]⟩
abbrev S8x17x1024x256 : Shape := ⟨4, ![8, 17, 1024, 256]⟩
abbrev S1x1024x1024 : Shape := ⟨3, ![1, 1024, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S34816x1024 : Shape := ⟨2, ![34816, 1024]⟩
abbrev S1x256x1024 : Shape := ⟨3, ![1, 256, 1024]⟩
abbrev S1x1x1x9x1024 : Shape := ⟨5, ![1, 1, 1, 9, 1024]⟩
abbrev S1x1x1024x256 : Shape := ⟨4, ![1, 1, 1024, 256]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1024x1024 : Shape := ⟨2, ![1024, 1024]⟩
abbrev S1024x256 : Shape := ⟨2, ![1024, 256]⟩
abbrev S256x1024 : Shape := ⟨2, ![256, 1024]⟩
abbrev S9x1024 : Shape := ⟨2, ![9, 1024]⟩
abbrev S1x1024 : Shape := ⟨2, ![1, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 9
  | .vmem => 33
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S8x17x1024x256, .f32⟩
  | .hbm, ⟨3, _⟩ => ⟨S1x1024x1024, .bf16⟩
  | .hbm, ⟨4, _⟩ => ⟨S4x2x1024x5632, .bf16⟩
  | .hbm, ⟨5, _⟩ => ⟨S4x2x2816x1024, .bf16⟩
  | .hbm, ⟨6, _⟩ => ⟨S4x3x1x1024, .f32⟩
  | .hbm, ⟨7, _⟩ => ⟨S4x3x1x1024, .f32⟩
  | .hbm, ⟨8, _⟩ => ⟨S34816x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1x9x1024, .f32⟩
  | .local _ .vmem, ⟨9, _⟩ => ⟨S1x1x1x9x1024, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x1x1024x256, .f32⟩
  | .local _ .vmem, ⟨17, _⟩ => ⟨S1x1x1024x256, .f32⟩
  | .local _ .vmem, ⟨18, _⟩ => ⟨S1x256x1024, .f32⟩
  | .local _ .vmem, ⟨19, _⟩ => ⟨S1x256x1024, .f32⟩
  | .local _ .vmem, ⟨20, _⟩ => ⟨S1x1x1x9x1024, .f32⟩
  | .local _ .vmem, ⟨21, _⟩ => ⟨S1x1x1x9x1024, .f32⟩
  | .local _ .vmem, ⟨22, _⟩ => ⟨S1x1x1024x256, .f32⟩
  | .local _ .vmem, ⟨23, _⟩ => ⟨S1x1x1024x256, .f32⟩
  | .local _ .vmem, ⟨24, _⟩ => ⟨S1x1024x1024, .bf16⟩
  | .local _ .vmem, ⟨25, _⟩ => ⟨S1x1x1x1024, .f32⟩
  | .local _ .vmem, ⟨26, _⟩ => ⟨S1x1x1x1024, .f32⟩
  | .local _ .vmem, ⟨27, _⟩ => ⟨S1x1x1024x5632, .bf16⟩
  | .local _ .vmem, ⟨28, _⟩ => ⟨S1x1x2816x1024, .bf16⟩
  | .local _ .vmem, ⟨29, _⟩ => ⟨S1x1x1x1024, .f32⟩
  | .local _ .vmem, ⟨30, _⟩ => ⟨S1x1x1x1024, .f32⟩
  | .local _ .vmem, ⟨31, _⟩ => ⟨S1024x1024, .f32⟩
  | .local _ .vmem, ⟨32, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c1_i32_16 : BitVec 32 := 1#32
  let c0_i32_17 : BitVec 32 := 0#32
  let c0_i32_18 : BitVec 32 := 0#32
  let c0_i32_19 : BitVec 32 := 0#32
  ![c1_i32_16.toNat, v32.toNat, v18.toNat, c0_i32_17.toNat, c0_i32_18.toNat]

def cc0_transform_2 (i : grid0.Coords) : Fin 4 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, v29.toNat, c0_i32_12.toNat, c0_i32_13.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_4 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c1_i32_16 : BitVec 32 := 1#32
  let c0_i32_17 : BitVec 32 := 0#32
  let c0_i32_18 : BitVec 32 := 0#32
  let c0_i32_19 : BitVec 32 := 0#32
  ![c1_i32_16.toNat, v32.toNat, v18.toNat, c0_i32_17.toNat, c0_i32_18.toNat]

def cc0_transform_5 (i : grid0.Coords) : Fin 4 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  let c0_i32_14 : BitVec 32 := 0#32
  ![v18.toNat, v29.toNat, c0_i32_12.toNat, c0_i32_13.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c1_i32_15 : BitVec 32 := 1#32
  let c0_i32_16 : BitVec 32 := 0#32
  let c0_i32_17 : BitVec 32 := 0#32
  let c0_i32_18 : BitVec 32 := 0#32
  ![c1_i32_15.toNat, v32.toNat, v18.toNat, c0_i32_16.toNat, c0_i32_17.toNat]

def cc0_transform_8 (i : grid0.Coords) : Fin 4 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  let c0_i32_13 : BitVec 32 := 0#32
  ![v18.toNat, v29.toNat, c0_i32_11.toNat, c0_i32_12.toNat]

def cc0_transform_9 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_10 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c1_i32_15 : BitVec 32 := 1#32
  let c0_i32_16 : BitVec 32 := 0#32
  let c0_i32_17 : BitVec 32 := 0#32
  let c0_i32_18 : BitVec 32 := 0#32
  ![c1_i32_15.toNat, v32.toNat, v18.toNat, c0_i32_16.toNat, c0_i32_17.toNat]

def cc0_transform_11 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  let c0_i32_13 : BitVec 32 := 0#32
  ![v18.toNat, v29.toNat, c0_i32_11.toNat, c0_i32_12.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_14 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_15 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_16 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_17 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_18 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x9x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PostNbrRefIdeal.lean ====
abbrev S8x4352x1024 : Shape := ⟨3, ![8, 4352, 1024]⟩
abbrev S4x2x8x9x1024 : Shape := ⟨5, ![4, 2, 8, 9, 1024]⟩
abbrev S8x17x1024x256 : Shape := ⟨4, ![8, 17, 1024, 256]⟩
abbrev S1x1024x1024 : Shape := ⟨3, ![1, 1024, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S8x17x256x1024 : Shape := ⟨4, ![8, 17, 256, 1024]⟩
abbrev S1024x1024 : Shape := ⟨2, ![1024, 1024]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1024 : Shape := ⟨1, ![1024]⟩
abbrev S8x4352 : Shape := ⟨2, ![8, 4352]⟩
abbrev S8x4352x1 : Shape := ⟨3, ![8, 4352, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4352x5632 : Shape := ⟨3, ![8, 4352, 5632]⟩
abbrev S8x4352x2816 : Shape := ⟨3, ![8, 4352, 2816]⟩
abbrev S34816x1024 : Shape := ⟨2, ![34816, 1024]⟩

abbrev nBuf : Space → Nat
  | .hbm => 184
  | .vmem => 0
  | .smem => 0
  | _ => 0

abbrev hbmTy0_0 (i : Nat) : BufTy := match i % 128 with
  | 0 => ⟨S8x4352x1024, .f32⟩
  | 1 => ⟨S4x2x8x9x1024, .f32⟩
  | 2 => ⟨S8x17x1024x256, .f32⟩
  | 3 => ⟨S1x1024x1024, .bf16⟩
  | 4 => ⟨S4x2x1024x5632, .bf16⟩
  | 5 => ⟨S4x2x2816x1024, .bf16⟩
  | 6 => ⟨S4x3x1x1024, .f32⟩
  | 7 => ⟨S4x3x1x1024, .f32⟩
  | 8 => ⟨S8x17x256x1024, .f32⟩
  | 9 => ⟨S8x4352x1024, .f32⟩
  | 10 => ⟨S8x4352x1024, .bf16⟩
  | 11 => ⟨S8x4352x1024, .f32⟩
  | 12 => ⟨S1024x1024, .bf16⟩
  | 13 => ⟨S1024x1024, .f32⟩
  | 14 => ⟨S8x4352x1024, .f32⟩
  | 15 => ⟨S4352, .i32⟩
  | 16 => ⟨S_, .i32⟩
  | 17 => ⟨S4352, .i32⟩
  | 18 => ⟨S4352, .i1⟩
  | 19 => ⟨S1x4352x1, .i1⟩
  | 20 => ⟨S1x1x8x1x1024, .f32⟩
  | 21 => ⟨S8x1024, .f32⟩
  | 22 => ⟨S8x1x1024, .f32⟩
  | 23 => ⟨S1x1x8x1x1024, .f32⟩
  | 24 => ⟨S8x1024, .f32⟩
  | 25 => ⟨S8x1x1024, .f32⟩
  | 26 => ⟨S8x4352x1024, .i1⟩
  | 27 => ⟨S8x4352x1024, .f32⟩
  | 28 => ⟨S8x4352x1024, .f32⟩
  | 29 => ⟨S8x4352x1024, .f32⟩
  | 30 => ⟨S4352, .i32⟩
  | 31 => ⟨S_, .i32⟩
  | 32 => ⟨S4352, .i32⟩
  | 33 => ⟨S4352, .i1⟩
  | 34 => ⟨S1x4352x1, .i1⟩
  | 35 => ⟨S1x1x8x1x1024, .f32⟩
  | 36 => ⟨S8x1024, .f32⟩
  | 37 => ⟨S8x1x1024, .f32⟩
  | 38 => ⟨S1x1x8x1x1024, .f32⟩
  | 39 => ⟨S8x1024, .f32⟩
  | 40 => ⟨S8x1x1024, .f32⟩
  | 41 => ⟨S8x4352x1024, .i1⟩
  | 42 => ⟨S8x4352x1024, .f32⟩
  | 43 => ⟨S8x4352x1024, .f32⟩
  | 44 => ⟨S8x4352x1024, .f32⟩
  | 45 => ⟨S4352, .i32⟩
  | 46 => ⟨S_, .i32⟩
  | 47 => ⟨S4352, .i32⟩
  | 48 => ⟨S4352, .i1⟩
  | 49 => ⟨S1x4352x1, .i1⟩
  | 50 => ⟨S1x1x8x1x1024, .f32⟩
  | 51 => ⟨S8x1024, .f32⟩
  | 52 => ⟨S8x1x1024, .f32⟩
  | 53 => ⟨S1x1x8x1x1024, .f32⟩
  | 54 => ⟨S8x1024, .f32⟩
  | 55 => ⟨S8x1x1024, .f32⟩
  | 56 => ⟨S8x4352x1024, .i1⟩
  | 57 => ⟨S8x4352x1024, .f32⟩
  | 58 => ⟨S8x4352x1024, .f32⟩
  | 59 => ⟨S8x4352x1024, .f32⟩
  | 60 => ⟨S4352, .i32⟩
  | 61 => ⟨S_, .i32⟩
  | 62 => ⟨S4352, .i32⟩
  | 63 => ⟨S4352, .i1⟩
  | 64 => ⟨S1x4352x1, .i1⟩
  | 65 => ⟨S1x1x8x1x1024, .f32⟩
  | 66 => ⟨S8x1024, .f32⟩
  | 67 => ⟨S8x1x1024, .f32⟩
  | 68 => ⟨S1x1x8x1x1024, .f32⟩
  | 69 => ⟨S8x1024, .f32⟩
  | 70 => ⟨S8x1x1024, .f32⟩
  | 71 => ⟨S8x4352x1024, .i1⟩
  | 72 => ⟨S8x4352x1024, .f32⟩
  | 73 => ⟨S8x4352x1024, .f32⟩
  | 74 => ⟨S8x4352x1024, .f32⟩
  | 75 => ⟨S_, .f32⟩
  | 76 => ⟨S8x4352x1024, .f32⟩
  | 77 => ⟨S8x4352x1024, .f32⟩
  | 78 => ⟨S8x4352x1024, .f32⟩
  | 79 => ⟨S8x4352x1024, .f32⟩
  | 80 => ⟨S1x1x1x1024, .f32⟩
  | 81 => ⟨S1024, .f32⟩
  | 82 => ⟨S1x1x1x1024, .f32⟩
  | 83 => ⟨S1024, .f32⟩
  | 84 => ⟨S_, .f32⟩
  | 85 => ⟨S8x4352, .f32⟩
  | 86 => ⟨S8x4352x1, .f32⟩
  | 87 => ⟨S_, .f32⟩
  | 88 => ⟨S8x4352x1, .f32⟩
  | 89 => ⟨S8x4352x1, .f32⟩
  | 90 => ⟨S8x4352x1024, .f32⟩
  | 91 => ⟨S8x4352x1024, .f32⟩
  | 92 => ⟨S8x4352x1024, .f32⟩
  | 93 => ⟨S_, .f32⟩
  | 94 => ⟨S8x4352, .f32⟩
  | 95 => ⟨S8x4352x1, .f32⟩
  | 96 => ⟨S_, .f32⟩
  | 97 => ⟨S8x4352x1, .f32⟩
  | 98 => ⟨S8x4352x1, .f32⟩
  | 99 => ⟨S8x4352x1024, .f32⟩
  | 100 => ⟨S8x4352x1024, .f32⟩
  | 101 => ⟨S_, .f32⟩
  | 102 => ⟨S8x4352x1, .f32⟩
  | 103 => ⟨S8x4352x1, .f32⟩
  | 104 => ⟨S8x4352x1, .f32⟩
  | 105 => ⟨S8x4352x1024, .f32⟩
  | 106 => ⟨S8x4352x1024, .f32⟩
  | 107 => ⟨S1x1x1024, .f32⟩
  | 108 => ⟨S8x4352x1024, .f32⟩
  | 109 => ⟨S8x4352x1024, .f32⟩
  | 110 => ⟨S1x1x1024, .f32⟩
  | 111 => ⟨S8x4352x1024, .f32⟩
  | 112 => ⟨S8x4352x1024, .f32⟩
  | 113 => ⟨S1x1x1024x5632, .bf16⟩
  | 114 => ⟨S1024x5632, .bf16⟩
  | 115 => ⟨S1x1x2816x1024, .bf16⟩
  | 116 => ⟨S2816x1024, .bf16⟩
  | 117 => ⟨S1x1x1x1024, .f32⟩
  | 118 => ⟨S1024, .f32⟩
  | 119 => ⟨S1x1x1x1024, .f32⟩
  | 120 => ⟨S1024, .f32⟩
  | 121 => ⟨S_, .f32⟩
  | 122 => ⟨S8x4352x1024, .f32⟩
  | 123 => ⟨S8x4352x1024, .f32⟩
  | 124 => ⟨S8x4352x1024, .f32⟩
  | 125 => ⟨S8x4352x1024, .f32⟩
  | 126 => ⟨S8x4352x1024, .bf16⟩
  | 127 => ⟨S8x4352x1024, .f32⟩
  | _ => ⟨S8x4352x1024, .f32⟩

abbrev hbmTy0_1 (i : Nat) : BufTy := match i % 128 with
  | 0 => ⟨S1024x5632, .f32⟩
  | 1 => ⟨S8x4352x5632, .f32⟩
  | 2 => ⟨S8x4352x2816, .f32⟩
  | 3 => ⟨S8x4352x2816, .f32⟩
  | 4 => ⟨S8x4352x2816, .f32⟩
  | 5 => ⟨S_, .f32⟩
  | 6 => ⟨S8x4352x2816, .f32⟩
  | 7 => ⟨S8x4352x2816, .f32⟩
  | 8 => ⟨S_, .f32⟩
  | 9 => ⟨S8x4352x2816, .f32⟩
  | 10 => ⟨S8x4352x2816, .f32⟩
  | 11 => ⟨S8x4352x2816, .f32⟩
  | 12 => ⟨S8x4352x2816, .f32⟩
  | 13 => ⟨S8x4352x2816, .f32⟩
  | 14 => ⟨S8x4352x2816, .bf16⟩
  | 15 => ⟨S8x4352x2816, .f32⟩
  | 16 => ⟨S2816x1024, .f32⟩
  | 17 => ⟨S8x4352x1024, .f32⟩
  | 18 => ⟨S_, .f32⟩
  | 19 => ⟨S8x4352x1024, .f32⟩
  | 20 => ⟨S8x4352x1024, .f32⟩
  | 21 => ⟨S_, .f32⟩
  | 22 => ⟨S8x4352x1024, .f32⟩
  | 23 => ⟨S8x4352x1024, .f32⟩
  | 24 => ⟨S8x4352x1024, .f32⟩
  | 25 => ⟨S8x4352x1024, .f32⟩
  | 26 => ⟨S_, .f32⟩
  | 27 => ⟨S8x4352, .f32⟩
  | 28 => ⟨S8x4352x1, .f32⟩
  | 29 => ⟨S_, .f32⟩
  | 30 => ⟨S8x4352x1, .f32⟩
  | 31 => ⟨S8x4352x1, .f32⟩
  | 32 => ⟨S8x4352x1024, .f32⟩
  | 33 => ⟨S8x4352x1024, .f32⟩
  | 34 => ⟨S8x4352x1024, .f32⟩
  | 35 => ⟨S_, .f32⟩
  | 36 => ⟨S8x4352, .f32⟩
  | 37 => ⟨S8x4352x1, .f32⟩
  | 38 => ⟨S_, .f32⟩
  | 39 => ⟨S8x4352x1, .f32⟩
  | 40 => ⟨S8x4352x1, .f32⟩
  | 41 => ⟨S8x4352x1024, .f32⟩
  | 42 => ⟨S8x4352x1024, .f32⟩
  | 43 => ⟨S_, .f32⟩
  | 44 => ⟨S8x4352x1, .f32⟩
  | 45 => ⟨S8x4352x1, .f32⟩
  | 46 => ⟨S8x4352x1, .f32⟩
  | 47 => ⟨S8x4352x1024, .f32⟩
  | 48 => ⟨S8x4352x1024, .f32⟩
  | 49 => ⟨S1x1x1024, .f32⟩
  | 50 => ⟨S8x4352x1024, .f32⟩
  | 51 => ⟨S8x4352x1024, .f32⟩
  | 52 => ⟨S1x1x1024, .f32⟩
  | 53 => ⟨S8x4352x1024, .f32⟩
  | 54 => ⟨S8x4352x1024, .f32⟩
  | 55 => ⟨S34816x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_v18 : Ref sig .tc := ⟨.hbm, 30, rfl⟩
abbrev main_c_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_v29 : Ref sig .tc := ⟨.hbm, 45, rfl⟩
abbrev main_c_1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v39 : Ref sig .tc := ⟨.hbm, 59, rfl⟩
abbrev main_v40 : Ref sig .tc := ⟨.hbm, 60, rfl⟩
abbrev main_c_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v50 : Ref sig .tc := ⟨.hbm, 74, rfl⟩
abbrev main_cst : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_3 : Ref sig .tc := ⟨.hbm, 84, rfl⟩
abbrev main_v59 : Ref sig .tc := ⟨.hbm, 85, rfl⟩
abbrev main_v60 : Ref sig .tc := ⟨.hbm, 86, rfl⟩
abbrev main_cst_4 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_7 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_8 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_9 : Ref sig .tc := ⟨.hbm, 146, rfl⟩
abbrev main_v107 : Ref sig .tc := ⟨.hbm, 147, rfl⟩
abbrev main_v108 : Ref sig .tc := ⟨.hbm, 148, rfl⟩
abbrev main_cst_10 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_11 : Ref sig .tc := ⟨.hbm, 154, rfl⟩
abbrev main_v113 : Ref sig .tc := ⟨.hbm, 155, rfl⟩
abbrev main_v114 : Ref sig .tc := ⟨.hbm, 156, rfl⟩
abbrev main_cst_12 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_13 : Ref sig .tc := ⟨.hbm, 163, rfl⟩
abbrev main_v120 : Ref sig .tc := ⟨.hbm, 164, rfl⟩
abbrev main_v121 : Ref sig .tc := ⟨.hbm, 165, rfl⟩
abbrev main_cst_14 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_15 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩

abbrev nD : Nat := 1
abbrev τ : Topo := Topo.v7x

variable {F : FTy → Type} [FloatOps F]
-- ==== PostRet.lean ====
abbrev S8x4352x1024 : Shape := ⟨3, ![8, 4352, 1024]⟩
abbrev S4x2x8x9x1024 : Shape := ⟨5, ![4, 2, 8, 9, 1024]⟩
abbrev S8x4352x2048 : Shape := ⟨3, ![8, 4352, 2048]⟩
abbrev S2x2048x1024 : Shape := ⟨3, ![2, 2048, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S34816x1024 : Shape := ⟨2, ![34816, 1024]⟩
abbrev S1x256x1024 : Shape := ⟨3, ![1, 256, 1024]⟩
abbrev S1x1x1x9x1024 : Shape := ⟨5, ![1, 1, 1, 9, 1024]⟩
abbrev S1x256x2048 : Shape := ⟨3, ![1, 256, 2048]⟩
abbrev S1x2048x1024 : Shape := ⟨3, ![1, 2048, 1024]⟩
abbrev S1x1x1x1024 : Shape := ⟨4, ![1, 1, 1, 1024]⟩
abbrev S1x1x1024x5632 : Shape := ⟨4, ![1, 1, 1024, 5632]⟩
abbrev S1x1x2816x1024 : Shape := ⟨4, ![1, 1, 2816, 1024]⟩
abbrev S1024x1024 : Shape := ⟨2, ![1024, 1024]⟩
abbrev S256x2048 : Shape := ⟨2, ![256, 2048]⟩
abbrev S9x1024 : Shape := ⟨2, ![9, 1024]⟩
abbrev S256x1024 : Shape := ⟨2, ![256, 1024]⟩
abbrev S1x1024 : Shape := ⟨2, ![1, 1024]⟩
abbrev S2048x1024 : Shape := ⟨2, ![2048, 1024]⟩
abbrev S256 : Shape := ⟨1, ![256]⟩
abbrev S256x1 : Shape := ⟨2, ![256, 1]⟩
abbrev S1024x5632 : Shape := ⟨2, ![1024, 5632]⟩
abbrev S256x5632 : Shape := ⟨2, ![256, 5632]⟩
abbrev S256x2816 : Shape := ⟨2, ![256, 2816]⟩
abbrev S2816x1024 : Shape := ⟨2, ![2816, 1024]⟩

abbrev nBuf : Space → Nat
  | .hbm => 9
  | .vmem => 33
  | .smem => 0
  | _ => 0

abbrev bufTy : (tb : Table) → Fin (tcTables nBuf tb) → BufTy
  | .hbm, ⟨0, _⟩ => ⟨S8x4352x1024, .f32⟩
  | .hbm, ⟨1, _⟩ => ⟨S4x2x8x9x1024, .f32⟩
  | .hbm, ⟨2, _⟩ => ⟨S8x4352x2048, .bf16⟩
  | .hbm, ⟨3, _⟩ => ⟨S2x2048x1024, .bf16⟩
  | .hbm, ⟨4, _⟩ => ⟨S4x2x1024x5632, .bf16⟩
  | .hbm, ⟨5, _⟩ => ⟨S4x2x2816x1024, .bf16⟩
  | .hbm, ⟨6, _⟩ => ⟨S4x3x1x1024, .f32⟩
  | .hbm, ⟨7, _⟩ => ⟨S4x3x1x1024, .f32⟩
  | .hbm, ⟨8, _⟩ => ⟨S34816x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x9x1024, .f32⟩
  | .local _ .vmem, ⟨3, _⟩ => ⟨S1x1x1x9x1024, .f32⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1x9x1024, .f32⟩
  | .local _ .vmem, ⟨9, _⟩ => ⟨S1x1x1x9x1024, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x1x9x1024, .f32⟩
  | .local _ .vmem, ⟨15, _⟩ => ⟨S1x1x1x9x1024, .f32⟩
  | .local _ .vmem, ⟨16, _⟩ => ⟨S1x256x2048, .bf16⟩
  | .local _ .vmem, ⟨17, _⟩ => ⟨S1x256x2048, .bf16⟩
  | .local _ .vmem, ⟨18, _⟩ => ⟨S1x256x1024, .f32⟩
  | .local _ .vmem, ⟨19, _⟩ => ⟨S1x256x1024, .f32⟩
  | .local _ .vmem, ⟨20, _⟩ => ⟨S1x1x1x9x1024, .f32⟩
  | .local _ .vmem, ⟨21, _⟩ => ⟨S1x1x1x9x1024, .f32⟩
  | .local _ .vmem, ⟨22, _⟩ => ⟨S1x256x2048, .bf16⟩
  | .local _ .vmem, ⟨23, _⟩ => ⟨S1x256x2048, .bf16⟩
  | .local _ .vmem, ⟨24, _⟩ => ⟨S1x2048x1024, .bf16⟩
  | .local _ .vmem, ⟨25, _⟩ => ⟨S1x1x1x1024, .f32⟩
  | .local _ .vmem, ⟨26, _⟩ => ⟨S1x1x1x1024, .f32⟩
  | .local _ .vmem, ⟨27, _⟩ => ⟨S1x1x1024x5632, .bf16⟩
  | .local _ .vmem, ⟨28, _⟩ => ⟨S1x1x2816x1024, .bf16⟩
  | .local _ .vmem, ⟨29, _⟩ => ⟨S1x1x1x1024, .f32⟩
  | .local _ .vmem, ⟨30, _⟩ => ⟨S1x1x1x1024, .f32⟩
  | .local _ .vmem, ⟨31, _⟩ => ⟨S1024x1024, .f32⟩
  | .local _ .vmem, ⟨32, _⟩ => ⟨S1024x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_1 (i : grid0.Coords) : Fin 5 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c0_i32_16 : BitVec 32 := 0#32
  let c0_i32_17 : BitVec 32 := 0#32
  let c0_i32_18 : BitVec 32 := 0#32
  let c0_i32_19 : BitVec 32 := 0#32
  ![c0_i32_16.toNat, v32.toNat, v18.toNat, c0_i32_17.toNat, c0_i32_18.toNat]

def cc0_transform_2 (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c17_i32 : BitVec 32 := 17#32
  let v2 : BitVec 32 := Scalar.divsi v1 c17_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c17_i32 c0_i32_2
  let v9 : BitVec 32 := Scalar.extui v8
  let c0_i32_3 : BitVec 32 := 0#32
  let v10 : BitVec 1 := Scalar.cmpi .slt c17_i32 c0_i32_3
  let v11 : BitVec 32 := Scalar.extui v10
  let v12 : BitVec 32 := Scalar.subi v9 v11
  let v13 : BitVec 1 := Scalar.cmpi .ne v7 v12
  let v14 : BitVec 32 := Scalar.remsi v1 c17_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_3 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_4 (i : grid0.Coords) : Fin 5 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let v30 : BitVec 32 := Scalar.addi v29 c0_i32_12
  let c1_i32_13 : BitVec 32 := 1#32
  let v31 : BitVec 1 := Scalar.cmpi .sge v30 c1_i32_13
  let c1_i32_14 : BitVec 32 := 1#32
  let c0_i32_15 : BitVec 32 := 0#32
  let v32 : BitVec 32 := Scalar.select v31 c1_i32_14 c0_i32_15
  let c0_i32_16 : BitVec 32 := 0#32
  let c0_i32_17 : BitVec 32 := 0#32
  let c0_i32_18 : BitVec 32 := 0#32
  let c0_i32_19 : BitVec 32 := 0#32
  ![c0_i32_16.toNat, v32.toNat, v18.toNat, c0_i32_17.toNat, c0_i32_18.toNat]

def cc0_transform_5 (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c17_i32_5 : BitVec 32 := 17#32
  let c0_i32_6 : BitVec 32 := 0#32
  let v19 : BitVec 1 := Scalar.cmpi .eq c17_i32_5 c0_i32_6
  let c1_i32_7 : BitVec 32 := 1#32
  let v20 : BitVec 32 := Scalar.select v19 c1_i32_7 c17_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.addi v28 c0_i32_11
  let c0_i32_12 : BitVec 32 := 0#32
  let c0_i32_13 : BitVec 32 := 0#32
  ![v18.toNat, v29.toNat, c0_i32_12.toNat]

def cc0_transform_6 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_7 (i : grid0.Coords) : Fin 5 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c0_i32_15 : BitVec 32 := 0#32
  let c0_i32_16 : BitVec 32 := 0#32
  let c0_i32_17 : BitVec 32 := 0#32
  let c0_i32_18 : BitVec 32 := 0#32
  ![c0_i32_15.toNat, v32.toNat, v18.toNat, c0_i32_16.toNat, c0_i32_17.toNat]

def cc0_transform_8 (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_9 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_10 (i : grid0.Coords) : Fin 5 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let v30 : BitVec 32 := Scalar.addi v29 c0_i32_11
  let c1_i32_12 : BitVec 32 := 1#32
  let v31 : BitVec 1 := Scalar.cmpi .sge v30 c1_i32_12
  let c1_i32_13 : BitVec 32 := 1#32
  let c0_i32_14 : BitVec 32 := 0#32
  let v32 : BitVec 32 := Scalar.select v31 c1_i32_13 c0_i32_14
  let c0_i32_15 : BitVec 32 := 0#32
  let c0_i32_16 : BitVec 32 := 0#32
  let c0_i32_17 : BitVec 32 := 0#32
  let c0_i32_18 : BitVec 32 := 0#32
  ![c0_i32_15.toNat, v32.toNat, v18.toNat, c0_i32_16.toNat, c0_i32_17.toNat]

def cc0_transform_11 (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c17_i32 : BitVec 32 := 17#32
  let v2 : BitVec 32 := Scalar.divsi v1 c17_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c17_i32 c0_i32_1
  let v9 : BitVec 32 := Scalar.extui v8
  let c0_i32_2 : BitVec 32 := 0#32
  let v10 : BitVec 1 := Scalar.cmpi .slt c17_i32 c0_i32_2
  let v11 : BitVec 32 := Scalar.extui v10
  let v12 : BitVec 32 := Scalar.subi v9 v11
  let v13 : BitVec 1 := Scalar.cmpi .ne v7 v12
  let v14 : BitVec 32 := Scalar.remsi v1 c17_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c17_i32_4 : BitVec 32 := 17#32
  let c0_i32_5 : BitVec 32 := 0#32
  let v19 : BitVec 1 := Scalar.cmpi .eq c17_i32_4 c0_i32_5
  let c1_i32_6 : BitVec 32 := 1#32
  let v20 : BitVec 32 := Scalar.select v19 c1_i32_6 c17_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let v29 : BitVec 32 := Scalar.addi v28 c0_i32_10
  let c0_i32_11 : BitVec 32 := 0#32
  let c0_i32_12 : BitVec 32 := 0#32
  ![v18.toNat, v29.toNat, c0_i32_11.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x9x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== PostRetRefIdeal.lean ====
abbrev S8x4352x1024 : Shape := ⟨3, ![8, 4352, 1024]⟩
abbrev S4x2x8x9x1024 : Shape := ⟨5, ![4, 2, 8, 9, 1024]⟩
abbrev S8x4352x2048 : Shape := ⟨3, ![8, 4352, 2048]⟩
abbrev S2x2048x1024 : Shape := ⟨3, ![2, 2048, 1024]⟩
abbrev S4x2x1024x5632 : Shape := ⟨4, ![4, 2, 1024, 5632]⟩
abbrev S4x2x2816x1024 : Shape := ⟨4, ![4, 2, 2816, 1024]⟩
abbrev S4x3x1x1024 : Shape := ⟨4, ![4, 3, 1, 1024]⟩
abbrev S1x2048x1024 : Shape := ⟨3, ![1, 2048, 1024]⟩
abbrev S2048x1024 : Shape := ⟨2, ![2048, 1024]⟩
abbrev S4352 : Shape := ⟨1, ![4352]⟩
abbrev S_ : Shape := ⟨0, ![]⟩
abbrev S1x4352x1 : Shape := ⟨3, ![1, 4352, 1]⟩
abbrev S1x1x8x1x1024 : Shape := ⟨5, ![1, 1, 8, 1, 1024]⟩
abbrev S8x1024 : Shape := ⟨2, ![8, 1024]⟩
abbrev S8x1x1024 : Shape := ⟨3, ![8, 1, 1024]⟩
abbrev S1x1x1x1024 : Shape := ⟨4, ![1, 1, 1, 1024]⟩
abbrev S1024 : Shape := ⟨1, ![1024]⟩
abbrev S8x4352 : Shape := ⟨2, ![8, 4352]⟩
abbrev S8x4352x1 : Shape := ⟨3, ![8, 4352, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4352x5632 : Shape := ⟨3, ![8, 4352, 5632]⟩
abbrev S8x4352x2816 : Shape := ⟨3, ![8, 4352, 2816]⟩
abbrev S34816x1024 : Shape := ⟨2, ![34816, 1024]⟩

abbrev nBuf : Space → Nat
  | .hbm => 182
  | .vmem => 0
  | .smem => 0
  | _ => 0

abbrev hbmTy0_0 (i : Nat) : BufTy := match i % 128 with
  | 0 => ⟨S8x4352x1024, .f32⟩
  | 1 => ⟨S4x2x8x9x1024, .f32⟩
  | 2 => ⟨S8x4352x2048, .bf16⟩
  | 3 => ⟨S2x2048x1024, .bf16⟩
  | 4 => ⟨S4x2x1024x5632, .bf16⟩
  | 5 => ⟨S4x2x2816x1024, .bf16⟩
  | 6 => ⟨S4x3x1x1024, .f32⟩
  | 7 => ⟨S4x3x1x1024, .f32⟩
  | 8 => ⟨S8x4352x2048, .f32⟩
  | 9 => ⟨S1x2048x1024, .bf16⟩
  | 10 => ⟨S2048x1024, .bf16⟩
  | 11 => ⟨S2048x1024, .f32⟩
  | 12 => ⟨S8x4352x1024, .f32⟩
  | 13 => ⟨S4352, .i32⟩
  | 14 => ⟨S_, .i32⟩
  | 15 => ⟨S4352, .i32⟩
  | 16 => ⟨S4352, .i1⟩
  | 17 => ⟨S1x4352x1, .i1⟩
  | 18 => ⟨S1x1x8x1x1024, .f32⟩
  | 19 => ⟨S8x1024, .f32⟩
  | 20 => ⟨S8x1x1024, .f32⟩
  | 21 => ⟨S1x1x8x1x1024, .f32⟩
  | 22 => ⟨S8x1024, .f32⟩
  | 23 => ⟨S8x1x1024, .f32⟩
  | 24 => ⟨S8x4352x1024, .i1⟩
  | 25 => ⟨S8x4352x1024, .f32⟩
  | 26 => ⟨S8x4352x1024, .f32⟩
  | 27 => ⟨S8x4352x1024, .f32⟩
  | 28 => ⟨S4352, .i32⟩
  | 29 => ⟨S_, .i32⟩
  | 30 => ⟨S4352, .i32⟩
  | 31 => ⟨S4352, .i1⟩
  | 32 => ⟨S1x4352x1, .i1⟩
  | 33 => ⟨S1x1x8x1x1024, .f32⟩
  | 34 => ⟨S8x1024, .f32⟩
  | 35 => ⟨S8x1x1024, .f32⟩
  | 36 => ⟨S1x1x8x1x1024, .f32⟩
  | 37 => ⟨S8x1024, .f32⟩
  | 38 => ⟨S8x1x1024, .f32⟩
  | 39 => ⟨S8x4352x1024, .i1⟩
  | 40 => ⟨S8x4352x1024, .f32⟩
  | 41 => ⟨S8x4352x1024, .f32⟩
  | 42 => ⟨S8x4352x1024, .f32⟩
  | 43 => ⟨S4352, .i32⟩
  | 44 => ⟨S_, .i32⟩
  | 45 => ⟨S4352, .i32⟩
  | 46 => ⟨S4352, .i1⟩
  | 47 => ⟨S1x4352x1, .i1⟩
  | 48 => ⟨S1x1x8x1x1024, .f32⟩
  | 49 => ⟨S8x1024, .f32⟩
  | 50 => ⟨S8x1x1024, .f32⟩
  | 51 => ⟨S1x1x8x1x1024, .f32⟩
  | 52 => ⟨S8x1024, .f32⟩
  | 53 => ⟨S8x1x1024, .f32⟩
  | 54 => ⟨S8x4352x1024, .i1⟩
  | 55 => ⟨S8x4352x1024, .f32⟩
  | 56 => ⟨S8x4352x1024, .f32⟩
  | 57 => ⟨S8x4352x1024, .f32⟩
  | 58 => ⟨S4352, .i32⟩
  | 59 => ⟨S_, .i32⟩
  | 60 => ⟨S4352, .i32⟩
  | 61 => ⟨S4352, .i1⟩
  | 62 => ⟨S1x4352x1, .i1⟩
  | 63 => ⟨S1x1x8x1x1024, .f32⟩
  | 64 => ⟨S8x1024, .f32⟩
  | 65 => ⟨S8x1x1024, .f32⟩
  | 66 => ⟨S1x1x8x1x1024, .f32⟩
  | 67 => ⟨S8x1024, .f32⟩
  | 68 => ⟨S8x1x1024, .f32⟩
  | 69 => ⟨S8x4352x1024, .i1⟩
  | 70 => ⟨S8x4352x1024, .f32⟩
  | 71 => ⟨S8x4352x1024, .f32⟩
  | 72 => ⟨S8x4352x1024, .f32⟩
  | 73 => ⟨S_, .f32⟩
  | 74 => ⟨S8x4352x1024, .f32⟩
  | 75 => ⟨S8x4352x1024, .f32⟩
  | 76 => ⟨S8x4352x1024, .f32⟩
  | 77 => ⟨S8x4352x1024, .f32⟩
  | 78 => ⟨S1x1x1x1024, .f32⟩
  | 79 => ⟨S1024, .f32⟩
  | 80 => ⟨S1x1x1x1024, .f32⟩
  | 81 => ⟨S1024, .f32⟩
  | 82 => ⟨S_, .f32⟩
  | 83 => ⟨S8x4352, .f32⟩
  | 84 => ⟨S8x4352x1, .f32⟩
  | 85 => ⟨S_, .f32⟩
  | 86 => ⟨S8x4352x1, .f32⟩
  | 87 => ⟨S8x4352x1, .f32⟩
  | 88 => ⟨S8x4352x1024, .f32⟩
  | 89 => ⟨S8x4352x1024, .f32⟩
  | 90 => ⟨S8x4352x1024, .f32⟩
  | 91 => ⟨S_, .f32⟩
  | 92 => ⟨S8x4352, .f32⟩
  | 93 => ⟨S8x4352x1, .f32⟩
  | 94 => ⟨S_, .f32⟩
  | 95 => ⟨S8x4352x1, .f32⟩
  | 96 => ⟨S8x4352x1, .f32⟩
  | 97 => ⟨S8x4352x1024, .f32⟩
  | 98 => ⟨S8x4352x1024, .f32⟩
  | 99 => ⟨S_, .f32⟩
  | 100 => ⟨S8x4352x1, .f32⟩
  | 101 => ⟨S8x4352x1, .f32⟩
  | 102 => ⟨S8x4352x1, .f32⟩
  | 103 => ⟨S8x4352x1024, .f32⟩
  | 104 => ⟨S8x4352x1024, .f32⟩
  | 105 => ⟨S1x1x1024, .f32⟩
  | 106 => ⟨S8x4352x1024, .f32⟩
  | 107 => ⟨S8x4352x1024, .f32⟩
  | 108 => ⟨S1x1x1024, .f32⟩
  | 109 => ⟨S8x4352x1024, .f32⟩
  | 110 => ⟨S8x4352x1024, .f32⟩
  | 111 => ⟨S1x1x1024x5632, .bf16⟩
  | 112 => ⟨S1024x5632, .bf16⟩
  | 113 => ⟨S1x1x2816x1024, .bf16⟩
  | 114 => ⟨S2816x1024, .bf16⟩
  | 115 => ⟨S1x1x1x1024, .f32⟩
  | 116 => ⟨S1024, .f32⟩
  | 117 => ⟨S1x1x1x1024, .f32⟩
  | 118 => ⟨S1024, .f32⟩
  | 119 => ⟨S_, .f32⟩
  | 120 => ⟨S8x4352x1024, .f32⟩
  | 121 => ⟨S8x4352x1024, .f32⟩
  | 122 => ⟨S8x4352x1024, .f32⟩
  | 123 => ⟨S8x4352x1024, .f32⟩
  | 124 => ⟨S8x4352x1024, .bf16⟩
  | 125 => ⟨S8x4352x1024, .f32⟩
  | 126 => ⟨S1024x5632, .f32⟩
  | 127 => ⟨S8x4352x5632, .f32⟩
  | _ => ⟨S8x4352x1024, .f32⟩

abbrev hbmTy0_1 (i : Nat) : BufTy := match i % 128 with
  | 0 => ⟨S8x4352x2816, .f32⟩
  | 1 => ⟨S8x4352x2816, .f32⟩
  | 2 => ⟨S8x4352x2816, .f32⟩
  | 3 => ⟨S_, .f32⟩
  | 4 => ⟨S8x4352x2816, .f32⟩
  | 5 => ⟨S8x4352x2816, .f32⟩
  | 6 => ⟨S_, .f32⟩
  | 7 => ⟨S8x4352x2816, .f32⟩
  | 8 => ⟨S8x4352x2816, .f32⟩
  | 9 => ⟨S8x4352x2816, .f32⟩
  | 10 => ⟨S8x4352x2816, .f32⟩
  | 11 => ⟨S8x4352x2816, .f32⟩
  | 12 => ⟨S8x4352x2816, .bf16⟩
  | 13 => ⟨S8x4352x2816, .f32⟩
  | 14 => ⟨S2816x1024, .f32⟩
  | 15 => ⟨S8x4352x1024, .f32⟩
  | 16 => ⟨S_, .f32⟩
  | 17 => ⟨S8x4352x1024, .f32⟩
  | 18 => ⟨S8x4352x1024, .f32⟩
  | 19 => ⟨S_, .f32⟩
  | 20 => ⟨S8x4352x1024, .f32⟩
  | 21 => ⟨S8x4352x1024, .f32⟩
  | 22 => ⟨S8x4352x1024, .f32⟩
  | 23 => ⟨S8x4352x1024, .f32⟩
  | 24 => ⟨S_, .f32⟩
  | 25 => ⟨S8x4352, .f32⟩
  | 26 => ⟨S8x4352x1, .f32⟩
  | 27 => ⟨S_, .f32⟩
  | 28 => ⟨S8x4352x1, .f32⟩
  | 29 => ⟨S8x4352x1, .f32⟩
  | 30 => ⟨S8x4352x1024, .f32⟩
  | 31 => ⟨S8x4352x1024, .f32⟩
  | 32 => ⟨S8x4352x1024, .f32⟩
  | 33 => ⟨S_, .f32⟩
  | 34 => ⟨S8x4352, .f32⟩
  | 35 => ⟨S8x4352x1, .f32⟩
  | 36 => ⟨S_, .f32⟩
  | 37 => ⟨S8x4352x1, .f32⟩
  | 38 => ⟨S8x4352x1, .f32⟩
  | 39 => ⟨S8x4352x1024, .f32⟩
  | 40 => ⟨S8x4352x1024, .f32⟩
  | 41 => ⟨S_, .f32⟩
  | 42 => ⟨S8x4352x1, .f32⟩
  | 43 => ⟨S8x4352x1, .f32⟩
  | 44 => ⟨S8x4352x1, .f32⟩
  | 45 => ⟨S8x4352x1024, .f32⟩
  | 46 => ⟨S8x4352x1024, .f32⟩
  | 47 => ⟨S1x1x1024, .f32⟩
  | 48 => ⟨S8x4352x1024, .f32⟩
  | 49 => ⟨S8x4352x1024, .f32⟩
  | 50 => ⟨S1x1x1024, .f32⟩
  | 51 => ⟨S8x4352x1024, .f32⟩
  | 52 => ⟨S8x4352x1024, .f32⟩
  | 53 => ⟨S34816x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v37 : Ref sig .tc := ⟨.hbm, 57, rfl⟩
abbrev main_v38 : Ref sig .tc := ⟨.hbm, 58, rfl⟩
abbrev main_c_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v48 : Ref sig .tc := ⟨.hbm, 72, rfl⟩
abbrev main_cst : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_3 : Ref sig .tc := ⟨.hbm, 82, rfl⟩
abbrev main_v57 : Ref sig .tc := ⟨.hbm, 83, rfl⟩
abbrev main_v58 : Ref sig .tc := ⟨.hbm, 84, rfl⟩
abbrev main_cst_4 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_5 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_8 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_9 : Ref sig .tc := ⟨.hbm, 144, rfl⟩
abbrev main_v105 : Ref sig .tc := ⟨.hbm, 145, rfl⟩
abbrev main_v106 : Ref sig .tc := ⟨.hbm, 146, rfl⟩
abbrev main_cst_10 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_11 : Ref sig .tc := ⟨.hbm, 152, rfl⟩
abbrev main_v111 : Ref sig .tc := ⟨.hbm, 153, rfl⟩
abbrev main_v112 : Ref sig .tc := ⟨.hbm, 154, rfl⟩
abbrev main_cst_12 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_13 : Ref sig .tc := ⟨.hbm, 161, rfl⟩
abbrev main_v118 : Ref sig .tc := ⟨.hbm, 162, rfl⟩
abbrev main_v119 : Ref sig .tc := ⟨.hbm, 163, rfl⟩
abbrev main_cst_14 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_15 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩

abbrev nD : Nat := 1
abbrev τ : Topo := Topo.v7x

variable {F : FTy → Type} [FloatOps F]
-- ==== Proof.Row.lean ====
/- The layer's row mathematics over the extended reals: what one token's row goes through in a layer
   normalisation and in a half feed-forward block.  The kernels' tiles and the references' whole arrays are both
   read at one element and shown to be these functions of that token's row. -/
module

public import Idealize.ShloMosaic.PureOps.Ideal

@[expose] public section

noncomputable section

namespace Cert.Row

open Idealize.ShloMosaic

/-- Layer normalisation of the row `z`, read at lane `j`: centred, divided by the root of the variance plus a small
    constant, scaled by `g` and shifted by `b`. -/
def layerNorm (z : Fin 1024 → EReal) (g b : EReal) (j : Fin 1024) : EReal :=
  (z j - Ideal.div (∑ x, z x) (Ideal.ofBits FTy.f32 0x44800000#32)) *
      Ideal.rsqrt (Ideal.div (∑ x, (z x - Ideal.div (∑ x, z x) (Ideal.ofBits FTy.f32 0x44800000#32)) *
          (z x - Ideal.div (∑ x, z x) (Ideal.ofBits FTy.f32 0x44800000#32))) (Ideal.ofBits FTy.f32 0x44800000#32) +
        Ideal.ofBits FTy.f32 0x3727C5AC#32) * g + b

/-- One lane of the first matrix product: the modulated row against one column `w` of the weights. -/
def gateUp (h shift scale w : Fin 1024 → EReal) : EReal := ∑ x, (h x * (1 + scale x) + shift x) * w x

/-- `silu a * u`, with the logistic function spelt out. -/
def swish (a u : EReal) : EReal := a * Ideal.div 1 (1 + Ideal.exp (-a)) * u

/-- `silu a` alone. -/
def silu (a : EReal) : EReal := a * Ideal.div 1 (1 + Ideal.exp (-a))

/-- The activation of the half block at hidden lane `f`. -/
def ffnAct (h shift scale : Fin 1024 → EReal) (w : Fin 1024 → Fin 5632 → EReal) (f : Fin 2816) : EReal :=
  swish (gateUp h shift scale fun x => w x ⟨f, by omega⟩) (gateUp h shift scale fun x => w x ⟨2816 + f, by omega⟩)

/-- The half block's residual sum before normalisation, at lane `j`. -/
def ffnSum (h shift scale gate : Fin 1024 → EReal) (w : Fin 1024 → Fin 5632 → EReal)
    (wo : Fin 2816 → Fin 1024 → EReal) (j : Fin 1024) : EReal :=
  Ideal.ofBits FTy.f32 0x3FD744FD#32 * h j +
    gate j * (Ideal.ofBits FTy.f32 0x3F000000#32 * ∑ f, ffnAct h shift scale w f * wo f j)

/-- The half feed-forward block of one token: modulation, gated product, projection, residual, normalisation. -/
def halfFfn (h shift scale gate : Fin 1024 → EReal) (w : Fin 1024 → Fin 5632 → EReal)
    (wo : Fin 2816 → Fin 1024 → EReal) (g b : Fin 1024 → EReal) (j : Fin 1024) : EReal :=
  layerNorm (ffnSum h shift scale gate w wo) (g j) (b j) j

/-- The residual sum of the mixer's output projection before normalisation, at lane `j`. -/
def mixSum {K : ℕ} (h gate : Fin 1024 → EReal) (a : Fin K → EReal) (w : Fin K → Fin 1024 → EReal) (j : Fin 1024) : EReal :=
  Ideal.ofBits FTy.f32 0x3FD744FD#32 * h j + gate j * ∑ k, a k * w k j

/-- The mixer's output projection of one token: projection, residual, normalisation. -/
def mixNorm {K : ℕ} (h gate : Fin 1024 → EReal) (a : Fin K → EReal) (w : Fin K → Fin 1024 → EReal)
    (g b : Fin 1024 → EReal) (j : Fin 1024) : EReal :=
  layerNorm (mixSum h gate a w) (g j) (b j) j

/-- The lane 64 away within the same 128 lanes. -/
def opposite (q : Fin 1024) : Fin 1024 := ⟨q.val / 128 * 128 + (q.val + 64) % 128, by omega⟩

/-- A counted number as a value. -/
def pos (n : ℕ) : EReal := FloatOps.sitofp (F := Ideal) FTy.f32 (BitVec.ofNat 32 n)

/-- The rotary frequency of lane pair `i`. -/
def freq (i : ℕ) : EReal :=
  Ideal.pow (Ideal.ofBits FTy.f32 0x461C4000#32)
    (Ideal.div (-(Ideal.ofBits FTy.f32 0x40000000#32 * pos i)) (Ideal.ofBits FTy.f32 0x43000000#32))

/-- The angle of grid token `t` at lane `l` of a head: the first 128 lanes turn by the grid's row, the others by its column. -/
def angle (t l : ℕ) : EReal := if l < 128 then pos (t / 64) * freq (l % 64) else pos (t % 64) * freq (l % 64)

/-- The cosine at place `n` of a sequence: the 256 context tokens are not turned. -/
def cosT (n l : ℕ) : EReal := if n < 256 then 1 else Ideal.cos (angle (n - 256) l)

/-- The signed sine at place `n`: the lower 64 lanes of every 128 take the negative. -/
def sinT (n l : ℕ) : EReal :=
  if n < 256 then 0 else if l % 128 < 64 then -Ideal.sin (angle (n - 256) l) else Ideal.sin (angle (n - 256) l)

/-- The rotary embedding of four heads of 256 lanes laid side by side, at lane `q`. -/
def rotary (p : Fin 1024 → EReal) (n : ℕ) (q : Fin 1024) : EReal :=
  p q * cosT n (q.val % 256) + p (opposite q) * sinT n (q.val % 256)

/-- The tanh form of the Gaussian error unit. -/
def gelu (a : EReal) : EReal :=
  Ideal.ofBits FTy.f32 0x3F000000#32 * a * (1 + Ideal.tanh (Ideal.ofBits FTy.f32 0x3F4C422A#32 *
    (a + Ideal.ofBits FTy.f32 0x3D372713#32 * (a * a * a))))

end Cert.Row

end
-- ==== Proof.FfnTile.lean ====
/- One tile of the feed-forward kernel: each of the four tiles a grid point stores is the half feed-forward block of
   its own rows. -/
module

public import proofs.«01_k».proof.Proof.Row
public import proofs.«01_k».proof.Proof.Gen.FfnIdeal.Value
public import Idealize.ShloMosaic.Lib.Pipeline.ValueKit
public import Idealize.ShloMosaic.Lib.Pointwise.Tactic
public import Idealize.ShloMosaic.Lib.ValueIdxCore

@[expose] public section

set_option maxRecDepth 16384

noncomputable section

namespace Cert.FfnIdeal.Hand

open Cert.FfnIdeal Cert.FfnIdeal.Gen Idealize.ShloMosaic Idealize.ShloMosaic.TcCoe Idealize.SL.Sem Cert.Row

/-- One tile from its blocks: 256 rows `h`, their modulation rows `d`, the weights and the normalisation's parameters. -/
def tile (h : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) : FVec Ideal S256x1024 .f32 :=
  k0_pay6 (k0_pay1 h) (k0_pay2 d) (k0_pay3 g) (k0_pay4 b) (k0_pay5 h d w) wo

/-- The activation tile at an element. -/
theorem act_at (h : Vec Ideal S1x256x1024 .f32) (d : Vec Ideal S1x1x1x9x1024 .f32) (w : Vec Ideal S1x1x1024x5632 .bf16)
    (r : Fin 256) (f : Fin 2816) : k0_pay5 h d w (ix2 r f)
      = ffnAct (fun x => h (ix3 0 r x)) (fun x => d (ix5 0 0 0 0 x)) (fun x => d (ix5 0 0 0 1 x)) (fun x k => w (ix4 0 0 x k)) f := by
  unfold k0_pay5 k0_pay1 k0_pay2 ffnAct swish gateUp
  simp only [← zero_sub]
  pointwise

/-- What follows the activation, at an element. -/
theorem sum_at (h : FVec Ideal S256x1024 .f32) (d : FVec Ideal S9x1024 .f32) (g b : FVec Ideal S1x1024 .f32)
    (a : FVec Ideal S256x2816 .bf16) (wo : Vec Ideal S1x1x2816x1024 .bf16) (r : Fin 256) (j : Fin 1024) :
    k0_pay6 h d g b a wo (ix2 r j)
      = layerNorm (fun j => Ideal.ofBits FTy.f32 0x3FD744FD#32 * h (ix2 r j) +
          d (ix2 2 j) * (Ideal.ofBits FTy.f32 0x3F000000#32 * ∑ f, a (ix2 r f) * wo (ix4 0 0 f j))) (g (ix2 0 j)) (b (ix2 0 j)) j := by
  unfold k0_pay6 layerNorm
  pointwise

/-- A tile's element is the half feed-forward block of that element's row. -/
theorem tile_at (h : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) (r : Fin 256) (j : Fin 1024) :
    tile h d w wo g b (ix2 r j)
      = halfFfn (fun x => h (ix3 0 r x)) (fun x => d (ix5 0 0 0 0 x)) (fun x => d (ix5 0 0 0 1 x)) (fun x => d (ix5 0 0 0 2 x))
          (fun x k => w (ix4 0 0 x k)) (fun f x => wo (ix4 0 0 f x)) (fun x => g (ix4 0 0 0 x)) (fun x => b (ix4 0 0 0 x)) j := by
  refine (sum_at _ _ _ _ _ _ r j).trans ?_
  unfold halfFfn ffnSum
  simp only [act_at]
  unfold k0_pay1 k0_pay2 k0_pay3 k0_pay4
  congr 1
  · funext x
    pointwise
  · pointwise
  · pointwise

/-- The second tile's payload is the first's of the second blocks. -/
theorem tile1 (h : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) :
    k0_pay12 (k0_pay9 g) (k0_pay10 b) (k0_pay11 (k0_pay7 h) (k0_pay8 d) w wo) = tile h d w wo g b := rfl

/-- The third tile's. -/
theorem tile2 (h : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) :
    k0_pay21 (k0_pay15 g) (k0_pay16 b) (k0_pay19 (k0_pay13 h) (k0_pay14 d) (k0_pay17 h d) (k0_pay18 d) w wo)
      (k0_pay20 (k0_pay13 h) (k0_pay14 d) (k0_pay17 h d) (k0_pay18 d) w wo) (Scalar.ofBits .f32 0x3727C5AC#32) = tile h d w wo g b := rfl

/-- The fourth tile's. -/
theorem tile3 (h : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) :
    k0_pay29 (k0_pay22 h) (k0_pay23 d) (k0_pay24 g) (k0_pay25 b) (k0_pay26 h d w) (k0_pay27 h d w) (k0_pay28 h d w) wo
      = tile h d w wo g b := rfl

end Cert.FfnIdeal.Hand

end
-- ==== Proof.Tokens.lean ====
/- What the token kernels share: which argument elements a tile of 256 tokens holds, the modulation rows of a token, and
   the modulated product of a token by input weights, for every layer and every width. -/
module

public import proofs.«01_k».proof.Proof.Row
public import Idealize.ShloMosaic.Lib.Pipeline.ValueKit
public import Idealize.ShloMosaic.Lib.Pointwise.Tactic
public import Idealize.ShloMosaic.Lib.ValueIdxCore
public import Idealize.ShloMosaic.Lib.WordCmp

@[expose] public section

noncomputable section

namespace Cert.Tokens

open Idealize.ShloMosaic Cert.Row

/-- Eight sequences of 4352 tokens. -/
abbrev Seqs : Shape := ⟨3, ![8, 4352, 1024]⟩
/-- The modulation rows of four layers, two sets, eight sequences. -/
abbrev Mods : Shape := ⟨5, ![4, 2, 8, 9, 1024]⟩

/-- One modulation row of every sequence, as cut out. -/
abbrev Cut : Shape := ⟨5, ![1, 1, 8, 1, 1024]⟩
/-- One modulation row of every sequence. -/
abbrev Rows : Shape := ⟨2, ![8, 1024]⟩

/-- Modulation row `p` of layer `ℓ` for the token in place `n` of sequence `b`: the first 256 tokens take the first set,
    the others the second. -/
def modRow (D : Vec Ideal Mods .f32) (ℓ : Fin 4) (b : Fin 8) (n : ℕ) (p : Fin 9) (x : Fin 1024) : EReal :=
  if n < 256 then D (ix5 ℓ 0 b p x) else D (ix5 ℓ 1 b p x)

/-- The choice between two values by a token's place, as words compare it. -/
theorem select_lt (n : ℕ) (hn : n < 4352) (a b : EReal) :
    Scalar.select (IntOp.cmpi .slt (BitVec.ofNat 32 n) 256#32) a b = if n < 256 then a else b := by
  have h : IntOp.cmpi .slt (BitVec.ofNat 32 n) (BitVec.ofNat 32 256) = 1 ↔ n < 256 :=
    WordCmp.cmpi_slt_ofNat_eq_one_iff (by omega) (by omega)
  unfold Scalar.select
  exact if_congr h rfl rfl

/-- The product of token `n` (of the 8 sequences laid end to end) with column `f` of the `k`-th weights, in layer `ℓ`. -/
def product {K F : ℕ} (ℓ : Fin 4) (k : Fin K) (H : Vec Ideal Seqs .f32) (D : Vec Ideal Mods .f32)
    (W : Vec Ideal ⟨3, ![K, 1024, F]⟩ .bf16) (n : Fin 34816) (f : Fin F) : EReal :=
  have hn : n.val / 4352 < 8 := by omega
  have ht : n.val % 4352 < 4352 := by omega
  gateUp (fun x => H (ix3 ⟨n.val / 4352, hn⟩ ⟨n.val % 4352, ht⟩ x)) (modRow D ℓ ⟨n.val / 4352, hn⟩ (n.val % 4352) 3)
    (modRow D ℓ ⟨n.val / 4352, hn⟩ (n.val % 4352) 4) (fun x => W (ix3 k x f))

/-- The blocks `h`, `d` are the rows and the modulation rows of tile `q` of the sequences in layer `ℓ`. -/
structure IsTile (H : Vec Ideal Seqs .f32) (D : Vec Ideal Mods .f32) (ℓ : Fin 4) (q : ℕ) (hq : q < 136)
    (h : Vec Ideal ⟨3, ![1, 256, 1024]⟩ .f32) (d : Vec Ideal ⟨5, ![1, 1, 1, 9, 1024]⟩ .f32) : Prop where
  rows : ∀ r x, h (ix3 0 r x) = H (ix3 ⟨q / 17, by omega⟩ ⟨q % 17 * 256 + r.val, by omega⟩ x)
  mods : ∀ p x, d (ix5 0 0 0 p x) = D (ix5 ℓ ⟨if q % 17 < 1 then 0 else 1, by split <;> omega⟩ ⟨q / 17, by omega⟩ p x)

section
variable {H : Vec Ideal Seqs .f32} {D : Vec Ideal Mods .f32} {ℓ : Fin 4} {q : ℕ} {hq : q < 136}
  {h : Vec Ideal ⟨3, ![1, 256, 1024]⟩ .f32} {d : Vec Ideal ⟨5, ![1, 1, 1, 9, 1024]⟩ .f32}

/-- A tile's row, by its token. -/
theorem IsTile.row (T : IsTile H D ℓ q hq h d) (r : Fin 256) (n : Fin 34816) (hn : n.val = 256 * q + r.val)
    (hb : n.val / 4352 < 8) (ht : n.val % 4352 < 4352) (x : Fin 1024) : h (ix3 0 r x) = H (ix3 ⟨n.val / 4352, hb⟩ ⟨n.val % 4352, ht⟩ x) := by
  have e1 : n.val / 4352 = q / 17 := by omega
  have e2 : n.val % 4352 = q % 17 * 256 + r.val := by omega
  simp only [T.rows, e1, e2]

/-- A tile's modulation row, by any of its tokens. -/
theorem IsTile.mod (T : IsTile H D ℓ q hq h d) (r : Fin 256) (n : Fin 34816) (hn : n.val = 256 * q + r.val)
    (hb : n.val / 4352 < 8) (p : Fin 9) (x : Fin 1024) : d (ix5 0 0 0 p x) = modRow D ℓ ⟨n.val / 4352, hb⟩ (n.val % 4352) p x := by
  have e1 : n.val / 4352 = q / 17 := by omega
  rw [T.mods]
  unfold modRow
  by_cases h0 : q % 17 < 1
  · simp only [if_pos h0, e1, if_pos (show n.val % 4352 < 256 by omega)]
    rfl
  · simp only [if_neg h0, e1, if_neg (show ¬ n.val % 4352 < 256 by omega)]
    rfl

/-- What a tile multiplies out, at an element, is the product at that element's token. -/
theorem IsTile.product {K F : ℕ} (T : IsTile H D ℓ q hq h d) (k : Fin K) (W : Vec Ideal ⟨3, ![K, 1024, F]⟩ .bf16)
    (w : Vec Ideal ⟨3, ![1, 1024, F]⟩ .bf16) (hw : ∀ x f, w (ix3 0 x f) = W (ix3 k x f)) (r : Fin 256) (f : Fin F)
    (n : Fin 34816) (hn : n.val = 256 * q + r.val) :
    gateUp (fun x => h (ix3 0 r x)) (fun x => d (ix5 0 0 0 3 x)) (fun x => d (ix5 0 0 0 4 x)) (fun x => w (ix3 0 x f))
      = Cert.Tokens.product ℓ k H D W n f := by
  unfold Cert.Tokens.product
  simp only [T.row r n hn (by omega) (by omega), T.mod r n hn (by omega), hw]
end

/-- The 256 context tokens of every sequence. -/
abbrev Context : Shape := ⟨3, ![8, 256, 1024]⟩
/-- The other 4096 tokens of every sequence. -/
abbrev Latent : Shape := ⟨3, ![8, 4096, 1024]⟩

/-- The sequences, the context tokens first. -/
def joined (C : Vec Ideal Context .f32) (L : Vec Ideal Latent .f32) : Vec Ideal Seqs .f32 := fun i =>
  have hi : (i 1).val < 4352 := (i 1).isLt
  if h : (i 1).val < 256 then C (ix3 (i 0) ⟨(i 1).val, h⟩ (i 2)) else L (ix3 (i 0) ⟨(i 1).val - 256, by omega⟩ (i 2))

/-! The references' arrays of modulation rows and modulated rows, at an element. -/

/-- Modulation rows `p` of layer `ℓ` for every token, chosen between the two sets by the token's place. -/
def chosen (D : Vec Ideal Mods .f32) (ℓ p : ℕ) (h0 : Mods.Slices ![ℓ, 0, 0, p, 0] Cut) (h1 : Mods.Slices ![ℓ, 1, 0, p, 0] Cut) : FVec Ideal Seqs .f32 :=
  select (broadcastInDim Seqs ![0, 1, 2] (by decide) (broadcastInDim ⟨3, ![1, 4352, 1]⟩ ![1] (by decide)
      (cmpi .slt (iotaInDim ⟨1, ![4352]⟩ 32 0) (broadcastInDim ⟨1, ![4352]⟩ ![] (by decide) (constantI ⟨0, ![]⟩ 32 256#32)))))
    (broadcastInDim Seqs ![0, 1, 2] (by decide) (broadcastInDim ⟨3, ![8, 1, 1024]⟩ ![0, 2] (by decide)
      (shapeCast Rows (extractStridedSlice Cut ![ℓ, 0, 0, p, 0] D h0) (by decide))))
    (broadcastInDim Seqs ![0, 1, 2] (by decide) (broadcastInDim ⟨3, ![8, 1, 1024]⟩ ![0, 2] (by decide)
      (shapeCast Rows (extractStridedSlice Cut ![ℓ, 1, 0, p, 0] D h1) (by decide))))

/-- The chosen rows at an element. -/
theorem chosen_at (D : Vec Ideal Mods .f32) (ℓ p : ℕ) (hℓ : ℓ < 4) (hp : p < 9) (h0 : Mods.Slices ![ℓ, 0, 0, p, 0] Cut)
    (h1 : Mods.Slices ![ℓ, 1, 0, p, 0] Cut) (b : Fin 8) (v : Fin 4352) (x : Fin 1024) :
    chosen D ℓ p h0 h1 (ix3 b v x) = modRow D ⟨ℓ, hℓ⟩ b v.val ⟨p, hp⟩ x := by
  unfold chosen modRow
  rw [← select_lt v.val v.isLt]
  pointwise

/-- Every token's row modulated by scale rows `S` and shift rows `T`, rounded and read back. -/
def modulated (H S T : FVec Ideal Seqs .f32) : FVec Ideal Seqs .f32 :=
  extf .f32 (truncf .bf16 (addf (mulf H (addf (broadcastInDim Seqs ![] (by decide) (constant ⟨0, ![]⟩ .f32 0x3F800000#32)) S)) T)
    (by decide)) (by decide)

/-- The modulated rows at an element. -/
theorem modulated_at (H S T : FVec Ideal Seqs .f32) (b : Fin 8) (v : Fin 4352) (x : Fin 1024) :
    modulated H S T (ix3 b v x) = H (ix3 b v x) * (1 + S (ix3 b v x)) + T (ix3 b v x) := by
  unfold modulated
  pointwise

/-- The modulated rows' product with a column is the token's product, in any layer and of any width. -/
theorem product_eq {K F : ℕ} (ℓ : ℕ) (hℓ : ℓ < 4) (k : Fin K) (H : Vec Ideal Seqs .f32) (D : Vec Ideal Mods .f32) (W : Vec Ideal ⟨3, ![K, 1024, F]⟩ .bf16)
    (w : Fin 1024 → Fin F → EReal) (hw : ∀ x f, w x f = W (ix3 k x f)) (s0 : Mods.Slices ![ℓ, 0, 0, 4, 0] Cut) (s1 : Mods.Slices ![ℓ, 1, 0, 4, 0] Cut)
    (t0 : Mods.Slices ![ℓ, 0, 0, 3, 0] Cut) (t1 : Mods.Slices ![ℓ, 1, 0, 3, 0] Cut) (n : Fin 34816) (hb : n.val / 4352 < 8)
    (ht : n.val % 4352 < 4352) (f : Fin F) :
    ∑ x, modulated H (chosen D ℓ 4 s0 s1) (chosen D ℓ 3 t0 t1) (ix3 ⟨n.val / 4352, hb⟩ ⟨n.val % 4352, ht⟩ x) * w x f
      = product ⟨ℓ, hℓ⟩ k H D W n f := by
  unfold product gateUp
  refine Finset.sum_congr rfl fun x _ => ?_
  rw [modulated_at, chosen_at D ℓ 4 hℓ (by omega), chosen_at D ℓ 3 hℓ (by omega), hw]
  rfl

end Cert.Tokens

end
-- ==== Proof.FfnValue.lean ====
/- The feed-forward kernel's result array: every element is the half feed-forward block of its token's row. -/
module

public import proofs.«01_k».proof.Proof.FfnTile
public import proofs.«01_k».proof.Proof.Tokens

@[expose] public section

set_option maxRecDepth 16384

noncomputable section

namespace Cert.FfnIdeal.Hand

open Cert.FfnIdeal Cert.FfnIdeal.Gen Idealize.ShloMosaic Idealize.ShloMosaic.TcCoe Idealize.SL.Sem Cert.Row Cert.Tokens
open Idealize.ShloMosaic.Pipeline (Dat)

/-- The whole result of layer `ℓ` from the argument arrays: token `n` (of the 8 sequences of 4352 laid end to end) at lane `j`.  The
    first 256 tokens of a sequence take the first set of modulation rows, the others the second. -/
def ffnOut (ℓ : Fin 4) (h : Vec Ideal S8x4352x1024 .f32) (d : Vec Ideal S4x2x8x9x1024 .f32) (w : Vec Ideal S4x2x1024x5632 .bf16)
    (wo : Vec Ideal S4x2x2816x1024 .bf16) (g b : Vec Ideal S4x3x1x1024 .f32) (n : Fin 34816) (j : Fin 1024) : EReal :=
  have hn : n.val / 4352 < 8 := by omega
  have ht : n.val % 4352 < 4352 := by omega
  halfFfn (fun x => h (ix3 ⟨n.val / 4352, hn⟩ ⟨n.val % 4352, ht⟩ x)) (modRow d ℓ ⟨n.val / 4352, hn⟩ (n.val % 4352) 0)
    (modRow d ℓ ⟨n.val / 4352, hn⟩ (n.val % 4352) 1) (modRow d ℓ ⟨n.val / 4352, hn⟩ (n.val % 4352) 2)
    (fun x k => w (ix4 ℓ 0 x k)) (fun f x => wo (ix4 ℓ 0 f x))
    (fun x => g (ix4 ℓ 0 0 x)) (fun x => b (ix4 ℓ 0 0 x)) j

variable (m : (ℓ : Loc nD τ sig) → Buf (Elt Ideal) ℓ)

/-- The index maps of the windows over the whole grid: tile `4t + k` of the sequence. -/
theorem idx : ∀ t : Fin cfg0.N,
    win0_0.index t = ![(4 * t.val + 0) / 17, (4 * t.val + 0) % 17, 0] ∧ win0_1.index t = ![(4 * t.val + 1) / 17, (4 * t.val + 1) % 17, 0]
    ∧ win0_2.index t = ![(4 * t.val + 2) / 17, (4 * t.val + 2) % 17, 0] ∧ win0_3.index t = ![(4 * t.val + 3) / 17, (4 * t.val + 3) % 17, 0]
    ∧ win0_4.index t = ![1, if (4 * t.val + 0) % 17 < 1 then 0 else 1, (4 * t.val + 0) / 17, 0, 0]
    ∧ win0_5.index t = ![1, if (4 * t.val + 1) % 17 < 1 then 0 else 1, (4 * t.val + 1) / 17, 0, 0]
    ∧ win0_6.index t = ![1, if (4 * t.val + 2) % 17 < 1 then 0 else 1, (4 * t.val + 2) / 17, 0, 0]
    ∧ win0_7.index t = ![1, if (4 * t.val + 3) % 17 < 1 then 0 else 1, (4 * t.val + 3) / 17, 0, 0]
    ∧ win0_8.index t = ![1, 0, 0, 0] ∧ win0_9.index t = ![1, 0, 0, 0] ∧ win0_10.index t = ![1, 0, 0, 0] ∧ win0_11.index t = ![1, 0, 0, 0]
    ∧ win0_12.index t = ![t.val, 0] :=
  (by decide +kernel : ∀ t : Fin grid0.N, _)

/-! A load of a whole block is the block. -/

/-- A load of the whole row block is the block. -/
theorem ld_r0_0 (X : Vec Ideal S1x256x1024 .f32) : View.ld X r0_0 = X := View.ld_unit_lit _ X (by decide)
/-- A load of the whole modulation block is the block. -/
theorem ld_r0_1 (X : Vec Ideal S1x1x1x9x1024 .f32) : View.ld X r0_1 = X := View.ld_unit_lit _ X (by decide)
/-- A load of the whole layer-norm block is the block. -/
theorem ld_r0_2 (X : Vec Ideal S1x1x1x1024 .f32) : View.ld X r0_2 = X := View.ld_unit_lit _ X (by decide)
/-- A load of the whole first weight block is the block. -/
theorem ld_r0_3 (X : Vec Ideal S1x1x1024x5632 .bf16) : View.ld X r0_3 = X := View.ld_unit_lit _ X (by decide)
/-- A load of the whole second weight block is the block. -/
theorem ld_r0_4 (X : Vec Ideal S1x1x2816x1024 .bf16) : View.ld X r0_4 = X := View.ld_unit_lit _ X (by decide)

set_option maxHeartbeats 1600000 in
/-- The row and modulation blocks of a point are its four tiles'. -/
theorem tiles (c : Dev nD) (t : Fin cfg0.N) (ht : t.val < 34) :
    IsTile (m ((c : Thread nD τ).loc main_arg0)) (m ((c : Thread nD τ).loc main_arg1)) 1 (4 * t.val + 0) (by omega) (View.ld (iblk m c 0 t) r0_0) (View.ld (iblk m c 4 t) r0_1)
    ∧ IsTile (m ((c : Thread nD τ).loc main_arg0)) (m ((c : Thread nD τ).loc main_arg1)) 1 (4 * t.val + 1) (by omega) (View.ld (iblk m c 1 t) r0_0) (View.ld (iblk m c 5 t) r0_1)
    ∧ IsTile (m ((c : Thread nD τ).loc main_arg0)) (m ((c : Thread nD τ).loc main_arg1)) 1 (4 * t.val + 2) (by omega) (View.ld (iblk m c 2 t) r0_0) (View.ld (iblk m c 6 t) r0_1)
    ∧ IsTile (m ((c : Thread nD τ).loc main_arg0)) (m ((c : Thread nD τ).loc main_arg1)) 1 (4 * t.val + 3) (by omega) (View.ld (iblk m c 3 t) r0_0) (View.ld (iblk m c 7 t) r0_1) := by
  refine ⟨?_, ?_, ?_, ?_⟩ <;>
    exact ⟨fun r x => (congrFun (ld_r0_0 _) _).trans (by blk_ext [iblk, V, idx t]),
      fun p x => (congrFun (ld_r0_1 _) _).trans (by blk_ext [iblk, V, idx t])⟩

/-- What a tile stores, at an element of the tile, is the result at that element's token. -/
theorem core (c : Dev nD) (t : Fin cfg0.N) (q : ℕ) (hq : q < 136) (h : Vec Ideal S1x256x1024 .f32) (d : Vec Ideal S1x1x1x9x1024 .f32)
    (T : IsTile (m ((c : Thread nD τ).loc main_arg0)) (m ((c : Thread nD τ).loc main_arg1)) 1 q hq h d) (x : S256x1024.Idx)
    (n : Fin 34816) (hn : n.val = 256 * q + (x 0).val) (j : Fin 1024) (hj : j.val = (x 1).val) :
    tile h d (View.ld (iblk m c 8 t) r0_3) (View.ld (iblk m c 9 t) r0_4) (View.ld (iblk m c 10 t) r0_2) (View.ld (iblk m c 11 t) r0_2) x
      = ffnOut 1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n j := by
  obtain rfl : j = x 1 := Fin.ext hj
  refine (congrArg _ (show x = ix2 (x 0) (x 1) by blk_ext)).trans ((tile_at _ _ _ _ _ _ _ _).trans ?_)
  unfold ffnOut
  simp only [T.row _ n hn (by omega) (by omega), T.mod _ n hn (by omega)]
  congr 1
  · funext x k; exact (congrFun (ld_r0_3 (iblk m c 8 t)) _).trans (by blk_ext [iblk, V, idx t])
  · funext f x; exact (congrFun (ld_r0_4 (iblk m c 9 t)) _).trans (by blk_ext [iblk, V, idx t])
  · funext x; exact (congrFun (ld_r0_2 (iblk m c 10 t)) _).trans (by blk_ext [iblk, V, idx t])
  · funext x; exact (congrFun (ld_r0_2 (iblk m c 11 t)) _).trans (by blk_ext [iblk, V, idx t])

/-- What a grid point leaves in its result block, at an element, is the half block of that element's token. -/
theorem point (c : Dev nD) (t : Fin cfg0.N) (y : S1024x1024.Idx) (n : Fin 34816) (hn : n.val = 1024 * t.val + (y 0).val) :
    out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) y
      = ffnOut 1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n (y 1) := by
  obtain ⟨T0, T1, T2, T3⟩ := tiles m c t (lt_of_lt_of_eq t.isLt N_0)
  unfold_out out0_12
  rw [tile1, tile2, tile3]
  canon_tiles x hx
  · exact core m c t _ _ _ _ T3 x n (by omega) (y 1) (by omega)
  · exact core m c t _ _ _ _ T2 x n (by omega) (y 1) (by omega)
  · exact core m c t _ _ _ _ T1 x n (by omega) (y 1) (by omega)
  · exact core m c t _ _ _ _ T0 x n (by omega) (y 1) (by omega)

/-- The result array after the run. -/
theorem final (c : Dev nD) : (dats m 0 c).arrAt 12 (cfgs 0).N = fun i : S34816x1024.Idx =>
    ffnOut 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (dats m 0 c).arrAt_eq_of_covers 12 _ (by decide +kernel) fun t _ y => ?_
  blk_simp
  rw [after0_12]
  have h1 : (((cfg0.win 12).blk t).view.emb y) 1 = y 1 := Fin.ext (by blk_simp [idx t])
  exact (point m c t y _ (by blk_simp [idx t]; omega)).trans (congrArg (ffnOut 1 _ _ _ _ _ _ _) h1.symm)

end Cert.FfnIdeal.Hand

end
-- ==== Proof.FfnRef.lean ====
/- The feed-forward reference's result: every element is the half feed-forward block of its token's row. -/
module

public import proofs.«01_k».proof.Proof.FfnValue
public import proofs.«01_k».proof.Proof.Gen.FfnRefIdeal.Run

@[expose] public section

set_option maxRecDepth 16384

noncomputable section

namespace Cert.FfnRefIdeal.Hand

open Cert.FfnRefIdeal Cert.FfnRefIdeal.Gen Cert.FfnRefIdeal.Value Idealize.ShloMosaic Idealize.ShloMosaic.TcCoe Idealize.SL.Sem Cert.Row Cert.Tokens

variable (m : (ℓ : Loc nD τ sig) → Buf (Elt Ideal) ℓ)

/-- Modulation row `p` of sequence `b` at the token in place `n`, as the reference chooses it. -/
def row (c : Dev nD) (b : Fin 8) (n : ℕ) (p : Fin 9) (x : Fin 1024) : EReal :=
  Scalar.select (IntOp.cmpi .slt (BitVec.ofNat 32 n) 256#32)
    ((m ((c : Thread nD τ).loc main_arg1) : Vec Ideal S4x2x8x9x1024 .f32) (ix5 1 0 b p x))
    ((m ((c : Thread nD τ).loc main_arg1) : Vec Ideal S4x2x8x9x1024 .f32) (ix5 1 1 b p x))

/-- That choice, decided on natural numbers. -/
theorem row_eq (c : Dev nD) (b : Fin 8) (n : ℕ) (hn : n < 4352) (p : Fin 9) :
    row m c b n p = modRow (m ((c : Thread nD τ).loc main_arg1)) 1 b n p :=
  funext fun _ => select_lt n hn _ _

/-- The reference's result at token `n`, lane `j`, its modulation rows still chosen element by element. -/
theorem out_select (c : Dev nD) (n : Fin 34816) (j : Fin 1024) (hb : n.val / 4352 < 8) (ht : n.val % 4352 < 4352) :
    (res_out0 m c : Vec Ideal S34816x1024 .f32) (ix2 n j)
      = halfFfn (fun x => (m ((c : Thread nD τ).loc main_arg0) : Vec Ideal S8x4352x1024 .f32) (ix3 ⟨n.val / 4352, hb⟩ ⟨n.val % 4352, ht⟩ x))
          (row m c ⟨n.val / 4352, hb⟩ (n.val % 4352) 0) (row m c ⟨n.val / 4352, hb⟩ (n.val % 4352) 1) (row m c ⟨n.val / 4352, hb⟩ (n.val % 4352) 2)
          (fun x k => (m ((c : Thread nD τ).loc main_arg2) : Vec Ideal S4x2x1024x5632 .bf16) (ix4 1 0 x k))
          (fun f x => (m ((c : Thread nD τ).loc main_arg3) : Vec Ideal S4x2x2816x1024 .bf16) (ix4 1 0 f x))
          (fun x => (m ((c : Thread nD τ).loc main_arg4) : Vec Ideal S4x3x1x1024 .f32) (ix4 1 0 0 x))
          (fun x => (m ((c : Thread nD τ).loc main_arg5) : Vec Ideal S4x3x1x1024 .f32) (ix4 1 0 0 x)) j := by
  unfold res_out0 res_main_v87 halfFfn layerNorm ffnSum ffnAct swish gateUp row
  pointwise

/-- The reference's result at token `n`, lane `j`. -/
theorem out_at (c : Dev nD) (n : Fin 34816) (j : Fin 1024) : (res_out0 m c : Vec Ideal S34816x1024 .f32) (ix2 n j)
      = Cert.FfnIdeal.Hand.ffnOut 1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n j := by
  have ht : n.val % 4352 < 4352 := by omega
  rw [out_select m c n j (by omega) ht]
  unfold Cert.FfnIdeal.Hand.ffnOut
  simp only [row_eq m c _ _ ht]

/-- The reference's whole result. -/
theorem out_eq (c : Dev nD) : (res_out0 m c : Vec Ideal S34816x1024 .f32) = fun i : S34816x1024.Idx =>
    Cert.FfnIdeal.Hand.ffnOut 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  funext i
  exact (congrArg (res_out0 m c : Vec Ideal S34816x1024 .f32) (show i = ix2 (i 0) (i 1) by blk_ext)).trans (out_at m c (i 0) (i 1))

end Cert.FfnRefIdeal.Hand

end
-- ==== Proof.PostTile.lean ====
/- One tile of the output-projection kernel: each of the four tiles a grid point stores is the projection, the
   normalisation and the half feed-forward block of its own rows. -/
module

public import proofs.«01_k».proof.Proof.Row
public import proofs.«01_k».proof.Proof.Gen.PostIdeal.Value
public import Idealize.ShloMosaic.Lib.Pipeline.ValueKit
public import Idealize.ShloMosaic.Lib.Pointwise.Tactic
public import Idealize.ShloMosaic.Lib.ValueIdxCore

@[expose] public section

set_option maxRecDepth 16384

noncomputable section

namespace Cert.PostIdeal.Hand

open Cert.PostIdeal Cert.PostIdeal.Gen Idealize.ShloMosaic Idealize.ShloMosaic.TcCoe Idealize.SL.Sem Cert.Row

/-- The tile's rows after the mixer's output projection and the first normalisation. -/
def normed (a : Vec Ideal S1x256x2048 .bf16) (d : Vec Ideal S1x1x1x9x1024 .f32) (h : Vec Ideal S1x256x1024 .f32) (wm : Vec Ideal S1x2048x1024 .bf16)
    (g b : Vec Ideal S1x1x1x1024 .f32) : FVec Ideal S256x1024 .f32 :=
  k0_pay7 (k0_pay3 g) (k0_pay4 b) (k0_pay5 a d h wm) (k0_pay6 a d h wm) (Scalar.ofBits .f32 0x3727C5AC#32)

/-- A tile from its first stage: the centred residual sums `z` and the means of their squares `v`, with the modulation
    rows `d` and the weights and parameters of what follows. -/
def finish (d : Vec Ideal S1x1x1x9x1024 .f32) (z : FVec Ideal S256x1024 .f32) (v : FVec Ideal S256x1 .f32)
    (g b : Vec Ideal S1x1x1x1024 .f32) (w : Vec Ideal S1x1x1024x5632 .bf16) (wo : Vec Ideal S1x1x2816x1024 .bf16) (g' b' : Vec Ideal S1x1x1x1024 .f32) : FVec Ideal S256x1024 .f32 :=
  k0_pay12 (k0_pay2 d) (k0_pay7 (k0_pay3 g) (k0_pay4 b) z v (Scalar.ofBits .f32 0x3727C5AC#32)) (k0_pay8 g') (k0_pay9 b')
    (k0_pay10 (k0_pay2 d) (k0_pay3 g) (k0_pay4 b) z v (Scalar.ofBits .f32 0x3727C5AC#32) w) (k0_pay11 wo)

/-- One tile from its blocks: 256 rows `h`, their modulation rows `d`, the mixer's output `a`, and the weights and
    parameters of the two stages. -/
def tile (a : Vec Ideal S1x256x2048 .bf16) (d : Vec Ideal S1x1x1x9x1024 .f32) (h : Vec Ideal S1x256x1024 .f32) (wm : Vec Ideal S1x2048x1024 .bf16)
    (g b : Vec Ideal S1x1x1x1024 .f32) (w : Vec Ideal S1x1x1024x5632 .bf16) (wo : Vec Ideal S1x1x2816x1024 .bf16) (g' b' : Vec Ideal S1x1x1x1024 .f32) : FVec Ideal S256x1024 .f32 :=
  finish d (k0_pay5 a d h wm) (k0_pay6 a d h wm) g b w wo g' b'

/-- The first stage at an element. -/
theorem normed_at (a : Vec Ideal S1x256x2048 .bf16) (d : Vec Ideal S1x1x1x9x1024 .f32) (h : Vec Ideal S1x256x1024 .f32) (wm : Vec Ideal S1x2048x1024 .bf16)
    (g b : Vec Ideal S1x1x1x1024 .f32) (r : Fin 256) (j : Fin 1024) : normed a d h wm g b (ix2 r j)
      = mixNorm (fun x => h (ix3 0 r x)) (fun x => d (ix5 0 0 0 5 x)) (fun k => a (ix3 0 r k)) (fun k x => wm (ix3 0 k x))
          (fun x => g (ix4 0 0 0 x)) (fun x => b (ix4 0 0 0 x)) j := by
  unfold normed k0_pay7 k0_pay6 k0_pay5 k0_pay4 k0_pay3 k0_pay2 mixNorm layerNorm mixSum
  pointwise

/-- The activation tile at an element, from the first stage's rows. -/
theorem act_at (d : FVec Ideal S9x1024 .f32) (g b : FVec Ideal S1x1024 .f32) (z : FVec Ideal S256x1024 .f32) (v : FVec Ideal S256x1 .f32)
    (e : EReal) (w : Vec Ideal S1x1x1024x5632 .bf16) (r : Fin 256) (f : Fin 2816) : k0_pay10 (F := Ideal) d g b z v e w (ix2 r f)
      = ffnAct (fun x => k0_pay7 (F := Ideal) g b z v e (ix2 r x)) (fun x => d (ix2 6 x)) (fun x => d (ix2 7 x)) (fun x k => w (ix4 0 0 x k)) f := by
  unfold k0_pay10 k0_pay7 ffnAct swish gateUp
  simp only [← zero_sub]
  pointwise

/-- What follows the activation, at an element. -/
theorem sum_at (h : FVec Ideal S256x1024 .f32) (d : FVec Ideal S9x1024 .f32) (g b : FVec Ideal S1x1024 .f32)
    (a : FVec Ideal S256x2816 .bf16) (wo : FVec Ideal S2816x1024 .bf16) (r : Fin 256) (j : Fin 1024) :
    k0_pay12 d h g b a wo (ix2 r j)
      = layerNorm (fun j => Ideal.ofBits FTy.f32 0x3FD744FD#32 * h (ix2 r j) +
          d (ix2 8 j) * (Ideal.ofBits FTy.f32 0x3F000000#32 * ∑ f, a (ix2 r f) * wo (ix2 f j))) (g (ix2 0 j)) (b (ix2 0 j)) j := by
  unfold k0_pay12 layerNorm
  pointwise

/-- A tile's element from the rows `M` its first stage gives. -/
theorem finish_at (d : Vec Ideal S1x1x1x9x1024 .f32) (z : FVec Ideal S256x1024 .f32) (v : FVec Ideal S256x1 .f32)
    (g b : Vec Ideal S1x1x1x1024 .f32) (w : Vec Ideal S1x1x1024x5632 .bf16) (wo : Vec Ideal S1x1x2816x1024 .bf16) (g' b' : Vec Ideal S1x1x1x1024 .f32)
    (r : Fin 256) (j : Fin 1024) (M : Fin 1024 → EReal)
    (hM : ∀ x, k0_pay7 (F := Ideal) (k0_pay3 g) (k0_pay4 b) z v (Scalar.ofBits .f32 0x3727C5AC#32) (ix2 r x) = M x) :
    finish d z v g b w wo g' b' (ix2 r j)
      = halfFfn M (fun x => d (ix5 0 0 0 6 x)) (fun x => d (ix5 0 0 0 7 x)) (fun x => d (ix5 0 0 0 8 x))
          (fun x k => w (ix4 0 0 x k)) (fun f x => wo (ix4 0 0 f x)) (fun x => g' (ix4 0 0 0 x)) (fun x => b' (ix4 0 0 0 x)) j := by
  refine (sum_at _ _ _ _ _ _ r j).trans ?_
  unfold halfFfn ffnSum
  simp only [act_at, hM]
  unfold k0_pay2 k0_pay8 k0_pay9 k0_pay11
  congr 1
  · funext x
    pointwise
  · pointwise
  · pointwise

/-- A tile's element is the two stages of that element's row. -/
theorem tile_at (a : Vec Ideal S1x256x2048 .bf16) (d : Vec Ideal S1x1x1x9x1024 .f32) (h : Vec Ideal S1x256x1024 .f32) (wm : Vec Ideal S1x2048x1024 .bf16)
    (g b : Vec Ideal S1x1x1x1024 .f32) (w : Vec Ideal S1x1x1024x5632 .bf16) (wo : Vec Ideal S1x1x2816x1024 .bf16) (g' b' : Vec Ideal S1x1x1x1024 .f32) (r : Fin 256) (j : Fin 1024) :
    tile a d h wm g b w wo g' b' (ix2 r j)
      = halfFfn (mixNorm (fun x => h (ix3 0 r x)) (fun x => d (ix5 0 0 0 5 x)) (fun k => a (ix3 0 r k)) (fun k x => wm (ix3 0 k x))
            (fun x => g (ix4 0 0 0 x)) (fun x => b (ix4 0 0 0 x)))
          (fun x => d (ix5 0 0 0 6 x)) (fun x => d (ix5 0 0 0 7 x)) (fun x => d (ix5 0 0 0 8 x))
          (fun x k => w (ix4 0 0 x k)) (fun f x => wo (ix4 0 0 f x)) (fun x => g' (ix4 0 0 0 x)) (fun x => b' (ix4 0 0 0 x)) j :=
  finish_at d _ _ g b w wo g' b' r j _ fun x => normed_at a d h wm g b r x

/-- The second tile's payload is the first's of the second blocks. -/
theorem tile1 (a : Vec Ideal S1x256x2048 .bf16) (d : Vec Ideal S1x1x1x9x1024 .f32) (h : Vec Ideal S1x256x1024 .f32) (wm : Vec Ideal S1x2048x1024 .bf16)
    (g b : Vec Ideal S1x1x1x1024 .f32) (w : Vec Ideal S1x1x1024x5632 .bf16) (wo : Vec Ideal S1x1x2816x1024 .bf16) (g' b' : Vec Ideal S1x1x1x1024 .f32) :
    k0_pay21 (k0_pay18 g') (k0_pay19 b') (k0_pay20 (k0_pay14 d) (k0_pay17 (k0_pay13 a) (k0_pay14 d) (k0_pay15 h) (k0_pay16 (F := Ideal)) wm g b) w wo)
      = tile a d h wm g b w wo g' b' := rfl

/-- The third tile's. -/
theorem tile2 (a : Vec Ideal S1x256x2048 .bf16) (d : Vec Ideal S1x1x1x9x1024 .f32) (h : Vec Ideal S1x256x1024 .f32) (wm : Vec Ideal S1x2048x1024 .bf16)
    (g b : Vec Ideal S1x1x1x1024 .f32) (w : Vec Ideal S1x1x1024x5632 .bf16) (wo : Vec Ideal S1x1x2816x1024 .bf16) (g' b' : Vec Ideal S1x1x1x1024 .f32) :
    k0_pay30 (k0_pay22 d) (k0_pay25 (k0_pay23 a d h wm) (k0_pay24 g) b) (k0_pay26 g') (k0_pay27 b')
      (k0_pay28 (k0_pay22 d) (k0_pay23 a d h wm) (k0_pay24 g) b w) (k0_pay29 (k0_pay22 d) (k0_pay23 a d h wm) (k0_pay24 g) b w) wo
      = tile a d h wm g b w wo g' b' := rfl

/-- The fourth tile's. -/
theorem tile3 (a : Vec Ideal S1x256x2048 .bf16) (d : Vec Ideal S1x1x1x9x1024 .f32) (h : Vec Ideal S1x256x1024 .f32) (wm : Vec Ideal S1x2048x1024 .bf16)
    (g b : Vec Ideal S1x1x1x1024 .f32) (w : Vec Ideal S1x1x1024x5632 .bf16) (wo : Vec Ideal S1x1x2816x1024 .bf16) (g' b' : Vec Ideal S1x1x1x1024 .f32) :
    k0_pay1 (k0_pay31 d) (k0_pay36 (k0_pay32 g) (k0_pay33 b) (k0_pay34 a d h wm) (k0_pay35 a d h wm) (Scalar.ofBits .f32 0x3727C5AC#32)) (k0_pay37 g') (k0_pay38 b')
      (k0_pay39 (k0_pay31 d) (k0_pay32 g) (k0_pay33 b) (k0_pay34 a d h wm) (k0_pay35 a d h wm) (Scalar.ofBits .f32 0x3727C5AC#32) w) (k0_pay40 wo)
      = tile a d h wm g b w wo g' b' := rfl

end Cert.PostIdeal.Hand

end
-- ==== Proof.PostValue.lean ====
/- The output-projection kernel's result array: every element is the two stages of its token's row. -/
module

public import proofs.«01_k».proof.Proof.PostTile

@[expose] public section

set_option maxRecDepth 16384

noncomputable section

namespace Cert.PostIdeal.Hand

open Cert.PostIdeal Cert.PostIdeal.Gen Idealize.ShloMosaic Idealize.ShloMosaic.TcCoe Idealize.SL.Sem Cert.Row
open Idealize.ShloMosaic.Pipeline (Dat)

/-- The whole result from the argument arrays, at row `n` (the last 4096 tokens of each of the 8 sequences, laid end to
    end) and lane `j`: the mixer's output projection with its normalisation, then the half feed-forward block. -/
def postOut (h : Vec Ideal S8x4352x1024 .f32) (d : Vec Ideal S4x2x8x9x1024 .f32) (a : Vec Ideal S8x4352x2048 .bf16)
    (wm : Vec Ideal S2x2048x1024 .bf16) (w : Vec Ideal S4x2x1024x5632 .bf16) (wo : Vec Ideal S4x2x2816x1024 .bf16)
    (g b : Vec Ideal S4x3x1x1024 .f32) (n : Fin 32768) (j : Fin 1024) : EReal :=
  have hn : n.val / 4096 < 8 := by omega
  have ht : 256 + n.val % 4096 < 4352 := by omega
  halfFfn (mixNorm (fun x => h (ix3 ⟨n.val / 4096, hn⟩ ⟨256 + n.val % 4096, ht⟩ x)) (fun x => d (ix5 3 1 ⟨n.val / 4096, hn⟩ 5 x))
      (fun k => a (ix3 ⟨n.val / 4096, hn⟩ ⟨256 + n.val % 4096, ht⟩ k)) (fun k x => wm (ix3 1 k x))
      (fun x => g (ix4 3 1 0 x)) (fun x => b (ix4 3 1 0 x)))
    (fun x => d (ix5 3 1 ⟨n.val / 4096, hn⟩ 6 x)) (fun x => d (ix5 3 1 ⟨n.val / 4096, hn⟩ 7 x))
    (fun x => d (ix5 3 1 ⟨n.val / 4096, hn⟩ 8 x)) (fun x k => w (ix4 3 1 x k)) (fun f x => wo (ix4 3 1 f x))
    (fun x => g (ix4 3 2 0 x)) (fun x => b (ix4 3 2 0 x)) j

variable (m : (ℓ : Loc nD τ sig) → Buf (Elt Ideal) ℓ)

/-- The index maps of the windows over the whole grid: tile `4t + k` of the sequences' last 4096 tokens. -/
theorem idx : ∀ t : Fin cfg0.N,
    win0_0.index t = ![(4 * t.val + 0) / 16, (4 * t.val + 0) % 16 + 1, 0]
    ∧ win0_1.index t = ![3, 1, (4 * t.val + 0) / 16, 0, 0]
    ∧ win0_2.index t = ![(4 * t.val + 0) / 16, (4 * t.val + 0) % 16 + 1, 0]
    ∧ win0_3.index t = ![(4 * t.val + 1) / 16, (4 * t.val + 1) % 16 + 1, 0]
    ∧ win0_4.index t = ![3, 1, (4 * t.val + 1) / 16, 0, 0]
    ∧ win0_5.index t = ![(4 * t.val + 1) / 16, (4 * t.val + 1) % 16 + 1, 0]
    ∧ win0_6.index t = ![(4 * t.val + 2) / 16, (4 * t.val + 2) % 16 + 1, 0]
    ∧ win0_7.index t = ![3, 1, (4 * t.val + 2) / 16, 0, 0]
    ∧ win0_8.index t = ![(4 * t.val + 2) / 16, (4 * t.val + 2) % 16 + 1, 0]
    ∧ win0_9.index t = ![(4 * t.val + 3) / 16, (4 * t.val + 3) % 16 + 1, 0]
    ∧ win0_10.index t = ![3, 1, (4 * t.val + 3) / 16, 0, 0]
    ∧ win0_11.index t = ![(4 * t.val + 3) / 16, (4 * t.val + 3) % 16 + 1, 0]
    ∧ win0_12.index t = ![1, 0, 0]
    ∧ win0_13.index t = ![3, 1, 0, 0]
    ∧ win0_14.index t = ![3, 1, 0, 0]
    ∧ win0_15.index t = ![3, 1, 0, 0]
    ∧ win0_16.index t = ![3, 1, 0, 0]
    ∧ win0_17.index t = ![3, 2, 0, 0]
    ∧ win0_18.index t = ![3, 2, 0, 0]
    ∧ win0_19.index t = ![t.val, 0] :=
  (by decide +kernel : ∀ t : Fin grid0.N, _)

/-- A load of a whole block is the block. -/
theorem ld_r0_0 (X : Vec Ideal S1x256x2048 .bf16) : View.ld X r0_0 = X := View.ld_unit_lit _ X (by decide)

/-- A load of a whole block is the block. -/
theorem ld_r0_1 (X : Vec Ideal S1x1x1x9x1024 .f32) : View.ld X r0_1 = X := View.ld_unit_lit _ X (by decide)

/-- A load of a whole block is the block. -/
theorem ld_r0_2 (X : Vec Ideal S1x256x1024 .f32) : View.ld X r0_2 = X := View.ld_unit_lit _ X (by decide)

/-- A load of a whole block is the block. -/
theorem ld_r0_3 (X : Vec Ideal S1x2048x1024 .bf16) : View.ld X r0_3 = X := View.ld_unit_lit _ X (by decide)

/-- A load of a whole block is the block. -/
theorem ld_r0_4 (X : Vec Ideal S1x1x1x1024 .f32) : View.ld X r0_4 = X := View.ld_unit_lit _ X (by decide)

/-- A load of a whole block is the block. -/
theorem ld_r0_5 (X : Vec Ideal S1x1x1024x5632 .bf16) : View.ld X r0_5 = X := View.ld_unit_lit _ X (by decide)

/-- A load of a whole block is the block. -/
theorem ld_r0_6 (X : Vec Ideal S1x1x2816x1024 .bf16) : View.ld X r0_6 = X := View.ld_unit_lit _ X (by decide)

/-- The blocks `h`, `d`, `a` are the rows, the modulation rows and the mixer's rows of tile `q` of the sequences' last 4096
    tokens. -/
structure IsLast (H : Vec Ideal S8x4352x1024 .f32) (D : Vec Ideal S4x2x8x9x1024 .f32) (A : Vec Ideal S8x4352x2048 .bf16) (q : ℕ) (hq : q < 128)
    (h : Vec Ideal S1x256x1024 .f32) (d : Vec Ideal S1x1x1x9x1024 .f32) (a : Vec Ideal S1x256x2048 .bf16) : Prop where
  rows : ∀ r x, h (ix3 0 r x) = H (ix3 ⟨q / 16, by omega⟩ ⟨(q % 16 + 1) * 256 + r.val, by omega⟩ x)
  mods : ∀ p x, d (ix5 0 0 0 p x) = D (ix5 3 1 ⟨q / 16, by omega⟩ p x)
  mixed : ∀ r x, a (ix3 0 r x) = A (ix3 ⟨q / 16, by omega⟩ ⟨(q % 16 + 1) * 256 + r.val, by omega⟩ x)

set_option maxHeartbeats 4000000 in
/-- The token blocks of a point are its four tiles'. -/
theorem tiles (c : Dev nD) (t : Fin cfg0.N) (ht : t.val < 32) :
    IsLast (m ((c : Thread nD τ).loc main_arg0)) (m ((c : Thread nD τ).loc main_arg1)) (m ((c : Thread nD τ).loc main_arg2)) (4 * t.val + 0) (by omega)
        (View.ld (iblk m c 0 t) r0_2) (View.ld (iblk m c 1 t) r0_1) (View.ld (iblk m c 2 t) r0_0)
    ∧ IsLast (m ((c : Thread nD τ).loc main_arg0)) (m ((c : Thread nD τ).loc main_arg1)) (m ((c : Thread nD τ).loc main_arg2)) (4 * t.val + 1) (by omega)
        (View.ld (iblk m c 3 t) r0_2) (View.ld (iblk m c 4 t) r0_1) (View.ld (iblk m c 5 t) r0_0)
    ∧ IsLast (m ((c : Thread nD τ).loc main_arg0)) (m ((c : Thread nD τ).loc main_arg1)) (m ((c : Thread nD τ).loc main_arg2)) (4 * t.val + 2) (by omega)
        (View.ld (iblk m c 6 t) r0_2) (View.ld (iblk m c 7 t) r0_1) (View.ld (iblk m c 8 t) r0_0)
    ∧ IsLast (m ((c : Thread nD τ).loc main_arg0)) (m ((c : Thread nD τ).loc main_arg1)) (m ((c : Thread nD τ).loc main_arg2)) (4 * t.val + 3) (by omega)
        (View.ld (iblk m c 9 t) r0_2) (View.ld (iblk m c 10 t) r0_1) (View.ld (iblk m c 11 t) r0_0) := by
  refine ⟨?_, ?_, ?_, ?_⟩ <;>
    exact ⟨fun r x => (congrFun (ld_r0_2 _) _).trans (by blk_ext [iblk, V, idx t]),
      fun p x => (congrFun (ld_r0_1 _) _).trans (by blk_ext [iblk, V, idx t]),
      fun r x => (congrFun (ld_r0_0 _) _).trans (by blk_ext [iblk, V, idx t])⟩

set_option maxHeartbeats 4000000 in
/-- What a tile stores, at an element of the tile, is the result at that element's token. -/
theorem core (c : Dev nD) (t : Fin cfg0.N) (q : ℕ) (hq : q < 128) (a : Vec Ideal S1x256x2048 .bf16) (d : Vec Ideal S1x1x1x9x1024 .f32)
    (h : Vec Ideal S1x256x1024 .f32) (T : IsLast (m ((c : Thread nD τ).loc main_arg0)) (m ((c : Thread nD τ).loc main_arg1)) (m ((c : Thread nD τ).loc main_arg2)) q hq h d a) (r : Fin 256)
    (n : Fin 32768) (hn : n.val = 256 * q + r.val) (l j : Fin 1024) (hj : j.val = l.val) :
    tile a d h (View.ld (iblk m c 12 t) r0_3) (View.ld (iblk m c 13 t) r0_4) (View.ld (iblk m c 14 t) r0_4) (View.ld (iblk m c 15 t) r0_5)
        (View.ld (iblk m c 16 t) r0_6) (View.ld (iblk m c 17 t) r0_4) (View.ld (iblk m c 18 t) r0_4) (ix2 r l)
      = postOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n j := by
  obtain rfl : j = l := Fin.ext hj
  have e1 : n.val / 4096 = q / 16 := by omega
  have e2 : 256 + n.val % 4096 = (q % 16 + 1) * 256 + r.val := by omega
  rw [tile_at]
  unfold postOut
  simp only [T.rows, T.mods, T.mixed, e1, e2]
  congr 1
  · congr 1
    · funext k x; exact (congrFun (ld_r0_3 (iblk m c 12 t)) _).trans (by blk_ext [iblk, V, idx t])
    · funext x; exact (congrFun (ld_r0_4 (iblk m c 13 t)) _).trans (by blk_ext [iblk, V, idx t])
    · funext x; exact (congrFun (ld_r0_4 (iblk m c 14 t)) _).trans (by blk_ext [iblk, V, idx t])
  · funext x k; exact (congrFun (ld_r0_5 (iblk m c 15 t)) _).trans (by blk_ext [iblk, V, idx t])
  · funext f x; exact (congrFun (ld_r0_6 (iblk m c 16 t)) _).trans (by blk_ext [iblk, V, idx t])
  · funext x; exact (congrFun (ld_r0_4 (iblk m c 17 t)) _).trans (by blk_ext [iblk, V, idx t])
  · funext x; exact (congrFun (ld_r0_4 (iblk m c 18 t)) _).trans (by blk_ext [iblk, V, idx t])

set_option maxHeartbeats 4000000 in
/-- What a grid point stores, at an element, is the result at that element's place in the array. -/
theorem point (c : Dev nD) (t : Fin cfg0.N) (y : S1024x1024.Idx) (n : Fin 32768) (hn : n.val = 1024 * t.val + (y 0).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = postOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n (y 1) := by
  obtain ⟨T0, T1, T2, T3⟩ := tiles m c t (lt_of_lt_of_eq t.isLt N_0)
  unfold_out out0_19
  rw [tile1, tile2, tile3]
  canon_tiles x hx <;> refine (congrArg _ (show x = ix2 (x 0) (x 1) by blk_ext)).trans ?_
  · exact core m c t _ _ _ _ _ T3 (x 0) n (by omega) (x 1) (y 1) (by omega)
  · exact core m c t _ _ _ _ _ T2 (x 0) n (by omega) (x 1) (y 1) (by omega)
  · exact core m c t _ _ _ _ _ T1 (x 0) n (by omega) (x 1) (y 1) (by omega)
  · exact core m c t _ _ _ _ _ T0 (x 0) n (by omega) (x 1) (y 1) (by omega)

/-- The result array after the run. -/
theorem final (c : Dev nD) : (dats m 0 c).arrAt 19 (cfgs 0).N = fun i : S32768x1024.Idx =>
    postOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) := by
  refine (dats m 0 c).arrAt_eq_of_covers 19 _ (by decide +kernel) fun t _ y => ?_
  blk_simp
  rw [after0_19]
  have h1 : (((cfg0.win 19).blk t).view.emb y) 1 = y 1 := Fin.ext (by blk_simp [idx t])
  exact (point m c t y _ (by blk_simp [idx t]; omega)).trans (congrArg (postOut _ _ _ _ _ _ _ _ _) h1.symm)

end Cert.PostIdeal.Hand

end
-- ==== Proof.PostRef.lean ====
/- The output-projection reference's result: every element is the two stages of its token's row. -/
module

public import proofs.«01_k».proof.Proof.PostValue
public import proofs.«01_k».proof.Proof.Gen.PostRefIdeal.Run

@[expose] public section

set_option maxRecDepth 16384

noncomputable section

namespace Cert.PostRefIdeal.Hand

open Cert.PostRefIdeal Cert.PostRefIdeal.Gen Cert.PostRefIdeal.Value Idealize.ShloMosaic Idealize.ShloMosaic.TcCoe Idealize.SL.Sem Cert.Row

variable (V : Valuation τ sig (Elt Ideal))

/-- The first stage's residual sum. -/
theorem mix_at (b : Fin 8) (t : Fin 4096) (j : Fin 1024) : (res_main_v23 V : Vec Ideal S8x4096x1024 .f32) (ix3 b t j)
      = mixSum (fun x => (V (Proc.devRef .tc main_arg0) : Vec Ideal S8x4352x1024 .f32) (ix3 b ⟨256 + t, by omega⟩ x))
          (fun x => (V (Proc.devRef .tc main_arg1) : Vec Ideal S4x2x8x9x1024 .f32) (ix5 3 1 b 5 x))
          (fun k => (V (Proc.devRef .tc main_arg2) : Vec Ideal S8x4352x2048 .bf16) (ix3 b ⟨256 + t, by omega⟩ k))
          (fun k x => (V (Proc.devRef .tc main_arg3) : Vec Ideal S2x2048x1024 .bf16) (ix3 1 k x)) j := by
  unfold res_main_v23 mixSum
  pointwise

/-- The first stage. -/
theorem norm_at (b : Fin 8) (t : Fin 4096) (j : Fin 1024) : (res_main_v51 V : Vec Ideal S8x4096x1024 .f32) (ix3 b t j)
      = layerNorm (fun x => (res_main_v23 V : Vec Ideal S8x4096x1024 .f32) (ix3 b t x))
          ((V (Proc.devRef .tc main_arg6) : Vec Ideal S4x3x1x1024 .f32) (ix4 3 1 0 j))
          ((V (Proc.devRef .tc main_arg7) : Vec Ideal S4x3x1x1024 .f32) (ix4 3 1 0 j)) j := by
  unfold res_main_v51 res_main_v33 res_main_v31 layerNorm
  pointwise

/-- The second stage's residual sum. -/
theorem sum_at (b : Fin 8) (t : Fin 4096) (j : Fin 1024) : (res_main_v84 V : Vec Ideal S8x4096x1024 .f32) (ix3 b t j)
      = ffnSum (fun x => (res_main_v51 V : Vec Ideal S8x4096x1024 .f32) (ix3 b t x))
          (fun x => (V (Proc.devRef .tc main_arg1) : Vec Ideal S4x2x8x9x1024 .f32) (ix5 3 1 b 6 x))
          (fun x => (V (Proc.devRef .tc main_arg1) : Vec Ideal S4x2x8x9x1024 .f32) (ix5 3 1 b 7 x))
          (fun x => (V (Proc.devRef .tc main_arg1) : Vec Ideal S4x2x8x9x1024 .f32) (ix5 3 1 b 8 x))
          (fun x k => (V (Proc.devRef .tc main_arg4) : Vec Ideal S4x2x1024x5632 .bf16) (ix4 3 1 x k))
          (fun f x => (V (Proc.devRef .tc main_arg5) : Vec Ideal S4x2x2816x1024 .bf16) (ix4 3 1 f x)) j := by
  unfold res_main_v84 res_main_v70 res_main_v69 ffnSum ffnAct swish gateUp
  pointwise

/-- The result at row `n`, lane `j`, from the second stage's sum. -/
theorem out_norm (n : Fin 32768) (j : Fin 1024) (hb : n.val / 4096 < 8) (ht : n.val % 4096 < 4096) :
    (val3 V (Proc.devRef .tc main_v109) : Vec Ideal S32768x1024 .f32) (ix2 n j)
      = layerNorm (fun x => (res_main_v84 V : Vec Ideal S8x4096x1024 .f32) (ix3 ⟨n.val / 4096, hb⟩ ⟨n.val % 4096, ht⟩ x))
          ((V (Proc.devRef .tc main_arg6) : Vec Ideal S4x3x1x1024 .f32) (ix4 3 2 0 j))
          ((V (Proc.devRef .tc main_arg7) : Vec Ideal S4x3x1x1024 .f32) (ix4 3 2 0 j)) j := by
  refine (congrFun (val3_main_v109 V) (ix2 n j)).trans ?_
  unfold res_main_v90 res_main_v88 layerNorm
  pointwise

/-- The result at row `n`, lane `j`. -/
theorem out_at (n : Fin 32768) (j : Fin 1024) : (val3 V (Proc.devRef .tc main_v109) : Vec Ideal S32768x1024 .f32) (ix2 n j)
      = Cert.PostIdeal.Hand.postOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) n j := by
  rw [out_norm V n j (by omega) (by omega)]
  unfold Cert.PostIdeal.Hand.postOut halfFfn
  simp only [sum_at, norm_at, mix_at]
  rfl

/-- The reference's whole result. -/
theorem out_eq : (val3 V (Proc.devRef .tc main_v109) : Vec Ideal S32768x1024 .f32) = fun i : S32768x1024.Idx =>
    Cert.PostIdeal.Hand.postOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (i 0) (i 1) := by
  funext i
  exact (congrArg (val3 V (Proc.devRef .tc main_v109) : Vec Ideal S32768x1024 .f32) (show i = ix2 (i 0) (i 1) by blk_ext)).trans (out_at V (i 0) (i 1))

/-- The reference's run: the result array is the two stages of every token, the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v109) = (fun i : S32768x1024.Idx =>
        Cert.PostIdeal.Hand.postOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans ((val3_main_v109 _).symm.trans (out_eq _)), (h c).2⟩) (Cert.PostRefIdeal.Value.run m ρ)

end Cert.PostRefIdeal.Hand

end
-- ==== Proof.RetProjTile.lean ====
/- One tile of the retention mixer's input projection: what the kernel's four tiles store, head by head. -/
module

public import proofs.«01_k».proof.Proof.Row
public import proofs.«01_k».proof.Proof.Gen.RetProjIdeal.Value
public import Idealize.ShloMosaic.Lib.Pipeline.ValueKit
public import Idealize.ShloMosaic.Lib.Pointwise.Tactic
public import Idealize.ShloMosaic.Lib.ValueIdxCore

@[expose] public section

set_option maxRecDepth 16384

noncomputable section

namespace Cert.RetProjIdeal.Hand

open Cert.RetProjIdeal Cert.RetProjIdeal.Gen Idealize.ShloMosaic Idealize.ShloMosaic.TcCoe Idealize.SL.Sem Cert.Row

/-- The tile's matrix product: its 256 modulated rows against the weights. -/
def proj (h : Vec Ideal S1x256x1024 .f32) (d : Vec Ideal S1x1x1x9x1024 .f32) (w : Vec Ideal S1x1024x6144 .bf16) :
    FVec Ideal S256x6144 .f32 := k0_pay2 d h w

/-- The product at an element. -/
theorem proj_at (h : Vec Ideal S1x256x1024 .f32) (d : Vec Ideal S1x1x1x9x1024 .f32) (w : Vec Ideal S1x1024x6144 .bf16)
    (r : Fin 256) (f : Fin 6144) : proj h d w (ix2 r f)
      = gateUp (fun x => h (ix3 0 r x)) (fun x => d (ix5 0 0 0 3 x)) (fun x => d (ix5 0 0 0 4 x)) (fun x => w (ix3 0 x f)) := by
  unfold proj k0_pay2 gateUp
  pointwise

/-- A rotated head: each half of 128 lanes times its cosines, plus the same half turned by 64 lanes times its signed sines. -/
def turn (x c s : FVec Ideal S256x256 .f32) : FVec Ideal S256x256 .bf16 :=
  truncf .bf16 (concatenate S256x256 1
    [⟨S256x128, addf (mulf (extractStridedSlice S256x128 ![0, 0] x slices_S256x256_o0_0_S256x128)
        (extractStridedSlice S256x128 ![0, 0] c slices_S256x256_o0_0_S256x128))
      (mulf (dynamicRotate 1 64#32 none (extractStridedSlice S256x128 ![0, 0] x slices_S256x256_o0_0_S256x128) rotates_S256x128_d1)
        (extractStridedSlice S256x128 ![0, 0] s slices_S256x256_o0_0_S256x128))⟩,
     ⟨S256x128, addf (mulf (extractStridedSlice S256x128 ![0, 128] x slices_S256x256_o0_128_S256x128)
        (extractStridedSlice S256x128 ![0, 128] c slices_S256x256_o0_128_S256x128))
      (mulf (dynamicRotate 1 64#32 none (extractStridedSlice S256x128 ![0, 128] x slices_S256x256_o0_128_S256x128) rotates_S256x128_d1)
        (extractStridedSlice S256x128 ![0, 128] s slices_S256x256_o0_128_S256x128))⟩]
    concatenates_S256x128_S256x128_S256x256_d1) bitsLt_bf16_f32

/-- A rotated head at an element. -/
theorem turn_at (x c s : FVec Ideal S256x256 .f32) (r : Fin 256) (j : Fin 256) : turn x c s (ix2 r j)
    = x (ix2 r j) * c (ix2 r j) + x (ix2 r ⟨j.val / 128 * 128 + (j.val + 64) % 128, by omega⟩) * s (ix2 r j) := by
  unfold turn
  by_cases hj : j.val < 128
  · have e : j.val / 128 * 128 + (j.val + 64) % 128 = (j.val + 128 - 64) % 128 := by omega
    simp only [e]
    pointwise
    simp only [dif_pos hj]
  · have e : j.val / 128 * 128 + (j.val + 64) % 128 = 128 + (j.val - 128 + 128 - 64) % 128 := by omega
    have e' : 128 + (j.val - 128) = j.val := by omega
    simp only [e]
    pointwise
    simp only [dif_neg hj, e']

/-- A query head of one tile: the product's 256 columns from `o`, turned. -/
def headQ (o : ℕ) (ho : S256x6144.Slices ![0, o] S256x256) (h : Vec Ideal S1x256x1024 .f32) (d : Vec Ideal S1x1x1x9x1024 .f32)
    (w : Vec Ideal S1x1024x6144 .bf16) (c s : Vec Ideal S256x256 .f32) : FVec Ideal S256x256 .bf16 :=
  turn (extractStridedSlice S256x256 ![0, o] (proj h d w) ho) (k0_pay3 c) (k0_pay3 s)

/-- A key head of one tile: the product's 256 columns from `o`, scaled and turned. -/
def headK (o : ℕ) (ho : S256x6144.Slices ![0, o] S256x256) (h : Vec Ideal S1x256x1024 .f32) (d : Vec Ideal S1x1x1x9x1024 .f32)
    (w : Vec Ideal S1x1024x6144 .bf16) (c s : Vec Ideal S256x256 .f32) : FVec Ideal S256x256 .bf16 :=
  turn (mulf (extractStridedSlice S256x256 ![0, o] (proj h d w) ho) (broadcast S256x256 (Scalar.ofBits .f32 0x3D800000#32)))
    (k0_pay3 c) (k0_pay3 s)

/-- The values of one tile. -/
def valTile (h : Vec Ideal S1x256x1024 .f32) (d : Vec Ideal S1x1x1x9x1024 .f32) (w : Vec Ideal S1x1024x6144 .bf16) :
    FVec Ideal S256x2048 .bf16 := k0_pay19 (proj h d w)

/-- The gates of one tile. -/
def gateTile (h : Vec Ideal S1x256x1024 .f32) (d : Vec Ideal S1x1x1x9x1024 .f32) (w : Vec Ideal S1x1024x6144 .bf16) :
    FVec Ideal S256x2048 .bf16 := k0_pay20 (proj h d w)

section
variable (h : Vec Ideal S1x256x1024 .f32) (d : Vec Ideal S1x1x1x9x1024 .f32) (w : Vec Ideal S1x1024x6144 .bf16) (c s : Vec Ideal S256x256 .f32)

/-- A table block is read as it is. -/
theorem table_at (r j : Fin 256) : k0_pay3 c (ix2 r j) = c (ix2 r j) := by
  unfold k0_pay3
  pointwise

/-- The columns from `o`, at an element. -/
theorem slice_at (p : FVec Ideal S256x6144 .f32) (o : ℕ) (ho : S256x6144.Slices ![0, o] S256x256) (r j : Fin 256) (hj : o + j.val < 6144) :
    extractStridedSlice S256x256 ![0, o] p ho (ix2 r j) = p (ix2 r ⟨o + j.val, hj⟩) := by
  pointwise

/-- The values at an element. -/
theorem val_at (r : Fin 256) (j : Fin 2048) : valTile h d w (ix2 r j) = proj h d w (ix2 r ⟨2048 + j, by omega⟩) := by
  unfold valTile k0_pay19
  pointwise

/-- The gates at an element. -/
theorem gate_at (r : Fin 256) (j : Fin 2048) : gateTile h d w (ix2 r j) = silu (proj h d w (ix2 r ⟨4096 + j, by omega⟩)) := by
  unfold gateTile k0_pay20 silu
  simp only [← zero_sub]
  pointwise
end

section
variable (x0 : Vec Ideal S1x256x1024 .f32) (x1 : Vec Ideal S1x1x1x9x1024 .f32) (x2 : Vec Ideal S256x256 .f32) (x3 : Vec Ideal S256x256 .f32) (x4 : Vec Ideal S1x256x1024 .f32) (x5 : Vec Ideal S1x1x1x9x1024 .f32) (x6 : Vec Ideal S256x256 .f32) (x7 : Vec Ideal S256x256 .f32)
  (x8 : Vec Ideal S1x256x1024 .f32) (x9 : Vec Ideal S1x1x1x9x1024 .f32) (x10 : Vec Ideal S256x256 .f32) (x11 : Vec Ideal S256x256 .f32) (x12 : Vec Ideal S1x256x1024 .f32) (x13 : Vec Ideal S1x1x1x9x1024 .f32) (x14 : Vec Ideal S256x256 .f32) (x15 : Vec Ideal S256x256 .f32) (x16 : Vec Ideal S1x1024x6144 .bf16)

/-- The query result of a point, piece by piece. -/
theorem out17 : out0_17 x0 x1 x2 x3 x4 x5 x6 x7 x8 x9 x10 x11 x12 x13 x14 x15 x16
    = View.canon [⟨r0_22, headQ 768 (by decide) (View.ld x12 r0_1) (View.ld x13 r0_0) (View.ld x16 r0_2) (View.ld x14 r0_3) (View.ld x15 r0_3)⟩,
        ⟨r0_21, headQ 512 (by decide) (View.ld x12 r0_1) (View.ld x13 r0_0) (View.ld x16 r0_2) (View.ld x14 r0_3) (View.ld x15 r0_3)⟩,
        ⟨r0_20, headQ 256 (by decide) (View.ld x12 r0_1) (View.ld x13 r0_0) (View.ld x16 r0_2) (View.ld x14 r0_3) (View.ld x15 r0_3)⟩,
        ⟨r0_19, headQ 0 (by decide) (View.ld x12 r0_1) (View.ld x13 r0_0) (View.ld x16 r0_2) (View.ld x14 r0_3) (View.ld x15 r0_3)⟩,
        ⟨r0_17, headQ 768 (by decide) (View.ld x8 r0_1) (View.ld x9 r0_0) (View.ld x16 r0_2) (View.ld x10 r0_3) (View.ld x11 r0_3)⟩,
        ⟨r0_16, headQ 512 (by decide) (View.ld x8 r0_1) (View.ld x9 r0_0) (View.ld x16 r0_2) (View.ld x10 r0_3) (View.ld x11 r0_3)⟩,
        ⟨r0_15, headQ 256 (by decide) (View.ld x8 r0_1) (View.ld x9 r0_0) (View.ld x16 r0_2) (View.ld x10 r0_3) (View.ld x11 r0_3)⟩,
        ⟨r0_14, headQ 0 (by decide) (View.ld x8 r0_1) (View.ld x9 r0_0) (View.ld x16 r0_2) (View.ld x10 r0_3) (View.ld x11 r0_3)⟩,
        ⟨r0_12, headQ 768 (by decide) (View.ld x4 r0_1) (View.ld x5 r0_0) (View.ld x16 r0_2) (View.ld x6 r0_3) (View.ld x7 r0_3)⟩,
        ⟨r0_11, headQ 512 (by decide) (View.ld x4 r0_1) (View.ld x5 r0_0) (View.ld x16 r0_2) (View.ld x6 r0_3) (View.ld x7 r0_3)⟩,
        ⟨r0_10, headQ 256 (by decide) (View.ld x4 r0_1) (View.ld x5 r0_0) (View.ld x16 r0_2) (View.ld x6 r0_3) (View.ld x7 r0_3)⟩,
        ⟨r0_9, headQ 0 (by decide) (View.ld x4 r0_1) (View.ld x5 r0_0) (View.ld x16 r0_2) (View.ld x6 r0_3) (View.ld x7 r0_3)⟩,
        ⟨r0_7, headQ 768 (by decide) (View.ld x0 r0_1) (View.ld x1 r0_0) (View.ld x16 r0_2) (View.ld x2 r0_3) (View.ld x3 r0_3)⟩,
        ⟨r0_6, headQ 512 (by decide) (View.ld x0 r0_1) (View.ld x1 r0_0) (View.ld x16 r0_2) (View.ld x2 r0_3) (View.ld x3 r0_3)⟩,
        ⟨r0_5, headQ 256 (by decide) (View.ld x0 r0_1) (View.ld x1 r0_0) (View.ld x16 r0_2) (View.ld x2 r0_3) (View.ld x3 r0_3)⟩,
        ⟨r0_4, headQ 0 (by decide) (View.ld x0 r0_1) (View.ld x1 r0_0) (View.ld x16 r0_2) (View.ld x2 r0_3) (View.ld x3 r0_3)⟩] := rfl

/-- The key result of a point, piece by piece. -/
theorem out18 : out0_18 x0 x1 x2 x3 x4 x5 x6 x7 x8 x9 x10 x11 x12 x13 x14 x15 x16
    = View.canon [⟨r0_22, headK 1792 (by decide) (View.ld x12 r0_1) (View.ld x13 r0_0) (View.ld x16 r0_2) (View.ld x14 r0_3) (View.ld x15 r0_3)⟩,
        ⟨r0_21, headK 1536 (by decide) (View.ld x12 r0_1) (View.ld x13 r0_0) (View.ld x16 r0_2) (View.ld x14 r0_3) (View.ld x15 r0_3)⟩,
        ⟨r0_20, headK 1280 (by decide) (View.ld x12 r0_1) (View.ld x13 r0_0) (View.ld x16 r0_2) (View.ld x14 r0_3) (View.ld x15 r0_3)⟩,
        ⟨r0_19, headK 1024 (by decide) (View.ld x12 r0_1) (View.ld x13 r0_0) (View.ld x16 r0_2) (View.ld x14 r0_3) (View.ld x15 r0_3)⟩,
        ⟨r0_17, headK 1792 (by decide) (View.ld x8 r0_1) (View.ld x9 r0_0) (View.ld x16 r0_2) (View.ld x10 r0_3) (View.ld x11 r0_3)⟩,
        ⟨r0_16, headK 1536 (by decide) (View.ld x8 r0_1) (View.ld x9 r0_0) (View.ld x16 r0_2) (View.ld x10 r0_3) (View.ld x11 r0_3)⟩,
        ⟨r0_15, headK 1280 (by decide) (View.ld x8 r0_1) (View.ld x9 r0_0) (View.ld x16 r0_2) (View.ld x10 r0_3) (View.ld x11 r0_3)⟩,
        ⟨r0_14, headK 1024 (by decide) (View.ld x8 r0_1) (View.ld x9 r0_0) (View.ld x16 r0_2) (View.ld x10 r0_3) (View.ld x11 r0_3)⟩,
        ⟨r0_12, headK 1792 (by decide) (View.ld x4 r0_1) (View.ld x5 r0_0) (View.ld x16 r0_2) (View.ld x6 r0_3) (View.ld x7 r0_3)⟩,
        ⟨r0_11, headK 1536 (by decide) (View.ld x4 r0_1) (View.ld x5 r0_0) (View.ld x16 r0_2) (View.ld x6 r0_3) (View.ld x7 r0_3)⟩,
        ⟨r0_10, headK 1280 (by decide) (View.ld x4 r0_1) (View.ld x5 r0_0) (View.ld x16 r0_2) (View.ld x6 r0_3) (View.ld x7 r0_3)⟩,
        ⟨r0_9, headK 1024 (by decide) (View.ld x4 r0_1) (View.ld x5 r0_0) (View.ld x16 r0_2) (View.ld x6 r0_3) (View.ld x7 r0_3)⟩,
        ⟨r0_7, headK 1792 (by decide) (View.ld x0 r0_1) (View.ld x1 r0_0) (View.ld x16 r0_2) (View.ld x2 r0_3) (View.ld x3 r0_3)⟩,
        ⟨r0_6, headK 1536 (by decide) (View.ld x0 r0_1) (View.ld x1 r0_0) (View.ld x16 r0_2) (View.ld x2 r0_3) (View.ld x3 r0_3)⟩,
        ⟨r0_5, headK 1280 (by decide) (View.ld x0 r0_1) (View.ld x1 r0_0) (View.ld x16 r0_2) (View.ld x2 r0_3) (View.ld x3 r0_3)⟩,
        ⟨r0_4, headK 1024 (by decide) (View.ld x0 r0_1) (View.ld x1 r0_0) (View.ld x16 r0_2) (View.ld x2 r0_3) (View.ld x3 r0_3)⟩] := rfl

/-- The value result of a point, tile by tile. -/
theorem out19 : out0_19 x0 x1 x2 x3 x4 x5 x6 x7 x8 x9 x10 x11 x12 x13 x14 x15 x16
    = View.canon [⟨r0_23, valTile (View.ld x12 r0_1) (View.ld x13 r0_0) (View.ld x16 r0_2)⟩,
        ⟨r0_18, valTile (View.ld x8 r0_1) (View.ld x9 r0_0) (View.ld x16 r0_2)⟩,
        ⟨r0_13, valTile (View.ld x4 r0_1) (View.ld x5 r0_0) (View.ld x16 r0_2)⟩,
        ⟨r0_8, valTile (View.ld x0 r0_1) (View.ld x1 r0_0) (View.ld x16 r0_2)⟩] := rfl

/-- The gate result of a point, tile by tile. -/
theorem out20 : out0_20 x0 x1 x2 x3 x4 x5 x6 x7 x8 x9 x10 x11 x12 x13 x14 x15 x16
    = View.canon [⟨r0_23, gateTile (View.ld x12 r0_1) (View.ld x13 r0_0) (View.ld x16 r0_2)⟩,
        ⟨r0_18, gateTile (View.ld x8 r0_1) (View.ld x9 r0_0) (View.ld x16 r0_2)⟩,
        ⟨r0_13, gateTile (View.ld x4 r0_1) (View.ld x5 r0_0) (View.ld x16 r0_2)⟩,
        ⟨r0_8, gateTile (View.ld x0 r0_1) (View.ld x1 r0_0) (View.ld x16 r0_2)⟩] := rfl
end

end Cert.RetProjIdeal.Hand

end
-- ==== Proof.RetProjValue.lean ====
/- The retention mixer's input projection: its four result arrays, element by element. -/
module

public import proofs.«01_k».proof.Proof.RetProjTile
public import proofs.«01_k».proof.Proof.Tokens
public import Idealize.ShloMosaic.Lib.Claim

@[expose] public section

set_option maxRecDepth 16384

noncomputable section

namespace Cert.RetProjIdeal.Hand

open Cert.RetProjIdeal Cert.RetProjIdeal.Gen Idealize.ShloMosaic Idealize.ShloMosaic.TcCoe Idealize.SL.Sem Cert.Row Cert.Tokens
open Idealize.ShloMosaic.Pipeline (Dat)

/-- The query result: the first 1024 columns, turned. -/
def qOut (h : Vec Ideal S8x4352x1024 .f32) (d : Vec Ideal S4x2x8x9x1024 .f32) (w : Vec Ideal S2x1024x6144 .bf16)
    (n : Fin 34816) (j : Fin 1024) : EReal := rotary (fun q => product 3 1 h d w n ⟨q, by omega⟩) (n.val % 4352) j

/-- The key result: the next 1024 columns, scaled and turned. -/
def kOut (h : Vec Ideal S8x4352x1024 .f32) (d : Vec Ideal S4x2x8x9x1024 .f32) (w : Vec Ideal S2x1024x6144 .bf16)
    (n : Fin 34816) (j : Fin 1024) : EReal :=
  rotary (fun q => product 3 1 h d w n ⟨1024 + q, by omega⟩ * Ideal.ofBits FTy.f32 0x3D800000#32) (n.val % 4352) j

/-- The value result: the next 2048 columns. -/
def vOut (h : Vec Ideal S8x4352x1024 .f32) (d : Vec Ideal S4x2x8x9x1024 .f32) (w : Vec Ideal S2x1024x6144 .bf16)
    (n : Fin 34816) (j : Fin 2048) : EReal := product 3 1 h d w n ⟨2048 + j, by omega⟩

/-- The gate result: the last 2048 columns, activated. -/
def gOut (h : Vec Ideal S8x4352x1024 .f32) (d : Vec Ideal S4x2x8x9x1024 .f32) (w : Vec Ideal S2x1024x6144 .bf16)
    (n : Fin 34816) (j : Fin 2048) : EReal := silu (product 3 1 h d w n ⟨4096 + j, by omega⟩)

variable (m : (ℓ : Loc nD τ sig) → Buf (Elt Ideal) ℓ)

open Idealize.ShloMosaic.StableHlo (after)

/-! The tables the host computes, in three stages of its operations: the frequencies, the angles, the tables. -/

/-- A table of 256 rows `e` over 4096 rows of four blocks of 64 columns, at an element. -/
theorem cosRows_at (e : FVec Ideal S256x256 .f32) (p q r s : FVec Ideal S4096x64 .f32) (n : Fin 4352) (l : Fin 256) :
    (concatenate S4352x256 0 [⟨S256x256, e⟩, ⟨S4096x256, concatenate S4096x256 1 [⟨S4096x64, p⟩, ⟨S4096x64, q⟩, ⟨S4096x64, r⟩, ⟨S4096x64, s⟩]
        concatenates_S4096x64_S4096x64_S4096x64_S4096x64_S4096x256_d1⟩] concatenates_S256x256_S4096x256_S4352x256_d0 : Vec Ideal S4352x256 .f32) (ix2 n l)
      = if h : n.val < 256 then e (ix2 ⟨n, h⟩ l) else
          if l.val < 64 then p (ix2 ⟨n - 256, by omega⟩ ⟨l.val % 64, by omega⟩)
          else if l.val < 128 then q (ix2 ⟨n - 256, by omega⟩ ⟨l.val % 64, by omega⟩)
          else if l.val < 192 then r (ix2 ⟨n - 256, by omega⟩ ⟨l.val % 64, by omega⟩)
          else s (ix2 ⟨n - 256, by omega⟩ ⟨l.val % 64, by omega⟩) := by
  have h64 : l.val % 64 < 64 := by omega
  pointwise
  by_cases hn : n.val < 256
  · rw [dif_pos hn, dif_pos hn]
  rw [dif_neg hn, dif_neg hn]
  have e (v : FVec Ideal S4096x64 .f32) (k : ℕ) (hk : k < 64) (h : k = l.val % 64) :
      v (ix2 ⟨n - 256, by omega⟩ ⟨k, hk⟩) = v (ix2 ⟨n - 256, by omega⟩ ⟨l.val % 64, h64⟩) := by subst h; rfl
  by_cases h0 : l.val < 64
  · rw [dif_pos h0, if_pos h0]
    refine e p _ _ ?_; omega
  rw [dif_neg h0, if_neg h0]
  by_cases h1 : l.val < 128
  · rw [dif_pos (by omega), if_pos h1]
    refine e q _ _ ?_; omega
  rw [dif_neg (by omega), if_neg h1]
  by_cases h2 : l.val < 192
  · rw [dif_pos (by omega), if_pos h2]
    refine e r _ _ ?_; omega
  rw [dif_neg (by omega), if_neg h2]
  refine e s _ _ ?_; omega

/-- The last stage's cosine table, from the angles. -/
theorem cos_stage (σ : Valuation τ sig (Elt Ideal)) (A B : FVec Ideal S4096x64 .f32) (hA : σ (Proc.devRef .tc main_v17) = A)
    (hB : σ (Proc.devRef .tc main_v24) = B) (n : Fin 4352) (l : Fin 256) :
    (after (hostOps0.drop 29) σ (Proc.devRef .tc main_v38) : Vec Ideal S4352x256 .f32) (ix2 n l)
      = if h : n.val < 256 then 1 else Ideal.cos (if l.val < 128 then
          A (ix2 ⟨n - 256, by omega⟩ ⟨l.val % 64, by omega⟩)
          else B (ix2 ⟨n - 256, by omega⟩ ⟨l.val % 64, by omega⟩)) := by
  simp only [hostOps0, List.drop_succ_cons, List.drop_zero]
  after_results_simp
  refine (cosRows_at _ _ _ _ _ n l).trans ?_
  dsimp only [Matrix.cons_val_zero, Matrix.cons_val_one, Matrix.cons_val]
  after_results_simp
  rw [hA, hB]
  by_cases hn : n.val < 256
  · rw [dif_pos hn, dif_pos hn]
    pointwise
  · rw [dif_neg hn, dif_neg hn]
    split_ifs <;> first | rfl | (exfalso; omega)

/-- The last stage's sine table, from the angles. -/
theorem sin_stage (σ : Valuation τ sig (Elt Ideal)) (A B : FVec Ideal S4096x64 .f32) (hA : σ (Proc.devRef .tc main_v17) = A)
    (hB : σ (Proc.devRef .tc main_v24) = B) (n : Fin 4352) (l : Fin 256) :
    (after (hostOps0.drop 29) σ (Proc.devRef .tc main_v40) : Vec Ideal S4352x256 .f32) (ix2 n l)
      = if h : n.val < 256 then 0 else (fun a : EReal => if l.val % 128 < 64 then -Ideal.sin a else Ideal.sin a) (if l.val < 128 then
          A (ix2 ⟨n - 256, by omega⟩ ⟨l.val % 64, by omega⟩)
          else B (ix2 ⟨n - 256, by omega⟩ ⟨l.val % 64, by omega⟩)) := by
  simp only [hostOps0, List.drop_succ_cons, List.drop_zero]
  after_results_simp
  refine (cosRows_at _ _ _ _ _ n l).trans ?_
  dsimp only [Matrix.cons_val_zero, Matrix.cons_val_one, Matrix.cons_val]
  after_results_simp
  rw [hA, hB]
  by_cases hn : n.val < 256
  · rw [dif_pos hn, dif_pos hn]
    pointwise
  · rw [dif_neg hn, dif_neg hn]
    split_ifs <;> first | rfl | (exfalso; omega)

/-- The angles of the rows, from the positions and the frequencies. -/
theorem row_stage (σ : Valuation τ sig (Elt Ideal)) (P Q : FVec Ideal S64 .f32) (hP : σ (Proc.devRef .tc main_v10) = P)
    (hQ : σ (Proc.devRef .tc main_v9) = Q) (s : Fin 4096) (i : Fin 64) :
    (after ((hostOps0.drop 15).take 14) σ (Proc.devRef .tc main_v17) : Vec Ideal S4096x64 .f32) (ix2 s i)
      = P (ix1 ⟨s.val / 64, by omega⟩) * Q (ix1 i) := by
  simp only [hostOps0, List.drop_succ_cons, List.drop_zero, List.take_succ_cons, List.take_zero]
  after_results_simp
  rw [hP, hQ]
  pointwise

/-- The angles of the columns, from the positions and the frequencies. -/
theorem col_stage (σ : Valuation τ sig (Elt Ideal)) (P Q : FVec Ideal S64 .f32) (hP : σ (Proc.devRef .tc main_v10) = P)
    (hQ : σ (Proc.devRef .tc main_v9) = Q) (s : Fin 4096) (i : Fin 64) :
    (after ((hostOps0.drop 15).take 14) σ (Proc.devRef .tc main_v24) : Vec Ideal S4096x64 .f32) (ix2 s i)
      = P (ix1 ⟨s.val % 64, by omega⟩) * Q (ix1 i) := by
  simp only [hostOps0, List.drop_succ_cons, List.drop_zero, List.take_succ_cons, List.take_zero]
  after_results_simp
  rw [hP, hQ]
  pointwise

/-- The frequencies. -/
theorem freq_stage (σ : Valuation τ sig (Elt Ideal)) (i : Fin 64) :
    (after (hostOps0.take 15) σ (Proc.devRef .tc main_v9) : Vec Ideal S64 .f32) (ix1 i) = freq i.val := by
  simp only [hostOps0, List.take_succ_cons, List.take_zero]
  after_results_simp
  unfold freq pos
  pointwise

/-- The positions. -/
theorem pos_stage (σ : Valuation τ sig (Elt Ideal)) (i : Fin 64) :
    (after (hostOps0.take 15) σ (Proc.devRef .tc main_v10) : Vec Ideal S64 .f32) (ix1 i) = pos i.val := by
  simp only [hostOps0, List.take_succ_cons, List.take_zero]
  after_results_simp
  unfold pos
  pointwise

/-- The three stages are the host's operations. -/
theorem stages (c : Dev nD) (b : Ref sig .tc) : V m c b = after (hostOps0.drop 29) (after ((hostOps0.drop 15).take 14)
    (after (hostOps0.take 15) (fun b => m (c, b)))) b := by
  show after hostOps0 _ _ = _
  rw [← StableHlo.after_append, ← StableHlo.after_append]
  rfl

/-- The cosine table the host computes. -/
theorem cos_at (c : Dev nD) (n : Fin 4352) (l : Fin 256) : (V m c main_v38 : Vec Ideal S4352x256 .f32) (ix2 n l) = cosT n.val l.val := by
  refine (congrFun (stages m c main_v38) _).trans ((cos_stage _ _ _ rfl rfl n l).trans ?_)
  unfold cosT angle
  by_cases hn : n.val < 256
  · rw [dif_pos hn, if_pos hn]
  · rw [dif_neg hn, if_neg hn, row_stage _ _ _ rfl rfl, col_stage _ _ _ rfl rfl, freq_stage, pos_stage, pos_stage]

/-- The signed sine table the host computes. -/
theorem sin_at (c : Dev nD) (n : Fin 4352) (l : Fin 256) : (V m c main_v40 : Vec Ideal S4352x256 .f32) (ix2 n l) = sinT n.val l.val := by
  refine (congrFun (stages m c main_v40) _).trans ((sin_stage _ _ _ rfl rfl n l).trans ?_)
  unfold sinT angle
  by_cases hn : n.val < 256
  · rw [dif_pos hn, if_pos hn]
  · rw [dif_neg hn, if_neg hn, row_stage _ _ _ rfl rfl, col_stage _ _ _ rfl rfl, freq_stage, pos_stage, pos_stage]

/-- The index maps of the windows over the whole grid: tile `4t + k` of the sequence. -/
theorem idx : ∀ t : Fin cfg0.N,
    win0_0.index t = ![(4 * t.val + 0) / 17, (4 * t.val + 0) % 17, 0]
    ∧ win0_4.index t = ![(4 * t.val + 1) / 17, (4 * t.val + 1) % 17, 0]
    ∧ win0_8.index t = ![(4 * t.val + 2) / 17, (4 * t.val + 2) % 17, 0]
    ∧ win0_12.index t = ![(4 * t.val + 3) / 17, (4 * t.val + 3) % 17, 0]
    ∧ win0_1.index t = ![3, if (4 * t.val + 0) % 17 < 1 then 0 else 1, (4 * t.val + 0) / 17, 0, 0]
    ∧ win0_5.index t = ![3, if (4 * t.val + 1) % 17 < 1 then 0 else 1, (4 * t.val + 1) / 17, 0, 0]
    ∧ win0_9.index t = ![3, if (4 * t.val + 2) % 17 < 1 then 0 else 1, (4 * t.val + 2) / 17, 0, 0]
    ∧ win0_13.index t = ![3, if (4 * t.val + 3) % 17 < 1 then 0 else 1, (4 * t.val + 3) / 17, 0, 0]
    ∧ win0_2.index t = ![(4 * t.val + 0) % 17, 0]
    ∧ win0_3.index t = ![(4 * t.val + 0) % 17, 0]
    ∧ win0_6.index t = ![(4 * t.val + 1) % 17, 0]
    ∧ win0_7.index t = ![(4 * t.val + 1) % 17, 0]
    ∧ win0_10.index t = ![(4 * t.val + 2) % 17, 0]
    ∧ win0_11.index t = ![(4 * t.val + 2) % 17, 0]
    ∧ win0_14.index t = ![(4 * t.val + 3) % 17, 0]
    ∧ win0_15.index t = ![(4 * t.val + 3) % 17, 0]
    ∧ win0_16.index t = ![1, 0, 0]
    ∧ win0_17.index t = ![t.val, 0]
    ∧ win0_18.index t = ![t.val, 0]
    ∧ win0_19.index t = ![t.val, 0]
    ∧ win0_20.index t = ![t.val, 0] :=
  (by decide +kernel : ∀ t : Fin grid0.N, _)

/-! A load of a whole block is the block. -/

/-- The modulation block. -/
theorem ld_r0_0 (X : Vec Ideal S1x1x1x9x1024 .f32) : View.ld X r0_0 = X := View.ld_unit_lit _ X (by decide)
/-- The row block. -/
theorem ld_r0_1 (X : Vec Ideal S1x256x1024 .f32) : View.ld X r0_1 = X := View.ld_unit_lit _ X (by decide)
/-- The weight block. -/
theorem ld_r0_2 (X : Vec Ideal S1x1024x6144 .bf16) : View.ld X r0_2 = X := View.ld_unit_lit _ X (by decide)
/-- A table block. -/
theorem ld_r0_3 (X : Vec Ideal S256x256 .f32) : View.ld X r0_3 = X := View.ld_unit_lit _ X (by decide)

/-- The table blocks of tile `q` of the sequences. -/
def Tables (q : ℕ) (co si : Vec Ideal S256x256 .f32) : Prop :=
  (∀ r l, co (ix2 r l) = cosT (q % 17 * 256 + r.val) l.val) ∧ ∀ r l, si (ix2 r l) = sinT (q % 17 * 256 + r.val) l.val

set_option maxHeartbeats 4000000 in
/-- The row and modulation blocks of a point are its four tiles'. -/
theorem tiles (c : Dev nD) (t : Fin cfg0.N) (ht : t.val < 34) :
    IsTile (m ((c : Thread nD τ).loc main_arg0)) (m ((c : Thread nD τ).loc main_arg1)) 3 (4 * t.val + 0) (by omega) (View.ld (iblk m c 0 t) r0_1) (View.ld (iblk m c 1 t) r0_0)
    ∧ IsTile (m ((c : Thread nD τ).loc main_arg0)) (m ((c : Thread nD τ).loc main_arg1)) 3 (4 * t.val + 1) (by omega) (View.ld (iblk m c 4 t) r0_1) (View.ld (iblk m c 5 t) r0_0)
    ∧ IsTile (m ((c : Thread nD τ).loc main_arg0)) (m ((c : Thread nD τ).loc main_arg1)) 3 (4 * t.val + 2) (by omega) (View.ld (iblk m c 8 t) r0_1) (View.ld (iblk m c 9 t) r0_0)
    ∧ IsTile (m ((c : Thread nD τ).loc main_arg0)) (m ((c : Thread nD τ).loc main_arg1)) 3 (4 * t.val + 3) (by omega) (View.ld (iblk m c 12 t) r0_1) (View.ld (iblk m c 13 t) r0_0) := by
  refine ⟨?_, ?_, ?_, ?_⟩ <;>
    exact ⟨fun r x => (congrFun (ld_r0_1 _) _).trans ((show _ = (V m c main_arg0 : Vec Ideal S8x4352x1024 .f32) _ by
        blk_ext [iblk, idx t]).trans (congrFun (V_main_arg0 m c) _)),
      fun p x => (congrFun (ld_r0_0 _) _).trans ((show _ = (V m c main_arg1 : Vec Ideal S4x2x8x9x1024 .f32) _ by
        blk_ext [iblk, idx t]).trans (congrFun (V_main_arg1 m c) _))⟩

set_option maxHeartbeats 4000000 in
/-- The table blocks of a point are its four tiles'. -/
theorem tables (c : Dev nD) (t : Fin cfg0.N) :
    Tables (4 * t.val + 0) (View.ld (iblk m c 2 t) r0_3) (View.ld (iblk m c 3 t) r0_3)
    ∧ Tables (4 * t.val + 1) (View.ld (iblk m c 6 t) r0_3) (View.ld (iblk m c 7 t) r0_3)
    ∧ Tables (4 * t.val + 2) (View.ld (iblk m c 10 t) r0_3) (View.ld (iblk m c 11 t) r0_3)
    ∧ Tables (4 * t.val + 3) (View.ld (iblk m c 14 t) r0_3) (View.ld (iblk m c 15 t) r0_3) := by
  refine ⟨?_, ?_, ?_, ?_⟩ <;>
    exact ⟨fun r l => (congrFun (ld_r0_3 _) _).trans ((show _ = (V m c main_v38 : Vec Ideal S4352x256 .f32) (ix2 ⟨_, by omega⟩ l) by
        blk_ext [iblk, idx t]).trans (cos_at m c _ l)),
      fun r l => (congrFun (ld_r0_3 _) _).trans ((show _ = (V m c main_v40 : Vec Ideal S4352x256 .f32) (ix2 ⟨_, by omega⟩ l) by
        blk_ext [iblk, idx t]).trans (sin_at m c _ l))⟩

/-- The weight block. -/
theorem weights (c : Dev nD) (t : Fin cfg0.N) (x : Fin 1024) (f : Fin 6144) :
    (View.ld (iblk m c 16 t) r0_2 : Vec Ideal S1x1024x6144 .bf16) (ix3 0 x f) = (m ((c : Thread nD τ).loc main_arg2) : Vec Ideal S2x1024x6144 .bf16) (ix3 1 x f) :=
  (congrFun (ld_r0_2 (iblk m c 16 t)) _).trans ((show _ = (V m c main_arg2 : Vec Ideal S2x1024x6144 .bf16) (ix3 1 x f) by
    blk_ext [iblk, idx t]).trans (congrFun (V_main_arg2 m c) _))

section
variable (c : Dev nD) (t : Fin cfg0.N) {q : ℕ} {hq : q < 136} {h : Vec Ideal S1x256x1024 .f32} {d : Vec Ideal S1x1x1x9x1024 .f32}
  (T : IsTile (m ((c : Thread nD τ).loc main_arg0)) (m ((c : Thread nD τ).loc main_arg1)) 3 q hq h d) {co si : Vec Ideal S256x256 .f32} (hc : Tables q co si) (r : Fin 256) (n : Fin 34816) (hn : n.val = 256 * q + r.val)
include T hn

/-- What a tile multiplies out, at an element of the tile, is the product at that element's token. -/
theorem core (f : Fin 6144) : proj h d (View.ld (iblk m c 16 t) r0_2) (ix2 r f) = product 3 1 (m ((c : Thread nD τ).loc main_arg0)) (m ((c : Thread nD τ).loc main_arg1)) (m ((c : Thread nD τ).loc main_arg2)) n f :=
  (proj_at _ _ _ r f).trans (T.product 1 _ _ (weights m c t) r f n hn)

omit T in
include hc in
/-- A tile's head turned by its tables is the rotary turn of its lanes. -/
theorem turn_rotary (x : FVec Ideal S256x256 .f32) (P : Fin 1024 → EReal) (o : ℕ) (h1 : o + 256 ≤ 1024) (h2 : o % 256 = 0)
    (hx : ∀ l : Fin 256, x (ix2 r l) = P ⟨o + l, by omega⟩) (l : Fin 256) (j : Fin 1024) (hj : j.val = o + l.val) :
    turn x (k0_pay3 co) (k0_pay3 si) (ix2 r l) = rotary P (n.val % 4352) j := by
  have e2 : n.val % 4352 = q % 17 * 256 + r.val := by omega
  have e3 : j.val % 256 = l.val := by omega
  have e4 : j.val / 128 * 128 = o + l.val / 128 * 128 := by clear hn hx; omega
  have e5 : (j.val + 64) % 128 = (l.val + 64) % 128 := by clear hn hx; omega
  have e6 : j = ⟨o + l.val, by omega⟩ := Fin.ext hj
  have e7 : opposite j = ⟨o + (l.val / 128 * 128 + (l.val + 64) % 128), by omega⟩ :=
    Fin.ext (show j.val / 128 * 128 + (j.val + 64) % 128 = o + (l.val / 128 * 128 + (l.val + 64) % 128) by rw [e4, e5, Nat.add_assoc])
  rw [turn_at, table_at, table_at, hc.1, hc.2, hx, hx]
  unfold rotary
  rw [e2, e3, e7, ← e6]

include hc in
/-- A query head of a tile, at an element. -/
theorem core_q (o : ℕ) (ho : S256x6144.Slices ![0, o] S256x256) (h1 : o + 256 ≤ 1024) (h2 : o % 256 = 0) (l : Fin 256) (j : Fin 1024)
    (hj : j.val = o + l.val) : headQ o ho h d (View.ld (iblk m c 16 t) r0_2) co si (ix2 r l) = qOut (m ((c : Thread nD τ).loc main_arg0)) (m ((c : Thread nD τ).loc main_arg1)) (m ((c : Thread nD τ).loc main_arg2)) n j :=
  turn_rotary hc r n hn _ _ o h1 h2 (fun l => (slice_at _ _ _ _ _ (by omega)).trans (core m c t T r n hn _)) l j hj

include hc in
/-- A key head of a tile, at an element. -/
theorem core_k (o : ℕ) (ho : S256x6144.Slices ![0, o] S256x256) (h0 : 1024 ≤ o) (h1 : o + 256 ≤ 2048) (h2 : o % 256 = 0) (l : Fin 256)
    (j : Fin 1024) (hj : j.val + 1024 = o + l.val) : headK o ho h d (View.ld (iblk m c 16 t) r0_2) co si (ix2 r l) = kOut (m ((c : Thread nD τ).loc main_arg0)) (m ((c : Thread nD τ).loc main_arg1)) (m ((c : Thread nD τ).loc main_arg2)) n j :=
  turn_rotary hc r n hn _ _ (o - 1024) (by omega) (by omega) (fun l => congrArg (· * _) ((slice_at _ _ _ _ _ (by omega)).trans ((core m c t T r n hn _).trans
    (congrArg (product _ _ _ _ _ n) (Fin.ext (show o + l.val = 1024 + (o - 1024 + l.val) by omega)))))) l j (by omega)

/-- The values of a tile, at an element. -/
theorem core_v (l j : Fin 2048) (hj : j.val = l.val) : valTile h d (View.ld (iblk m c 16 t) r0_2) (ix2 r l) = vOut (m ((c : Thread nD τ).loc main_arg0)) (m ((c : Thread nD τ).loc main_arg1)) (m ((c : Thread nD τ).loc main_arg2)) n j := by
  rw [val_at, core m c t T r n hn, Fin.ext hj]
  rfl

/-- The gates of a tile, at an element. -/
theorem core_g (l j : Fin 2048) (hj : j.val = l.val) : gateTile h d (View.ld (iblk m c 16 t) r0_2) (ix2 r l) = gOut (m ((c : Thread nD τ).loc main_arg0)) (m ((c : Thread nD τ).loc main_arg1)) (m ((c : Thread nD τ).loc main_arg2)) n j := by
  rw [gate_at, core m c t T r n hn, Fin.ext hj]
  rfl
end

set_option maxHeartbeats 4000000 in
/-- What a point stores into the query result. -/
theorem q_point (c : Dev nD) (t : Fin cfg0.N) (y : S1024x1024.Idx) (n : Fin 34816) (hn : n.val = 1024 * t.val + (y 0).val) :
    out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) y = qOut (m ((c : Thread nD τ).loc main_arg0)) (m ((c : Thread nD τ).loc main_arg1)) (m ((c : Thread nD τ).loc main_arg2)) n (y 1) := by
  have ht := lt_of_lt_of_eq t.isLt N_0
  obtain ⟨T0, T1, T2, T3⟩ := tiles m c t ht
  obtain ⟨U0, U1, U2, U3⟩ := tables m c t
  rw [out17]
  canon_tiles x hx <;> refine (congrArg _ (show x = ix2 (x 0) (x 1) by blk_ext)).trans ?_
  iterate 4 · exact core_q m c t T3 U3 (x 0) n (by omega) _ _ (by decide) (by decide) (x 1) (y 1) (by omega)
  iterate 4 · exact core_q m c t T2 U2 (x 0) n (by omega) _ _ (by decide) (by decide) (x 1) (y 1) (by omega)
  iterate 4 · exact core_q m c t T1 U1 (x 0) n (by omega) _ _ (by decide) (by decide) (x 1) (y 1) (by omega)
  iterate 4 · exact core_q m c t T0 U0 (x 0) n (by omega) _ _ (by decide) (by decide) (x 1) (y 1) (by omega)

/-- The query result after the run. -/
theorem q_final (c : Dev nD) : (dats m 0 c).arrAt 17 (cfgs 0).N = fun i : S34816x1024.Idx =>
    qOut (m ((c : Thread nD τ).loc main_arg0)) (m ((c : Thread nD τ).loc main_arg1)) (m ((c : Thread nD τ).loc main_arg2)) (i 0) (i 1) := by
  refine (dats m 0 c).arrAt_eq_of_covers 17 _ (by decide +kernel) fun t _ y => ?_
  blk_simp
  rw [after0_17]
  have h1 : (((cfg0.win 17).blk t).view.emb y) 1 = y 1 := Fin.ext (by blk_simp [idx t])
  exact (q_point m c t y _ (by blk_simp [idx t]; omega)).trans (congrArg (qOut _ _ _ _) h1.symm)

set_option maxHeartbeats 4000000 in
/-- What a point stores into the key result. -/
theorem k_point (c : Dev nD) (t : Fin cfg0.N) (y : S1024x1024.Idx) (n : Fin 34816) (hn : n.val = 1024 * t.val + (y 0).val) :
    out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) y = kOut (m ((c : Thread nD τ).loc main_arg0)) (m ((c : Thread nD τ).loc main_arg1)) (m ((c : Thread nD τ).loc main_arg2)) n (y 1) := by
  have ht := lt_of_lt_of_eq t.isLt N_0
  obtain ⟨T0, T1, T2, T3⟩ := tiles m c t ht
  obtain ⟨U0, U1, U2, U3⟩ := tables m c t
  rw [out18]
  canon_tiles x hx <;> refine (congrArg _ (show x = ix2 (x 0) (x 1) by blk_ext)).trans ?_
  iterate 4 · exact core_k m c t T3 U3 (x 0) n (by omega) _ _ (by decide) (by decide) (by decide) (x 1) (y 1) (by omega)
  iterate 4 · exact core_k m c t T2 U2 (x 0) n (by omega) _ _ (by decide) (by decide) (by decide) (x 1) (y 1) (by omega)
  iterate 4 · exact core_k m c t T1 U1 (x 0) n (by omega) _ _ (by decide) (by decide) (by decide) (x 1) (y 1) (by omega)
  iterate 4 · exact core_k m c t T0 U0 (x 0) n (by omega) _ _ (by decide) (by decide) (by decide) (x 1) (y 1) (by omega)

/-- The key result after the run. -/
theorem k_final (c : Dev nD) : (dats m 0 c).arrAt 18 (cfgs 0).N = fun i : S34816x1024.Idx =>
    kOut (m ((c : Thread nD τ).loc main_arg0)) (m ((c : Thread nD τ).loc main_arg1)) (m ((c : Thread nD τ).loc main_arg2)) (i 0) (i 1) := by
  refine (dats m 0 c).arrAt_eq_of_covers 18 _ (by decide +kernel) fun t _ y => ?_
  blk_simp
  rw [after0_18]
  have h1 : (((cfg0.win 18).blk t).view.emb y) 1 = y 1 := Fin.ext (by blk_simp [idx t])
  exact (k_point m c t y _ (by blk_simp [idx t]; omega)).trans (congrArg (kOut _ _ _ _) h1.symm)

/-- What a point stores into the value result. -/
theorem v_point (c : Dev nD) (t : Fin cfg0.N) (y : S1024x2048.Idx) (n : Fin 34816) (hn : n.val = 1024 * t.val + (y 0).val) :
    out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) y = vOut (m ((c : Thread nD τ).loc main_arg0)) (m ((c : Thread nD τ).loc main_arg1)) (m ((c : Thread nD τ).loc main_arg2)) n (y 1) := by
  have ht := lt_of_lt_of_eq t.isLt N_0
  obtain ⟨T0, T1, T2, T3⟩ := tiles m c t ht
  rw [out19]
  canon_tiles x hx <;> refine (congrArg _ (show x = ix2 (x 0) (x 1) by blk_ext)).trans ?_
  · exact core_v m c t T3 (x 0) n (by omega) (x 1) (y 1) (by omega)
  · exact core_v m c t T2 (x 0) n (by omega) (x 1) (y 1) (by omega)
  · exact core_v m c t T1 (x 0) n (by omega) (x 1) (y 1) (by omega)
  · exact core_v m c t T0 (x 0) n (by omega) (x 1) (y 1) (by omega)

/-- The value result after the run. -/
theorem v_final (c : Dev nD) : (dats m 0 c).arrAt 19 (cfgs 0).N = fun i : S34816x2048.Idx =>
    vOut (m ((c : Thread nD τ).loc main_arg0)) (m ((c : Thread nD τ).loc main_arg1)) (m ((c : Thread nD τ).loc main_arg2)) (i 0) (i 1) := by
  refine (dats m 0 c).arrAt_eq_of_covers 19 _ (by decide +kernel) fun t _ y => ?_
  blk_simp
  rw [after0_19]
  have h1 : (((cfg0.win 19).blk t).view.emb y) 1 = y 1 := Fin.ext (by blk_simp [idx t])
  exact (v_point m c t y _ (by blk_simp [idx t]; omega)).trans (congrArg (vOut _ _ _ _) h1.symm)

/-- What a point stores into the gate result. -/
theorem g_point (c : Dev nD) (t : Fin cfg0.N) (y : S1024x2048.Idx) (n : Fin 34816) (hn : n.val = 1024 * t.val + (y 0).val) :
    out0_20 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) y = gOut (m ((c : Thread nD τ).loc main_arg0)) (m ((c : Thread nD τ).loc main_arg1)) (m ((c : Thread nD τ).loc main_arg2)) n (y 1) := by
  have ht := lt_of_lt_of_eq t.isLt N_0
  obtain ⟨T0, T1, T2, T3⟩ := tiles m c t ht
  rw [out20]
  canon_tiles x hx <;> refine (congrArg _ (show x = ix2 (x 0) (x 1) by blk_ext)).trans ?_
  · exact core_g m c t T3 (x 0) n (by omega) (x 1) (y 1) (by omega)
  · exact core_g m c t T2 (x 0) n (by omega) (x 1) (y 1) (by omega)
  · exact core_g m c t T1 (x 0) n (by omega) (x 1) (y 1) (by omega)
  · exact core_g m c t T0 (x 0) n (by omega) (x 1) (y 1) (by omega)

/-- The gate result after the run. -/
theorem g_final (c : Dev nD) : (dats m 0 c).arrAt 20 (cfgs 0).N = fun i : S34816x2048.Idx =>
    gOut (m ((c : Thread nD τ).loc main_arg0)) (m ((c : Thread nD τ).loc main_arg1)) (m ((c : Thread nD τ).loc main_arg2)) (i 0) (i 1) := by
  refine (dats m 0 c).arrAt_eq_of_covers 20 _ (by decide +kernel) fun t _ y => ?_
  blk_simp
  rw [after0_20]
  have h1 : (((cfg0.win 20).blk t).view.emb y) 1 = y 1 := Fin.ext (by blk_simp [idx t])
  exact (g_point m c t y _ (by blk_simp [idx t]; omega)).trans (congrArg (gOut _ _ _ _) h1.symm)

end Cert.RetProjIdeal.Hand

end
-- ==== Proof.RetProjRef.lean ====
/- The retention projection's reference: its four result arrays, element by element. -/
module

public import proofs.«01_k».proof.Proof.Gen.RetProjRefIdeal.Run
public import proofs.«01_k».proof.Proof.RetProjValue
public import Idealize.ShloMosaic.Lib.Claim

@[expose] public section

set_option maxRecDepth 16384

noncomputable section

namespace Cert.RetProjRefIdeal.Hand

open Cert.RetProjRefIdeal Cert.RetProjRefIdeal.Gen Cert.RetProjRefIdeal.Value Idealize.ShloMosaic Idealize.ShloMosaic.TcCoe Idealize.SL.Sem Cert.Row Cert.Tokens
open Cert.RetProjIdeal.Hand (qOut kOut vOut gOut)

/-- A half head turned by its angles: 64 lanes against the next 64. -/
def half (u : FVec Ideal S8x4096x4x128 .f32) (A : FVec Ideal S4096x64 .f32) : FVec Ideal S8x4096x4x128 .f32 :=
  concatenate S8x4096x4x128 3
    [⟨S8x4096x4x64, subf (mulf (extractStridedSlice S8x4096x4x64 ![0, 0, 0, 0] u slices_S8x4096x4x128_S8x4096x4x64_0_0_0_0)
        (broadcastInDim S8x4096x4x64 ![0, 1, 2, 3] bcast_S1x4096x1x64_S8x4096x4x64_0_1_2_3 (broadcastInDim S1x4096x1x64 ![1, 3] bcast_S4096x64_S1x4096x1x64_1_3 (Host.cos A))))
      (mulf (extractStridedSlice S8x4096x4x64 ![0, 0, 0, 64] u slices_S8x4096x4x128_S8x4096x4x64_0_0_0_64)
        (broadcastInDim S8x4096x4x64 ![0, 1, 2, 3] bcast_S1x4096x1x64_S8x4096x4x64_0_1_2_3 (broadcastInDim S1x4096x1x64 ![1, 3] bcast_S4096x64_S1x4096x1x64_1_3 (Host.sin A))))⟩,
     ⟨S8x4096x4x64, addf (mulf (extractStridedSlice S8x4096x4x64 ![0, 0, 0, 0] u slices_S8x4096x4x128_S8x4096x4x64_0_0_0_0)
        (broadcastInDim S8x4096x4x64 ![0, 1, 2, 3] bcast_S1x4096x1x64_S8x4096x4x64_0_1_2_3 (broadcastInDim S1x4096x1x64 ![1, 3] bcast_S4096x64_S1x4096x1x64_1_3 (Host.sin A))))
      (mulf (extractStridedSlice S8x4096x4x64 ![0, 0, 0, 64] u slices_S8x4096x4x128_S8x4096x4x64_0_0_0_64)
        (broadcastInDim S8x4096x4x64 ![0, 1, 2, 3] bcast_S1x4096x1x64_S8x4096x4x64_0_1_2_3 (broadcastInDim S1x4096x1x64 ![1, 3] bcast_S4096x64_S1x4096x1x64_1_3 (Host.cos A))))⟩]
    concatenates_S8x4096x4x64_S8x4096x4x64_S8x4096x4x128_d3

/-- The turned half head at an element. -/
theorem half_at (u : FVec Ideal S8x4096x4x128 .f32) (A : FVec Ideal S4096x64 .f32) (b : Fin 8) (s : Fin 4096) (a : Fin 4) (l : Fin 128) :
    half u A (ix4 b s a l) = if h : l.val < 64
      then u (ix4 b s a l) * Ideal.cos (A (ix2 s ⟨l, h⟩)) - u (ix4 b s a ⟨64 + l, by omega⟩) * Ideal.sin (A (ix2 s ⟨l, h⟩))
      else u (ix4 b s a ⟨l - 64, by omega⟩) * Ideal.sin (A (ix2 s ⟨l - 64, by omega⟩))
        + u (ix4 b s a ⟨64 + (l - 64), by omega⟩) * Ideal.cos (A (ix2 s ⟨l - 64, by omega⟩)) := by
  unfold half
  pointwise

/-- Context rows, and latent rows of two half heads, as a flat array at an element. -/
theorem flat_at (p : FVec Ideal S8x256x4x256 .f32) (x y : FVec Ideal S8x4096x4x128 .f32) (n : Fin 34816) (j : Fin 1024) :
    (truncf .bf16 (shapeCast S34816x1024 (concatenate S8x4352x4x256 1 [⟨S8x256x4x256, p⟩, ⟨S8x4096x4x256,
        concatenate S8x4096x4x256 3 [⟨S8x4096x4x128, x⟩, ⟨S8x4096x4x128, y⟩] concatenates_S8x4096x4x128_S8x4096x4x128_S8x4096x4x256_d3⟩]
        concatenates_S8x256x4x256_S8x4096x4x256_S8x4352x4x256_d1) shapeCasts_S8x4352x4x256_S34816x1024) bitsLt_bf16_f32 : FVec Ideal S34816x1024 .bf16) (ix2 n j)
      = if h : n.val % 4352 < 256 then p (ix4 ⟨n / 4352, by omega⟩ ⟨n % 4352, h⟩ ⟨j / 256, by omega⟩ ⟨j % 256, by omega⟩)
        else if h1 : j.val % 256 < 128 then x (ix4 ⟨n / 4352, by omega⟩ ⟨n % 4352 - 256, by omega⟩ ⟨j / 256, by omega⟩ ⟨j % 256, h1⟩)
        else y (ix4 ⟨n / 4352, by omega⟩ ⟨n % 4352 - 256, by omega⟩ ⟨j / 256, by omega⟩ ⟨j % 256 - 128, by omega⟩) := by
  pointwise

/-- The angles of the rows. -/
theorem rowAngle_at (V : Valuation τ sig (Elt Ideal)) (s : Fin 4096) (i : Fin 64) :
    (res_main_v58 V : FVec Ideal S4096x64 .f32) (ix2 s i) = pos (s.val / 64) * freq i.val := by
  unfold res_main_v58 res_main_v46 res_main_v45 freq pos
  pointwise

/-- The angles of the columns. -/
theorem colAngle_at (V : Valuation τ sig (Elt Ideal)) (s : Fin 4096) (i : Fin 64) :
    (res_main_v81 V : FVec Ideal S4096x64 .f32) (ix2 s i) = pos (s.val % 64) * freq i.val := by
  unfold res_main_v81 res_main_v46 res_main_v45 freq pos
  pointwise

/-- The keys' row angles are the queries'. -/
theorem rowAngle_eq (V : Valuation τ sig (Elt Ideal)) : res_main_v129 V = res_main_v58 V := rfl

/-- The keys' column angles are the queries'. -/
theorem colAngle_eq (V : Valuation τ sig (Elt Ideal)) : res_main_v152 V = res_main_v81 V := rfl

/-- The first half head of a latent token. -/
theorem left_at (p : FVec Ideal S8x4352x4x256 .f32) (b : Fin 8) (s : Fin 4096) (a : Fin 4) (l : Fin 128) :
    (extractStridedSlice S8x4096x4x128 ![0, 0, 0, 0] (extractStridedSlice S8x4096x4x256 ![0, 256, 0, 0] p slices_S8x4352x4x256_S8x4096x4x256_0_256_0_0)
      slices_S8x4096x4x256_S8x4096x4x128_0_0_0_0 : FVec Ideal S8x4096x4x128 .f32) (ix4 b s a l) = p (ix4 b ⟨256 + s, by omega⟩ a ⟨l, by omega⟩) := by
  pointwise

/-- The second half head of a latent token. -/
theorem right_at (p : FVec Ideal S8x4352x4x256 .f32) (b : Fin 8) (s : Fin 4096) (a : Fin 4) (l : Fin 128) :
    (extractStridedSlice S8x4096x4x128 ![0, 0, 0, 128] (extractStridedSlice S8x4096x4x256 ![0, 256, 0, 0] p slices_S8x4352x4x256_S8x4096x4x256_0_256_0_0)
      slices_S8x4096x4x256_S8x4096x4x128_0_0_0_128 : FVec Ideal S8x4096x4x128 .f32) (ix4 b s a l) = p (ix4 b ⟨256 + s, by omega⟩ a ⟨128 + l, by omega⟩) := by
  pointwise

/-- A context token's heads. -/
theorem context_at (p : FVec Ideal S8x4352x4x256 .f32) (b : Fin 8) (s : Fin 256) (a : Fin 4) (l : Fin 256) :
    (extractStridedSlice S8x256x4x256 ![0, 0, 0, 0] p slices_S8x4352x4x256_S8x256x4x256_0_0_0_0 : FVec Ideal S8x256x4x256 .f32) (ix4 b s a l)
      = p (ix4 b ⟨s, by omega⟩ a l) := by
  pointwise

/-- Heads with the latent tokens turned, laid flat. -/
def turned (p : FVec Ideal S8x4352x4x256 .f32) (A B : FVec Ideal S4096x64 .f32) : FVec Ideal S34816x1024 .bf16 :=
  truncf .bf16 (shapeCast S34816x1024 (concatenate S8x4352x4x256 1
    [⟨S8x256x4x256, extractStridedSlice S8x256x4x256 ![0, 0, 0, 0] p slices_S8x4352x4x256_S8x256x4x256_0_0_0_0⟩,
     ⟨S8x4096x4x256, concatenate S8x4096x4x256 3
        [⟨S8x4096x4x128, half (extractStridedSlice S8x4096x4x128 ![0, 0, 0, 0] (extractStridedSlice S8x4096x4x256 ![0, 256, 0, 0] p slices_S8x4352x4x256_S8x4096x4x256_0_256_0_0) slices_S8x4096x4x256_S8x4096x4x128_0_0_0_0) A⟩,
         ⟨S8x4096x4x128, half (extractStridedSlice S8x4096x4x128 ![0, 0, 0, 128] (extractStridedSlice S8x4096x4x256 ![0, 256, 0, 0] p slices_S8x4352x4x256_S8x4096x4x256_0_256_0_0) slices_S8x4096x4x256_S8x4096x4x128_0_0_0_128) B⟩]
        concatenates_S8x4096x4x128_S8x4096x4x128_S8x4096x4x256_d3⟩]
    concatenates_S8x256x4x256_S8x4096x4x256_S8x4352x4x256_d1) shapeCasts_S8x4352x4x256_S34816x1024) bitsLt_bf16_f32

/-- The turned heads at an element. -/
theorem turned_at (p : FVec Ideal S8x4352x4x256 .f32) (A B : FVec Ideal S4096x64 .f32)
    (hA : ∀ s i, A (ix2 s i) = pos (s.val / 64) * freq i.val) (hB : ∀ s i, B (ix2 s i) = pos (s.val % 64) * freq i.val)
    (P : Fin 1024 → EReal) (n : Fin 34816) (hb : n.val / 4352 < 8)
    (hP : ∀ (v : Fin 4352) (a : Fin 4) (l : Fin 256) (q : Fin 1024), v.val = n.val % 4352 → a.val * 256 + l.val = q.val → p (ix4 ⟨n / 4352, hb⟩ v a l) = P q)
    (j : Fin 1024) : turned p A B (ix2 n j) = rotary P (n.val % 4352) j := by
  have hj : (opposite j).val = j.val / 128 * 128 + (j.val + 64) % 128 := rfl
  refine (flat_at _ _ _ n j).trans ?_
  unfold rotary cosT sinT angle
  by_cases hn : n.val % 4352 < 256
  · rw [dif_pos hn, if_pos hn, if_pos hn, context_at, hP _ _ _ j (by dsimp only) (by dsimp only; omega), mul_one, mul_zero, add_zero]
  rw [dif_neg hn, if_neg hn, if_neg hn]
  by_cases h1 : j.val % 256 < 128
  · rw [dif_pos h1, half_at]
    by_cases h2 : j.val % 256 < 64
    · have e1 : j.val % 256 % 64 = j.val % 256 := by omega
      have e2 : j.val % 256 % 128 < 64 := by omega
      rw [dif_pos h2, left_at, left_at, hA, hP _ _ _ j (by dsimp only; omega) (by dsimp only; omega),
        hP _ _ _ (opposite j) (by dsimp only; omega) (by dsimp only; omega), if_pos h1, if_pos e2, e1, mul_neg, sub_eq_add_neg]
    · have e1 : j.val % 256 % 64 = j.val % 256 - 64 := by omega
      have e2 : ¬ j.val % 256 % 128 < 64 := by omega
      rw [dif_neg h2, left_at, left_at, hA, hP _ _ _ (opposite j) (by dsimp only; omega) (by dsimp only; omega),
        hP _ _ _ j (by dsimp only; omega) (by dsimp only; omega), if_pos h1, if_neg e2, e1, add_comm]
  · rw [dif_neg h1, half_at]
    by_cases h2 : j.val % 256 - 128 < 64
    · have e1 : j.val % 256 % 64 = j.val % 256 - 128 := by omega
      have e2 : j.val % 256 % 128 < 64 := by omega
      rw [dif_pos h2, right_at, right_at, hB, hP _ _ _ j (by dsimp only; omega) (by dsimp only; omega),
        hP _ _ _ (opposite j) (by dsimp only; omega) (by dsimp only; omega), if_neg h1, if_pos e2, e1, mul_neg, sub_eq_add_neg]
    · have e1 : j.val % 256 % 64 = j.val % 256 - 128 - 64 := by omega
      have e2 : ¬ j.val % 256 % 128 < 64 := by omega
      rw [dif_neg h2, right_at, right_at, hB, hP _ _ _ (opposite j) (by dsimp only; omega) (by dsimp only; omega),
        hP _ _ _ j (by dsimp only; omega) (by dsimp only; omega), if_neg h1, if_neg e2, e1, add_comm]

variable (m : (ℓ : Loc nD τ sig) → Buf (Elt Ideal) ℓ)

/-- The weights, at an element. -/
theorem weight_at (W : Vec Ideal S2x1024x6144 .bf16) (x : Fin 1024) (f : Fin 6144) :
    (extf (F := Ideal) .f32 (shapeCast S1024x6144 (extractStridedSlice S1x1024x6144 ![1, 0, 0] W slices_S2x1024x6144_S1x1024x6144_1_0_0)
        shapeCasts_S1x1024x6144_S1024x6144 : FVec Ideal S1024x6144 .bf16) bitsLt_bf16_f32 : FVec Ideal S1024x6144 .f32) (ix2 x f) = W (ix3 1 x f) := by
  pointwise

/-- The reference's matrix product at an element. -/
theorem dot_at (X : FVec Ideal S8x4352x1024 .f32) (Y : FVec Ideal S1024x6144 .f32) (b : Fin 8) (t : Fin 4352) (f : Fin 6144) :
    (Host.dotGeneral (F := Ideal) dot_S8x4352x1024_S1024x6144_S8x4352x6144_2_0_01_1_n_n none X Y : FVec Ideal S8x4352x6144 .f32) (ix3 b t f)
      = ∑ x, X (ix3 b t x) * Y (ix2 x f) := by
  pointwise

/-- The reference's whole product. -/
def whole (H : Vec Ideal S8x4352x1024 .f32) (D : Vec Ideal S4x2x8x9x1024 .f32) (W : Vec Ideal S2x1024x6144 .bf16) : FVec Ideal S8x4352x6144 .f32 :=
  Host.dotGeneral (F := Ideal) dot_S8x4352x1024_S1024x6144_S8x4352x6144_2_0_01_1_n_n none
    (modulated H (chosen D 3 4 (by decide) (by decide)) (chosen D 3 3 (by decide) (by decide)))
    (extf .f32 (shapeCast S1024x6144 (extractStridedSlice S1x1024x6144 ![1, 0, 0] W slices_S2x1024x6144_S1x1024x6144_1_0_0)
      shapeCasts_S1x1024x6144_S1024x6144 : FVec Ideal S1024x6144 .bf16) bitsLt_bf16_f32)

/-- The whole product at sequence, place and column. -/
theorem whole_at (H : Vec Ideal S8x4352x1024 .f32) (D : Vec Ideal S4x2x8x9x1024 .f32) (W : Vec Ideal S2x1024x6144 .bf16)
    (n : Fin 34816) (hb : n.val / 4352 < 8) (v : Fin 4352) (hv : v.val = n.val % 4352) (f : Fin 6144) :
    whole H D W (ix3 ⟨n.val / 4352, hb⟩ v f) = product 3 1 H D W n f := by
  have ht : n.val % 4352 < 4352 := by omega
  obtain rfl : v = ⟨n.val % 4352, ht⟩ := Fin.ext hv
  exact (dot_at _ _ _ _ f).trans (product_eq 3 (by omega) 1 H D W (fun x f => _) (weight_at W) _ _ _ _ n hb ht f)

/-- What the reference multiplies out is that product of its arguments. -/
theorem whole_eq (c : Dev nD) : res_main_v31 (StableHlo.launchContents m c) = whole (m ((c : Thread nD τ).loc main_arg0)) (m ((c : Thread nD τ).loc main_arg1)) (m ((c : Thread nD τ).loc main_arg2)) := rfl

/-- The query heads, before turning. -/
theorem heads_at (X : FVec Ideal S8x4352x6144 .f32) (b : Fin 8) (v : Fin 4352) (a : Fin 4) (l : Fin 256) :
    (shapeCast S8x4352x4x256 (extractStridedSlice S8x4352x1024 ![0, 0, 0] X slices_S8x4352x6144_S8x4352x1024_0_0_0) shapeCasts_S8x4352x1024_S8x4352x4x256
      : FVec Ideal S8x4352x4x256 .f32) (ix4 b v a l) = X (ix3 b v ⟨a * 256 + l, by omega⟩) := by
  pointwise

/-- The key heads, before turning. -/
theorem keys_at (X : FVec Ideal S8x4352x6144 .f32) (b : Fin 8) (v : Fin 4352) (a : Fin 4) (l : Fin 256) :
    (mulf (shapeCast S8x4352x4x256 (extractStridedSlice S8x4352x1024 ![0, 0, 1024] X slices_S8x4352x6144_S8x4352x1024_0_0_1024) shapeCasts_S8x4352x1024_S8x4352x4x256)
        (broadcastInDim S8x4352x4x256 ![] bcast_S_S8x4352x4x256 (constant S_ .f32 0x3D800000#32))
      : FVec Ideal S8x4352x4x256 .f32) (ix4 b v a l) = X (ix3 b v ⟨1024 + (a * 256 + l), by omega⟩) * Ideal.ofBits FTy.f32 0x3D800000#32 := by
  pointwise

/-- The values, laid flat. -/
theorem values_at (X : FVec Ideal S8x4352x6144 .f32) (n : Fin 34816) (j : Fin 2048) :
    (truncf .bf16 (shapeCast S34816x2048 (extractStridedSlice S8x4352x2048 ![0, 0, 2048] X slices_S8x4352x6144_S8x4352x2048_0_0_2048) shapeCasts_S8x4352x2048_S34816x2048) bitsLt_bf16_f32
      : FVec Ideal S34816x2048 .bf16) (ix2 n j) = X (ix3 ⟨n / 4352, by omega⟩ ⟨n % 4352, by omega⟩ ⟨2048 + j, by omega⟩) := by
  pointwise

/-- The activated gates, laid flat. -/
theorem gates_at (X : FVec Ideal S8x4352x6144 .f32) (U : FVec Ideal S8x4352x2048 .f32)
    (hU : U = extractStridedSlice S8x4352x2048 ![0, 0, 4096] X slices_S8x4352x6144_S8x4352x2048_0_0_4096) (n : Fin 34816) (j : Fin 2048) :
    (truncf .bf16 (shapeCast S34816x2048 (mulf U (Host.divf (broadcastInDim S8x4352x2048 ![] bcast_S_S8x4352x2048 (constant S_ .f32 0x3F800000#32))
        (addf (broadcastInDim S8x4352x2048 ![] bcast_S_S8x4352x2048 (constant S_ .f32 0x3F800000#32)) (Host.exp (Host.negf U))))) shapeCasts_S8x4352x2048_S34816x2048) bitsLt_bf16_f32
      : FVec Ideal S34816x2048 .bf16) (ix2 n j) = silu (X (ix3 ⟨n / 4352, by omega⟩ ⟨n % 4352, by omega⟩ ⟨4096 + j, by omega⟩)) := by
  subst hU
  unfold silu
  pointwise

/-- The query result at an element. -/
theorem q_at (c : Dev nD) (n : Fin 34816) (j : Fin 1024) : turned (res_main_v33 (StableHlo.launchContents m c)) (res_main_v58 (StableHlo.launchContents m c))
    (res_main_v81 (StableHlo.launchContents m c)) (ix2 n j) = qOut (m ((c : Thread nD τ).loc main_arg0)) (m ((c : Thread nD τ).loc main_arg1)) (m ((c : Thread nD τ).loc main_arg2)) n j := by
  have hb : n.val / 4352 < 8 := by omega
  refine turned_at _ _ _ (rowAngle_at _) (colAngle_at _) _ n hb (fun v a l q hv hq => ?_) j
  refine (heads_at _ _ v a l).trans (((congrFun (whole_eq m c) _).trans (whole_at _ _ _ n hb v hv _)).trans (congrArg (product _ _ _ _ _ n) (Fin.ext hq)))

/-- The key result at an element. -/
theorem k_at (c : Dev nD) (n : Fin 34816) (j : Fin 1024) : turned (res_main_v104 (StableHlo.launchContents m c)) (res_main_v58 (StableHlo.launchContents m c))
    (res_main_v81 (StableHlo.launchContents m c)) (ix2 n j) = kOut (m ((c : Thread nD τ).loc main_arg0)) (m ((c : Thread nD τ).loc main_arg1)) (m ((c : Thread nD τ).loc main_arg2)) n j := by
  have hb : n.val / 4352 < 8 := by omega
  refine turned_at _ _ _ (rowAngle_at _) (colAngle_at _) _ n hb (fun v a l q hv hq => ?_) j
  refine (keys_at _ _ v a l).trans (congrArg (· * _) (((congrFun (whole_eq m c) _).trans (whole_at _ _ _ n hb v hv _)).trans (congrArg (product _ _ _ _ _ n) (Fin.ext (congrArg (1024 + ·) hq)))))

/-- The reference's run: its four result arrays, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v173) = (fun i : S34816x1024.Idx => qOut (m ((c : Thread nD τ).loc main_arg0)) (m ((c : Thread nD τ).loc main_arg1)) (m ((c : Thread nD τ).loc main_arg2)) (i 0) (i 1))
      ∧ r.2.mem ((c.tc : Thread nD τ).loc main_v175) = (fun i : S34816x1024.Idx => kOut (m ((c : Thread nD τ).loc main_arg0)) (m ((c : Thread nD τ).loc main_arg1)) (m ((c : Thread nD τ).loc main_arg2)) (i 0) (i 1))
      ∧ r.2.mem ((c.tc : Thread nD τ).loc main_v178) = (fun i : S34816x2048.Idx => vOut (m ((c : Thread nD τ).loc main_arg0)) (m ((c : Thread nD τ).loc main_arg1)) (m ((c : Thread nD τ).loc main_arg2)) (i 0) (i 1))
      ∧ r.2.mem ((c.tc : Thread nD τ).loc main_v182) = (fun i : S34816x2048.Idx => gOut (m ((c : Thread nD τ).loc main_arg0)) (m ((c : Thread nD τ).loc main_arg1)) (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨
    (h c).1.trans (funext fun i => (congrArg (turned _ _ _) (show i = ix2 (i 0) (i 1) by blk_ext)).trans (q_at m c (i 0) (i 1))),
    (h c).2.1.trans ((congrArg₂ (turned _) (rowAngle_eq _) (colAngle_eq _)).trans <| funext fun i => (congrArg (turned _ _ _) (show i = ix2 (i 0) (i 1) by blk_ext)).trans (k_at m c (i 0) (i 1))),
    (h c).2.2.1.trans (funext fun i => (congrArg _ (show i = ix2 (i 0) (i 1) by blk_ext)).trans ((values_at _ (i 0) (i 1)).trans ((congrFun (whole_eq m c) _).trans (whole_at _ _ _ (i 0) _ _ rfl _)))),
    (h c).2.2.2.1.trans (funext fun i => (congrArg _ (show i = ix2 (i 0) (i 1) by blk_ext)).trans ((gates_at _ _ rfl (i 0) (i 1)).trans (congrArg silu ((congrFun (whole_eq m c) _).trans (whole_at _ _ _ (i 0) _ _ rfl _))))),
    (h c).2.2.2.2⟩) (Cert.RetProjRefIdeal.Value.run m ρ)

end Cert.RetProjRefIdeal.Hand

end
-- ==== Proof.LruProjTile.lean ====
/- One tile of the recurrent mixer's input projection: the gate half and the input half of the product. -/
module

public import proofs.«01_k».proof.Proof.Row
public import proofs.«01_k».proof.Proof.Gen.LruProjIdeal.Value
public import Idealize.ShloMosaic.Lib.Pipeline.ValueKit
public import Idealize.ShloMosaic.Lib.Pointwise.Tactic
public import Idealize.ShloMosaic.Lib.ValueIdxCore

@[expose] public section

set_option maxRecDepth 16384

noncomputable section

namespace Cert.LruProjIdeal.Hand

open Cert.LruProjIdeal Cert.LruProjIdeal.Gen Idealize.ShloMosaic Idealize.ShloMosaic.TcCoe Idealize.SL.Sem Cert.Row

/-- The gate half of one tile. -/
def gateTile (h : Vec Ideal S1x256x1024 .f32) (d : Vec Ideal S1x1x1x9x1024 .f32) (w : Vec Ideal S1x1024x2048 .bf16) :
    FVec Ideal S256x1024 .bf16 := k0_pay5 d h w

/-- The input half of one tile. -/
def inTile (h : Vec Ideal S1x256x1024 .f32) (d : Vec Ideal S1x1x1x9x1024 .f32) (w : Vec Ideal S1x1024x2048 .bf16) :
    FVec Ideal S256x1024 .f32 := k0_pay6 d h w

/-- The whole product at an element. -/
theorem proj_at (h : Vec Ideal S1x256x1024 .f32) (d : Vec Ideal S1x1x1x9x1024 .f32) (w : Vec Ideal S1x1024x2048 .bf16)
    (r : Fin 256) (f : Fin 2048) : k0_pay4 d h w (ix2 r f)
      = gateUp (fun x => h (ix3 0 r x)) (fun x => d (ix5 0 0 0 3 x)) (fun x => d (ix5 0 0 0 4 x)) (fun x => w (ix3 0 x f)) := by
  unfold k0_pay4 gateUp
  pointwise

/-- The input half at an element. -/
theorem in_at (h : Vec Ideal S1x256x1024 .f32) (d : Vec Ideal S1x1x1x9x1024 .f32) (w : Vec Ideal S1x1024x2048 .bf16)
    (r : Fin 256) (j : Fin 1024) : inTile h d w (ix2 r j)
      = gateUp (fun x => h (ix3 0 r x)) (fun x => d (ix5 0 0 0 3 x)) (fun x => d (ix5 0 0 0 4 x))
          (fun x => w (ix3 0 x ⟨1024 + j, by omega⟩)) := by
  rw [← proj_at]
  unfold inTile k0_pay6
  pointwise

/-- The gate half at an element. -/
theorem gate_at (h : Vec Ideal S1x256x1024 .f32) (d : Vec Ideal S1x1x1x9x1024 .f32) (w : Vec Ideal S1x1024x2048 .bf16)
    (r : Fin 256) (j : Fin 1024) : gateTile h d w (ix2 r j)
      = gelu (gateUp (fun x => h (ix3 0 r x)) (fun x => d (ix5 0 0 0 3 x)) (fun x => d (ix5 0 0 0 4 x))
          (fun x => w (ix3 0 x ⟨j, by omega⟩))) := by
  rw [← proj_at]
  unfold gateTile k0_pay5 gelu
  pointwise

/-! The other three tiles' payloads are the first's of their own blocks. -/

section
variable (h : Vec Ideal S1x256x1024 .f32) (d : Vec Ideal S1x1x1x9x1024 .f32) (w : Vec Ideal S1x1024x2048 .bf16)

/-- The first tile stores the gate branch of its rows. -/
theorem gate0 : k0_pay5 d h w = gateTile h d w := rfl
/-- The second tile stores the gate branch of its rows. -/
theorem gate1 : k0_pay8 d h w = gateTile h d w := rfl
/-- The third tile stores the gate branch of its rows. -/
theorem gate2 : k0_pay11 d h w = gateTile h d w := rfl
/-- The first tile stores the input branch of its rows. -/
theorem in0 : k0_pay6 d h w = inTile h d w := rfl
/-- The second tile stores the input branch of its rows. -/
theorem in1 : k0_pay9 d h w = inTile h d w := rfl
/-- The third tile stores the input branch of its rows. -/
theorem in2 : k0_pay12 d h w = inTile h d w := rfl
/-- The fourth tile stores the gate branch of its rows. -/
theorem gate3 : k0_pay2 (k0_pay13 d) h w = gateTile h d w := rfl
/-- The fourth tile stores the input branch of its rows. -/
theorem in3 : k0_pay3 (k0_pay13 d) h w = inTile h d w := rfl
end

end Cert.LruProjIdeal.Hand

end
-- ==== Proof.LruProjValue.lean ====
/- The recurrent mixer's input projection: both result arrays, element by element. -/
module

public import proofs.«01_k».proof.Proof.LruProjTile
public import proofs.«01_k».proof.Proof.Tokens

@[expose] public section

set_option maxRecDepth 16384

noncomputable section

namespace Cert.LruProjIdeal.Hand

open Cert.LruProjIdeal Cert.LruProjIdeal.Gen Idealize.ShloMosaic Idealize.ShloMosaic.TcCoe Idealize.SL.Sem Cert.Row Cert.Tokens
open Idealize.ShloMosaic.Pipeline (Dat)

/-- The gate result. -/
def gateOut (h : Vec Ideal S8x4352x1024 .f32) (d : Vec Ideal S4x2x8x9x1024 .f32) (w : Vec Ideal S1x1024x2048 .bf16)
    (n : Fin 34816) (j : Fin 1024) : EReal := gelu (product 2 0 h d w n ⟨j, by omega⟩)

/-- The input result. -/
def inOut (h : Vec Ideal S8x4352x1024 .f32) (d : Vec Ideal S4x2x8x9x1024 .f32) (w : Vec Ideal S1x1024x2048 .bf16)
    (n : Fin 34816) (j : Fin 1024) : EReal := product 2 0 h d w n ⟨1024 + j, by omega⟩

variable (m : (ℓ : Loc nD τ sig) → Buf (Elt Ideal) ℓ)

/-- The index maps of the windows over the whole grid: tile `4t + k` of the sequence. -/
theorem idx : ∀ t : Fin cfg0.N,
    win0_0.index t = ![(4 * t.val + 0) / 17, (4 * t.val + 0) % 17, 0]
    ∧ win0_2.index t = ![(4 * t.val + 1) / 17, (4 * t.val + 1) % 17, 0]
    ∧ win0_4.index t = ![(4 * t.val + 2) / 17, (4 * t.val + 2) % 17, 0]
    ∧ win0_6.index t = ![(4 * t.val + 3) / 17, (4 * t.val + 3) % 17, 0]
    ∧ win0_1.index t = ![2, if (4 * t.val + 0) % 17 < 1 then 0 else 1, (4 * t.val + 0) / 17, 0, 0]
    ∧ win0_3.index t = ![2, if (4 * t.val + 1) % 17 < 1 then 0 else 1, (4 * t.val + 1) / 17, 0, 0]
    ∧ win0_5.index t = ![2, if (4 * t.val + 2) % 17 < 1 then 0 else 1, (4 * t.val + 2) / 17, 0, 0]
    ∧ win0_7.index t = ![2, if (4 * t.val + 3) % 17 < 1 then 0 else 1, (4 * t.val + 3) / 17, 0, 0]
    ∧ win0_8.index t = ![0, 0, 0]
    ∧ win0_9.index t = ![t.val, 0]
    ∧ win0_10.index t = ![t.val, 0] :=
  (by decide +kernel : ∀ t : Fin grid0.N, _)

/-! A load of a whole block is the block. -/

/-- The modulation block. -/
theorem ld_r0_0 (X : Vec Ideal S1x1x1x9x1024 .f32) : View.ld X r0_0 = X := View.ld_unit_lit _ X (by decide)
/-- The row block. -/
theorem ld_r0_1 (X : Vec Ideal S1x256x1024 .f32) : View.ld X r0_1 = X := View.ld_unit_lit _ X (by decide)
/-- The weight block. -/
theorem ld_r0_2 (X : Vec Ideal S1x1024x2048 .bf16) : View.ld X r0_2 = X := View.ld_unit_lit _ X (by decide)

/-- The blocks of a point are its four tiles. -/
theorem tiles (c : Dev nD) (t : Fin cfg0.N) (ht : t.val < 34) :
    IsTile (m ((c : Thread nD τ).loc main_arg0)) (m ((c : Thread nD τ).loc main_arg1)) 2 (4 * t.val + 0) (by omega) (View.ld (iblk m c 0 t) r0_1) (View.ld (iblk m c 1 t) r0_0)
    ∧ IsTile (m ((c : Thread nD τ).loc main_arg0)) (m ((c : Thread nD τ).loc main_arg1)) 2 (4 * t.val + 1) (by omega) (View.ld (iblk m c 2 t) r0_1) (View.ld (iblk m c 3 t) r0_0)
    ∧ IsTile (m ((c : Thread nD τ).loc main_arg0)) (m ((c : Thread nD τ).loc main_arg1)) 2 (4 * t.val + 2) (by omega) (View.ld (iblk m c 4 t) r0_1) (View.ld (iblk m c 5 t) r0_0)
    ∧ IsTile (m ((c : Thread nD τ).loc main_arg0)) (m ((c : Thread nD τ).loc main_arg1)) 2 (4 * t.val + 3) (by omega) (View.ld (iblk m c 6 t) r0_1) (View.ld (iblk m c 7 t) r0_0) := by
  refine ⟨?_, ?_, ?_, ?_⟩ <;>
    exact ⟨fun r x => (congrFun (ld_r0_1 _) _).trans (by blk_ext [iblk, V, idx t]),
      fun p x => (congrFun (ld_r0_0 _) _).trans (by blk_ext [iblk, V, idx t])⟩

/-- The weight block. -/
theorem weights (c : Dev nD) (t : Fin cfg0.N) (x : Fin 1024) (f : Fin 2048) :
    (View.ld (iblk m c 8 t) r0_2 : Vec Ideal S1x1024x2048 .bf16) (ix3 0 x f) = (m ((c : Thread nD τ).loc main_arg2) : Vec Ideal S1x1024x2048 .bf16) (ix3 0 x f) :=
  (congrFun (ld_r0_2 (iblk m c 8 t)) _).trans (by blk_ext [iblk, V, idx t])

/-- A tile's gate half, at an element. -/
theorem core_gate (c : Dev nD) (t : Fin cfg0.N) (q : ℕ) (hq : q < 136) (h : Vec Ideal S1x256x1024 .f32) (d : Vec Ideal S1x1x1x9x1024 .f32)
    (T : IsTile (m ((c : Thread nD τ).loc main_arg0)) (m ((c : Thread nD τ).loc main_arg1)) 2 q hq h d) (x : S256x1024.Idx)
    (n : Fin 34816) (hn : n.val = 256 * q + (x 0).val) (j : Fin 1024) (hj : j.val = (x 1).val) :
    gateTile h d (View.ld (iblk m c 8 t) r0_2) x = gateOut (m ((c : Thread nD τ).loc main_arg0)) (m ((c : Thread nD τ).loc main_arg1)) (m ((c : Thread nD τ).loc main_arg2)) n j := by
  exact (congrArg _ (show x = ix2 (x 0) (x 1) by blk_ext)).trans ((gate_at _ _ _ (x 0) (x 1)).trans
    ((congrArg gelu (T.product 0 _ _ (weights m c t) _ _ n hn)).trans (congrArg (gateOut _ _ _ n) (Fin.ext hj.symm))))

/-- A tile's input half, at an element. -/
theorem core_in (c : Dev nD) (t : Fin cfg0.N) (q : ℕ) (hq : q < 136) (h : Vec Ideal S1x256x1024 .f32) (d : Vec Ideal S1x1x1x9x1024 .f32)
    (T : IsTile (m ((c : Thread nD τ).loc main_arg0)) (m ((c : Thread nD τ).loc main_arg1)) 2 q hq h d) (x : S256x1024.Idx)
    (n : Fin 34816) (hn : n.val = 256 * q + (x 0).val) (j : Fin 1024) (hj : j.val = (x 1).val) :
    inTile h d (View.ld (iblk m c 8 t) r0_2) x = inOut (m ((c : Thread nD τ).loc main_arg0)) (m ((c : Thread nD τ).loc main_arg1)) (m ((c : Thread nD τ).loc main_arg2)) n j := by
  exact (congrArg _ (show x = ix2 (x 0) (x 1) by blk_ext)).trans ((in_at _ _ _ (x 0) (x 1)).trans
    ((T.product 0 _ _ (weights m c t) _ _ n hn).trans (congrArg (inOut _ _ _ n) (Fin.ext hj.symm))))

/-- What a point stores into the gate result. -/
theorem gate (c : Dev nD) (t : Fin cfg0.N) (y : S1024x1024.Idx) (n : Fin 34816) (hn : n.val = 1024 * t.val + (y 0).val) :
    out0_9 (iblk m c 0 t) (iblk m c 1 t) (iblk m c 2 t) (iblk m c 3 t) (iblk m c 4 t) (iblk m c 5 t) (iblk m c 6 t) (iblk m c 7 t)
        (iblk m c 8 t) y = gateOut (m ((c : Thread nD τ).loc main_arg0)) (m ((c : Thread nD τ).loc main_arg1)) (m ((c : Thread nD τ).loc main_arg2)) n (y 1) := by
  obtain ⟨T0, T1, T2, T3⟩ := tiles m c t (lt_of_lt_of_eq t.isLt N_0)
  unfold_out out0_9
  rw [gate0, gate1, gate2, gate3]
  canon_tiles x hx
  · exact core_gate m c t _ _ _ _ T3 x n (by omega) _ hx1
  · exact core_gate m c t _ _ _ _ T2 x n (by omega) _ hx1
  · exact core_gate m c t _ _ _ _ T1 x n (by omega) _ hx1
  · exact core_gate m c t _ _ _ _ T0 x n (by omega) _ hx1

/-- That result array after the run. -/
theorem gate_final (c : Dev nD) : (dats m 0 c).arrAt 9 (cfgs 0).N = fun i : S34816x1024.Idx => gateOut (m ((c : Thread nD τ).loc main_arg0)) (m ((c : Thread nD τ).loc main_arg1)) (m ((c : Thread nD τ).loc main_arg2)) (i 0) (i 1) := by
  refine (dats m 0 c).arrAt_eq_of_covers 9 _ (by decide +kernel) fun t _ y => ?_
  blk_simp
  rw [after0_9]
  have h1 : (((cfg0.win 9).blk t).view.emb y) 1 = y 1 := Fin.ext (by blk_simp [idx t])
  exact (gate m c t y _ (by blk_simp [idx t]; omega)).trans (congrArg (gateOut _ _ _ _) h1.symm)

/-- What a point stores into the input result. -/
theorem inp (c : Dev nD) (t : Fin cfg0.N) (y : S1024x1024.Idx) (n : Fin 34816) (hn : n.val = 1024 * t.val + (y 0).val) :
    out0_10 (iblk m c 0 t) (iblk m c 1 t) (iblk m c 2 t) (iblk m c 3 t) (iblk m c 4 t) (iblk m c 5 t) (iblk m c 6 t) (iblk m c 7 t)
        (iblk m c 8 t) y = inOut (m ((c : Thread nD τ).loc main_arg0)) (m ((c : Thread nD τ).loc main_arg1)) (m ((c : Thread nD τ).loc main_arg2)) n (y 1) := by
  obtain ⟨T0, T1, T2, T3⟩ := tiles m c t (lt_of_lt_of_eq t.isLt N_0)
  unfold_out out0_10
  rw [in0, in1, in2, in3]
  canon_tiles x hx
  · exact core_in m c t _ _ _ _ T3 x n (by omega) _ hx1
  · exact core_in m c t _ _ _ _ T2 x n (by omega) _ hx1
  · exact core_in m c t _ _ _ _ T1 x n (by omega) _ hx1
  · exact core_in m c t _ _ _ _ T0 x n (by omega) _ hx1

/-- That result array after the run. -/
theorem inp_final (c : Dev nD) : (dats m 0 c).arrAt 10 (cfgs 0).N = fun i : S34816x1024.Idx => inOut (m ((c : Thread nD τ).loc main_arg0)) (m ((c : Thread nD τ).loc main_arg1)) (m ((c : Thread nD τ).loc main_arg2)) (i 0) (i 1) := by
  refine (dats m 0 c).arrAt_eq_of_covers 10 _ (by decide +kernel) fun t _ y => ?_
  blk_simp
  rw [after0_10]
  have h1 : (((cfg0.win 10).blk t).view.emb y) 1 = y 1 := Fin.ext (by blk_simp [idx t])
  exact (inp m c t y _ (by blk_simp [idx t]; omega)).trans (congrArg (inOut _ _ _ _) h1.symm)

end Cert.LruProjIdeal.Hand

end
-- ==== Proof.LruProjRef.lean ====
/- The recurrent mixer's input projection, the reference: both results, element by element. -/
module

public import proofs.«01_k».proof.Proof.LruProjValue
public import proofs.«01_k».proof.Proof.Gen.LruProjRefIdeal.Run

@[expose] public section

set_option maxRecDepth 16384

noncomputable section

namespace Cert.LruProjRefIdeal.Hand

open Cert.LruProjRefIdeal Cert.LruProjRefIdeal.Gen Cert.LruProjRefIdeal.Value Idealize.ShloMosaic Idealize.ShloMosaic.TcCoe Idealize.SL.Sem Cert.Row Cert.Tokens

variable (m : (ℓ : Loc nD τ sig) → Buf (Elt Ideal) ℓ)

/-- The weights, at an element. -/
theorem weight_at (W : Vec Ideal S1x1024x2048 .bf16) (x : Fin 1024) (f : Fin 2048) :
    (extf (F := Ideal) .f32 (shapeCast S1024x2048 W shapeCasts_S1x1024x2048_S1024x2048 : FVec Ideal S1024x2048 .bf16) bitsLt_bf16_f32
      : FVec Ideal S1024x2048 .f32) (ix2 x f) = W (ix3 0 x f) := by
  pointwise

/-- The reference's matrix product at an element. -/
theorem dot_at (X : FVec Ideal S8x4352x1024 .f32) (Y : FVec Ideal S1024x2048 .f32) (b : Fin 8) (t : Fin 4352) (f : Fin 2048) :
    (Host.dotGeneral (F := Ideal) dot_S8x4352x1024_S1024x2048_S8x4352x2048_2_0_01_1_n_n none X Y : FVec Ideal S8x4352x2048 .f32) (ix3 b t f)
      = ∑ x, X (ix3 b t x) * Y (ix2 x f) := by
  pointwise

/-- The reference's whole product. -/
def whole (H : Vec Ideal S8x4352x1024 .f32) (D : Vec Ideal S4x2x8x9x1024 .f32) (W : Vec Ideal S1x1024x2048 .bf16) : FVec Ideal S8x4352x2048 .f32 :=
  Host.dotGeneral (F := Ideal) dot_S8x4352x1024_S1024x2048_S8x4352x2048_2_0_01_1_n_n none
    (modulated H (chosen D 2 4 (by decide) (by decide)) (chosen D 2 3 (by decide) (by decide)))
    (extf .f32 (shapeCast S1024x2048 W shapeCasts_S1x1024x2048_S1024x2048 : FVec Ideal S1024x2048 .bf16) bitsLt_bf16_f32)

/-- The whole product at a token and a column. -/
theorem whole_at (H : Vec Ideal S8x4352x1024 .f32) (D : Vec Ideal S4x2x8x9x1024 .f32) (W : Vec Ideal S1x1024x2048 .bf16)
    (n : Fin 34816) (hb : n.val / 4352 < 8) (ht : n.val % 4352 < 4352) (f : Fin 2048) :
    whole H D W (ix3 ⟨n.val / 4352, hb⟩ ⟨n.val % 4352, ht⟩ f) = product 2 0 H D W n f :=
  (dot_at _ _ _ _ f).trans (product_eq 2 (by omega) 0 H D W (fun x f => _) (weight_at W) _ _ _ _ n hb ht f)

/-- A column of the product laid flat, at an element. -/
theorem flat_at (X : FVec Ideal S8x4352x2048 .f32) (n : Fin 34816) (f : Fin 2048) (hb : n.val / 4352 < 8) (ht : n.val % 4352 < 4352) :
    (shapeCast S34816x2048 X shapeCasts_S8x4352x2048_S34816x2048 : FVec Ideal S34816x2048 .f32) (ix2 n f) = X (ix3 ⟨n.val / 4352, hb⟩ ⟨n.val % 4352, ht⟩ f) := by
  pointwise

/-- The whole product laid flat, at an element. -/
theorem wholeFlat_at (H : Vec Ideal S8x4352x1024 .f32) (D : Vec Ideal S4x2x8x9x1024 .f32) (W : Vec Ideal S1x1024x2048 .bf16)
    (n : Fin 34816) (f : Fin 2048) : (shapeCast S34816x2048 (whole H D W) shapeCasts_S8x4352x2048_S34816x2048 : FVec Ideal S34816x2048 .f32) (ix2 n f)
      = product 2 0 H D W n f :=
  (flat_at _ n f (by omega) (by omega)).trans (whole_at H D W n _ _ f)

/-- The gate result at token `n`, lane `j`. -/
theorem gate_at (c : Dev nD) (n : Fin 34816) (j : Fin 1024) : (res_out0 m c : Vec Ideal S34816x1024 .bf16) (ix2 n j)
      = Cert.LruProjIdeal.Hand.gateOut (m ((c : Thread nD τ).loc main_arg0)) (m ((c : Thread nD τ).loc main_arg1)) (m ((c : Thread nD τ).loc main_arg2)) n j := by
  have hj : j.val < 2048 := by omega
  have hw := wholeFlat_at (m ((c : Thread nD τ).loc main_arg0)) (m ((c : Thread nD τ).loc main_arg1)) (m ((c : Thread nD τ).loc main_arg2)) n ⟨j, hj⟩
  unfold Cert.LruProjIdeal.Hand.gateOut res_out0 res_main_v46 gelu
  rw [← hw]
  clear hw
  generalize hX : shapeCast S34816x2048 (Host.dotGeneral (F := Ideal) (so := S8x4352x2048) _ none _ _) _ = X
  obtain rfl : X = shapeCast S34816x2048 (whole (m ((c : Thread nD τ).loc main_arg0)) (m ((c : Thread nD τ).loc main_arg1)) (m ((c : Thread nD τ).loc main_arg2))) shapeCasts_S8x4352x2048_S34816x2048 := hX.symm
  clear hX
  generalize shapeCast S34816x2048 (whole (m ((c : Thread nD τ).loc main_arg0)) (m ((c : Thread nD τ).loc main_arg1)) (m ((c : Thread nD τ).loc main_arg2))) shapeCasts_S8x4352x2048_S34816x2048 = X
  pointwise
  rw [← mul_assoc, mul_comm (X _)]

/-- The input half at an element. -/
theorem half_at (X : FVec Ideal S34816x2048 .f32) (n : Fin 34816) (j : Fin 1024) :
    (extractStridedSlice S34816x1024 ![0, 1024] X slices_S34816x2048_S34816x1024_0_1024 : FVec Ideal S34816x1024 .f32) (ix2 n j)
      = X (ix2 n ⟨1024 + j, by omega⟩) := by
  pointwise

/-- The reference's run: both result arrays, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = (fun i : S34816x1024.Idx => Cert.LruProjIdeal.Hand.gateOut (m ((c : Thread nD τ).loc main_arg0)) (m ((c : Thread nD τ).loc main_arg1)) (m ((c : Thread nD τ).loc main_arg2)) (i 0) (i 1))
      ∧ r.2.mem ((c.tc : Thread nD τ).loc main_v47) = (fun i : S34816x1024.Idx => Cert.LruProjIdeal.Hand.inOut (m ((c : Thread nD τ).loc main_arg0)) (m ((c : Thread nD τ).loc main_arg1)) (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨
    (h c).1.trans (funext fun i => (congrArg (res_out0 m c : Vec Ideal S34816x1024 .bf16) (show i = ix2 (i 0) (i 1) by blk_ext)).trans (gate_at m c (i 0) (i 1))),
    (h c).2.1.trans (funext fun i => (congrArg _ (show i = ix2 (i 0) (i 1) by blk_ext)).trans ((half_at _ (i 0) (i 1)).trans
      (wholeFlat_at _ _ _ (i 0) _))),
    (h c).2.2⟩) (Cert.LruProjRefIdeal.Value.run m ρ)

end Cert.LruProjRefIdeal.Hand

end
-- ==== Proof.NaProjTile.lean ====
/- One tile of the neighbourhood attention's input projection: its keys, its scaled queries and its values. -/
module

public import proofs.«01_k».proof.Proof.Row
public import proofs.«01_k».proof.Proof.Gen.NaProjIdeal.Value
public import Idealize.ShloMosaic.Lib.Pipeline.ValueKit
public import Idealize.ShloMosaic.Lib.Pointwise.Tactic
public import Idealize.ShloMosaic.Lib.ValueIdxCore

@[expose] public section

set_option maxRecDepth 16384

noncomputable section

namespace Cert.NaProjIdeal.Hand

open Cert.NaProjIdeal Cert.NaProjIdeal.Gen Idealize.ShloMosaic Idealize.ShloMosaic.TcCoe Idealize.SL.Sem Cert.Row

section
variable (h : Vec Ideal S1x256x1024 .f32) (d : Vec Ideal S1x1x1x9x1024 .f32) (w : Vec Ideal S1x1024x3072 .bf16)

/-- What one tile multiplies out. -/
def proj : FVec Ideal S256x3072 .f32 := k0_pay5 d h w

/-- The keys of one tile. -/
def keyTile : FVec Ideal S256x1024 .bf16 := k0_pay7 d h w

/-- The scaled queries of one tile, turned on their side. -/
def queryTile : FVec Ideal S1x1024x256 .bf16 := k0_pay6 d h w

/-- The values of one tile, turned on their side. -/
def valueTile : FVec Ideal S1x1024x256 .bf16 := k0_pay8 d h w

/-- The whole product at an element. -/
theorem proj_at (r : Fin 256) (f : Fin 3072) : proj h d w (ix2 r f)
      = gateUp (fun x => h (ix3 0 r x)) (fun x => d (ix5 0 0 0 3 x)) (fun x => d (ix5 0 0 0 4 x)) (fun x => w (ix3 0 x f)) := by
  unfold proj k0_pay5 gateUp
  pointwise

/-- The keys at an element. -/
theorem key_at (r : Fin 256) (j : Fin 1024) : keyTile h d w (ix2 r j) = proj h d w (ix2 r ⟨1024 + j, by omega⟩) := by
  unfold keyTile k0_pay7 proj
  pointwise

/-- The queries at an element. -/
theorem query_at (r : Fin 256) (j : Fin 1024) :
    queryTile h d w (ix3 0 j r) = proj h d w (ix2 r ⟨j, by omega⟩) * Ideal.ofBits FTy.f32 0x3E38AA3B#32 := by
  unfold queryTile k0_pay6 proj
  pointwise

/-- The values at an element. -/
theorem value_at (r : Fin 256) (j : Fin 1024) : valueTile h d w (ix3 0 j r) = proj h d w (ix2 r ⟨2048 + j, by omega⟩) := by
  unfold valueTile k0_pay8 proj
  pointwise

/-- All four tiles store the keys of their rows. -/
theorem keys : k0_pay7 d h w = keyTile h d w ∧ k0_pay11 d h w = keyTile h d w ∧ k0_pay15 d h w = keyTile h d w ∧ k0_pay3 d h w = keyTile h d w :=
  ⟨rfl, rfl, rfl, rfl⟩

/-- All four tiles store the scaled queries of their rows. -/
theorem queries : k0_pay6 d h w = queryTile h d w ∧ k0_pay10 d h w = queryTile h d w ∧ k0_pay14 d h w = queryTile h d w
    ∧ k0_pay2 d h w = queryTile h d w :=
  ⟨rfl, rfl, rfl, rfl⟩

/-- All four tiles store the values of their rows. -/
theorem values : k0_pay8 d h w = valueTile h d w ∧ k0_pay12 d h w = valueTile h d w ∧ k0_pay16 d h w = valueTile h d w
    ∧ k0_pay4 d h w = valueTile h d w :=
  ⟨rfl, rfl, rfl, rfl⟩
end

end Cert.NaProjIdeal.Hand

end
-- ==== Proof.NaProjValue.lean ====
/- The neighbourhood attention's input projection: its three result arrays, element by element. -/
module

public import proofs.«01_k».proof.Proof.NaProjTile
public import proofs.«01_k».proof.Proof.Tokens

@[expose] public section

set_option maxRecDepth 16384

noncomputable section

namespace Cert.NaProjIdeal.Hand

open Cert.NaProjIdeal Cert.NaProjIdeal.Gen Idealize.ShloMosaic Idealize.ShloMosaic.TcCoe Idealize.SL.Sem Cert.Row Cert.Tokens
open Idealize.ShloMosaic.Pipeline (Dat)

section
variable (h : Vec Ideal S8x4352x1024 .f32) (d : Vec Ideal S4x2x8x9x1024 .f32) (w : Vec Ideal S1x1024x3072 .bf16)

/-- The key result: the second thousand columns. -/
def kOut (n : Fin 34816) (j : Fin 1024) : EReal := product 1 0 h d w n ⟨1024 + j, by omega⟩

/-- The query result, tile by tile with the tokens along the lanes: the first thousand columns, scaled. -/
def qOut (a : Fin 136) (j : Fin 1024) (r : Fin 256) : EReal :=
  product 1 0 h d w ⟨256 * a + r, by omega⟩ ⟨j, by omega⟩ * Ideal.ofBits FTy.f32 0x3E38AA3B#32

/-- The value result, tile by tile with the tokens along the lanes: the third thousand columns. -/
def vOut (a : Fin 136) (j : Fin 1024) (r : Fin 256) : EReal := product 1 0 h d w ⟨256 * a + r, by omega⟩ ⟨2048 + j, by omega⟩
end

variable (m : (ℓ : Loc nD τ sig) → Buf (Elt Ideal) ℓ)

/-- The index maps of the windows over the whole grid: tile `4t + k` of the sequence. -/
theorem idx : ∀ t : Fin cfg0.N,
    win0_0.index t = ![(4 * t.val + 0) / 17, (4 * t.val + 0) % 17, 0]
    ∧ win0_2.index t = ![(4 * t.val + 1) / 17, (4 * t.val + 1) % 17, 0]
    ∧ win0_4.index t = ![(4 * t.val + 2) / 17, (4 * t.val + 2) % 17, 0]
    ∧ win0_6.index t = ![(4 * t.val + 3) / 17, (4 * t.val + 3) % 17, 0]
    ∧ win0_1.index t = ![1, if (4 * t.val + 0) % 17 < 1 then 0 else 1, (4 * t.val + 0) / 17, 0, 0]
    ∧ win0_3.index t = ![1, if (4 * t.val + 1) % 17 < 1 then 0 else 1, (4 * t.val + 1) / 17, 0, 0]
    ∧ win0_5.index t = ![1, if (4 * t.val + 2) % 17 < 1 then 0 else 1, (4 * t.val + 2) / 17, 0, 0]
    ∧ win0_7.index t = ![1, if (4 * t.val + 3) % 17 < 1 then 0 else 1, (4 * t.val + 3) / 17, 0, 0]
    ∧ win0_8.index t = ![0, 0, 0]
    ∧ win0_9.index t = ![t.val, 0]
    ∧ win0_10.index t = ![t.val, 0, 0]
    ∧ win0_11.index t = ![t.val, 0, 0] :=
  (by decide +kernel : ∀ t : Fin grid0.N, _)

/-! A load of a whole block is the block. -/

/-- The modulation block. -/
theorem ld_r0_0 (X : Vec Ideal S1x1x1x9x1024 .f32) : View.ld X r0_0 = X := View.ld_unit_lit _ X (by decide)
/-- The row block. -/
theorem ld_r0_1 (X : Vec Ideal S1x256x1024 .f32) : View.ld X r0_1 = X := View.ld_unit_lit _ X (by decide)
/-- The weight block. -/
theorem ld_r0_2 (X : Vec Ideal S1x1024x3072 .bf16) : View.ld X r0_2 = X := View.ld_unit_lit _ X (by decide)

set_option maxHeartbeats 1600000 in
/-- The blocks of a point are its four tiles. -/
theorem tiles (c : Dev nD) (t : Fin cfg0.N) (ht : t.val < 34) :
    IsTile (m ((c : Thread nD τ).loc main_arg0)) (m ((c : Thread nD τ).loc main_arg1)) 1 (4 * t.val + 0) (by omega) (View.ld (iblk m c 0 t) r0_1) (View.ld (iblk m c 1 t) r0_0)
    ∧ IsTile (m ((c : Thread nD τ).loc main_arg0)) (m ((c : Thread nD τ).loc main_arg1)) 1 (4 * t.val + 1) (by omega) (View.ld (iblk m c 2 t) r0_1) (View.ld (iblk m c 3 t) r0_0)
    ∧ IsTile (m ((c : Thread nD τ).loc main_arg0)) (m ((c : Thread nD τ).loc main_arg1)) 1 (4 * t.val + 2) (by omega) (View.ld (iblk m c 4 t) r0_1) (View.ld (iblk m c 5 t) r0_0)
    ∧ IsTile (m ((c : Thread nD τ).loc main_arg0)) (m ((c : Thread nD τ).loc main_arg1)) 1 (4 * t.val + 3) (by omega) (View.ld (iblk m c 6 t) r0_1) (View.ld (iblk m c 7 t) r0_0) := by
  refine ⟨?_, ?_, ?_, ?_⟩ <;>
    exact ⟨fun r x => (congrFun (ld_r0_1 _) _).trans (by blk_ext [iblk, V, idx t]),
      fun p x => (congrFun (ld_r0_0 _) _).trans (by blk_ext [iblk, V, idx t])⟩

/-- The weight block. -/
theorem weights (c : Dev nD) (t : Fin cfg0.N) (x : Fin 1024) (f : Fin 3072) :
    (View.ld (iblk m c 8 t) r0_2 : Vec Ideal S1x1024x3072 .bf16) (ix3 0 x f) = (m ((c : Thread nD τ).loc main_arg2) : Vec Ideal S1x1024x3072 .bf16) (ix3 0 x f) :=
  (congrFun (ld_r0_2 (iblk m c 8 t)) _).trans (by blk_ext [iblk, V, idx t])

section
variable (c : Dev nD) (t : Fin cfg0.N) {q : ℕ} {hq : q < 136} {h : Vec Ideal S1x256x1024 .f32} {d : Vec Ideal S1x1x1x9x1024 .f32}
  (T : IsTile (m ((c : Thread nD τ).loc main_arg0)) (m ((c : Thread nD τ).loc main_arg1)) 1 q hq h d)
include T

/-- What a tile multiplies out, at an element of the tile, is the product at that element's token. -/
theorem core (r : Fin 256) (n : Fin 34816) (hn : n.val = 256 * q + r.val) (f : Fin 3072) :
    proj h d (View.ld (iblk m c 8 t) r0_2) (ix2 r f) = product 1 0 (m ((c : Thread nD τ).loc main_arg0)) (m ((c : Thread nD τ).loc main_arg1)) (m ((c : Thread nD τ).loc main_arg2)) n f :=
  (proj_at _ _ _ r f).trans (T.product 0 _ _ (weights m c t) r f n hn)

/-- A tile's keys, at an element. -/
theorem core_k (x : S256x1024.Idx) (n : Fin 34816) (hn : n.val = 256 * q + (x 0).val) (j : Fin 1024) (hj : j.val = (x 1).val) :
    keyTile h d (View.ld (iblk m c 8 t) r0_2) x = kOut (m ((c : Thread nD τ).loc main_arg0)) (m ((c : Thread nD τ).loc main_arg1)) (m ((c : Thread nD τ).loc main_arg2)) n j := by
  obtain rfl : j = x 1 := Fin.ext hj
  exact (congrArg _ (show x = ix2 (x 0) (x 1) by blk_ext)).trans ((key_at _ _ _ (x 0) (x 1)).trans (core m c t T (x 0) n hn _))

/-- A tile's queries, at an element. -/
theorem core_q (x : S1x1024x256.Idx) (a : Fin 136) (ha : a.val = q) (j : Fin 1024) (hj : j.val = (x 1).val) (r : Fin 256) (hr : r.val = (x 2).val) :
    queryTile h d (View.ld (iblk m c 8 t) r0_2) x = qOut (m ((c : Thread nD τ).loc main_arg0)) (m ((c : Thread nD τ).loc main_arg1)) (m ((c : Thread nD τ).loc main_arg2)) a j r := by
  obtain rfl : j = x 1 := Fin.ext hj
  obtain rfl : r = x 2 := Fin.ext hr
  exact (congrArg _ (show x = ix3 0 (x 1) (x 2) by blk_ext)).trans ((query_at _ _ _ (x 2) (x 1)).trans
    (congrArg (· * _) (core m c t T (x 2) _ (congrArg (256 * · + _) ha) _)))

/-- A tile's values, at an element. -/
theorem core_v (x : S1x1024x256.Idx) (a : Fin 136) (ha : a.val = q) (j : Fin 1024) (hj : j.val = (x 1).val) (r : Fin 256) (hr : r.val = (x 2).val) :
    valueTile h d (View.ld (iblk m c 8 t) r0_2) x = vOut (m ((c : Thread nD τ).loc main_arg0)) (m ((c : Thread nD τ).loc main_arg1)) (m ((c : Thread nD τ).loc main_arg2)) a j r := by
  obtain rfl : j = x 1 := Fin.ext hj
  obtain rfl : r = x 2 := Fin.ext hr
  exact (congrArg _ (show x = ix3 0 (x 1) (x 2) by blk_ext)).trans ((value_at _ _ _ (x 2) (x 1)).trans
    (core m c t T (x 2) _ (congrArg (256 * · + _) ha) _))
end

/-- What a point stores into the key result. -/
theorem k_point (c : Dev nD) (t : Fin cfg0.N) (y : S1024x1024.Idx) (n : Fin 34816) (hn : n.val = 1024 * t.val + (y 0).val) :
    out0_9 (iblk m c 0 t) (iblk m c 1 t) (iblk m c 2 t) (iblk m c 3 t) (iblk m c 4 t) (iblk m c 5 t) (iblk m c 6 t) (iblk m c 7 t)
        (iblk m c 8 t) y = kOut (m ((c : Thread nD τ).loc main_arg0)) (m ((c : Thread nD τ).loc main_arg1)) (m ((c : Thread nD τ).loc main_arg2)) n (y 1) := by
  obtain ⟨T0, T1, T2, T3⟩ := tiles m c t (lt_of_lt_of_eq t.isLt N_0)
  unfold out0_9
  rw [(keys _ _ _).1, (keys _ _ _).2.1, (keys _ _ _).2.2.1, (keys _ _ _).2.2.2]
  canon_tiles x hx
  · exact core_k m c t T3 x n (by omega) _ hx1
  · exact core_k m c t T2 x n (by omega) _ hx1
  · exact core_k m c t T1 x n (by omega) _ hx1
  · exact core_k m c t T0 x n (by omega) _ hx1

/-- The key result after the run. -/
theorem k_final (c : Dev nD) : (dats m 0 c).arrAt 9 (cfgs 0).N = fun i : S34816x1024.Idx => kOut (m ((c : Thread nD τ).loc main_arg0)) (m ((c : Thread nD τ).loc main_arg1)) (m ((c : Thread nD τ).loc main_arg2)) (i 0) (i 1) := by
  refine (dats m 0 c).arrAt_eq_of_covers 9 _ (by decide +kernel) fun t _ y => ?_
  blk_simp
  rw [after0_9]
  have h1 : (((cfg0.win 9).blk t).view.emb y) 1 = y 1 := Fin.ext (by blk_simp [idx t])
  exact (k_point m c t y _ (by blk_simp [idx t]; omega)).trans (congrArg (kOut _ _ _ _) h1.symm)

/-- What a point stores into the query result. -/
theorem q_point (c : Dev nD) (t : Fin cfg0.N) (y : S4x1024x256.Idx) (a : Fin 136) (ha : a.val = 4 * t.val + (y 0).val)
    (j : Fin 1024) (hj : j.val = (y 1).val) (r : Fin 256) (hr : r.val = (y 2).val) : out0_10 (iblk m c 0 t) (iblk m c 1 t) (iblk m c 2 t) (iblk m c 3 t) (iblk m c 4 t) (iblk m c 5 t) (iblk m c 6 t) (iblk m c 7 t)
        (iblk m c 8 t) y = qOut (m ((c : Thread nD τ).loc main_arg0)) (m ((c : Thread nD τ).loc main_arg1)) (m ((c : Thread nD τ).loc main_arg2)) a j r := by
  obtain ⟨T0, T1, T2, T3⟩ := tiles m c t (lt_of_lt_of_eq t.isLt N_0)
  unfold out0_10
  rw [(queries _ _ _).1, (queries _ _ _).2.1, (queries _ _ _).2.2.1, (queries _ _ _).2.2.2]
  canon_tiles x hx
  · exact core_q m c t T3 x a (by omega) j (by omega) r (by omega)
  · exact core_q m c t T2 x a (by omega) j (by omega) r (by omega)
  · exact core_q m c t T1 x a (by omega) j (by omega) r (by omega)
  · exact core_q m c t T0 x a (by omega) j (by omega) r (by omega)

/-- The query result after the run. -/
theorem q_final (c : Dev nD) : (dats m 0 c).arrAt 10 (cfgs 0).N = fun i : S136x1024x256.Idx => qOut (m ((c : Thread nD τ).loc main_arg0)) (m ((c : Thread nD τ).loc main_arg1)) (m ((c : Thread nD τ).loc main_arg2)) (i 0) (i 1) (i 2) := by
  refine (dats m 0 c).arrAt_eq_of_covers 10 _ (by decide +kernel) fun t _ y => ?_
  blk_simp
  rw [after0_10]
  exact q_point m c t y _ (by blk_simp [idx t]; omega) _ (by blk_simp [idx t]) _ (by blk_simp [idx t])

/-- What a point stores into the value result. -/
theorem v_point (c : Dev nD) (t : Fin cfg0.N) (y : S4x1024x256.Idx) (a : Fin 136) (ha : a.val = 4 * t.val + (y 0).val)
    (j : Fin 1024) (hj : j.val = (y 1).val) (r : Fin 256) (hr : r.val = (y 2).val) : out0_11 (iblk m c 0 t) (iblk m c 1 t) (iblk m c 2 t) (iblk m c 3 t) (iblk m c 4 t) (iblk m c 5 t) (iblk m c 6 t) (iblk m c 7 t)
        (iblk m c 8 t) y = vOut (m ((c : Thread nD τ).loc main_arg0)) (m ((c : Thread nD τ).loc main_arg1)) (m ((c : Thread nD τ).loc main_arg2)) a j r := by
  obtain ⟨T0, T1, T2, T3⟩ := tiles m c t (lt_of_lt_of_eq t.isLt N_0)
  unfold out0_11
  rw [(values _ _ _).1, (values _ _ _).2.1, (values _ _ _).2.2.1, (values _ _ _).2.2.2]
  canon_tiles x hx
  · exact core_v m c t T3 x a (by omega) j (by omega) r (by omega)
  · exact core_v m c t T2 x a (by omega) j (by omega) r (by omega)
  · exact core_v m c t T1 x a (by omega) j (by omega) r (by omega)
  · exact core_v m c t T0 x a (by omega) j (by omega) r (by omega)

/-- The value result after the run. -/
theorem v_final (c : Dev nD) : (dats m 0 c).arrAt 11 (cfgs 0).N = fun i : S136x1024x256.Idx => vOut (m ((c : Thread nD τ).loc main_arg0)) (m ((c : Thread nD τ).loc main_arg1)) (m ((c : Thread nD τ).loc main_arg2)) (i 0) (i 1) (i 2) := by
  refine (dats m 0 c).arrAt_eq_of_covers 11 _ (by decide +kernel) fun t _ y => ?_
  blk_simp
  rw [after0_11]
  exact v_point m c t y _ (by blk_simp [idx t]; omega) _ (by blk_simp [idx t]) _ (by blk_simp [idx t])

end Cert.NaProjIdeal.Hand

end
-- ==== Proof.NaProjRef.lean ====
/- The neighbourhood attention's projection reference: its three result arrays, element by element. -/
module

public import proofs.«01_k».proof.Proof.NaProjValue
public import proofs.«01_k».proof.Proof.Gen.NaProjRefIdeal.Run
public import Idealize.ShloMosaic.Lib.Claim

@[expose] public section

set_option maxRecDepth 16384

noncomputable section

namespace Cert.NaProjRefIdeal.Hand

open Cert.NaProjRefIdeal Cert.NaProjRefIdeal.Gen Cert.NaProjRefIdeal.Value Idealize.ShloMosaic Idealize.ShloMosaic.TcCoe Idealize.SL.Sem Cert.Row Cert.Tokens
open Cert.NaProjIdeal.Hand (kOut qOut vOut)

/-- The weights, at an element. -/
theorem weight_at (W : Vec Ideal S1x1024x3072 .bf16) (x : Fin 1024) (f : Fin 3072) :
    (extf (F := Ideal) .f32 (shapeCast S1024x3072 W shapeCasts_S1x1024x3072_S1024x3072 : FVec Ideal S1024x3072 .bf16) bitsLt_bf16_f32
      : FVec Ideal S1024x3072 .f32) (ix2 x f) = W (ix3 0 x f) := by
  pointwise

/-- The reference's matrix product at an element. -/
theorem dot_at (X : FVec Ideal S8x4352x1024 .f32) (Y : FVec Ideal S1024x3072 .f32) (b : Fin 8) (t : Fin 4352) (f : Fin 3072) :
    (Host.dotGeneral (F := Ideal) dot_S8x4352x1024_S1024x3072_S8x4352x3072_2_0_01_1_n_n none X Y : FVec Ideal S8x4352x3072 .f32) (ix3 b t f)
      = ∑ x, X (ix3 b t x) * Y (ix2 x f) := by
  pointwise

/-- A product laid flat, at an element. -/
theorem flat_at (X : FVec Ideal S8x4352x3072 .f32) (n : Fin 34816) (f : Fin 3072) (hb : n.val / 4352 < 8) (ht : n.val % 4352 < 4352) :
    (shapeCast S34816x3072 X shapeCasts_S8x4352x3072_S34816x3072 : FVec Ideal S34816x3072 .f32) (ix2 n f) = X (ix3 ⟨n.val / 4352, hb⟩ ⟨n.val % 4352, ht⟩ f) := by
  pointwise

/-- The reference's whole product, the tokens laid end to end. -/
def whole (H : Vec Ideal S8x4352x1024 .f32) (D : Vec Ideal S4x2x8x9x1024 .f32) (W : Vec Ideal S1x1024x3072 .bf16) : FVec Ideal S34816x3072 .f32 :=
  shapeCast S34816x3072 (Host.dotGeneral (F := Ideal) dot_S8x4352x1024_S1024x3072_S8x4352x3072_2_0_01_1_n_n none
    (modulated H (chosen D 1 4 (by decide) (by decide)) (chosen D 1 3 (by decide) (by decide)))
    (extf .f32 (shapeCast S1024x3072 W shapeCasts_S1x1024x3072_S1024x3072 : FVec Ideal S1024x3072 .bf16) bitsLt_bf16_f32))
    shapeCasts_S8x4352x3072_S34816x3072

/-- The whole product at a token and a column. -/
theorem whole_at (H : Vec Ideal S8x4352x1024 .f32) (D : Vec Ideal S4x2x8x9x1024 .f32) (W : Vec Ideal S1x1024x3072 .bf16)
    (n : Fin 34816) (f : Fin 3072) : whole H D W (ix2 n f) = product 1 0 H D W n f :=
  (flat_at _ n f (by omega) (by omega)).trans ((dot_at _ _ _ _ f).trans
    (product_eq 1 (by omega) 0 H D W (fun x f => _) (weight_at W) _ _ _ _ n _ _ f))

/-- The keys, at an element. -/
theorem keys_at (X : FVec Ideal S34816x3072 .f32) (n : Fin 34816) (j : Fin 1024) :
    (truncf .bf16 (extractStridedSlice S34816x1024 ![0, 1024] X slices_S34816x3072_S34816x1024_0_1024) bitsLt_bf16_f32 : FVec Ideal S34816x1024 .bf16) (ix2 n j)
      = X (ix2 n ⟨1024 + j, by omega⟩) := by
  pointwise

/-- The queries, at an element. -/
theorem queries_at (X : FVec Ideal S34816x3072 .f32) (a : Fin 136) (j : Fin 1024) (r : Fin 256) :
    (truncf .bf16 (transpose S136x1024x256 [0, 2, 1] (shapeCast S136x256x1024 (mulf (extractStridedSlice S34816x1024 ![0, 0] X slices_S34816x3072_S34816x1024_0_0)
        (broadcastInDim S34816x1024 ![] bcast_S_S34816x1024 (constant S_ .f32 0x3E38AA3B#32))) shapeCasts_S34816x1024_S136x256x1024)
        transposes_S136x256x1024_S136x1024x256_0_2_1) bitsLt_bf16_f32 : FVec Ideal S136x1024x256 .bf16) (ix3 a j r)
      = X (ix2 ⟨256 * a + r, by omega⟩ ⟨j, by omega⟩) * Ideal.ofBits FTy.f32 0x3E38AA3B#32 := by
  pointwise
  simp only [Nat.mul_comm (a : ℕ) 256]

/-- The values, at an element. -/
theorem values_at (X : FVec Ideal S34816x3072 .f32) (a : Fin 136) (j : Fin 1024) (r : Fin 256) :
    (truncf .bf16 (transpose S136x1024x256 [0, 2, 1] (shapeCast S136x256x1024 (extractStridedSlice S34816x1024 ![0, 2048] X slices_S34816x3072_S34816x1024_0_2048)
        shapeCasts_S34816x1024_S136x256x1024) transposes_S136x256x1024_S136x1024x256_0_2_1) bitsLt_bf16_f32 : FVec Ideal S136x1024x256 .bf16) (ix3 a j r)
      = X (ix2 ⟨256 * a + r, by omega⟩ ⟨2048 + j, by omega⟩) := by
  pointwise
  simp only [Nat.mul_comm (a : ℕ) 256]

variable (m : (ℓ : Loc nD τ sig) → Buf (Elt Ideal) ℓ)

/-- The reference's run: its three result arrays, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v37) = (fun i : S34816x1024.Idx => kOut (m ((c : Thread nD τ).loc main_arg0)) (m ((c : Thread nD τ).loc main_arg1)) (m ((c : Thread nD τ).loc main_arg2)) (i 0) (i 1))
      ∧ r.2.mem ((c.tc : Thread nD τ).loc main_v40) = (fun i : S136x1024x256.Idx => qOut (m ((c : Thread nD τ).loc main_arg0)) (m ((c : Thread nD τ).loc main_arg1)) (m ((c : Thread nD τ).loc main_arg2)) (i 0) (i 1) (i 2))
      ∧ r.2.mem ((c.tc : Thread nD τ).loc main_v43) = (fun i : S136x1024x256.Idx => vOut (m ((c : Thread nD τ).loc main_arg0)) (m ((c : Thread nD τ).loc main_arg1)) (m ((c : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨
    (h c).1.trans (funext fun i => (congrArg _ (show i = ix2 (i 0) (i 1) by blk_ext)).trans ((keys_at _ (i 0) (i 1)).trans
      (whole_at _ _ _ (i 0) _))),
    (h c).2.1.trans (funext fun i => (congrArg _ (show i = ix3 (i 0) (i 1) (i 2) by blk_ext)).trans ((queries_at _ (i 0) (i 1) (i 2)).trans
      (congrArg (· * _) (whole_at _ _ _ _ _)))),
    (h c).2.2.1.trans (funext fun i => (congrArg _ (show i = ix3 (i 0) (i 1) (i 2) by blk_ext)).trans ((values_at _ (i 0) (i 1) (i 2)).trans
      (whole_at _ _ _ _ _))),
    (h c).2.2.2⟩) (Cert.NaProjRefIdeal.Value.run m ρ)

end Cert.NaProjRefIdeal.Hand

end
-- ==== Proof.ModsValue.lean ====
/- The modulation kernel's result array: every element is the product of an activated condition row with a weight column. -/
module

public import proofs.«01_k».proof.Proof.Row
public import proofs.«01_k».proof.Proof.Gen.ModsIdeal.Value
public import Idealize.ShloMosaic.Lib.Pipeline.ValueKit
public import Idealize.ShloMosaic.Lib.Pointwise.Tactic
public import Idealize.ShloMosaic.Lib.ValueIdxCore

@[expose] public section

set_option maxRecDepth 16384

noncomputable section

namespace Cert.ModsIdeal.Hand

open Cert.ModsIdeal Cert.ModsIdeal.Gen Idealize.ShloMosaic Idealize.ShloMosaic.TcCoe Idealize.SL.Sem Cert.Row
open Idealize.ShloMosaic.Pipeline (Dat)

/-- Condition row `r`: the first eight rows are the context's one condition, the others the sequences' own. -/
def condRow (C : Vec Ideal S8x1024 .f32) (Z : Vec Ideal S1024 .f32) (r : Fin 16) (x : Fin 1024) : EReal :=
  if h : r.val < 8 then Z (ix1 x) else C (ix2 ⟨r.val - 8, by omega⟩ x)

/-- The modulation rows of layer `l`, from the argument arrays: `silu` of the condition by the weights, plus the bias. -/
def modsOut (C : Vec Ideal S8x1024 .f32) (Z : Vec Ideal S1024 .f32) (A : Vec Ideal S4x1024x9216 .f32) (B : Vec Ideal S4x9216 .f32)
    (l : Fin 4) (r : Fin 16) (f : Fin 9216) : EReal := ∑ x, silu (condRow C Z r x) * A (ix3 l x f) + B (ix2 l f)

variable (m : (ℓ : Loc nD τ sig) → Buf (Elt Ideal) ℓ)

/-- The index maps of the windows over the whole grid: layer `t / 9`, column block `t % 9`. -/
theorem idx : ∀ t : Fin cfg0.N,
    win0_0.index t = ![0, 0] ∧ win0_1.index t = ![t.val / 9, 0, t.val % 9] ∧ win0_2.index t = ![t.val / 9, 0, t.val % 9]
    ∧ win0_3.index t = ![t.val / 9, 0, t.val % 9] :=
  (by decide +kernel : ∀ t : Fin grid0.N, _)

/-- A load of the condition rows is the rows. -/
theorem ld_r0_0 (X : Vec Ideal S16x1024 .f32) : View.ld X r0_0 = X := View.ld_unit_lit _ X (by decide)
/-- A load of the weight block is the block. -/
theorem ld_r0_1 (X : Vec Ideal S1x1024x1024 .f32) : View.ld X r0_1 = X := View.ld_unit_lit _ X (by decide)
/-- A load of the bias block is the block. -/
theorem ld_r0_2 (X : Vec Ideal S1x1x1024 .f32) : View.ld X r0_2 = X := View.ld_unit_lit _ X (by decide)

/-- What a point stores, at an element, from its blocks. -/
theorem pay_at (s : Vec Ideal S16x1024 .f32) (w : Vec Ideal S1x1024x1024 .f32) (b : Vec Ideal S1x1x1024 .f32) (r : Fin 16) (f : Fin 1024) :
    k0_pay1 s w b (ix3 0 r f) = ∑ x, silu (s (ix2 r x)) * w (ix3 0 x f) + b (ix3 0 0 f) := by
  unfold k0_pay1 silu
  simp only [← zero_sub]
  pointwise

/-- Eight copies of one row above eight rows, at an element. -/
theorem stack_at (C : Vec Ideal S8x1024 .f32) (Z : Vec Ideal S8x1024 .f32) (r : Fin 16) (x : Fin 1024) :
    (concatenate S16x1024 0 [⟨S8x1024, Z⟩, ⟨S8x1024, C⟩] concatenates_S8x1024_S8x1024_S16x1024_d0 : Vec Ideal S16x1024 .f32) (ix2 r x)
      = if h : r.val < 8 then Z (ix2 ⟨r, h⟩ x) else C (ix2 ⟨r - 8, by omega⟩ x) := by
  pointwise

/-- The condition rows the host puts together. -/
theorem host_cond (c : Dev nD) (r : Fin 16) (x : Fin 1024) : (V m c main_v2 : Vec Ideal S16x1024 .f32) (ix2 r x)
      = condRow (m ((c : Thread nD τ).loc main_arg0)) (m ((c : Thread nD τ).loc main_arg1)) r x := by
  unfold V condRow
  simp only [hostOps0]
  after_results_simp
  refine (stack_at _ _ r x).trans ?_
  by_cases h : r.val < 8
  · rw [dif_pos h, dif_pos h]
    pointwise
  · rw [dif_neg h, dif_neg h]

/-- The bias the host hands on. -/
theorem host_bias (c : Dev nD) (l : Fin 4) (f : Fin 9216) : (V m c main_v3 : Vec Ideal S4x1x9216 .f32) (ix3 l 0 f)
      = (m ((c : Thread nD τ).loc main_arg3) : Vec Ideal S4x9216 .f32) (ix2 l f) := by
  unfold V
  simp only [hostOps0]
  after_results_simp
  pointwise

/-- What a point stores, at an element, is the result at that element's place in the array. -/
theorem point (c : Dev nD) (t : Fin cfg0.N) (y : S1x16x1024.Idx) (l : Fin 4) (hl : l.val = t.val / 9) (r : Fin 16) (hr : r.val = (y 1).val)
    (f : Fin 9216) (hf : f.val = 1024 * (t.val % 9) + (y 2).val) : out0_3 (iblk m c 0 t) (iblk m c 1 t) (iblk m c 2 t) y
      = modsOut (m ((c : Thread nD τ).loc main_arg0)) (m ((c : Thread nD τ).loc main_arg1)) (m ((c : Thread nD τ).loc main_arg2)) (m ((c : Thread nD τ).loc main_arg3)) l r f := by
  obtain rfl : r = y 1 := Fin.ext hr
  have hs : ∀ x, (View.ld (iblk m c 0 t) r0_0 : Vec Ideal S16x1024 .f32) (ix2 (y 1) x)
      = condRow (m ((c : Thread nD τ).loc main_arg0)) (m ((c : Thread nD τ).loc main_arg1)) (y 1) x := fun x =>
    (congrFun (ld_r0_0 (iblk m c 0 t)) _).trans ((show _ = (V m c main_v2 : Vec Ideal S16x1024 .f32) (ix2 (y 1) x) by
      blk_ext [iblk, idx t]).trans (host_cond m c _ _))
  have hw : ∀ x, (View.ld (iblk m c 1 t) r0_1 : Vec Ideal S1x1024x1024 .f32) (ix3 0 x (y 2))
      = (m ((c : Thread nD τ).loc main_arg2) : Vec Ideal S4x1024x9216 .f32) (ix3 l x f) := fun x =>
    (congrFun (ld_r0_1 (iblk m c 1 t)) _).trans ((show _ = (V m c main_arg2 : Vec Ideal S4x1024x9216 .f32) (ix3 l x f) by
      blk_ext [iblk, idx t]).trans (congrFun (V_main_arg2 m c) _))
  have hb : (View.ld (iblk m c 2 t) r0_2 : Vec Ideal S1x1x1024 .f32) (ix3 0 0 (y 2))
      = (m ((c : Thread nD τ).loc main_arg3) : Vec Ideal S4x9216 .f32) (ix2 l f) :=
    (congrFun (ld_r0_2 (iblk m c 2 t)) _).trans ((show _ = (V m c main_v3 : Vec Ideal S4x1x9216 .f32) (ix3 l 0 f) by
      blk_ext [iblk, idx t]).trans (host_bias m c _ _))
  unfold out0_3
  canon_tiles x hx
  refine (congrArg _ (show x = ix3 0 (y 1) (y 2) by blk_ext)).trans ((pay_at _ _ _ (y 1) (y 2)).trans ?_)
  unfold modsOut
  simp only [hs, hw, hb]

/-- The result array after the run. -/
theorem final (c : Dev nD) : (dats m 0 c).arrAt 3 (cfgs 0).N = fun i : S4x16x9216.Idx =>
    modsOut (m ((c : Thread nD τ).loc main_arg0)) (m ((c : Thread nD τ).loc main_arg1)) (m ((c : Thread nD τ).loc main_arg2)) (m ((c : Thread nD τ).loc main_arg3)) (i 0) (i 1) (i 2) := by
  refine (dats m 0 c).arrAt_eq_of_covers 3 _ (by decide +kernel) fun t _ y => ?_
  blk_simp
  rw [after0_3]
  exact point m c t y _ (by blk_simp [idx t]) _ (by blk_simp [idx t]) _ (by blk_simp [idx t]; omega)

end Cert.ModsIdeal.Hand

end
-- ==== Proof.ModsRef.lean ====
/- The modulation reference's result array, element by element. -/
module

public import proofs.«01_k».proof.Proof.ModsValue
public import proofs.«01_k».proof.Proof.Gen.ModsRefIdeal.Run
public import Idealize.ShloMosaic.Lib.Claim

@[expose] public section

set_option maxRecDepth 16384

noncomputable section

namespace Cert.ModsRefIdeal.Hand

open Cert.ModsRefIdeal Cert.ModsRefIdeal.Gen Cert.ModsRefIdeal.Value Idealize.ShloMosaic Idealize.ShloMosaic.TcCoe Idealize.SL.Sem Cert.Row
open Cert.ModsIdeal.Hand (modsOut condRow)

/-- The context's rows, copied over the eight sequences, at an element. -/
theorem context_at (Z : Vec Ideal S1024 .f32) (A : Vec Ideal S4x1024x9216 .f32) (B : Vec Ideal S4x9216 .f32) (l : Fin 4) (r : Fin 8) (f : Fin 9216) :
    (broadcastInDim S4x8x9216 ![0, 1, 2] bcast_S4x1x9216_S4x8x9216_0_1_2 (broadcastInDim S4x1x9216 ![0, 2] bcast_S4x9216_S4x1x9216_0_2
        (addf (Host.dotGeneral dot_S1024_S4x1024x9216_S4x9216_0_1_n_02_n_n none (extf .f32 (truncf .bf16 (mulf Z
          (Host.divf (broadcastInDim S1024 ![] bcast_S_S1024 (constant S_ .f32 0x3F800000#32))
            (addf (broadcastInDim S1024 ![] bcast_S_S1024 (constant S_ .f32 0x3F800000#32)) (Host.exp (Host.negf Z))))) bitsLt_bf16_f32) bitsLt_bf16_f32)
          (extf .f32 (truncf .bf16 A bitsLt_bf16_f32) bitsLt_bf16_f32)) B)) : FVec Ideal S4x8x9216 .f32) (ix3 l r f)
      = ∑ x, silu (Z (ix1 x)) * A (ix3 l x f) + B (ix2 l f) := by
  unfold silu
  pointwise

/-- The sequences' own rows, at an element. -/
theorem own_at (C : Vec Ideal S8x1024 .f32) (A : Vec Ideal S4x1024x9216 .f32) (B : Vec Ideal S4x9216 .f32) (l : Fin 4) (r : Fin 8) (f : Fin 9216) :
    (addf (transpose S4x8x9216 [0, 2, 1] (Host.dotGeneral dot_S4x1024x9216_S8x1024_S4x9216x8_1_1_02_0_n_n none
        (extf .f32 (truncf .bf16 A bitsLt_bf16_f32) bitsLt_bf16_f32) (extf .f32 (truncf .bf16 (mulf C
          (Host.divf (broadcastInDim S8x1024 ![] bcast_S_S8x1024 (constant S_ .f32 0x3F800000#32))
            (addf (broadcastInDim S8x1024 ![] bcast_S_S8x1024 (constant S_ .f32 0x3F800000#32)) (Host.exp (Host.negf C))))) bitsLt_bf16_f32) bitsLt_bf16_f32))
        transposes_S4x9216x8_S4x8x9216_0_2_1) (broadcastInDim S4x8x9216 ![0, 1, 2] bcast_S4x1x9216_S4x8x9216_0_1_2
          (broadcastInDim S4x1x9216 ![0, 2] bcast_S4x9216_S4x1x9216_0_2 B)) : FVec Ideal S4x8x9216 .f32) (ix3 l r f)
      = ∑ x, A (ix3 l x f) * silu (C (ix2 r x)) + B (ix2 l f) := by
  unfold silu
  pointwise

/-- One array's eight rows above the other's, at an element. -/
theorem stack_at (X Y : FVec Ideal S4x8x9216 .f32) (l : Fin 4) (r : Fin 16) (f : Fin 9216) :
    (concatenate S4x16x9216 1 [⟨S4x8x9216, X⟩, ⟨S4x8x9216, Y⟩] concatenates_S4x8x9216_S4x8x9216_S4x16x9216_d1 : FVec Ideal S4x16x9216 .f32) (ix3 l r f)
      = if h : r.val < 8 then X (ix3 l ⟨r, h⟩ f) else Y (ix3 l ⟨r - 8, by omega⟩ f) := by
  pointwise

/-- The two cases are the two sets of condition rows. -/
theorem join (C : Vec Ideal S8x1024 .f32) (Z : Vec Ideal S1024 .f32) (A : Vec Ideal S4x1024x9216 .f32) (B : Vec Ideal S4x9216 .f32)
    (X Y : FVec Ideal S4x8x9216 .f32) (hX : ∀ l r f, X (ix3 l r f) = ∑ x, silu (Z (ix1 x)) * A (ix3 l x f) + B (ix2 l f))
    (hY : ∀ l r f, Y (ix3 l r f) = ∑ x, A (ix3 l x f) * silu (C (ix2 r x)) + B (ix2 l f)) (l : Fin 4) (r : Fin 16) (f : Fin 9216) :
    (if h : r.val < 8 then X (ix3 l ⟨r, h⟩ f) else Y (ix3 l ⟨r - 8, by omega⟩ f)) = modsOut C Z A B l r f := by
  unfold modsOut condRow
  by_cases h : r.val < 8
  · simp only [dif_pos h, hX]
  · simp only [dif_neg h, hY, mul_comm (A _)]

variable (m : (ℓ : Loc nD τ sig) → Buf (Elt Ideal) ℓ)

/-- The reference's run: its result array, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = (fun i : S4x16x9216.Idx =>
        modsOut (m ((c : Thread nD τ).loc main_arg0)) (m ((c : Thread nD τ).loc main_arg1)) (m ((c : Thread nD τ).loc main_arg2)) (m ((c : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨
    (h c).1.trans (funext fun i => (congrArg _ (show i = ix3 (i 0) (i 1) (i 2) by blk_ext)).trans ((stack_at _ _ (i 0) (i 1) (i 2)).trans
      (join _ _ _ _ _ _ (context_at _ _ _) (own_at _ _ _) (i 0) (i 1) (i 2)))),
    (h c).2⟩) (Cert.ModsRefIdeal.Value.run m ρ)

end Cert.ModsRefIdeal.Hand

end
-- ==== Proof.FfnTwoValue.lean ====
/- The first layer's feed-forward kernel, which reads the context and the other tokens from two arrays: every element of
   its result is the half feed-forward block of its token's row. -/
module

public import proofs.«01_k».proof.Proof.FfnValue
public import proofs.«01_k».proof.Proof.Gen.FfnTwoIdeal.Value

@[expose] public section

set_option maxRecDepth 16384

noncomputable section

namespace Cert.FfnTwoIdeal.Hand

open Cert.FfnTwoIdeal Cert.FfnTwoIdeal.Gen Idealize.ShloMosaic Idealize.ShloMosaic.TcCoe Idealize.SL.Sem Cert.Row Cert.Tokens
open Idealize.ShloMosaic.Pipeline (Dat)

/-- Whether tile `k` of point `a` is a sequence's first, as the kernel's words decide it. -/
def word (a k : BitVec 32) : BitVec 1 :=
  let n : BitVec 32 := Scalar.select (Scalar.cmpi .eq 17#32 0#32) 1#32 17#32
  let q : BitVec 32 := Scalar.remsi (Scalar.addi (Scalar.muli 4#32 a) k) n
  Scalar.cmpi .slt (Scalar.select (Scalar.andi (Scalar.xori (Scalar.cmpi .slt q 0#32) (Scalar.cmpi .slt n 0#32)) (Scalar.cmpi .ne q 0#32)) (Scalar.addi q n) q) 1#32

/-- One tile from its blocks: 256 rows, `p` or `l` as `v` chooses, their modulation rows `d`, the weights and the
    normalisation's parameters. -/
def tile (v : BitVec 1) (p l : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) : FVec Ideal S256x1024 .f32 :=
  Cert.FfnIdeal.Gen.k0_pay12 (Cert.FfnIdeal.Gen.k0_pay9 g) (Cert.FfnIdeal.Gen.k0_pay10 b)
    (Cert.FfnIdeal.Gen.k0_pay11 (k0_pay25 v p l) (Cert.FfnIdeal.Gen.k0_pay8 d) w wo)

/-- The chosen rows as a block. -/
def block (v : BitVec 1) (p l : Vec Ideal S1x256x1024 .f32) : Vec Ideal S1x256x1024 .f32 := Scalar.select v p l

/-- A tile is the other layers' of the chosen rows. -/
theorem tile_eq (v : BitVec 1) (p l : Vec Ideal S1x256x1024 .f32) (d : Vec Ideal S1x1x1x9x1024 .f32) (w : Vec Ideal S1x1x1024x5632 .bf16)
    (wo : Vec Ideal S1x1x2816x1024 .bf16) (g b : Vec Ideal S1x1x1x1024 .f32) : tile v p l d w wo g b = Cert.FfnIdeal.Hand.tile (block v p l) d w wo g b := by
  have h : k0_pay25 v p l = Cert.FfnIdeal.Gen.k0_pay7 (block v p l) := by
    unfold k0_pay25 block Cert.FfnIdeal.Gen.k0_pay7 Scalar.select
    split <;> rfl
  unfold tile
  rw [h, Cert.FfnIdeal.Hand.tile1]

/-- What a point stores: the four tiles, each from its own blocks. -/
theorem stored (i : grid0.Coords) (x0 x1 x2 x3 x4 x5 x6 x7 : Vec Ideal S1x256x1024 .f32) (x8 x9 x10 x11 : Vec Ideal S1x1x1x9x1024 .f32)
    (x12 : Vec Ideal S1x1x1024x5632 .bf16) (x13 : Vec Ideal S1x1x2816x1024 .bf16) (x14 x15 : Vec Ideal S1x1x1x1024 .f32) :
    out0_16 i x0 x1 x2 x3 x4 x5 x6 x7 x8 x9 x10 x11 x12 x13 x14 x15
      = View.canon [⟨r0_8, tile (word (BitVec.ofNat 32 (i 0).val) 3#32) (View.ld x6 r0_0) (View.ld x7 r0_0) (View.ld x11 r0_1) (View.ld x12 r0_3) (View.ld x13 r0_4) (View.ld x14 r0_2) (View.ld x15 r0_2)⟩,
          ⟨r0_7, tile (word (BitVec.ofNat 32 (i 0).val) 2#32) (View.ld x4 r0_0) (View.ld x5 r0_0) (View.ld x10 r0_1) (View.ld x12 r0_3) (View.ld x13 r0_4) (View.ld x14 r0_2) (View.ld x15 r0_2)⟩,
          ⟨r0_6, tile (word (BitVec.ofNat 32 (i 0).val) 1#32) (View.ld x2 r0_0) (View.ld x3 r0_0) (View.ld x9 r0_1) (View.ld x12 r0_3) (View.ld x13 r0_4) (View.ld x14 r0_2) (View.ld x15 r0_2)⟩,
          ⟨r0_5, tile (word (BitVec.ofNat 32 (i 0).val) 0#32) (View.ld x0 r0_0) (View.ld x1 r0_0) (View.ld x8 r0_1) (View.ld x12 r0_3) (View.ld x13 r0_4) (View.ld x14 r0_2) (View.ld x15 r0_2)⟩] := rfl

variable (m : (ℓ : Loc nD τ sig) → Buf (Elt Ideal) ℓ)

/-- The index maps of the windows over the whole grid: tile `4t + k` of the sequences. -/
theorem idx : ∀ t : Fin cfg0.N,
    win0_0.index t = ![(4 * t.val + 0) / 17, 0, 0]
    ∧ win0_1.index t = ![(4 * t.val + 0) / 17, (4 * t.val + 0) % 17 - 1, 0]
    ∧ win0_8.index t = ![0, if (4 * t.val + 0) % 17 < 1 then 0 else 1, (4 * t.val + 0) / 17, 0, 0]
    ∧ win0_2.index t = ![(4 * t.val + 1) / 17, 0, 0]
    ∧ win0_3.index t = ![(4 * t.val + 1) / 17, (4 * t.val + 1) % 17 - 1, 0]
    ∧ win0_9.index t = ![0, if (4 * t.val + 1) % 17 < 1 then 0 else 1, (4 * t.val + 1) / 17, 0, 0]
    ∧ win0_4.index t = ![(4 * t.val + 2) / 17, 0, 0]
    ∧ win0_5.index t = ![(4 * t.val + 2) / 17, (4 * t.val + 2) % 17 - 1, 0]
    ∧ win0_10.index t = ![0, if (4 * t.val + 2) % 17 < 1 then 0 else 1, (4 * t.val + 2) / 17, 0, 0]
    ∧ win0_6.index t = ![(4 * t.val + 3) / 17, 0, 0]
    ∧ win0_7.index t = ![(4 * t.val + 3) / 17, (4 * t.val + 3) % 17 - 1, 0]
    ∧ win0_11.index t = ![0, if (4 * t.val + 3) % 17 < 1 then 0 else 1, (4 * t.val + 3) / 17, 0, 0]
    ∧ win0_12.index t = ![0, 0, 0, 0]
    ∧ win0_13.index t = ![0, 0, 0, 0]
    ∧ win0_14.index t = ![0, 0, 0, 0]
    ∧ win0_15.index t = ![0, 0, 0, 0]
    ∧ win0_16.index t = ![t.val, 0] :=
  (by decide +kernel : ∀ t : Fin grid0.N, _)

/-- The words decide whether a tile is a sequence's first. -/
theorem word_eq : ∀ (t : Fin cfg0.N) (k : Fin 4), word (BitVec.ofNat 32 (grid0.coords t 0).val) (BitVec.ofNat 32 k.val)
    = if (4 * t.val + k.val) % 17 < 1 then 1 else 0 :=
  (by decide +kernel : ∀ (t : Fin grid0.N) (k : Fin 4), _)

/-- A load of the whole row block is the block. -/
theorem ld_r0_0 (X : Vec Ideal S1x256x1024 .f32) : View.ld X r0_0 = X := View.ld_unit_lit _ X (by decide)
/-- A load of the whole modulation block is the block. -/
theorem ld_r0_1 (X : Vec Ideal S1x1x1x9x1024 .f32) : View.ld X r0_1 = X := View.ld_unit_lit _ X (by decide)
/-- A load of the whole layer-norm block is the block. -/
theorem ld_r0_2 (X : Vec Ideal S1x1x1x1024 .f32) : View.ld X r0_2 = X := View.ld_unit_lit _ X (by decide)
/-- A load of the whole first weight block is the block. -/
theorem ld_r0_3 (X : Vec Ideal S1x1x1024x5632 .bf16) : View.ld X r0_3 = X := View.ld_unit_lit _ X (by decide)
/-- A load of the whole second weight block is the block. -/
theorem ld_r0_4 (X : Vec Ideal S1x1x2816x1024 .bf16) : View.ld X r0_4 = X := View.ld_unit_lit _ X (by decide)

/-- The blocks of tile `q`, the rows chosen, are that tile of the joined sequences. -/
theorem chosen_tile (C : Vec Ideal Context .f32) (L : Vec Ideal Latent .f32) (D : Vec Ideal Mods .f32) (q : ℕ) (hq : q < 136) (v : BitVec 1)
    (hv : v = if q % 17 < 1 then 1 else 0) (p l : Vec Ideal S1x256x1024 .f32) (d : Vec Ideal S1x1x1x9x1024 .f32)
    (hp : ∀ r x, p (ix3 0 r x) = C (ix3 ⟨q / 17, by omega⟩ r x))
    (hl : ∀ r x, l (ix3 0 r x) = L (ix3 ⟨q / 17, by omega⟩ ⟨(q % 17 - 1) * 256 + r.val, by omega⟩ x))
    (hd : ∀ p x, d (ix5 0 0 0 p x) = D (ix5 0 ⟨if q % 17 < 1 then 0 else 1, by split <;> omega⟩ ⟨q / 17, by omega⟩ p x)) :
    IsTile (joined C L) D 0 q hq (block v p l) d := by
  refine ⟨fun r x => ?_, hd⟩
  subst hv
  unfold block joined Scalar.select
  by_cases h : q % 17 < 1
  · have e : q % 17 * 256 + r.val = r.val := by omega
    rw [if_pos h, if_pos (by decide)]
    refine (hp r x).trans (Eq.symm ?_)
    refine (dif_pos (show q % 17 * 256 + r.val < 256 by omega)).trans ?_
    exact congrArg C (by congr 1; exact Fin.ext e)
  · have e : q % 17 * 256 + r.val - 256 = (q % 17 - 1) * 256 + r.val := by omega
    rw [if_neg h, if_neg (by decide)]
    refine (hl r x).trans (Eq.symm ?_)
    refine (dif_neg (show ¬ q % 17 * 256 + r.val < 256 by omega)).trans ?_
    exact congrArg L (by congr 1; exact Fin.ext e)

set_option maxHeartbeats 4000000 in
/-- The row and modulation blocks of a point. -/
theorem blocks (c : Dev nD) (t : Fin cfg0.N) (ht : t.val < 34) :
    ((∀ r x, (View.ld (iblk m c 0 t) r0_0) (ix3 0 r x) = ((m ((c : Thread nD τ).loc main_arg0)) : Vec Ideal S8x256x1024 .f32) (ix3 ⟨(4 * t.val + 0) / 17, by omega⟩ r x))
      ∧ (∀ r x, (View.ld (iblk m c 1 t) r0_0) (ix3 0 r x) = ((m ((c : Thread nD τ).loc main_arg1)) : Vec Ideal S8x4096x1024 .f32) (ix3 ⟨(4 * t.val + 0) / 17, by omega⟩ ⟨((4 * t.val + 0) % 17 - 1) * 256 + r.val, by omega⟩ x))
      ∧ (∀ p x, (View.ld (iblk m c 8 t) r0_1) (ix5 0 0 0 p x) = ((m ((c : Thread nD τ).loc main_arg2)) : Vec Ideal S4x2x8x9x1024 .f32) (ix5 0 ⟨if (4 * t.val + 0) % 17 < 1 then 0 else 1, by split <;> omega⟩ ⟨(4 * t.val + 0) / 17, by omega⟩ p x)))
    ∧ ((∀ r x, (View.ld (iblk m c 2 t) r0_0) (ix3 0 r x) = ((m ((c : Thread nD τ).loc main_arg0)) : Vec Ideal S8x256x1024 .f32) (ix3 ⟨(4 * t.val + 1) / 17, by omega⟩ r x))
      ∧ (∀ r x, (View.ld (iblk m c 3 t) r0_0) (ix3 0 r x) = ((m ((c : Thread nD τ).loc main_arg1)) : Vec Ideal S8x4096x1024 .f32) (ix3 ⟨(4 * t.val + 1) / 17, by omega⟩ ⟨((4 * t.val + 1) % 17 - 1) * 256 + r.val, by omega⟩ x))
      ∧ (∀ p x, (View.ld (iblk m c 9 t) r0_1) (ix5 0 0 0 p x) = ((m ((c : Thread nD τ).loc main_arg2)) : Vec Ideal S4x2x8x9x1024 .f32) (ix5 0 ⟨if (4 * t.val + 1) % 17 < 1 then 0 else 1, by split <;> omega⟩ ⟨(4 * t.val + 1) / 17, by omega⟩ p x)))
    ∧ ((∀ r x, (View.ld (iblk m c 4 t) r0_0) (ix3 0 r x) = ((m ((c : Thread nD τ).loc main_arg0)) : Vec Ideal S8x256x1024 .f32) (ix3 ⟨(4 * t.val + 2) / 17, by omega⟩ r x))
      ∧ (∀ r x, (View.ld (iblk m c 5 t) r0_0) (ix3 0 r x) = ((m ((c : Thread nD τ).loc main_arg1)) : Vec Ideal S8x4096x1024 .f32) (ix3 ⟨(4 * t.val + 2) / 17, by omega⟩ ⟨((4 * t.val + 2) % 17 - 1) * 256 + r.val, by omega⟩ x))
      ∧ (∀ p x, (View.ld (iblk m c 10 t) r0_1) (ix5 0 0 0 p x) = ((m ((c : Thread nD τ).loc main_arg2)) : Vec Ideal S4x2x8x9x1024 .f32) (ix5 0 ⟨if (4 * t.val + 2) % 17 < 1 then 0 else 1, by split <;> omega⟩ ⟨(4 * t.val + 2) / 17, by omega⟩ p x)))
    ∧ ((∀ r x, (View.ld (iblk m c 6 t) r0_0) (ix3 0 r x) = ((m ((c : Thread nD τ).loc main_arg0)) : Vec Ideal S8x256x1024 .f32) (ix3 ⟨(4 * t.val + 3) / 17, by omega⟩ r x))
      ∧ (∀ r x, (View.ld (iblk m c 7 t) r0_0) (ix3 0 r x) = ((m ((c : Thread nD τ).loc main_arg1)) : Vec Ideal S8x4096x1024 .f32) (ix3 ⟨(4 * t.val + 3) / 17, by omega⟩ ⟨((4 * t.val + 3) % 17 - 1) * 256 + r.val, by omega⟩ x))
      ∧ (∀ p x, (View.ld (iblk m c 11 t) r0_1) (ix5 0 0 0 p x) = ((m ((c : Thread nD τ).loc main_arg2)) : Vec Ideal S4x2x8x9x1024 .f32) (ix5 0 ⟨if (4 * t.val + 3) % 17 < 1 then 0 else 1, by split <;> omega⟩ ⟨(4 * t.val + 3) / 17, by omega⟩ p x))) := by
  refine ⟨?_, ?_, ?_, ?_⟩ <;>
    exact ⟨fun r x => (congrFun (ld_r0_0 _) _).trans (by blk_ext [iblk, V, idx t]),
      fun r x => (congrFun (ld_r0_0 _) _).trans (by blk_ext [iblk, V, idx t]),
      fun p x => (congrFun (ld_r0_1 _) _).trans (by blk_ext [iblk, V, idx t])⟩

/-- The chosen rows and the modulation blocks of a point are its four tiles'. -/
theorem tiles (c : Dev nD) (t : Fin cfg0.N) (ht : t.val < 34) :
    IsTile (joined (m ((c : Thread nD τ).loc main_arg0)) (m ((c : Thread nD τ).loc main_arg1))) (m ((c : Thread nD τ).loc main_arg2)) 0 (4 * t.val + 0) (by omega) (block (word (BitVec.ofNat 32 (grid0.coords t 0).val) 0#32) (View.ld (iblk m c 0 t) r0_0) (View.ld (iblk m c 1 t) r0_0)) (View.ld (iblk m c 8 t) r0_1)
    ∧ IsTile (joined (m ((c : Thread nD τ).loc main_arg0)) (m ((c : Thread nD τ).loc main_arg1))) (m ((c : Thread nD τ).loc main_arg2)) 0 (4 * t.val + 1) (by omega) (block (word (BitVec.ofNat 32 (grid0.coords t 0).val) 1#32) (View.ld (iblk m c 2 t) r0_0) (View.ld (iblk m c 3 t) r0_0)) (View.ld (iblk m c 9 t) r0_1)
    ∧ IsTile (joined (m ((c : Thread nD τ).loc main_arg0)) (m ((c : Thread nD τ).loc main_arg1))) (m ((c : Thread nD τ).loc main_arg2)) 0 (4 * t.val + 2) (by omega) (block (word (BitVec.ofNat 32 (grid0.coords t 0).val) 2#32) (View.ld (iblk m c 4 t) r0_0) (View.ld (iblk m c 5 t) r0_0)) (View.ld (iblk m c 10 t) r0_1)
    ∧ IsTile (joined (m ((c : Thread nD τ).loc main_arg0)) (m ((c : Thread nD τ).loc main_arg1))) (m ((c : Thread nD τ).loc main_arg2)) 0 (4 * t.val + 3) (by omega) (block (word (BitVec.ofNat 32 (grid0.coords t 0).val) 3#32) (View.ld (iblk m c 6 t) r0_0) (View.ld (iblk m c 7 t) r0_0)) (View.ld (iblk m c 11 t) r0_1) := by
  obtain ⟨B0, B1, B2, B3⟩ := blocks m c t ht
  exact ⟨chosen_tile _ _ _ _ _ _ (word_eq t 0) _ _ _ B0.1 B0.2.1 B0.2.2, chosen_tile _ _ _ _ _ _ (word_eq t 1) _ _ _ B1.1 B1.2.1 B1.2.2,
    chosen_tile _ _ _ _ _ _ (word_eq t 2) _ _ _ B2.1 B2.2.1 B2.2.2, chosen_tile _ _ _ _ _ _ (word_eq t 3) _ _ _ B3.1 B3.2.1 B3.2.2⟩

/-- The whole result from the argument arrays. -/
def out (c : Dev nD) (n : Fin 34816) (j : Fin 1024) : EReal :=
  Cert.FfnIdeal.Hand.ffnOut 0 (joined (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) n j

/-- What a tile stores, at an element of the tile, is the result at that element's token. -/
theorem core (c : Dev nD) (t : Fin cfg0.N) (q : ℕ) (hq : q < 136) (v : BitVec 1) (p l : Vec Ideal S1x256x1024 .f32) (d : Vec Ideal S1x1x1x9x1024 .f32)
    (T : IsTile (joined (m ((c : Thread nD τ).loc main_arg0)) (m ((c : Thread nD τ).loc main_arg1))) (m ((c : Thread nD τ).loc main_arg2)) 0 q hq (block v p l) d) (r : Fin 256)
    (n : Fin 34816) (hn : n.val = 256 * q + r.val) (i j : Fin 1024) (hj : j.val = i.val) :
    tile v p l d (View.ld (iblk m c 12 t) r0_3) (View.ld (iblk m c 13 t) r0_4) (View.ld (iblk m c 14 t) r0_2) (View.ld (iblk m c 15 t) r0_2) (ix2 r i) = out m c n j := by
  obtain rfl : j = i := Fin.ext hj
  refine (congrFun (tile_eq v p l d _ _ _ _) _).trans ((Cert.FfnIdeal.Hand.tile_at _ _ _ _ _ _ _ _).trans ?_)
  unfold out Cert.FfnIdeal.Hand.ffnOut
  simp only [T.row _ n hn (by omega) (by omega), T.mod _ n hn (by omega)]
  congr 1
  · funext x k; exact (congrFun (ld_r0_3 (iblk m c 12 t)) _).trans (by blk_ext [iblk, V, idx t])
  · funext f x; exact (congrFun (ld_r0_4 (iblk m c 13 t)) _).trans (by blk_ext [iblk, V, idx t])
  · funext x; exact (congrFun (ld_r0_2 (iblk m c 14 t)) _).trans (by blk_ext [iblk, V, idx t])
  · funext x; exact (congrFun (ld_r0_2 (iblk m c 15 t)) _).trans (by blk_ext [iblk, V, idx t])

set_option maxHeartbeats 4000000 in
/-- What a grid point stores, at an element, is the result at that element's place in the array. -/
theorem point (c : Dev nD) (t : Fin cfg0.N) (y : S1024x1024.Idx) (n : Fin 34816) (hn : n.val = 1024 * t.val + (y 0).val) :
    out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y
      = out m c n (y 1) := by
  obtain ⟨T0, T1, T2, T3⟩ := tiles m c t (lt_of_lt_of_eq t.isLt N_0)
  rw [stored]
  canon_tiles x hx <;> refine (congrArg _ (show x = ix2 (x 0) (x 1) by blk_ext)).trans ?_
  · exact core m c t _ _ _ _ _ _ T3 (x 0) n (by omega) (x 1) (y 1) (by omega)
  · exact core m c t _ _ _ _ _ _ T2 (x 0) n (by omega) (x 1) (y 1) (by omega)
  · exact core m c t _ _ _ _ _ _ T1 (x 0) n (by omega) (x 1) (y 1) (by omega)
  · exact core m c t _ _ _ _ _ _ T0 (x 0) n (by omega) (x 1) (y 1) (by omega)

/-- The result array after the run. -/
theorem final (c : Dev nD) : (dats m 0 c).arrAt 16 (cfgs 0).N = fun i : S34816x1024.Idx => out m c (i 0) (i 1) := by
  refine (dats m 0 c).arrAt_eq_of_covers 16 _ (by decide +kernel) fun t _ y => ?_
  blk_simp
  rw [after0_16]
  have h1 : (((cfg0.win 16).blk t).view.emb y) 1 = y 1 := Fin.ext (by blk_simp [idx t])
  exact (point m c t y _ (by blk_simp [idx t]; omega)).trans (congrArg (out m c _) h1.symm)

end Cert.FfnTwoIdeal.Hand

end
-- ==== Proof.MixOut.lean ====
/- What the output-projection kernels over every token share: the result at a token, for any layer, and what a tile
   needs of its blocks to hold it. -/
module

public import proofs.«01_k».proof.Proof.Tokens

@[expose] public section

noncomputable section

namespace Cert.MixOut

open Idealize.ShloMosaic Cert.Row Cert.Tokens

/-- The input weights of the feed-forward blocks. -/
abbrev WIn : Shape := ⟨4, ![4, 2, 1024, 5632]⟩
/-- The output weights of the feed-forward blocks. -/
abbrev WOut : Shape := ⟨4, ![4, 2, 2816, 1024]⟩
/-- A parameter of the normalisations. -/
abbrev Norms : Shape := ⟨4, ![4, 3, 1, 1024]⟩

/-- The result of layer `ℓ` at token `n` (of the 8 sequences laid end to end) and lane `j`, from the mixer's rows `A` and output weights `W`: the
    output projection with its normalisation, then the half feed-forward block. -/
def mixOut {K : ℕ} (ℓ : Fin 4) (H : Vec Ideal Seqs .f32) (D : Vec Ideal Mods .f32) (A : Fin 34816 → Fin K → EReal)
    (W : Fin K → Fin 1024 → EReal) (w : Vec Ideal WIn .bf16) (wo : Vec Ideal WOut .bf16) (g b : Vec Ideal Norms .f32) (n : Fin 34816) (j : Fin 1024) : EReal :=
  have hn : n.val / 4352 < 8 := by omega
  have ht : n.val % 4352 < 4352 := by omega
  halfFfn (mixNorm (fun x => H (ix3 ⟨n.val / 4352, hn⟩ ⟨n.val % 4352, ht⟩ x)) (modRow D ℓ ⟨n.val / 4352, hn⟩ (n.val % 4352) 5)
      (A n) W (fun x => g (ix4 ℓ 1 0 x)) (fun x => b (ix4 ℓ 1 0 x)))
    (modRow D ℓ ⟨n.val / 4352, hn⟩ (n.val % 4352) 6) (modRow D ℓ ⟨n.val / 4352, hn⟩ (n.val % 4352) 7)
    (modRow D ℓ ⟨n.val / 4352, hn⟩ (n.val % 4352) 8) (fun x k => w (ix4 ℓ 1 x k)) (fun f x => wo (ix4 ℓ 1 f x))
    (fun x => g (ix4 ℓ 2 0 x)) (fun x => b (ix4 ℓ 2 0 x)) j

/-- The weight and parameter blocks are those of layer `ℓ`. -/
structure IsLayer {K : ℕ} (ℓ : Fin 4) (W : Fin K → Fin 1024 → EReal) (w : Vec Ideal WIn .bf16) (wo : Vec Ideal WOut .bf16) (g b : Vec Ideal Norms .f32)
    (W' : Vec Ideal ⟨3, ![1, K, 1024]⟩ .bf16) (g1 b1 : Vec Ideal ⟨4, ![1, 1, 1, 1024]⟩ .f32) (w' : Vec Ideal ⟨4, ![1, 1, 1024, 5632]⟩ .bf16)
    (wo' : Vec Ideal ⟨4, ![1, 1, 2816, 1024]⟩ .bf16) (g2 b2 : Vec Ideal ⟨4, ![1, 1, 1, 1024]⟩ .f32) : Prop where
  mix : ∀ k x, W' (ix3 0 k x) = W k x
  scale1 : ∀ x, g1 (ix4 0 0 0 x) = g (ix4 ℓ 1 0 x)
  shift1 : ∀ x, b1 (ix4 0 0 0 x) = b (ix4 ℓ 1 0 x)
  input : ∀ x k, w' (ix4 0 0 x k) = w (ix4 ℓ 1 x k)
  output : ∀ f x, wo' (ix4 0 0 f x) = wo (ix4 ℓ 1 f x)
  scale2 : ∀ x, g2 (ix4 0 0 0 x) = g (ix4 ℓ 2 0 x)
  shift2 : ∀ x, b2 (ix4 0 0 0 x) = b (ix4 ℓ 2 0 x)

/-- The two stages of a tile's row are the result at that row's token. -/
theorem mixOut_eq {K : ℕ} {ℓ : Fin 4} {H : Vec Ideal Seqs .f32} {D : Vec Ideal Mods .f32} {q : ℕ} {hq : q < 136}
    {h : Vec Ideal ⟨3, ![1, 256, 1024]⟩ .f32} {d : Vec Ideal ⟨5, ![1, 1, 1, 9, 1024]⟩ .f32} (T : IsTile H D ℓ q hq h d)
    {W : Fin K → Fin 1024 → EReal} {w : Vec Ideal WIn .bf16} {wo : Vec Ideal WOut .bf16} {g b : Vec Ideal Norms .f32}
    {W' : Vec Ideal ⟨3, ![1, K, 1024]⟩ .bf16} {g1 b1 : Vec Ideal ⟨4, ![1, 1, 1, 1024]⟩ .f32} {w' : Vec Ideal ⟨4, ![1, 1, 1024, 5632]⟩ .bf16}
    {wo' : Vec Ideal ⟨4, ![1, 1, 2816, 1024]⟩ .bf16} {g2 b2 : Vec Ideal ⟨4, ![1, 1, 1, 1024]⟩ .f32}
    (L : IsLayer ℓ W w wo g b W' g1 b1 w' wo' g2 b2) (A : Fin 34816 → Fin K → EReal) (a : Fin K → EReal) (r : Fin 256)
    (n : Fin 34816) (hn : n.val = 256 * q + r.val) (ha : ∀ k, a k = A n k) (j : Fin 1024) :
    halfFfn (mixNorm (fun x => h (ix3 0 r x)) (fun x => d (ix5 0 0 0 5 x)) a (fun k x => W' (ix3 0 k x))
        (fun x => g1 (ix4 0 0 0 x)) (fun x => b1 (ix4 0 0 0 x)))
      (fun x => d (ix5 0 0 0 6 x)) (fun x => d (ix5 0 0 0 7 x)) (fun x => d (ix5 0 0 0 8 x))
      (fun x k => w' (ix4 0 0 x k)) (fun f x => wo' (ix4 0 0 f x)) (fun x => g2 (ix4 0 0 0 x)) (fun x => b2 (ix4 0 0 0 x)) j
      = mixOut ℓ H D A W w wo g b n j := by
  obtain rfl : a = A n := funext ha
  unfold mixOut
  simp only [T.row r n hn (by omega) (by omega), T.mod r n hn (by omega), L.mix, L.scale1, L.shift1, L.input, L.output, L.scale2, L.shift2]

/-- A modulation row as the references choose it, word by word. -/
def picked (D : Vec Ideal Mods .f32) (ℓ : Fin 4) (b : Fin 8) (n : ℕ) (p : Fin 9) (x : Fin 1024) : EReal :=
  Scalar.select (IntOp.cmpi .slt (BitVec.ofNat 32 n) 256#32) (D (ix5 ℓ 0 b p x)) (D (ix5 ℓ 1 b p x))

/-- That choice, decided on natural numbers. -/
theorem picked_eq (D : Vec Ideal Mods .f32) (ℓ : Fin 4) (b : Fin 8) (n : ℕ) (hn : n < 4352) (p : Fin 9) :
    picked D ℓ b n p = modRow D ℓ b n p := funext fun _ => select_lt n hn _ _

end Cert.MixOut

end
-- ==== Proof.FfnTwoRef.lean ====
/- The first layer's feed-forward reference: every element of its result is the half feed-forward block of its token's row. -/
module

public import proofs.«01_k».proof.Proof.FfnTwoValue
public import proofs.«01_k».proof.Proof.MixOut
public import proofs.«01_k».proof.Proof.Gen.FfnTwoRefIdeal.Run

@[expose] public section

set_option maxRecDepth 16384

noncomputable section

namespace Cert.FfnTwoRefIdeal.Hand

open Cert.FfnTwoRefIdeal Cert.FfnTwoRefIdeal.Gen Cert.FfnTwoRefIdeal.Value Cert.MixOut Idealize.ShloMosaic Idealize.ShloMosaic.TcCoe Idealize.SL.Sem Cert.Row Cert.Tokens

/-- The two arrays' tokens as one sequence. -/
theorem join (C : Vec Ideal S8x256x1024 .f32) (L : Vec Ideal S8x4096x1024 .f32) :
    (concatenate S8x4352x1024 1 [⟨S8x256x1024, C⟩, ⟨S8x4096x1024, L⟩] concatenates_S8x256x1024_S8x4096x1024_S8x4352x1024_d1 : Vec Ideal S8x4352x1024 .f32)
      = joined C L := by
  funext i
  refine (congrArg _ (show i = ix3 (i 0) (i 1) (i 2) by blk_ext)).trans ?_
  unfold joined
  pointwise

variable (m : (ℓ : Loc nD τ sig) → Buf (Elt Ideal) ℓ)

/-- The reference's result at token `n`, lane `j`, its modulation rows still chosen element by element. -/
theorem out_select (c : Dev nD) (n : Fin 34816) (j : Fin 1024) (hb : n.val / 4352 < 8) (ht : n.val % 4352 < 4352) :
    (res_out0 m c : Vec Ideal S34816x1024 .f32) (ix2 n j)
      = halfFfn (fun x => (joined (m ((c : Thread nD τ).loc main_arg0)) (m ((c : Thread nD τ).loc main_arg1))) (ix3 ⟨n.val / 4352, hb⟩ ⟨n.val % 4352, ht⟩ x)) (picked (m ((c : Thread nD τ).loc main_arg2)) 0 ⟨n.val / 4352, hb⟩ (n.val % 4352) 0) (picked (m ((c : Thread nD τ).loc main_arg2)) 0 ⟨n.val / 4352, hb⟩ (n.val % 4352) 1) (picked (m ((c : Thread nD τ).loc main_arg2)) 0 ⟨n.val / 4352, hb⟩ (n.val % 4352) 2)
          (fun x k => ((m ((c : Thread nD τ).loc main_arg3)) : Vec Ideal S4x2x1024x5632 .bf16) (ix4 0 0 x k)) (fun f x => ((m ((c : Thread nD τ).loc main_arg4)) : Vec Ideal S4x2x2816x1024 .bf16) (ix4 0 0 f x))
          (fun x => ((m ((c : Thread nD τ).loc main_arg5)) : Vec Ideal S4x3x1x1024 .f32) (ix4 0 0 0 x)) (fun x => ((m ((c : Thread nD τ).loc main_arg6)) : Vec Ideal S4x3x1x1024 .f32) (ix4 0 0 0 x)) j := by
  unfold res_out0 res_main_v88
  rw [join]
  generalize (joined (m ((c : Thread nD τ).loc main_arg0)) (m ((c : Thread nD τ).loc main_arg1))) = H
  unfold halfFfn layerNorm ffnSum ffnAct swish gateUp picked
  pointwise

/-- The reference's result at token `n`, lane `j`. -/
theorem out_at (c : Dev nD) (n : Fin 34816) (j : Fin 1024) : (res_out0 m c : Vec Ideal S34816x1024 .f32) (ix2 n j)
      = Cert.FfnIdeal.Hand.ffnOut 0 (joined (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) n j := by
  have ht : n.val % 4352 < 4352 := by omega
  rw [out_select m c n j (by omega) ht]
  unfold Cert.FfnIdeal.Hand.ffnOut
  simp only [picked_eq _ _ _ _ ht]

/-- The reference's whole result. -/
theorem out_eq (c : Dev nD) : (res_out0 m c : Vec Ideal S34816x1024 .f32) = fun i : S34816x1024.Idx =>
    Cert.FfnIdeal.Hand.ffnOut 0 (joined (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  funext i
  exact (congrArg (res_out0 m c : Vec Ideal S34816x1024 .f32) (show i = ix2 (i 0) (i 1) by blk_ext)).trans (out_at m c (i 0) (i 1))

end Cert.FfnTwoRefIdeal.Hand

end
-- ==== Proof.PostRecValue.lean ====
/- The third layer's output-projection kernel: every element of its result is the two stages of its token's row. -/
module

public import proofs.«01_k».proof.Proof.PostTile
public import proofs.«01_k».proof.Proof.MixOut
public import proofs.«01_k».proof.Proof.Gen.PostRecIdeal.Value

@[expose] public section

set_option maxRecDepth 16384

noncomputable section

namespace Cert.PostRecIdeal.Hand

open Cert.PostRecIdeal Cert.PostRecIdeal.Gen Idealize.ShloMosaic Idealize.ShloMosaic.TcCoe Idealize.SL.Sem Cert.Row Cert.Tokens Cert.MixOut
open Idealize.ShloMosaic.Pipeline (Dat)

/-- One tile from its blocks: 256 rows `h`, their modulation rows `d`, the mixer's output `a`, and the weights and
    parameters of the two stages. -/
def tile (a : Vec Ideal S1x256x1024 .bf16) (d : Vec Ideal S1x1x1x9x1024 .f32) (h : Vec Ideal S1x256x1024 .f32) (wm : Vec Ideal S1x1024x1024 .bf16)
    (g b : Vec Ideal S1x1x1x1024 .f32) (w : Vec Ideal S1x1x1024x5632 .bf16) (wo : Vec Ideal S1x1x2816x1024 .bf16) (g' b' : Vec Ideal S1x1x1x1024 .f32) : FVec Ideal S256x1024 .f32 :=
  Cert.PostIdeal.Hand.finish d (k0_pay5 a d h wm) (k0_pay6 a d h wm) g b w wo g' b'

/-- The first stage at an element. -/
theorem normed_at (a : Vec Ideal S1x256x1024 .bf16) (d : Vec Ideal S1x1x1x9x1024 .f32) (h : Vec Ideal S1x256x1024 .f32) (wm : Vec Ideal S1x1024x1024 .bf16)
    (g b : Vec Ideal S1x1x1x1024 .f32) (r : Fin 256) (j : Fin 1024) :
    Cert.PostIdeal.Gen.k0_pay7 (F := Ideal) (Cert.PostIdeal.Gen.k0_pay3 g) (Cert.PostIdeal.Gen.k0_pay4 b) (k0_pay5 a d h wm) (k0_pay6 a d h wm) (Scalar.ofBits .f32 0x3727C5AC#32) (ix2 r j)
      = mixNorm (fun x => h (ix3 0 r x)) (fun x => d (ix5 0 0 0 5 x)) (fun k => a (ix3 0 r k)) (fun k x => wm (ix3 0 k x))
          (fun x => g (ix4 0 0 0 x)) (fun x => b (ix4 0 0 0 x)) j := by
  unfold Cert.PostIdeal.Gen.k0_pay7 Cert.PostIdeal.Gen.k0_pay3 Cert.PostIdeal.Gen.k0_pay4 k0_pay6 k0_pay5 k0_pay2 mixNorm layerNorm mixSum
  pointwise

/-- A tile's element is the two stages of that element's row. -/
theorem tile_at (a : Vec Ideal S1x256x1024 .bf16) (d : Vec Ideal S1x1x1x9x1024 .f32) (h : Vec Ideal S1x256x1024 .f32) (wm : Vec Ideal S1x1024x1024 .bf16)
    (g b : Vec Ideal S1x1x1x1024 .f32) (w : Vec Ideal S1x1x1024x5632 .bf16) (wo : Vec Ideal S1x1x2816x1024 .bf16) (g' b' : Vec Ideal S1x1x1x1024 .f32) (r : Fin 256) (j : Fin 1024) :
    tile a d h wm g b w wo g' b' (ix2 r j)
      = halfFfn (mixNorm (fun x => h (ix3 0 r x)) (fun x => d (ix5 0 0 0 5 x)) (fun k => a (ix3 0 r k)) (fun k x => wm (ix3 0 k x))
            (fun x => g (ix4 0 0 0 x)) (fun x => b (ix4 0 0 0 x)))
          (fun x => d (ix5 0 0 0 6 x)) (fun x => d (ix5 0 0 0 7 x)) (fun x => d (ix5 0 0 0 8 x))
          (fun x k => w (ix4 0 0 x k)) (fun f x => wo (ix4 0 0 f x)) (fun x => g' (ix4 0 0 0 x)) (fun x => b' (ix4 0 0 0 x)) j :=
  Cert.PostIdeal.Hand.finish_at d _ _ g b w wo g' b' r j _ fun x => normed_at a d h wm g b r x

/-- What a point stores: the four tiles, each from its own blocks. -/
theorem stored (x0 x3 x6 x9 : Vec Ideal S1x256x1024 .f32) (x1 x4 x7 x10 : Vec Ideal S1x1x1x9x1024 .f32) (x2 x5 x8 x11 : Vec Ideal S1x256x1024 .bf16)
    (x12 : Vec Ideal S1x1024x1024 .bf16) (x13 x14 : Vec Ideal S1x1x1x1024 .f32) (x15 : Vec Ideal S1x1x1024x5632 .bf16) (x16 : Vec Ideal S1x1x2816x1024 .bf16) (x17 x18 : Vec Ideal S1x1x1x1024 .f32) :
    out0_19 x0 x1 x2 x3 x4 x5 x6 x7 x8 x9 x10 x11 x12 x13 x14 x15 x16 x17 x18
      = View.canon [⟨r0_9, tile (View.ld x11 r0_0) (View.ld x10 r0_1) (View.ld x9 r0_0) (View.ld x12 r0_2) (View.ld x13 r0_3) (View.ld x14 r0_3) (View.ld x15 r0_4) (View.ld x16 r0_5) (View.ld x17 r0_3) (View.ld x18 r0_3)⟩,
          ⟨r0_8, tile (View.ld x8 r0_0) (View.ld x7 r0_1) (View.ld x6 r0_0) (View.ld x12 r0_2) (View.ld x13 r0_3) (View.ld x14 r0_3) (View.ld x15 r0_4) (View.ld x16 r0_5) (View.ld x17 r0_3) (View.ld x18 r0_3)⟩,
          ⟨r0_7, tile (View.ld x5 r0_0) (View.ld x4 r0_1) (View.ld x3 r0_0) (View.ld x12 r0_2) (View.ld x13 r0_3) (View.ld x14 r0_3) (View.ld x15 r0_4) (View.ld x16 r0_5) (View.ld x17 r0_3) (View.ld x18 r0_3)⟩,
          ⟨r0_6, tile (View.ld x2 r0_0) (View.ld x1 r0_1) (View.ld x0 r0_0) (View.ld x12 r0_2) (View.ld x13 r0_3) (View.ld x14 r0_3) (View.ld x15 r0_4) (View.ld x16 r0_5) (View.ld x17 r0_3) (View.ld x18 r0_3)⟩] := rfl

/-- The mixer's row of token `n`. -/
def mixed (X : Vec Ideal S8x4352x1024 .bf16) (n : Fin 34816) (k : Fin 1024) : EReal :=
  X (ix3 ⟨n.val / 4352, by omega⟩ ⟨n.val % 4352, by omega⟩ k)

variable (m : (ℓ : Loc nD τ sig) → Buf (Elt Ideal) ℓ)

/-- The index maps of the windows over the whole grid: tile `4t + k` of the sequences. -/
theorem idx : ∀ t : Fin cfg0.N,
    win0_0.index t = ![(4 * t.val + 0) / 17, (4 * t.val + 0) % 17, 0]
    ∧ win0_1.index t = ![2, if (4 * t.val + 0) % 17 < 1 then 0 else 1, (4 * t.val + 0) / 17, 0, 0]
    ∧ win0_2.index t = ![(4 * t.val + 0) / 17, (4 * t.val + 0) % 17, 0]
    ∧ win0_3.index t = ![(4 * t.val + 1) / 17, (4 * t.val + 1) % 17, 0]
    ∧ win0_4.index t = ![2, if (4 * t.val + 1) % 17 < 1 then 0 else 1, (4 * t.val + 1) / 17, 0, 0]
    ∧ win0_5.index t = ![(4 * t.val + 1) / 17, (4 * t.val + 1) % 17, 0]
    ∧ win0_6.index t = ![(4 * t.val + 2) / 17, (4 * t.val + 2) % 17, 0]
    ∧ win0_7.index t = ![2, if (4 * t.val + 2) % 17 < 1 then 0 else 1, (4 * t.val + 2) / 17, 0, 0]
    ∧ win0_8.index t = ![(4 * t.val + 2) / 17, (4 * t.val + 2) % 17, 0]
    ∧ win0_9.index t = ![(4 * t.val + 3) / 17, (4 * t.val + 3) % 17, 0]
    ∧ win0_10.index t = ![2, if (4 * t.val + 3) % 17 < 1 then 0 else 1, (4 * t.val + 3) / 17, 0, 0]
    ∧ win0_11.index t = ![(4 * t.val + 3) / 17, (4 * t.val + 3) % 17, 0]
    ∧ win0_12.index t = ![0, 0, 0]
    ∧ win0_13.index t = ![2, 1, 0, 0]
    ∧ win0_14.index t = ![2, 1, 0, 0]
    ∧ win0_15.index t = ![2, 1, 0, 0]
    ∧ win0_16.index t = ![2, 1, 0, 0]
    ∧ win0_17.index t = ![2, 2, 0, 0]
    ∧ win0_18.index t = ![2, 2, 0, 0]
    ∧ win0_19.index t = ![t.val, 0] :=
  (by decide +kernel : ∀ t : Fin grid0.N, _)

/-- A load of a whole block is the block. -/
theorem ld_act (X : Vec Ideal S1x256x1024 .bf16) : View.ld X r0_0 = X := View.ld_unit_lit _ X (by decide)

/-- A load of a whole block is the block. -/
theorem ld_mods (X : Vec Ideal S1x1x1x9x1024 .f32) : View.ld X r0_1 = X := View.ld_unit_lit _ X (by decide)

/-- A load of a whole block is the block. -/
theorem ld_rows (X : Vec Ideal S1x256x1024 .f32) : View.ld X r0_0 = X := View.ld_unit_lit _ X (by decide)

/-- A load of a whole block is the block. -/
theorem ld_wmix (X : Vec Ideal S1x1024x1024 .bf16) : View.ld X r0_2 = X := View.ld_unit_lit _ X (by decide)

/-- A load of a whole block is the block. -/
theorem ld_ln (X : Vec Ideal S1x1x1x1024 .f32) : View.ld X r0_3 = X := View.ld_unit_lit _ X (by decide)

/-- A load of a whole block is the block. -/
theorem ld_win (X : Vec Ideal S1x1x1024x5632 .bf16) : View.ld X r0_4 = X := View.ld_unit_lit _ X (by decide)

/-- A load of a whole block is the block. -/
theorem ld_wout (X : Vec Ideal S1x1x2816x1024 .bf16) : View.ld X r0_5 = X := View.ld_unit_lit _ X (by decide)

set_option maxHeartbeats 4000000 in
/-- The token blocks of a point are its four tiles'. -/
theorem tiles (c : Dev nD) (t : Fin cfg0.N) (ht : t.val < 34) :
    (IsTile (m ((c : Thread nD τ).loc main_arg0)) (m ((c : Thread nD τ).loc main_arg1)) 2 (4 * t.val + 0) (by omega) (View.ld (iblk m c 0 t) r0_0) (View.ld (iblk m c 1 t) r0_1)
      ∧ ∀ r k, ((View.ld (iblk m c 2 t) r0_0) : Vec Ideal S1x256x1024 .bf16) (ix3 0 r k) = ((m ((c : Thread nD τ).loc main_arg2)) : Vec Ideal S8x4352x1024 .bf16) (ix3 ⟨(4 * t.val + 0) / 17, by omega⟩ ⟨(4 * t.val + 0) % 17 * 256 + r.val, by omega⟩ k))
    ∧ (IsTile (m ((c : Thread nD τ).loc main_arg0)) (m ((c : Thread nD τ).loc main_arg1)) 2 (4 * t.val + 1) (by omega) (View.ld (iblk m c 3 t) r0_0) (View.ld (iblk m c 4 t) r0_1)
      ∧ ∀ r k, ((View.ld (iblk m c 5 t) r0_0) : Vec Ideal S1x256x1024 .bf16) (ix3 0 r k) = ((m ((c : Thread nD τ).loc main_arg2)) : Vec Ideal S8x4352x1024 .bf16) (ix3 ⟨(4 * t.val + 1) / 17, by omega⟩ ⟨(4 * t.val + 1) % 17 * 256 + r.val, by omega⟩ k))
    ∧ (IsTile (m ((c : Thread nD τ).loc main_arg0)) (m ((c : Thread nD τ).loc main_arg1)) 2 (4 * t.val + 2) (by omega) (View.ld (iblk m c 6 t) r0_0) (View.ld (iblk m c 7 t) r0_1)
      ∧ ∀ r k, ((View.ld (iblk m c 8 t) r0_0) : Vec Ideal S1x256x1024 .bf16) (ix3 0 r k) = ((m ((c : Thread nD τ).loc main_arg2)) : Vec Ideal S8x4352x1024 .bf16) (ix3 ⟨(4 * t.val + 2) / 17, by omega⟩ ⟨(4 * t.val + 2) % 17 * 256 + r.val, by omega⟩ k))
    ∧ (IsTile (m ((c : Thread nD τ).loc main_arg0)) (m ((c : Thread nD τ).loc main_arg1)) 2 (4 * t.val + 3) (by omega) (View.ld (iblk m c 9 t) r0_0) (View.ld (iblk m c 10 t) r0_1)
      ∧ ∀ r k, ((View.ld (iblk m c 11 t) r0_0) : Vec Ideal S1x256x1024 .bf16) (ix3 0 r k) = ((m ((c : Thread nD τ).loc main_arg2)) : Vec Ideal S8x4352x1024 .bf16) (ix3 ⟨(4 * t.val + 3) / 17, by omega⟩ ⟨(4 * t.val + 3) % 17 * 256 + r.val, by omega⟩ k)) := by
  refine ⟨?_, ?_, ?_, ?_⟩ <;>
    exact ⟨⟨fun r x => (congrFun (ld_rows _) _).trans (by blk_ext [iblk, V, idx t]),
      fun p x => (congrFun (ld_mods _) _).trans (by blk_ext [iblk, V, idx t])⟩,
      fun r k => (congrFun (ld_act _) _).trans (by blk_ext [iblk, V, idx t])⟩

set_option maxHeartbeats 4000000 in
/-- The weight blocks of a point are its layer's. -/
theorem layer (c : Dev nD) (t : Fin cfg0.N) : IsLayer 2 (fun k x => ((m ((c : Thread nD τ).loc main_arg3)) : Vec Ideal S1x1024x1024 .bf16) (ix3 0 k x)) (m ((c : Thread nD τ).loc main_arg4)) (m ((c : Thread nD τ).loc main_arg5)) (m ((c : Thread nD τ).loc main_arg6)) (m ((c : Thread nD τ).loc main_arg7))
    (View.ld (iblk m c 12 t) r0_2) (View.ld (iblk m c 13 t) r0_3) (View.ld (iblk m c 14 t) r0_3) (View.ld (iblk m c 15 t) r0_4)
    (View.ld (iblk m c 16 t) r0_5) (View.ld (iblk m c 17 t) r0_3) (View.ld (iblk m c 18 t) r0_3) :=
  ⟨fun k x => (congrFun (ld_wmix _) _).trans (by blk_ext [iblk, V, idx t]),
    fun x => (congrFun (ld_ln _) _).trans (by blk_ext [iblk, V, idx t]),
    fun x => (congrFun (ld_ln _) _).trans (by blk_ext [iblk, V, idx t]),
    fun x k => (congrFun (ld_win _) _).trans (by blk_ext [iblk, V, idx t]),
    fun f x => (congrFun (ld_wout _) _).trans (by blk_ext [iblk, V, idx t]),
    fun x => (congrFun (ld_ln _) _).trans (by blk_ext [iblk, V, idx t]),
    fun x => (congrFun (ld_ln _) _).trans (by blk_ext [iblk, V, idx t])⟩

/-- The whole result from the argument arrays. -/
def out (c : Dev nD) (n : Fin 34816) (j : Fin 1024) : EReal :=
  mixOut 2 (m ((c : Thread nD τ).loc main_arg0)) (m ((c : Thread nD τ).loc main_arg1)) (mixed (m ((c : Thread nD τ).loc main_arg2))) (fun k x => ((m ((c : Thread nD τ).loc main_arg3)) : Vec Ideal S1x1024x1024 .bf16) (ix3 0 k x)) (m ((c : Thread nD τ).loc main_arg4)) (m ((c : Thread nD τ).loc main_arg5)) (m ((c : Thread nD τ).loc main_arg6)) (m ((c : Thread nD τ).loc main_arg7)) n j

/-- What a tile stores, at an element of the tile, is the result at that element's token. -/
theorem core (c : Dev nD) (t : Fin cfg0.N) (q : ℕ) (hq : q < 136) (a : Vec Ideal S1x256x1024 .bf16) (d : Vec Ideal S1x1x1x9x1024 .f32)
    (h : Vec Ideal S1x256x1024 .f32) (T : IsTile (m ((c : Thread nD τ).loc main_arg0)) (m ((c : Thread nD τ).loc main_arg1)) 2 q hq h d
      ∧ ∀ r k, a (ix3 0 r k) = ((m ((c : Thread nD τ).loc main_arg2)) : Vec Ideal S8x4352x1024 .bf16) (ix3 ⟨q / 17, by omega⟩ ⟨q % 17 * 256 + r.val, by omega⟩ k))
    (r : Fin 256) (n : Fin 34816) (hn : n.val = 256 * q + r.val) (l j : Fin 1024) (hj : j.val = l.val) :
    tile a d h (View.ld (iblk m c 12 t) r0_2) (View.ld (iblk m c 13 t) r0_3) (View.ld (iblk m c 14 t) r0_3) (View.ld (iblk m c 15 t) r0_4)
        (View.ld (iblk m c 16 t) r0_5) (View.ld (iblk m c 17 t) r0_3) (View.ld (iblk m c 18 t) r0_3) (ix2 r l) = out m c n j := by
  obtain rfl : j = l := Fin.ext hj
  have e1 : n.val / 4352 = q / 17 := by omega
  have e2 : n.val % 4352 = q % 17 * 256 + r.val := by omega
  refine (tile_at _ _ _ _ _ _ _ _ _ _ r j).trans (mixOut_eq T.1 (layer m c t) _ _ r n hn (fun k => (T.2 r k).trans ?_) j)
  unfold mixed
  simp only [e1, e2]

set_option maxHeartbeats 4000000 in
/-- What a grid point stores, at an element, is the result at that element's place in the array. -/
theorem point (c : Dev nD) (t : Fin cfg0.N) (y : S1024x1024.Idx) (n : Fin 34816) (hn : n.val = 1024 * t.val + (y 0).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = out m c n (y 1) := by
  obtain ⟨T0, T1, T2, T3⟩ := tiles m c t (lt_of_lt_of_eq t.isLt N_0)
  rw [stored]
  canon_tiles x hx <;> refine (congrArg _ (show x = ix2 (x 0) (x 1) by blk_ext)).trans ?_
  · exact core m c t _ _ _ _ _ T3 (x 0) n (by omega) (x 1) (y 1) (by omega)
  · exact core m c t _ _ _ _ _ T2 (x 0) n (by omega) (x 1) (y 1) (by omega)
  · exact core m c t _ _ _ _ _ T1 (x 0) n (by omega) (x 1) (y 1) (by omega)
  · exact core m c t _ _ _ _ _ T0 (x 0) n (by omega) (x 1) (y 1) (by omega)

/-- The result array after the run. -/
theorem final (c : Dev nD) : (dats m 0 c).arrAt 19 (cfgs 0).N = fun i : S34816x1024.Idx => out m c (i 0) (i 1) := by
  refine (dats m 0 c).arrAt_eq_of_covers 19 _ (by decide +kernel) fun t _ y => ?_
  blk_simp
  rw [after0_19]
  have h1 : (((cfg0.win 19).blk t).view.emb y) 1 = y 1 := Fin.ext (by blk_simp [idx t])
  exact (point m c t y _ (by blk_simp [idx t]; omega)).trans (congrArg (out m c _) h1.symm)

end Cert.PostRecIdeal.Hand

end
-- ==== Proof.PostRecRef.lean ====
/- The third layer's output-projection reference: every element of its result is the two stages of its token's row. -/
module

public import proofs.«01_k».proof.Proof.PostRecValue
public import proofs.«01_k».proof.Proof.Gen.PostRecRefIdeal.Run

@[expose] public section

set_option maxRecDepth 16384

noncomputable section

namespace Cert.PostRecRefIdeal.Hand

open Cert.PostRecRefIdeal Cert.PostRecRefIdeal.Gen Cert.PostRecRefIdeal.Value Idealize.ShloMosaic Idealize.ShloMosaic.TcCoe Idealize.SL.Sem Cert.Row Cert.Tokens Cert.MixOut

variable (V : Valuation τ sig (Elt Ideal))

/-- The first stage's residual sum. -/
theorem mix_at (b : Fin 8) (t : Fin 4352) (j : Fin 1024) : (res_main_v51 V : Vec Ideal S8x4352x1024 .f32) (ix3 b t j)
      = mixSum (fun x => (V (Proc.devRef .tc main_arg0) : Vec Ideal S8x4352x1024 .f32) (ix3 b t x)) (picked (V (Proc.devRef .tc main_arg1)) 2 b t.val 5) (fun k => (V (Proc.devRef .tc main_arg2) : Vec Ideal S8x4352x1024 .bf16) (ix3 b t k)) (fun k x => (V (Proc.devRef .tc main_arg3) : Vec Ideal S1x1024x1024 .bf16) (ix3 0 k x)) j := by
  unfold res_main_v51 mixSum picked
  pointwise

/-- The first stage. -/
theorem norm_at (b : Fin 8) (t : Fin 4352) (j : Fin 1024) : (res_main_v79 V : Vec Ideal S8x4352x1024 .f32) (ix3 b t j)
      = layerNorm (fun x => (res_main_v51 V : Vec Ideal S8x4352x1024 .f32) (ix3 b t x)) ((V (Proc.devRef .tc main_arg6) : Vec Ideal S4x3x1x1024 .f32) (ix4 2 1 0 j)) ((V (Proc.devRef .tc main_arg7) : Vec Ideal S4x3x1x1024 .f32) (ix4 2 1 0 j)) j := by
  unfold res_main_v79 res_main_v61 res_main_v59 layerNorm
  pointwise

/-- The second stage's residual sum. -/
theorem sum_at (b : Fin 8) (t : Fin 4352) (j : Fin 1024) : (res_main_v109 V : Vec Ideal S8x4352x1024 .f32) (ix3 b t j)
      = ffnSum (fun x => (res_main_v79 V : Vec Ideal S8x4352x1024 .f32) (ix3 b t x)) (picked (V (Proc.devRef .tc main_arg1)) 2 b t.val 6) (picked (V (Proc.devRef .tc main_arg1)) 2 b t.val 7) (picked (V (Proc.devRef .tc main_arg1)) 2 b t.val 8)
          (fun x k => (V (Proc.devRef .tc main_arg4) : Vec Ideal S4x2x1024x5632 .bf16) (ix4 2 1 x k)) (fun f x => (V (Proc.devRef .tc main_arg5) : Vec Ideal S4x2x2816x1024 .bf16) (ix4 2 1 f x)) j := by
  unfold res_main_v109 res_main_v96 res_main_v95 ffnSum ffnAct swish gateUp picked
  pointwise

/-- The result at row `n`, lane `j`, from the second stage's sum. -/
theorem out_norm (n : Fin 34816) (j : Fin 1024) (hb : n.val / 4352 < 8) (ht : n.val % 4352 < 4352) :
    (val3 V (Proc.devRef .tc main_v134) : Vec Ideal S34816x1024 .f32) (ix2 n j)
      = layerNorm (fun x => (res_main_v109 V : Vec Ideal S8x4352x1024 .f32) (ix3 ⟨n.val / 4352, hb⟩ ⟨n.val % 4352, ht⟩ x))
          ((V (Proc.devRef .tc main_arg6) : Vec Ideal S4x3x1x1024 .f32) (ix4 2 2 0 j)) ((V (Proc.devRef .tc main_arg7) : Vec Ideal S4x3x1x1024 .f32) (ix4 2 2 0 j)) j := by
  refine (congrFun (val3_main_v134 V) (ix2 n j)).trans ?_
  unfold res_main_v115 res_main_v113 layerNorm
  pointwise

/-- The result at row `n`, lane `j`. -/
theorem out_at (n : Fin 34816) (j : Fin 1024) : (val3 V (Proc.devRef .tc main_v134) : Vec Ideal S34816x1024 .f32) (ix2 n j)
      = mixOut 2 (V (Proc.devRef .tc main_arg0)) (V (Proc.devRef .tc main_arg1)) (Cert.PostRecIdeal.Hand.mixed (V (Proc.devRef .tc main_arg2))) (fun k x => ((V (Proc.devRef .tc main_arg3)) : Vec Ideal S1x1024x1024 .bf16) (ix3 0 k x)) (V (Proc.devRef .tc main_arg4)) (V (Proc.devRef .tc main_arg5)) (V (Proc.devRef .tc main_arg6)) (V (Proc.devRef .tc main_arg7)) n j := by
  have ht : n.val % 4352 < 4352 := by omega
  rw [out_norm V n j (by omega) ht]
  unfold mixOut halfFfn
  simp only [sum_at, norm_at, mix_at, picked_eq _ _ _ _ ht]
  rfl

/-- The reference's whole result. -/
theorem out_eq : (val3 V (Proc.devRef .tc main_v134) : Vec Ideal S34816x1024 .f32) = fun i : S34816x1024.Idx =>
    mixOut 2 (V (Proc.devRef .tc main_arg0)) (V (Proc.devRef .tc main_arg1)) (Cert.PostRecIdeal.Hand.mixed (V (Proc.devRef .tc main_arg2))) (fun k x => ((V (Proc.devRef .tc main_arg3)) : Vec Ideal S1x1024x1024 .bf16) (ix3 0 k x)) (V (Proc.devRef .tc main_arg4)) (V (Proc.devRef .tc main_arg5)) (V (Proc.devRef .tc main_arg6)) (V (Proc.devRef .tc main_arg7)) (i 0) (i 1) := by
  funext i
  exact (congrArg (val3 V (Proc.devRef .tc main_v134) : Vec Ideal S34816x1024 .f32) (show i = ix2 (i 0) (i 1) by blk_ext)).trans (out_at V (i 0) (i 1))

/-- The reference's run: the result array is the two stages of every token, the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v134) = (fun i : S34816x1024.Idx =>
        mixOut 2 (m ((c.tc : Thread nD τ).loc main_arg0)) (m ((c.tc : Thread nD τ).loc main_arg1)) (Cert.PostRecIdeal.Hand.mixed (m ((c.tc : Thread nD τ).loc main_arg2))) (fun k x => ((m ((c.tc : Thread nD τ).loc main_arg3)) : Vec Ideal S1x1024x1024 .bf16) (ix3 0 k x)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans ((val3_main_v134 _).symm.trans (out_eq _)), (h c).2⟩) (Cert.PostRecRefIdeal.Value.run m ρ)

end Cert.PostRecRefIdeal.Hand

end
-- ==== Proof.PostNbrValue.lean ====
/- The second layer's output-projection kernel: every element of its result is the two stages of its token's row. -/
module

public import proofs.«01_k».proof.Proof.PostTile
public import proofs.«01_k».proof.Proof.MixOut
public import proofs.«01_k».proof.Proof.Gen.PostNbrIdeal.Value

@[expose] public section

set_option maxRecDepth 16384

noncomputable section

namespace Cert.PostNbrIdeal.Hand

open Cert.PostNbrIdeal Cert.PostNbrIdeal.Gen Idealize.ShloMosaic Idealize.ShloMosaic.TcCoe Idealize.SL.Sem Cert.Row Cert.Tokens Cert.MixOut
open Idealize.ShloMosaic.Pipeline (Dat)

/-- One tile from its blocks: 256 rows `h`, their modulation rows `d`, the mixer's output `a`, and the weights and
    parameters of the two stages. -/
def tile (a : Vec Ideal S1x1x1024x256 .f32) (d : Vec Ideal S1x1x1x9x1024 .f32) (h : Vec Ideal S1x256x1024 .f32) (wm : Vec Ideal S1x1024x1024 .bf16)
    (g b : Vec Ideal S1x1x1x1024 .f32) (w : Vec Ideal S1x1x1024x5632 .bf16) (wo : Vec Ideal S1x1x2816x1024 .bf16) (g' b' : Vec Ideal S1x1x1x1024 .f32) : FVec Ideal S256x1024 .f32 :=
  Cert.PostIdeal.Hand.finish d (k0_pay4 a d h wm) (divf (k0_pay5 a d h wm) (broadcast S256x1 (Scalar.ofBits .f32 0x44800000#32))) g b w wo g' b'

/-- The first stage at an element. -/
theorem normed_at (a : Vec Ideal S1x1x1024x256 .f32) (d : Vec Ideal S1x1x1x9x1024 .f32) (h : Vec Ideal S1x256x1024 .f32) (wm : Vec Ideal S1x1024x1024 .bf16)
    (g b : Vec Ideal S1x1x1x1024 .f32) (r : Fin 256) (j : Fin 1024) :
    Cert.PostIdeal.Gen.k0_pay7 (F := Ideal) (Cert.PostIdeal.Gen.k0_pay3 g) (Cert.PostIdeal.Gen.k0_pay4 b) (k0_pay4 a d h wm) (divf (k0_pay5 a d h wm) (broadcast S256x1 (Scalar.ofBits .f32 0x44800000#32))) (Scalar.ofBits .f32 0x3727C5AC#32) (ix2 r j)
      = mixNorm (fun x => h (ix3 0 r x)) (fun x => d (ix5 0 0 0 5 x)) (fun k => a (ix4 0 0 k r)) (fun k x => wm (ix3 0 k x))
          (fun x => g (ix4 0 0 0 x)) (fun x => b (ix4 0 0 0 x)) j := by
  unfold Cert.PostIdeal.Gen.k0_pay7 Cert.PostIdeal.Gen.k0_pay3 Cert.PostIdeal.Gen.k0_pay4 k0_pay5 k0_pay4 k0_pay1 mixNorm layerNorm mixSum
  pointwise

/-- A tile's element is the two stages of that element's row. -/
theorem tile_at (a : Vec Ideal S1x1x1024x256 .f32) (d : Vec Ideal S1x1x1x9x1024 .f32) (h : Vec Ideal S1x256x1024 .f32) (wm : Vec Ideal S1x1024x1024 .bf16)
    (g b : Vec Ideal S1x1x1x1024 .f32) (w : Vec Ideal S1x1x1024x5632 .bf16) (wo : Vec Ideal S1x1x2816x1024 .bf16) (g' b' : Vec Ideal S1x1x1x1024 .f32) (r : Fin 256) (j : Fin 1024) :
    tile a d h wm g b w wo g' b' (ix2 r j)
      = halfFfn (mixNorm (fun x => h (ix3 0 r x)) (fun x => d (ix5 0 0 0 5 x)) (fun k => a (ix4 0 0 k r)) (fun k x => wm (ix3 0 k x))
            (fun x => g (ix4 0 0 0 x)) (fun x => b (ix4 0 0 0 x)))
          (fun x => d (ix5 0 0 0 6 x)) (fun x => d (ix5 0 0 0 7 x)) (fun x => d (ix5 0 0 0 8 x))
          (fun x k => w (ix4 0 0 x k)) (fun f x => wo (ix4 0 0 f x)) (fun x => g' (ix4 0 0 0 x)) (fun x => b' (ix4 0 0 0 x)) j :=
  Cert.PostIdeal.Hand.finish_at d _ _ g b w wo g' b' r j _ fun x => normed_at a d h wm g b r x

/-- What a point stores: the four tiles, each from its own blocks. -/
theorem stored (x0 x3 x6 x9 : Vec Ideal S1x256x1024 .f32) (x1 x4 x7 x10 : Vec Ideal S1x1x1x9x1024 .f32) (x2 x5 x8 x11 : Vec Ideal S1x1x1024x256 .f32)
    (x12 : Vec Ideal S1x1024x1024 .bf16) (x13 x14 : Vec Ideal S1x1x1x1024 .f32) (x15 : Vec Ideal S1x1x1024x5632 .bf16) (x16 : Vec Ideal S1x1x2816x1024 .bf16) (x17 x18 : Vec Ideal S1x1x1x1024 .f32) :
    out0_19 x0 x1 x2 x3 x4 x5 x6 x7 x8 x9 x10 x11 x12 x13 x14 x15 x16 x17 x18
      = View.canon [⟨r0_10, tile (View.ld x11 r0_0) (View.ld x10 r0_1) (View.ld x9 r0_2) (View.ld x12 r0_3) (View.ld x13 r0_4) (View.ld x14 r0_4) (View.ld x15 r0_5) (View.ld x16 r0_6) (View.ld x17 r0_4) (View.ld x18 r0_4)⟩,
          ⟨r0_9, tile (View.ld x8 r0_0) (View.ld x7 r0_1) (View.ld x6 r0_2) (View.ld x12 r0_3) (View.ld x13 r0_4) (View.ld x14 r0_4) (View.ld x15 r0_5) (View.ld x16 r0_6) (View.ld x17 r0_4) (View.ld x18 r0_4)⟩,
          ⟨r0_8, tile (View.ld x5 r0_0) (View.ld x4 r0_1) (View.ld x3 r0_2) (View.ld x12 r0_3) (View.ld x13 r0_4) (View.ld x14 r0_4) (View.ld x15 r0_5) (View.ld x16 r0_6) (View.ld x17 r0_4) (View.ld x18 r0_4)⟩,
          ⟨r0_7, tile (View.ld x2 r0_0) (View.ld x1 r0_1) (View.ld x0 r0_2) (View.ld x12 r0_3) (View.ld x13 r0_4) (View.ld x14 r0_4) (View.ld x15 r0_5) (View.ld x16 r0_6) (View.ld x17 r0_4) (View.ld x18 r0_4)⟩] := rfl

/-- The mixer's row of token `n`. -/
def mixed (X : Vec Ideal S8x17x1024x256 .f32) (n : Fin 34816) (k : Fin 1024) : EReal :=
  X (ix4 ⟨n.val / 4352, by omega⟩ ⟨n.val % 4352 / 256, by omega⟩ k ⟨n.val % 256, by omega⟩)

variable (m : (ℓ : Loc nD τ sig) → Buf (Elt Ideal) ℓ)

/-- The index maps of the windows over the whole grid: tile `4t + k` of the sequences. -/
theorem idx : ∀ t : Fin cfg0.N,
    win0_0.index t = ![(4 * t.val + 0) / 17, (4 * t.val + 0) % 17, 0]
    ∧ win0_1.index t = ![1, if (4 * t.val + 0) % 17 < 1 then 0 else 1, (4 * t.val + 0) / 17, 0, 0]
    ∧ win0_2.index t = ![(4 * t.val + 0) / 17, (4 * t.val + 0) % 17, 0, 0]
    ∧ win0_3.index t = ![(4 * t.val + 1) / 17, (4 * t.val + 1) % 17, 0]
    ∧ win0_4.index t = ![1, if (4 * t.val + 1) % 17 < 1 then 0 else 1, (4 * t.val + 1) / 17, 0, 0]
    ∧ win0_5.index t = ![(4 * t.val + 1) / 17, (4 * t.val + 1) % 17, 0, 0]
    ∧ win0_6.index t = ![(4 * t.val + 2) / 17, (4 * t.val + 2) % 17, 0]
    ∧ win0_7.index t = ![1, if (4 * t.val + 2) % 17 < 1 then 0 else 1, (4 * t.val + 2) / 17, 0, 0]
    ∧ win0_8.index t = ![(4 * t.val + 2) / 17, (4 * t.val + 2) % 17, 0, 0]
    ∧ win0_9.index t = ![(4 * t.val + 3) / 17, (4 * t.val + 3) % 17, 0]
    ∧ win0_10.index t = ![1, if (4 * t.val + 3) % 17 < 1 then 0 else 1, (4 * t.val + 3) / 17, 0, 0]
    ∧ win0_11.index t = ![(4 * t.val + 3) / 17, (4 * t.val + 3) % 17, 0, 0]
    ∧ win0_12.index t = ![0, 0, 0]
    ∧ win0_13.index t = ![1, 1, 0, 0]
    ∧ win0_14.index t = ![1, 1, 0, 0]
    ∧ win0_15.index t = ![1, 1, 0, 0]
    ∧ win0_16.index t = ![1, 1, 0, 0]
    ∧ win0_17.index t = ![1, 2, 0, 0]
    ∧ win0_18.index t = ![1, 2, 0, 0]
    ∧ win0_19.index t = ![t.val, 0] :=
  (by decide +kernel : ∀ t : Fin grid0.N, _)

/-- A load of a whole block is the block. -/
theorem ld_act (X : Vec Ideal S1x1x1024x256 .f32) : View.ld X r0_0 = X := View.ld_unit_lit _ X (by decide)

/-- A load of a whole block is the block. -/
theorem ld_mods (X : Vec Ideal S1x1x1x9x1024 .f32) : View.ld X r0_1 = X := View.ld_unit_lit _ X (by decide)

/-- A load of a whole block is the block. -/
theorem ld_rows (X : Vec Ideal S1x256x1024 .f32) : View.ld X r0_2 = X := View.ld_unit_lit _ X (by decide)

/-- A load of a whole block is the block. -/
theorem ld_wmix (X : Vec Ideal S1x1024x1024 .bf16) : View.ld X r0_3 = X := View.ld_unit_lit _ X (by decide)

/-- A load of a whole block is the block. -/
theorem ld_ln (X : Vec Ideal S1x1x1x1024 .f32) : View.ld X r0_4 = X := View.ld_unit_lit _ X (by decide)

/-- A load of a whole block is the block. -/
theorem ld_win (X : Vec Ideal S1x1x1024x5632 .bf16) : View.ld X r0_5 = X := View.ld_unit_lit _ X (by decide)

/-- A load of a whole block is the block. -/
theorem ld_wout (X : Vec Ideal S1x1x2816x1024 .bf16) : View.ld X r0_6 = X := View.ld_unit_lit _ X (by decide)

set_option maxHeartbeats 4000000 in
/-- The token blocks of a point are its four tiles'. -/
theorem tiles (c : Dev nD) (t : Fin cfg0.N) (ht : t.val < 34) :
    (IsTile (m ((c : Thread nD τ).loc main_arg0)) (m ((c : Thread nD τ).loc main_arg1)) 1 (4 * t.val + 0) (by omega) (View.ld (iblk m c 0 t) r0_2) (View.ld (iblk m c 1 t) r0_1)
      ∧ ∀ r k, ((View.ld (iblk m c 2 t) r0_0) : Vec Ideal S1x1x1024x256 .f32) (ix4 0 0 k r) = ((m ((c : Thread nD τ).loc main_arg2)) : Vec Ideal S8x17x1024x256 .f32) (ix4 ⟨(4 * t.val + 0) / 17, by omega⟩ ⟨(4 * t.val + 0) % 17, by omega⟩ k r))
    ∧ (IsTile (m ((c : Thread nD τ).loc main_arg0)) (m ((c : Thread nD τ).loc main_arg1)) 1 (4 * t.val + 1) (by omega) (View.ld (iblk m c 3 t) r0_2) (View.ld (iblk m c 4 t) r0_1)
      ∧ ∀ r k, ((View.ld (iblk m c 5 t) r0_0) : Vec Ideal S1x1x1024x256 .f32) (ix4 0 0 k r) = ((m ((c : Thread nD τ).loc main_arg2)) : Vec Ideal S8x17x1024x256 .f32) (ix4 ⟨(4 * t.val + 1) / 17, by omega⟩ ⟨(4 * t.val + 1) % 17, by omega⟩ k r))
    ∧ (IsTile (m ((c : Thread nD τ).loc main_arg0)) (m ((c : Thread nD τ).loc main_arg1)) 1 (4 * t.val + 2) (by omega) (View.ld (iblk m c 6 t) r0_2) (View.ld (iblk m c 7 t) r0_1)
      ∧ ∀ r k, ((View.ld (iblk m c 8 t) r0_0) : Vec Ideal S1x1x1024x256 .f32) (ix4 0 0 k r) = ((m ((c : Thread nD τ).loc main_arg2)) : Vec Ideal S8x17x1024x256 .f32) (ix4 ⟨(4 * t.val + 2) / 17, by omega⟩ ⟨(4 * t.val + 2) % 17, by omega⟩ k r))
    ∧ (IsTile (m ((c : Thread nD τ).loc main_arg0)) (m ((c : Thread nD τ).loc main_arg1)) 1 (4 * t.val + 3) (by omega) (View.ld (iblk m c 9 t) r0_2) (View.ld (iblk m c 10 t) r0_1)
      ∧ ∀ r k, ((View.ld (iblk m c 11 t) r0_0) : Vec Ideal S1x1x1024x256 .f32) (ix4 0 0 k r) = ((m ((c : Thread nD τ).loc main_arg2)) : Vec Ideal S8x17x1024x256 .f32) (ix4 ⟨(4 * t.val + 3) / 17, by omega⟩ ⟨(4 * t.val + 3) % 17, by omega⟩ k r)) := by
  refine ⟨?_, ?_, ?_, ?_⟩ <;>
    exact ⟨⟨fun r x => (congrFun (ld_rows _) _).trans (by blk_ext [iblk, V, idx t]),
      fun p x => (congrFun (ld_mods _) _).trans (by blk_ext [iblk, V, idx t])⟩,
      fun r k => (congrFun (ld_act _) _).trans (by blk_ext [iblk, V, idx t])⟩

set_option maxHeartbeats 4000000 in
/-- The weight blocks of a point are its layer's. -/
theorem layer (c : Dev nD) (t : Fin cfg0.N) : IsLayer 1 (fun k x => ((m ((c : Thread nD τ).loc main_arg3)) : Vec Ideal S1x1024x1024 .bf16) (ix3 0 k x)) (m ((c : Thread nD τ).loc main_arg4)) (m ((c : Thread nD τ).loc main_arg5)) (m ((c : Thread nD τ).loc main_arg6)) (m ((c : Thread nD τ).loc main_arg7))
    (View.ld (iblk m c 12 t) r0_3) (View.ld (iblk m c 13 t) r0_4) (View.ld (iblk m c 14 t) r0_4) (View.ld (iblk m c 15 t) r0_5)
    (View.ld (iblk m c 16 t) r0_6) (View.ld (iblk m c 17 t) r0_4) (View.ld (iblk m c 18 t) r0_4) :=
  ⟨fun k x => (congrFun (ld_wmix _) _).trans (by blk_ext [iblk, V, idx t]),
    fun x => (congrFun (ld_ln _) _).trans (by blk_ext [iblk, V, idx t]),
    fun x => (congrFun (ld_ln _) _).trans (by blk_ext [iblk, V, idx t]),
    fun x k => (congrFun (ld_win _) _).trans (by blk_ext [iblk, V, idx t]),
    fun f x => (congrFun (ld_wout _) _).trans (by blk_ext [iblk, V, idx t]),
    fun x => (congrFun (ld_ln _) _).trans (by blk_ext [iblk, V, idx t]),
    fun x => (congrFun (ld_ln _) _).trans (by blk_ext [iblk, V, idx t])⟩

/-- The whole result from the argument arrays. -/
def out (c : Dev nD) (n : Fin 34816) (j : Fin 1024) : EReal :=
  mixOut 1 (m ((c : Thread nD τ).loc main_arg0)) (m ((c : Thread nD τ).loc main_arg1)) (mixed (m ((c : Thread nD τ).loc main_arg2))) (fun k x => ((m ((c : Thread nD τ).loc main_arg3)) : Vec Ideal S1x1024x1024 .bf16) (ix3 0 k x)) (m ((c : Thread nD τ).loc main_arg4)) (m ((c : Thread nD τ).loc main_arg5)) (m ((c : Thread nD τ).loc main_arg6)) (m ((c : Thread nD τ).loc main_arg7)) n j

/-- What a tile stores, at an element of the tile, is the result at that element's token. -/
theorem core (c : Dev nD) (t : Fin cfg0.N) (q : ℕ) (hq : q < 136) (a : Vec Ideal S1x1x1024x256 .f32) (d : Vec Ideal S1x1x1x9x1024 .f32)
    (h : Vec Ideal S1x256x1024 .f32) (T : IsTile (m ((c : Thread nD τ).loc main_arg0)) (m ((c : Thread nD τ).loc main_arg1)) 1 q hq h d
      ∧ ∀ r k, a (ix4 0 0 k r) = ((m ((c : Thread nD τ).loc main_arg2)) : Vec Ideal S8x17x1024x256 .f32) (ix4 ⟨q / 17, by omega⟩ ⟨q % 17, by omega⟩ k r))
    (r : Fin 256) (n : Fin 34816) (hn : n.val = 256 * q + r.val) (l j : Fin 1024) (hj : j.val = l.val) :
    tile a d h (View.ld (iblk m c 12 t) r0_3) (View.ld (iblk m c 13 t) r0_4) (View.ld (iblk m c 14 t) r0_4) (View.ld (iblk m c 15 t) r0_5)
        (View.ld (iblk m c 16 t) r0_6) (View.ld (iblk m c 17 t) r0_4) (View.ld (iblk m c 18 t) r0_4) (ix2 r l) = out m c n j := by
  obtain rfl : j = l := Fin.ext hj
  have e1 : n.val / 4352 = q / 17 := by omega
  have e2 : n.val % 4352 / 256 = q % 17 := by omega
  have e3 : n.val % 256 = r.val := by omega
  refine (tile_at _ _ _ _ _ _ _ _ _ _ r j).trans (mixOut_eq T.1 (layer m c t) _ _ r n hn (fun k => (T.2 r k).trans ?_) j)
  unfold mixed
  simp only [e1, e2, e3]

set_option maxHeartbeats 4000000 in
/-- What a grid point stores, at an element, is the result at that element's place in the array. -/
theorem point (c : Dev nD) (t : Fin cfg0.N) (y : S1024x1024.Idx) (n : Fin 34816) (hn : n.val = 1024 * t.val + (y 0).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = out m c n (y 1) := by
  obtain ⟨T0, T1, T2, T3⟩ := tiles m c t (lt_of_lt_of_eq t.isLt N_0)
  rw [stored]
  canon_tiles x hx <;> refine (congrArg _ (show x = ix2 (x 0) (x 1) by blk_ext)).trans ?_
  · exact core m c t _ _ _ _ _ T3 (x 0) n (by omega) (x 1) (y 1) (by omega)
  · exact core m c t _ _ _ _ _ T2 (x 0) n (by omega) (x 1) (y 1) (by omega)
  · exact core m c t _ _ _ _ _ T1 (x 0) n (by omega) (x 1) (y 1) (by omega)
  · exact core m c t _ _ _ _ _ T0 (x 0) n (by omega) (x 1) (y 1) (by omega)

/-- The result array after the run. -/
theorem final (c : Dev nD) : (dats m 0 c).arrAt 19 (cfgs 0).N = fun i : S34816x1024.Idx => out m c (i 0) (i 1) := by
  refine (dats m 0 c).arrAt_eq_of_covers 19 _ (by decide +kernel) fun t _ y => ?_
  blk_simp
  rw [after0_19]
  have h1 : (((cfg0.win 19).blk t).view.emb y) 1 = y 1 := Fin.ext (by blk_simp [idx t])
  exact (point m c t y _ (by blk_simp [idx t]; omega)).trans (congrArg (out m c _) h1.symm)

end Cert.PostNbrIdeal.Hand

end
-- ==== Proof.PostNbrRef.lean ====
/- The second layer's output-projection reference: every element of its result is the two stages of its token's row. -/
module

public import proofs.«01_k».proof.Proof.PostNbrValue
public import proofs.«01_k».proof.Proof.Gen.PostNbrRefIdeal.Run

@[expose] public section

set_option maxRecDepth 16384

noncomputable section

namespace Cert.PostNbrRefIdeal.Hand

open Cert.PostNbrRefIdeal Cert.PostNbrRefIdeal.Gen Cert.PostNbrRefIdeal.Value Idealize.ShloMosaic Idealize.ShloMosaic.TcCoe Idealize.SL.Sem Cert.Row Cert.Tokens Cert.MixOut

variable (V : Valuation τ sig (Elt Ideal))

/-- The first stage's residual sum. -/
theorem mix_at (b : Fin 8) (t : Fin 4352) (j : Fin 1024) : (res_main_v54 V : Vec Ideal S8x4352x1024 .f32) (ix3 b t j)
      = mixSum (fun x => (V (Proc.devRef .tc main_arg0) : Vec Ideal S8x4352x1024 .f32) (ix3 b t x)) (picked (V (Proc.devRef .tc main_arg1)) 1 b t.val 5) (fun k => (V (Proc.devRef .tc main_arg2) : Vec Ideal S8x17x1024x256 .f32) (ix4 b ⟨t.val / 256, by omega⟩ k ⟨t.val % 256, by omega⟩)) (fun k x => (V (Proc.devRef .tc main_arg3) : Vec Ideal S1x1024x1024 .bf16) (ix3 0 k x)) j := by
  unfold res_main_v54 mixSum picked
  pointwise

/-- The first stage. -/
theorem norm_at (b : Fin 8) (t : Fin 4352) (j : Fin 1024) : (res_main_v82 V : Vec Ideal S8x4352x1024 .f32) (ix3 b t j)
      = layerNorm (fun x => (res_main_v54 V : Vec Ideal S8x4352x1024 .f32) (ix3 b t x)) ((V (Proc.devRef .tc main_arg6) : Vec Ideal S4x3x1x1024 .f32) (ix4 1 1 0 j)) ((V (Proc.devRef .tc main_arg7) : Vec Ideal S4x3x1x1024 .f32) (ix4 1 1 0 j)) j := by
  unfold res_main_v82 res_main_v64 res_main_v62 layerNorm
  pointwise

/-- The second stage's residual sum. -/
theorem sum_at (b : Fin 8) (t : Fin 4352) (j : Fin 1024) : (res_main_v112 V : Vec Ideal S8x4352x1024 .f32) (ix3 b t j)
      = ffnSum (fun x => (res_main_v82 V : Vec Ideal S8x4352x1024 .f32) (ix3 b t x)) (picked (V (Proc.devRef .tc main_arg1)) 1 b t.val 6) (picked (V (Proc.devRef .tc main_arg1)) 1 b t.val 7) (picked (V (Proc.devRef .tc main_arg1)) 1 b t.val 8)
          (fun x k => (V (Proc.devRef .tc main_arg4) : Vec Ideal S4x2x1024x5632 .bf16) (ix4 1 1 x k)) (fun f x => (V (Proc.devRef .tc main_arg5) : Vec Ideal S4x2x2816x1024 .bf16) (ix4 1 1 f x)) j := by
  unfold res_main_v112 res_main_v99 res_main_v98 ffnSum ffnAct swish gateUp picked
  pointwise

/-- The result at row `n`, lane `j`, from the second stage's sum. -/
theorem out_norm (n : Fin 34816) (j : Fin 1024) (hb : n.val / 4352 < 8) (ht : n.val % 4352 < 4352) :
    (val3 V (Proc.devRef .tc main_v137) : Vec Ideal S34816x1024 .f32) (ix2 n j)
      = layerNorm (fun x => (res_main_v112 V : Vec Ideal S8x4352x1024 .f32) (ix3 ⟨n.val / 4352, hb⟩ ⟨n.val % 4352, ht⟩ x))
          ((V (Proc.devRef .tc main_arg6) : Vec Ideal S4x3x1x1024 .f32) (ix4 1 2 0 j)) ((V (Proc.devRef .tc main_arg7) : Vec Ideal S4x3x1x1024 .f32) (ix4 1 2 0 j)) j := by
  refine (congrFun (val3_main_v137 V) (ix2 n j)).trans ?_
  unfold res_main_v118 res_main_v116 layerNorm
  pointwise

/-- The result at row `n`, lane `j`. -/
theorem out_at (n : Fin 34816) (j : Fin 1024) : (val3 V (Proc.devRef .tc main_v137) : Vec Ideal S34816x1024 .f32) (ix2 n j)
      = mixOut 1 (V (Proc.devRef .tc main_arg0)) (V (Proc.devRef .tc main_arg1)) (Cert.PostNbrIdeal.Hand.mixed (V (Proc.devRef .tc main_arg2))) (fun k x => ((V (Proc.devRef .tc main_arg3)) : Vec Ideal S1x1024x1024 .bf16) (ix3 0 k x)) (V (Proc.devRef .tc main_arg4)) (V (Proc.devRef .tc main_arg5)) (V (Proc.devRef .tc main_arg6)) (V (Proc.devRef .tc main_arg7)) n j := by
  have ht : n.val % 4352 < 4352 := by omega
  have e : n.val % 4352 % 256 = n.val % 256 := by omega
  rw [out_norm V n j (by omega) ht]
  unfold mixOut halfFfn
  simp only [sum_at, norm_at, mix_at, picked_eq _ _ _ _ ht]
  simp only [e]
  rfl

/-- The reference's whole result. -/
theorem out_eq : (val3 V (Proc.devRef .tc main_v137) : Vec Ideal S34816x1024 .f32) = fun i : S34816x1024.Idx =>
    mixOut 1 (V (Proc.devRef .tc main_arg0)) (V (Proc.devRef .tc main_arg1)) (Cert.PostNbrIdeal.Hand.mixed (V (Proc.devRef .tc main_arg2))) (fun k x => ((V (Proc.devRef .tc main_arg3)) : Vec Ideal S1x1024x1024 .bf16) (ix3 0 k x)) (V (Proc.devRef .tc main_arg4)) (V (Proc.devRef .tc main_arg5)) (V (Proc.devRef .tc main_arg6)) (V (Proc.devRef .tc main_arg7)) (i 0) (i 1) := by
  funext i
  exact (congrArg (val3 V (Proc.devRef .tc main_v137) : Vec Ideal S34816x1024 .f32) (show i = ix2 (i 0) (i 1) by blk_ext)).trans (out_at V (i 0) (i 1))

/-- The reference's run: the result array is the two stages of every token, the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137) = (fun i : S34816x1024.Idx =>
        mixOut 1 (m ((c.tc : Thread nD τ).loc main_arg0)) (m ((c.tc : Thread nD τ).loc main_arg1)) (Cert.PostNbrIdeal.Hand.mixed (m ((c.tc : Thread nD τ).loc main_arg2))) (fun k x => ((m ((c.tc : Thread nD τ).loc main_arg3)) : Vec Ideal S1x1024x1024 .bf16) (ix3 0 k x)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans ((val3_main_v137 _).symm.trans (out_eq _)), (h c).2⟩) (Cert.PostNbrRefIdeal.Value.run m ρ)

end Cert.PostNbrRefIdeal.Hand

end
-- ==== Proof.PostRetValue.lean ====
/- The first layer's output-projection kernel: every element of its result is the two stages of its token's row. -/
module

public import proofs.«01_k».proof.Proof.PostTile
public import proofs.«01_k».proof.Proof.MixOut
public import proofs.«01_k».proof.Proof.Gen.PostRetIdeal.Value

@[expose] public section

set_option maxRecDepth 16384

noncomputable section

namespace Cert.PostRetIdeal.Hand

open Cert.PostRetIdeal Cert.PostRetIdeal.Gen Idealize.ShloMosaic Idealize.ShloMosaic.TcCoe Idealize.SL.Sem Cert.Row Cert.Tokens Cert.MixOut
open Cert.PostIdeal.Hand (tile tile_at)
open Idealize.ShloMosaic.Pipeline (Dat)

/-- What a point stores: the four tiles, each from its own blocks. -/
theorem stored (x0 x3 x6 x9 : Vec Ideal S1x256x1024 .f32) (x1 x4 x7 x10 : Vec Ideal S1x1x1x9x1024 .f32) (x2 x5 x8 x11 : Vec Ideal S1x256x2048 .bf16)
    (x12 : Vec Ideal S1x2048x1024 .bf16) (x13 x14 : Vec Ideal S1x1x1x1024 .f32) (x15 : Vec Ideal S1x1x1024x5632 .bf16) (x16 : Vec Ideal S1x1x2816x1024 .bf16) (x17 x18 : Vec Ideal S1x1x1x1024 .f32) :
    out0_19 x0 x1 x2 x3 x4 x5 x6 x7 x8 x9 x10 x11 x12 x13 x14 x15 x16 x17 x18
      = View.canon [⟨r0_10, tile (View.ld x11 r0_0) (View.ld x10 r0_1) (View.ld x9 r0_2) (View.ld x12 r0_3) (View.ld x13 r0_4) (View.ld x14 r0_4) (View.ld x15 r0_5) (View.ld x16 r0_6) (View.ld x17 r0_4) (View.ld x18 r0_4)⟩,
          ⟨r0_9, tile (View.ld x8 r0_0) (View.ld x7 r0_1) (View.ld x6 r0_2) (View.ld x12 r0_3) (View.ld x13 r0_4) (View.ld x14 r0_4) (View.ld x15 r0_5) (View.ld x16 r0_6) (View.ld x17 r0_4) (View.ld x18 r0_4)⟩,
          ⟨r0_8, tile (View.ld x5 r0_0) (View.ld x4 r0_1) (View.ld x3 r0_2) (View.ld x12 r0_3) (View.ld x13 r0_4) (View.ld x14 r0_4) (View.ld x15 r0_5) (View.ld x16 r0_6) (View.ld x17 r0_4) (View.ld x18 r0_4)⟩,
          ⟨r0_7, tile (View.ld x2 r0_0) (View.ld x1 r0_1) (View.ld x0 r0_2) (View.ld x12 r0_3) (View.ld x13 r0_4) (View.ld x14 r0_4) (View.ld x15 r0_5) (View.ld x16 r0_6) (View.ld x17 r0_4) (View.ld x18 r0_4)⟩] := rfl

/-- The mixer's row of token `n`. -/
def mixed (X : Vec Ideal S8x4352x2048 .bf16) (n : Fin 34816) (k : Fin 2048) : EReal :=
  X (ix3 ⟨n.val / 4352, by omega⟩ ⟨n.val % 4352, by omega⟩ k)

variable (m : (ℓ : Loc nD τ sig) → Buf (Elt Ideal) ℓ)

/-- The index maps of the windows over the whole grid: tile `4t + k` of the sequences. -/
theorem idx : ∀ t : Fin cfg0.N,
    win0_0.index t = ![(4 * t.val + 0) / 17, (4 * t.val + 0) % 17, 0]
    ∧ win0_1.index t = ![0, if (4 * t.val + 0) % 17 < 1 then 0 else 1, (4 * t.val + 0) / 17, 0, 0]
    ∧ win0_2.index t = ![(4 * t.val + 0) / 17, (4 * t.val + 0) % 17, 0]
    ∧ win0_3.index t = ![(4 * t.val + 1) / 17, (4 * t.val + 1) % 17, 0]
    ∧ win0_4.index t = ![0, if (4 * t.val + 1) % 17 < 1 then 0 else 1, (4 * t.val + 1) / 17, 0, 0]
    ∧ win0_5.index t = ![(4 * t.val + 1) / 17, (4 * t.val + 1) % 17, 0]
    ∧ win0_6.index t = ![(4 * t.val + 2) / 17, (4 * t.val + 2) % 17, 0]
    ∧ win0_7.index t = ![0, if (4 * t.val + 2) % 17 < 1 then 0 else 1, (4 * t.val + 2) / 17, 0, 0]
    ∧ win0_8.index t = ![(4 * t.val + 2) / 17, (4 * t.val + 2) % 17, 0]
    ∧ win0_9.index t = ![(4 * t.val + 3) / 17, (4 * t.val + 3) % 17, 0]
    ∧ win0_10.index t = ![0, if (4 * t.val + 3) % 17 < 1 then 0 else 1, (4 * t.val + 3) / 17, 0, 0]
    ∧ win0_11.index t = ![(4 * t.val + 3) / 17, (4 * t.val + 3) % 17, 0]
    ∧ win0_12.index t = ![0, 0, 0]
    ∧ win0_13.index t = ![0, 1, 0, 0]
    ∧ win0_14.index t = ![0, 1, 0, 0]
    ∧ win0_15.index t = ![0, 1, 0, 0]
    ∧ win0_16.index t = ![0, 1, 0, 0]
    ∧ win0_17.index t = ![0, 2, 0, 0]
    ∧ win0_18.index t = ![0, 2, 0, 0]
    ∧ win0_19.index t = ![t.val, 0] :=
  (by decide +kernel : ∀ t : Fin grid0.N, _)

/-- A load of a whole block is the block. -/
theorem ld_act (X : Vec Ideal S1x256x2048 .bf16) : View.ld X r0_0 = X := View.ld_unit_lit _ X (by decide)

/-- A load of a whole block is the block. -/
theorem ld_mods (X : Vec Ideal S1x1x1x9x1024 .f32) : View.ld X r0_1 = X := View.ld_unit_lit _ X (by decide)

/-- A load of a whole block is the block. -/
theorem ld_rows (X : Vec Ideal S1x256x1024 .f32) : View.ld X r0_2 = X := View.ld_unit_lit _ X (by decide)

/-- A load of a whole block is the block. -/
theorem ld_wmix (X : Vec Ideal S1x2048x1024 .bf16) : View.ld X r0_3 = X := View.ld_unit_lit _ X (by decide)

/-- A load of a whole block is the block. -/
theorem ld_ln (X : Vec Ideal S1x1x1x1024 .f32) : View.ld X r0_4 = X := View.ld_unit_lit _ X (by decide)

/-- A load of a whole block is the block. -/
theorem ld_win (X : Vec Ideal S1x1x1024x5632 .bf16) : View.ld X r0_5 = X := View.ld_unit_lit _ X (by decide)

/-- A load of a whole block is the block. -/
theorem ld_wout (X : Vec Ideal S1x1x2816x1024 .bf16) : View.ld X r0_6 = X := View.ld_unit_lit _ X (by decide)

set_option maxHeartbeats 4000000 in
/-- The token blocks of a point are its four tiles'. -/
theorem tiles (c : Dev nD) (t : Fin cfg0.N) (ht : t.val < 34) :
    (IsTile (m ((c : Thread nD τ).loc main_arg0)) (m ((c : Thread nD τ).loc main_arg1)) 0 (4 * t.val + 0) (by omega) (View.ld (iblk m c 0 t) r0_2) (View.ld (iblk m c 1 t) r0_1)
      ∧ ∀ r k, ((View.ld (iblk m c 2 t) r0_0) : Vec Ideal S1x256x2048 .bf16) (ix3 0 r k) = ((m ((c : Thread nD τ).loc main_arg2)) : Vec Ideal S8x4352x2048 .bf16) (ix3 ⟨(4 * t.val + 0) / 17, by omega⟩ ⟨(4 * t.val + 0) % 17 * 256 + r.val, by omega⟩ k))
    ∧ (IsTile (m ((c : Thread nD τ).loc main_arg0)) (m ((c : Thread nD τ).loc main_arg1)) 0 (4 * t.val + 1) (by omega) (View.ld (iblk m c 3 t) r0_2) (View.ld (iblk m c 4 t) r0_1)
      ∧ ∀ r k, ((View.ld (iblk m c 5 t) r0_0) : Vec Ideal S1x256x2048 .bf16) (ix3 0 r k) = ((m ((c : Thread nD τ).loc main_arg2)) : Vec Ideal S8x4352x2048 .bf16) (ix3 ⟨(4 * t.val + 1) / 17, by omega⟩ ⟨(4 * t.val + 1) % 17 * 256 + r.val, by omega⟩ k))
    ∧ (IsTile (m ((c : Thread nD τ).loc main_arg0)) (m ((c : Thread nD τ).loc main_arg1)) 0 (4 * t.val + 2) (by omega) (View.ld (iblk m c 6 t) r0_2) (View.ld (iblk m c 7 t) r0_1)
      ∧ ∀ r k, ((View.ld (iblk m c 8 t) r0_0) : Vec Ideal S1x256x2048 .bf16) (ix3 0 r k) = ((m ((c : Thread nD τ).loc main_arg2)) : Vec Ideal S8x4352x2048 .bf16) (ix3 ⟨(4 * t.val + 2) / 17, by omega⟩ ⟨(4 * t.val + 2) % 17 * 256 + r.val, by omega⟩ k))
    ∧ (IsTile (m ((c : Thread nD τ).loc main_arg0)) (m ((c : Thread nD τ).loc main_arg1)) 0 (4 * t.val + 3) (by omega) (View.ld (iblk m c 9 t) r0_2) (View.ld (iblk m c 10 t) r0_1)
      ∧ ∀ r k, ((View.ld (iblk m c 11 t) r0_0) : Vec Ideal S1x256x2048 .bf16) (ix3 0 r k) = ((m ((c : Thread nD τ).loc main_arg2)) : Vec Ideal S8x4352x2048 .bf16) (ix3 ⟨(4 * t.val + 3) / 17, by omega⟩ ⟨(4 * t.val + 3) % 17 * 256 + r.val, by omega⟩ k)) := by
  refine ⟨?_, ?_, ?_, ?_⟩ <;>
    exact ⟨⟨fun r x => (congrFun (ld_rows _) _).trans (by blk_ext [iblk, V, idx t]),
      fun p x => (congrFun (ld_mods _) _).trans (by blk_ext [iblk, V, idx t])⟩,
      fun r k => (congrFun (ld_act _) _).trans (by blk_ext [iblk, V, idx t])⟩

set_option maxHeartbeats 4000000 in
/-- The weight blocks of a point are its layer's. -/
theorem layer (c : Dev nD) (t : Fin cfg0.N) : IsLayer 0 (fun k x => ((m ((c : Thread nD τ).loc main_arg3)) : Vec Ideal S2x2048x1024 .bf16) (ix3 0 k x)) (m ((c : Thread nD τ).loc main_arg4)) (m ((c : Thread nD τ).loc main_arg5)) (m ((c : Thread nD τ).loc main_arg6)) (m ((c : Thread nD τ).loc main_arg7))
    (View.ld (iblk m c 12 t) r0_3) (View.ld (iblk m c 13 t) r0_4) (View.ld (iblk m c 14 t) r0_4) (View.ld (iblk m c 15 t) r0_5)
    (View.ld (iblk m c 16 t) r0_6) (View.ld (iblk m c 17 t) r0_4) (View.ld (iblk m c 18 t) r0_4) :=
  ⟨fun k x => (congrFun (ld_wmix _) _).trans (by blk_ext [iblk, V, idx t]),
    fun x => (congrFun (ld_ln _) _).trans (by blk_ext [iblk, V, idx t]),
    fun x => (congrFun (ld_ln _) _).trans (by blk_ext [iblk, V, idx t]),
    fun x k => (congrFun (ld_win _) _).trans (by blk_ext [iblk, V, idx t]),
    fun f x => (congrFun (ld_wout _) _).trans (by blk_ext [iblk, V, idx t]),
    fun x => (congrFun (ld_ln _) _).trans (by blk_ext [iblk, V, idx t]),
    fun x => (congrFun (ld_ln _) _).trans (by blk_ext [iblk, V, idx t])⟩

/-- The whole result from the argument arrays. -/
def out (c : Dev nD) (n : Fin 34816) (j : Fin 1024) : EReal :=
  mixOut 0 (m ((c : Thread nD τ).loc main_arg0)) (m ((c : Thread nD τ).loc main_arg1)) (mixed (m ((c : Thread nD τ).loc main_arg2))) (fun k x => ((m ((c : Thread nD τ).loc main_arg3)) : Vec Ideal S2x2048x1024 .bf16) (ix3 0 k x)) (m ((c : Thread nD τ).loc main_arg4)) (m ((c : Thread nD τ).loc main_arg5)) (m ((c : Thread nD τ).loc main_arg6)) (m ((c : Thread nD τ).loc main_arg7)) n j

/-- What a tile stores, at an element of the tile, is the result at that element's token. -/
theorem core (c : Dev nD) (t : Fin cfg0.N) (q : ℕ) (hq : q < 136) (a : Vec Ideal S1x256x2048 .bf16) (d : Vec Ideal S1x1x1x9x1024 .f32)
    (h : Vec Ideal S1x256x1024 .f32) (T : IsTile (m ((c : Thread nD τ).loc main_arg0)) (m ((c : Thread nD τ).loc main_arg1)) 0 q hq h d
      ∧ ∀ r k, a (ix3 0 r k) = ((m ((c : Thread nD τ).loc main_arg2)) : Vec Ideal S8x4352x2048 .bf16) (ix3 ⟨q / 17, by omega⟩ ⟨q % 17 * 256 + r.val, by omega⟩ k))
    (r : Fin 256) (n : Fin 34816) (hn : n.val = 256 * q + r.val) (l j : Fin 1024) (hj : j.val = l.val) :
    tile a d h (View.ld (iblk m c 12 t) r0_3) (View.ld (iblk m c 13 t) r0_4) (View.ld (iblk m c 14 t) r0_4) (View.ld (iblk m c 15 t) r0_5)
        (View.ld (iblk m c 16 t) r0_6) (View.ld (iblk m c 17 t) r0_4) (View.ld (iblk m c 18 t) r0_4) (ix2 r l) = out m c n j := by
  obtain rfl : j = l := Fin.ext hj
  have e1 : n.val / 4352 = q / 17 := by omega
  have e2 : n.val % 4352 = q % 17 * 256 + r.val := by omega
  refine (tile_at _ _ _ _ _ _ _ _ _ _ r j).trans (mixOut_eq T.1 (layer m c t) _ _ r n hn (fun k => (T.2 r k).trans ?_) j)
  unfold mixed
  simp only [e1, e2]

set_option maxHeartbeats 4000000 in
/-- What a grid point stores, at an element, is the result at that element's place in the array. -/
theorem point (c : Dev nD) (t : Fin cfg0.N) (y : S1024x1024.Idx) (n : Fin 34816) (hn : n.val = 1024 * t.val + (y 0).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = out m c n (y 1) := by
  obtain ⟨T0, T1, T2, T3⟩ := tiles m c t (lt_of_lt_of_eq t.isLt N_0)
  rw [stored]
  canon_tiles x hx <;> refine (congrArg _ (show x = ix2 (x 0) (x 1) by blk_ext)).trans ?_
  · exact core m c t _ _ _ _ _ T3 (x 0) n (by omega) (x 1) (y 1) (by omega)
  · exact core m c t _ _ _ _ _ T2 (x 0) n (by omega) (x 1) (y 1) (by omega)
  · exact core m c t _ _ _ _ _ T1 (x 0) n (by omega) (x 1) (y 1) (by omega)
  · exact core m c t _ _ _ _ _ T0 (x 0) n (by omega) (x 1) (y 1) (by omega)

/-- The result array after the run. -/
theorem final (c : Dev nD) : (dats m 0 c).arrAt 19 (cfgs 0).N = fun i : S34816x1024.Idx => out m c (i 0) (i 1) := by
  refine (dats m 0 c).arrAt_eq_of_covers 19 _ (by decide +kernel) fun t _ y => ?_
  blk_simp
  rw [after0_19]
  have h1 : (((cfg0.win 19).blk t).view.emb y) 1 = y 1 := Fin.ext (by blk_simp [idx t])
  exact (point m c t y _ (by blk_simp [idx t]; omega)).trans (congrArg (out m c _) h1.symm)

end Cert.PostRetIdeal.Hand

end
-- ==== Proof.PostRetRef.lean ====
/- The first layer's output-projection reference: every element of its result is the two stages of its token's row. -/
module

public import proofs.«01_k».proof.Proof.PostRetValue
public import proofs.«01_k».proof.Proof.Gen.PostRetRefIdeal.Run

@[expose] public section

set_option maxRecDepth 16384

noncomputable section

namespace Cert.PostRetRefIdeal.Hand

open Cert.PostRetRefIdeal Cert.PostRetRefIdeal.Gen Cert.PostRetRefIdeal.Value Idealize.ShloMosaic Idealize.ShloMosaic.TcCoe Idealize.SL.Sem Cert.Row Cert.Tokens Cert.MixOut

variable (V : Valuation τ sig (Elt Ideal))

/-- The first stage's residual sum. -/
theorem mix_at (b : Fin 8) (t : Fin 4352) (j : Fin 1024) : (res_main_v52 V : Vec Ideal S8x4352x1024 .f32) (ix3 b t j)
      = mixSum (fun x => (V (Proc.devRef .tc main_arg0) : Vec Ideal S8x4352x1024 .f32) (ix3 b t x)) (picked (V (Proc.devRef .tc main_arg1)) 0 b t.val 5) (fun k => (V (Proc.devRef .tc main_arg2) : Vec Ideal S8x4352x2048 .bf16) (ix3 b t k)) (fun k x => (V (Proc.devRef .tc main_arg3) : Vec Ideal S2x2048x1024 .bf16) (ix3 0 k x)) j := by
  unfold res_main_v52 mixSum picked
  pointwise

/-- The first stage. -/
theorem norm_at (b : Fin 8) (t : Fin 4352) (j : Fin 1024) : (res_main_v80 V : Vec Ideal S8x4352x1024 .f32) (ix3 b t j)
      = layerNorm (fun x => (res_main_v52 V : Vec Ideal S8x4352x1024 .f32) (ix3 b t x)) ((V (Proc.devRef .tc main_arg6) : Vec Ideal S4x3x1x1024 .f32) (ix4 0 1 0 j)) ((V (Proc.devRef .tc main_arg7) : Vec Ideal S4x3x1x1024 .f32) (ix4 0 1 0 j)) j := by
  unfold res_main_v80 res_main_v62 res_main_v60 layerNorm
  pointwise

/-- The second stage's residual sum. -/
theorem sum_at (b : Fin 8) (t : Fin 4352) (j : Fin 1024) : (res_main_v110 V : Vec Ideal S8x4352x1024 .f32) (ix3 b t j)
      = ffnSum (fun x => (res_main_v80 V : Vec Ideal S8x4352x1024 .f32) (ix3 b t x)) (picked (V (Proc.devRef .tc main_arg1)) 0 b t.val 6) (picked (V (Proc.devRef .tc main_arg1)) 0 b t.val 7) (picked (V (Proc.devRef .tc main_arg1)) 0 b t.val 8)
          (fun x k => (V (Proc.devRef .tc main_arg4) : Vec Ideal S4x2x1024x5632 .bf16) (ix4 0 1 x k)) (fun f x => (V (Proc.devRef .tc main_arg5) : Vec Ideal S4x2x2816x1024 .bf16) (ix4 0 1 f x)) j := by
  unfold res_main_v110 res_main_v97 res_main_v96 ffnSum ffnAct swish gateUp picked
  pointwise

/-- The result at row `n`, lane `j`, from the second stage's sum. -/
theorem out_norm (n : Fin 34816) (j : Fin 1024) (hb : n.val / 4352 < 8) (ht : n.val % 4352 < 4352) :
    (val3 V (Proc.devRef .tc main_v135) : Vec Ideal S34816x1024 .f32) (ix2 n j)
      = layerNorm (fun x => (res_main_v110 V : Vec Ideal S8x4352x1024 .f32) (ix3 ⟨n.val / 4352, hb⟩ ⟨n.val % 4352, ht⟩ x))
          ((V (Proc.devRef .tc main_arg6) : Vec Ideal S4x3x1x1024 .f32) (ix4 0 2 0 j)) ((V (Proc.devRef .tc main_arg7) : Vec Ideal S4x3x1x1024 .f32) (ix4 0 2 0 j)) j := by
  refine (congrFun (val3_main_v135 V) (ix2 n j)).trans ?_
  unfold res_main_v116 res_main_v114 layerNorm
  pointwise

/-- The result at row `n`, lane `j`. -/
theorem out_at (n : Fin 34816) (j : Fin 1024) : (val3 V (Proc.devRef .tc main_v135) : Vec Ideal S34816x1024 .f32) (ix2 n j)
      = mixOut 0 (V (Proc.devRef .tc main_arg0)) (V (Proc.devRef .tc main_arg1)) (Cert.PostRetIdeal.Hand.mixed (V (Proc.devRef .tc main_arg2))) (fun k x => ((V (Proc.devRef .tc main_arg3)) : Vec Ideal S2x2048x1024 .bf16) (ix3 0 k x)) (V (Proc.devRef .tc main_arg4)) (V (Proc.devRef .tc main_arg5)) (V (Proc.devRef .tc main_arg6)) (V (Proc.devRef .tc main_arg7)) n j := by
  have ht : n.val % 4352 < 4352 := by omega
  rw [out_norm V n j (by omega) ht]
  unfold mixOut halfFfn
  simp only [sum_at, norm_at, mix_at, picked_eq _ _ _ _ ht]
  rfl

/-- The reference's whole result. -/
theorem out_eq : (val3 V (Proc.devRef .tc main_v135) : Vec Ideal S34816x1024 .f32) = fun i : S34816x1024.Idx =>
    mixOut 0 (V (Proc.devRef .tc main_arg0)) (V (Proc.devRef .tc main_arg1)) (Cert.PostRetIdeal.Hand.mixed (V (Proc.devRef .tc main_arg2))) (fun k x => ((V (Proc.devRef .tc main_arg3)) : Vec Ideal S2x2048x1024 .bf16) (ix3 0 k x)) (V (Proc.devRef .tc main_arg4)) (V (Proc.devRef .tc main_arg5)) (V (Proc.devRef .tc main_arg6)) (V (Proc.devRef .tc main_arg7)) (i 0) (i 1) := by
  funext i
  exact (congrArg (val3 V (Proc.devRef .tc main_v135) : Vec Ideal S34816x1024 .f32) (show i = ix2 (i 0) (i 1) by blk_ext)).trans (out_at V (i 0) (i 1))

/-- The reference's run: the result array is the two stages of every token, the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v135) = (fun i : S34816x1024.Idx =>
        mixOut 0 (m ((c.tc : Thread nD τ).loc main_arg0)) (m ((c.tc : Thread nD τ).loc main_arg1)) (Cert.PostRetIdeal.Hand.mixed (m ((c.tc : Thread nD τ).loc main_arg2))) (fun k x => ((m ((c.tc : Thread nD τ).loc main_arg3)) : Vec Ideal S2x2048x1024 .bf16) (ix3 0 k x)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans ((val3_main_v135 _).symm.trans (out_eq _)), (h c).2⟩) (Cert.PostRetRefIdeal.Value.run m ρ)

end Cert.PostRetRefIdeal.Hand

end
-- ==== Proof.lean ====
/- The proof of the certificate's claim: the frames, the idealizations' preservation, and that each kernel equals its
   reference over the extended reals. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.RetProj
public import proofs.«01_k».proof.Proof.Gen.RetProj.Skeleton
public import proofs.«01_k».proof.Proof.Gen.RetProj.Launch
public import proofs.«01_k».proof.Proof.Gen.RetProj.Points
public import proofs.«01_k».proof.Proof.Gen.RetProj.Frame
public import proofs.«01_k».proof.Proof.Gen.RetProjIdeal
public import proofs.«01_k».proof.Proof.Gen.RetProjIdeal.Skeleton
public import proofs.«01_k».proof.Proof.Gen.RetProjIdeal.Launch
public import proofs.«01_k».proof.Proof.Gen.RetProjIdeal.Points
public import proofs.«01_k».proof.Proof.Gen.RetProjIdeal.Frame
public import proofs.«01_k».proof.Proof.Gen.RetProjRefIdeal
public import proofs.«01_k».proof.Proof.Gen.LruProj
public import proofs.«01_k».proof.Proof.Gen.LruProj.Skeleton
public import proofs.«01_k».proof.Proof.Gen.LruProj.Launch
public import proofs.«01_k».proof.Proof.Gen.LruProj.Points
public import proofs.«01_k».proof.Proof.Gen.LruProj.Frame
public import proofs.«01_k».proof.Proof.Gen.LruProjIdeal
public import proofs.«01_k».proof.Proof.Gen.LruProjIdeal.Skeleton
public import proofs.«01_k».proof.Proof.Gen.LruProjIdeal.Launch
public import proofs.«01_k».proof.Proof.Gen.LruProjIdeal.Points
public import proofs.«01_k».proof.Proof.Gen.LruProjIdeal.Frame
public import proofs.«01_k».proof.Proof.Gen.LruProjRefIdeal
public import proofs.«01_k».proof.Proof.Gen.NaProj
public import proofs.«01_k».proof.Proof.Gen.NaProj.Skeleton
public import proofs.«01_k».proof.Proof.Gen.NaProj.Launch
public import proofs.«01_k».proof.Proof.Gen.NaProj.Points
public import proofs.«01_k».proof.Proof.Gen.NaProj.Frame
public import proofs.«01_k».proof.Proof.Gen.NaProjIdeal
public import proofs.«01_k».proof.Proof.Gen.NaProjIdeal.Skeleton
public import proofs.«01_k».proof.Proof.Gen.NaProjIdeal.Launch
public import proofs.«01_k».proof.Proof.Gen.NaProjIdeal.Points
public import proofs.«01_k».proof.Proof.Gen.NaProjIdeal.Frame
public import proofs.«01_k».proof.Proof.Gen.NaProjRefIdeal
public import proofs.«01_k».proof.Proof.Gen.FfnIdeal.Value
public import proofs.«01_k».proof.Proof.Gen.FfnRefIdeal.Run
public import proofs.«01_k».proof.Proof.Gen.PostIdeal.Value
public import proofs.«01_k».proof.Proof.Gen.PostRefIdeal.Run
public import proofs.«01_k».proof.Proof.Gen.RetProjIdeal.Value
public import proofs.«01_k».proof.Proof.Gen.RetProjRefIdeal.Run
public import proofs.«01_k».proof.Proof.Gen.LruProjIdeal.Value
public import proofs.«01_k».proof.Proof.Gen.LruProjRefIdeal.Run
public import proofs.«01_k».proof.Proof.Gen.NaProjIdeal.Value
public import proofs.«01_k».proof.Proof.Gen.NaProjRefIdeal.Run
public import proofs.«01_k».proof.Proof.Gen.Mods
public import proofs.«01_k».proof.Proof.Gen.Mods.Skeleton
public import proofs.«01_k».proof.Proof.Gen.Mods.Launch
public import proofs.«01_k».proof.Proof.Gen.Mods.Points
public import proofs.«01_k».proof.Proof.Gen.Mods.Frame
public import proofs.«01_k».proof.Proof.Gen.ModsIdeal
public import proofs.«01_k».proof.Proof.Gen.ModsIdeal.Skeleton
public import proofs.«01_k».proof.Proof.Gen.ModsIdeal.Launch
public import proofs.«01_k».proof.Proof.Gen.ModsIdeal.Points
public import proofs.«01_k».proof.Proof.Gen.ModsIdeal.Frame
public import proofs.«01_k».proof.Proof.Gen.ModsRefIdeal
public import proofs.«01_k».proof.Proof.Gen.ModsIdeal.Value
public import proofs.«01_k».proof.Proof.Gen.ModsRefIdeal.Run
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.FfnTwoRefIdeal
public import proofs.«01_k».proof.Proof.Gen.FfnTwoIdeal.Value
public import proofs.«01_k».proof.Proof.Gen.FfnTwoRefIdeal.Run
public import proofs.«01_k».proof.Proof.Gen.PostRec
public import proofs.«01_k».proof.Proof.Gen.PostRec.Skeleton
public import proofs.«01_k».proof.Proof.Gen.PostRec.Launch
public import proofs.«01_k».proof.Proof.Gen.PostRec.Points
public import proofs.«01_k».proof.Proof.Gen.PostRec.Frame
public import proofs.«01_k».proof.Proof.Gen.PostRecIdeal
public import proofs.«01_k».proof.Proof.Gen.PostRecIdeal.Skeleton
public import proofs.«01_k».proof.Proof.Gen.PostRecIdeal.Launch
public import proofs.«01_k».proof.Proof.Gen.PostRecIdeal.Points
public import proofs.«01_k».proof.Proof.Gen.PostRecIdeal.Frame
public import proofs.«01_k».proof.Proof.Gen.PostRecRefIdeal
public import proofs.«01_k».proof.Proof.Gen.PostRecIdeal.Value
public import proofs.«01_k».proof.Proof.Gen.PostRecRefIdeal.Run
public import proofs.«01_k».proof.Proof.Gen.PostNbr
public import proofs.«01_k».proof.Proof.Gen.PostNbr.Skeleton
public import proofs.«01_k».proof.Proof.Gen.PostNbr.Launch
public import proofs.«01_k».proof.Proof.Gen.PostNbr.Points
public import proofs.«01_k».proof.Proof.Gen.PostNbr.Frame
public import proofs.«01_k».proof.Proof.Gen.PostNbrIdeal
public import proofs.«01_k».proof.Proof.Gen.PostNbrIdeal.Skeleton
public import proofs.«01_k».proof.Proof.Gen.PostNbrIdeal.Launch
public import proofs.«01_k».proof.Proof.Gen.PostNbrIdeal.Points
public import proofs.«01_k».proof.Proof.Gen.PostNbrIdeal.Frame
public import proofs.«01_k».proof.Proof.Gen.PostNbrRefIdeal
public import proofs.«01_k».proof.Proof.Gen.PostNbrIdeal.Value
public import proofs.«01_k».proof.Proof.Gen.PostNbrRefIdeal.Run
public import proofs.«01_k».proof.Proof.Gen.PostRet
public import proofs.«01_k».proof.Proof.Gen.PostRet.Skeleton
public import proofs.«01_k».proof.Proof.Gen.PostRet.Launch
public import proofs.«01_k».proof.Proof.Gen.PostRet.Points
public import proofs.«01_k».proof.Proof.Gen.PostRet.Frame
public import proofs.«01_k».proof.Proof.Gen.PostRetIdeal
public import proofs.«01_k».proof.Proof.Gen.PostRetIdeal.Skeleton
public import proofs.«01_k».proof.Proof.Gen.PostRetIdeal.Launch
public import proofs.«01_k».proof.Proof.Gen.PostRetIdeal.Points
public import proofs.«01_k».proof.Proof.Gen.PostRetIdeal.Frame
public import proofs.«01_k».proof.Proof.Gen.PostRetRefIdeal
public import proofs.«01_k».proof.Proof.Gen.PostRetIdeal.Value
public import proofs.«01_k».proof.Proof.Gen.PostRetRefIdeal.Run
public import proofs.«01_k».proof.Proof.FfnRef
public import proofs.«01_k».proof.Proof.PostRef
public import proofs.«01_k».proof.Proof.RetProjRef
public import proofs.«01_k».proof.Proof.LruProjRef
public import proofs.«01_k».proof.Proof.NaProjRef
public import proofs.«01_k».proof.Proof.ModsRef
public import proofs.«01_k».proof.Proof.FfnTwoRef
public import proofs.«01_k».proof.Proof.PostRecRef
public import proofs.«01_k».proof.Proof.PostNbrRef
public import proofs.«01_k».proof.Proof.PostRetRef
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The feed-forward reference runs and leaves its arguments. -/
theorem frame_FfnRefIdeal : Cert.quiescent_FfnRefIdeal (hFfnRefIdeal := Cert.FfnRefIdeal.Gen.facts) :=
  fun m g _ => (θ_run _ _ _).mono (fun r h => ⟨fun c => (h c).2, sem_eq_zero_of_no_sems rfl _⟩) (Cert.FfnRefIdeal.Value.run m g)

/-- The output-projection reference runs and leaves its arguments. -/
theorem frame_PostRefIdeal : Cert.quiescent_PostRefIdeal (hPostRefIdeal := Cert.PostRefIdeal.Gen.facts) :=
  fun m g _ => (θ_run _ _ _).mono (fun r h => ⟨fun c => (h c).2, sem_eq_zero_of_no_sems rfl _⟩) (Cert.PostRefIdeal.Value.run m g)

/-- The retention projection reference runs and leaves its arguments. -/
theorem frame_RetProjRefIdeal : Cert.quiescent_RetProjRefIdeal (hRetProjRefIdeal := Cert.RetProjRefIdeal.Gen.facts) :=
  fun m g _ => (θ_run _ _ _).mono (fun r h => ⟨fun c => (h c).2.2.2.2, sem_eq_zero_of_no_sems rfl _⟩) (Cert.RetProjRefIdeal.Value.run m g)

/-- The recurrence projection reference runs and leaves its arguments. -/
theorem frame_LruProjRefIdeal : Cert.quiescent_LruProjRefIdeal (hLruProjRefIdeal := Cert.LruProjRefIdeal.Gen.facts) :=
  fun m g _ => (θ_run _ _ _).mono (fun r h => ⟨fun c => (h c).2.2, sem_eq_zero_of_no_sems rfl _⟩) (Cert.LruProjRefIdeal.Value.run m g)

/-- The neighbourhood projection reference runs and leaves its arguments. -/
theorem frame_NaProjRefIdeal : Cert.quiescent_NaProjRefIdeal (hNaProjRefIdeal := Cert.NaProjRefIdeal.Gen.facts) :=
  fun m g _ => (θ_run _ _ _).mono (fun r h => ⟨fun c => (h c).2.2.2, sem_eq_zero_of_no_sems rfl _⟩) (Cert.NaProjRefIdeal.Value.run m g)

/-- The modulation reference runs and leaves its arguments. -/
theorem frame_ModsRefIdeal : Cert.quiescent_ModsRefIdeal (hModsRefIdeal := Cert.ModsRefIdeal.Gen.facts) :=
  fun m g _ => (θ_run _ _ _).mono (fun r h => ⟨fun c => (h c).2, sem_eq_zero_of_no_sems rfl _⟩) (Cert.ModsRefIdeal.Value.run m g)

/-- The first layer's feed-forward reference runs and leaves its arguments. -/
theorem frame_FfnTwoRefIdeal : Cert.quiescent_FfnTwoRefIdeal (hFfnTwoRefIdeal := Cert.FfnTwoRefIdeal.Gen.facts) :=
  fun m g _ => (θ_run _ _ _).mono (fun r h => ⟨fun c => (h c).2, sem_eq_zero_of_no_sems rfl _⟩) (Cert.FfnTwoRefIdeal.Value.run m g)

/-- The third layer's output-projection reference runs and leaves its arguments. -/
theorem frame_PostRecRefIdeal : Cert.quiescent_PostRecRefIdeal (hPostRecRefIdeal := Cert.PostRecRefIdeal.Gen.facts) :=
  fun m g _ => (θ_run _ _ _).mono (fun r h => ⟨fun c => (h c).2, sem_eq_zero_of_no_sems rfl _⟩) (Cert.PostRecRefIdeal.Value.run m g)

/-- The second layer's output-projection reference runs and leaves its arguments. -/
theorem frame_PostNbrRefIdeal : Cert.quiescent_PostNbrRefIdeal (hPostNbrRefIdeal := Cert.PostNbrRefIdeal.Gen.facts) :=
  fun m g _ => (θ_run _ _ _).mono (fun r h => ⟨fun c => (h c).2, sem_eq_zero_of_no_sems rfl _⟩) (Cert.PostNbrRefIdeal.Value.run m g)

/-- The first layer's output-projection reference runs and leaves its arguments. -/
theorem frame_PostRetRefIdeal : Cert.quiescent_PostRetRefIdeal (hPostRetRefIdeal := Cert.PostRetRefIdeal.Gen.facts) :=
  fun m g _ => (θ_run _ _ _).mono (fun r h => ⟨fun c => (h c).2, sem_eq_zero_of_no_sems rfl _⟩) (Cert.PostRetRefIdeal.Value.run m g)

/-- The feed-forward kernel computes the half feed-forward block of every token. -/
theorem algebraic_Ffn : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    refine (Cert.FfnRefIdeal.Hand.out_eq m' c).trans ?_
    rw [Cert.FfnIdeal.Hand.final]
    obtain ⟨h0, h1, h2, h3, h4, h5⟩ := hagree c
    rw [h0, h1, h2, h3, h4, h5]

/-- The output-projection kernel computes the projection, its normalisation and the half feed-forward block. -/
theorem algebraic_Post : Cert.algebraic_PostIdeal_PostRefIdeal (hPostIdeal := Cert.PostIdeal.Gen.facts) (hPostRefIdeal := Cert.PostRefIdeal.Gen.facts) := by
  pair_intro
  · run_from Cert.PostIdeal.Value.run_blocks m g
  · run_from Cert.PostRefIdeal.Hand.run m' g'
    exact (Cert.PostIdeal.Hand.final m c).symm

/-- The retention projection computes the turned queries and keys, the values and the activated gate. -/
theorem algebraic_RetProj : Cert.algebraic_RetProjIdeal_RetProjRefIdeal (hRetProjIdeal := Cert.RetProjIdeal.Gen.facts) (hRetProjRefIdeal := Cert.RetProjRefIdeal.Gen.facts) := by
  pair_intro
  · run_from Cert.RetProjIdeal.Value.run_blocks m g
  · run_from Cert.RetProjRefIdeal.Hand.run m' g'
    · exact (Cert.RetProjIdeal.Hand.q_final m c).symm
    · exact (Cert.RetProjIdeal.Hand.k_final m c).symm
    · exact (Cert.RetProjIdeal.Hand.v_final m c).symm
    · exact (Cert.RetProjIdeal.Hand.g_final m c).symm

/-- The recurrence projection computes the activated gate branch and the input branch. -/
theorem algebraic_LruProj : Cert.algebraic_LruProjIdeal_LruProjRefIdeal (hLruProjIdeal := Cert.LruProjIdeal.Gen.facts) (hLruProjRefIdeal := Cert.LruProjRefIdeal.Gen.facts) := by
  pair_intro
  · run_from Cert.LruProjIdeal.Value.run_blocks m g
  · run_from Cert.LruProjRefIdeal.Hand.run m' g'
    · exact (Cert.LruProjIdeal.Hand.gate_final m c).symm
    · exact (Cert.LruProjIdeal.Hand.inp_final m c).symm

/-- The neighbourhood projection computes the keys, the scaled queries and the values. -/
theorem algebraic_NaProj : Cert.algebraic_NaProjIdeal_NaProjRefIdeal (hNaProjIdeal := Cert.NaProjIdeal.Gen.facts) (hNaProjRefIdeal := Cert.NaProjRefIdeal.Gen.facts) := by
  pair_intro
  · run_from Cert.NaProjIdeal.Value.run_blocks m g
  · run_from Cert.NaProjRefIdeal.Hand.run m' g'
    · exact (Cert.NaProjIdeal.Hand.k_final m c).symm
    · exact (Cert.NaProjIdeal.Hand.q_final m c).symm
    · exact (Cert.NaProjIdeal.Hand.v_final m c).symm

/-- The modulation kernel computes the modulation rows of every layer from the condition. -/
theorem algebraic_Mods : Cert.algebraic_ModsIdeal_ModsRefIdeal (hModsIdeal := Cert.ModsIdeal.Gen.facts) (hModsRefIdeal := Cert.ModsRefIdeal.Gen.facts) := by
  pair_intro
  · run_from Cert.ModsIdeal.Value.run_blocks m g
  · run_from Cert.ModsRefIdeal.Hand.run m' g'
    · exact (Cert.ModsIdeal.Hand.final m c).symm

/-- The first layer's feed-forward kernel computes the half feed-forward block of every token of the two joined arrays. -/
theorem algebraic_FfnTwo : Cert.algebraic_FfnTwoIdeal_FfnTwoRefIdeal (hFfnTwoIdeal := Cert.FfnTwoIdeal.Gen.facts) (hFfnTwoRefIdeal := Cert.FfnTwoRefIdeal.Gen.facts) := by
  pair_intro
  · run_from Cert.FfnTwoIdeal.Value.run_blocks m g
  · run_from Cert.FfnTwoRefIdeal.Value.run m' g'
    refine (Cert.FfnTwoRefIdeal.Hand.out_eq m' c).trans ?_
    rw [Cert.FfnTwoIdeal.Hand.final]
    unfold Cert.FfnTwoIdeal.Hand.out
    obtain ⟨h0, h1, h2, h3, h4, h5, h6⟩ := hagree c
    rw [h0, h1, h2, h3, h4, h5, h6]

/-- The third layer's output projection computes the two stages of every token. -/
theorem algebraic_PostRec : Cert.algebraic_PostRecIdeal_PostRecRefIdeal (hPostRecIdeal := Cert.PostRecIdeal.Gen.facts) (hPostRecRefIdeal := Cert.PostRecRefIdeal.Gen.facts) := by
  pair_intro
  · run_from Cert.PostRecIdeal.Value.run_blocks m g
  · run_from Cert.PostRecRefIdeal.Hand.run m' g'
    · exact (Cert.PostRecIdeal.Hand.final m c).symm

/-- The second layer's output projection computes the two stages of every token from the turned mixer's output. -/
theorem algebraic_PostNbr : Cert.algebraic_PostNbrIdeal_PostNbrRefIdeal (hPostNbrIdeal := Cert.PostNbrIdeal.Gen.facts) (hPostNbrRefIdeal := Cert.PostNbrRefIdeal.Gen.facts) := by
  pair_intro
  · run_from Cert.PostNbrIdeal.Value.run_blocks m g
  · run_from Cert.PostNbrRefIdeal.Hand.run m' g'
    · exact (Cert.PostNbrIdeal.Hand.final m c).symm

/-- The first layer's output projection computes the two stages of every token over the wider mixer. -/
theorem algebraic_PostRet : Cert.algebraic_PostRetIdeal_PostRetRefIdeal (hPostRetIdeal := Cert.PostRetIdeal.Gen.facts) (hPostRetRefIdeal := Cert.PostRetRefIdeal.Gen.facts) := by
  pair_intro
  · run_from Cert.PostRetIdeal.Value.run_blocks m g
  · run_from Cert.PostRetRefIdeal.Hand.run m' g'
    · exact (Cert.PostRetIdeal.Hand.final m c).symm

/-- The certificate. -/
theorem claim : Cert.Claim := ⟨Cert.Ffn.Gen.facts, Cert.FfnIdeal.Gen.facts, Cert.FfnRefIdeal.Gen.facts, Cert.Post.Gen.facts, Cert.PostIdeal.Gen.facts, Cert.PostRefIdeal.Gen.facts, Cert.RetProj.Gen.facts, Cert.RetProjIdeal.Gen.facts, Cert.RetProjRefIdeal.Gen.facts, Cert.LruProj.Gen.facts, Cert.LruProjIdeal.Gen.facts, Cert.LruProjRefIdeal.Gen.facts, Cert.NaProj.Gen.facts, Cert.NaProjIdeal.Gen.facts, Cert.NaProjRefIdeal.Gen.facts, Cert.Mods.Gen.facts, Cert.ModsIdeal.Gen.facts, Cert.ModsRefIdeal.Gen.facts, Cert.FfnTwo.Gen.facts, Cert.FfnTwoIdeal.Gen.facts, Cert.FfnTwoRefIdeal.Gen.facts, Cert.PostRec.Gen.facts, Cert.PostRecIdeal.Gen.facts, Cert.PostRecRefIdeal.Gen.facts, Cert.PostNbr.Gen.facts, Cert.PostNbrIdeal.Gen.facts, Cert.PostNbrRefIdeal.Gen.facts, Cert.PostRet.Gen.facts, Cert.PostRetIdeal.Gen.facts, Cert.PostRetRefIdeal.Gen.facts,
  fun m ρ _ => Cert.Ffn.Gen.frame m ρ, fun m ρ _ => Cert.FfnIdeal.Gen.frame m ρ, frame_FfnRefIdeal,
  fun m ρ _ => Cert.Post.Gen.frame m ρ, fun m ρ _ => Cert.PostIdeal.Gen.frame m ρ, frame_PostRefIdeal,
  fun m ρ _ => Cert.RetProj.Gen.frame m ρ, fun m ρ _ => Cert.RetProjIdeal.Gen.frame m ρ, frame_RetProjRefIdeal,
  fun m ρ _ => Cert.LruProj.Gen.frame m ρ, fun m ρ _ => Cert.LruProjIdeal.Gen.frame m ρ, frame_LruProjRefIdeal,
  fun m ρ _ => Cert.NaProj.Gen.frame m ρ, fun m ρ _ => Cert.NaProjIdeal.Gen.frame m ρ, frame_NaProjRefIdeal,
  fun m ρ _ => Cert.Mods.Gen.frame m ρ, fun m ρ _ => Cert.ModsIdeal.Gen.frame m ρ, frame_ModsRefIdeal,
  fun m ρ _ => Cert.FfnTwo.Gen.frame m ρ, fun m ρ _ => Cert.FfnTwoIdeal.Gen.frame m ρ, frame_FfnTwoRefIdeal,
  fun m ρ _ => Cert.PostRec.Gen.frame m ρ, fun m ρ _ => Cert.PostRecIdeal.Gen.frame m ρ, frame_PostRecRefIdeal,
  fun m ρ _ => Cert.PostNbr.Gen.frame m ρ, fun m ρ _ => Cert.PostNbrIdeal.Gen.frame m ρ, frame_PostNbrRefIdeal,
  fun m ρ _ => Cert.PostRet.Gen.frame m ρ, fun m ρ _ => Cert.PostRetIdeal.Gen.frame m ρ, frame_PostRetRefIdeal,
  trivial, algebraic_Ffn, trivial, algebraic_Post, trivial, algebraic_RetProj, trivial, algebraic_LruProj, trivial, algebraic_NaProj, trivial, algebraic_Mods, trivial, algebraic_FfnTwo, trivial, algebraic_PostRec, trivial, algebraic_PostNbr, trivial, algebraic_PostRet⟩

end Cert.Proof

end
